-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_floor [hPre_positive_floor : Cert.Pre_positive_floor.Facts] (m : (ℓ : Loc Cert.KernelIdeal.nD Cert.KernelIdeal.τ Cert.KernelIdeal.sig) → Buf (Elt Ideal) ℓ) : Prop :=
  ∀ c : Dev Cert.KernelIdeal.nD,
    (Cert.Pre_positive_floor.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_floor [hPre_positive_floor : Cert.Pre_positive_floor.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_floor.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextReferenceIdeal (m : (ℓ : Loc Cert.ContextReferenceIdeal.nD Cert.ContextReferenceIdeal.τ Cert.ContextReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_positive_floor [hKernelIdeal : Cert.KernelIdeal.Facts] [hPre_positive_floor : Cert.Pre_positive_floor.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_floor m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_positive_floor [hReferenceIdeal : Cert.ReferenceIdeal.Facts] [hPre_positive_floor : Cert.Pre_positive_floor.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_floor m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5)
      ∧ r.2.mem ((c.tc : Thread Cert.Projection.nD Cert.Projection.τ).loc Cert.Projection.main_arg6) = m ((c.tc : Thread Cert.Projection.nD Cert.Projection.τ).loc Cert.Projection.main_arg6))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5)
      ∧ r.2.mem ((c.tc : Thread Cert.ProjectionReferenceIdeal.nD Cert.ProjectionReferenceIdeal.τ).loc Cert.ProjectionReferenceIdeal.main_arg6) = m ((c.tc : Thread Cert.ProjectionReferenceIdeal.nD Cert.ProjectionReferenceIdeal.τ).loc Cert.ProjectionReferenceIdeal.main_arg6))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7)
      ∧ r.2.mem ((c.tc : Thread Cert.Output.nD Cert.Output.τ).loc Cert.Output.main_arg8) = m ((c.tc : Thread Cert.Output.nD Cert.Output.τ).loc Cert.Output.main_arg8)
      ∧ r.2.mem ((c.tc : Thread Cert.Output.nD Cert.Output.τ).loc Cert.Output.main_arg9) = m ((c.tc : Thread Cert.Output.nD Cert.Output.τ).loc Cert.Output.main_arg9)
      ∧ r.2.mem ((c.tc : Thread Cert.Output.nD Cert.Output.τ).loc Cert.Output.main_arg10) = m ((c.tc : Thread Cert.Output.nD Cert.Output.τ).loc Cert.Output.main_arg10)
      ∧ r.2.mem ((c.tc : Thread Cert.Output.nD Cert.Output.τ).loc Cert.Output.main_arg11) = m ((c.tc : Thread Cert.Output.nD Cert.Output.τ).loc Cert.Output.main_arg11))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
      ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8)
      ∧ r.2.mem ((c.tc : Thread Cert.OutputIdeal.nD Cert.OutputIdeal.τ).loc Cert.OutputIdeal.main_arg9) = m ((c.tc : Thread Cert.OutputIdeal.nD Cert.OutputIdeal.τ).loc Cert.OutputIdeal.main_arg9)
      ∧ r.2.mem ((c.tc : Thread Cert.OutputIdeal.nD Cert.OutputIdeal.τ).loc Cert.OutputIdeal.main_arg10) = m ((c.tc : Thread Cert.OutputIdeal.nD Cert.OutputIdeal.τ).loc Cert.OutputIdeal.main_arg10)
      ∧ r.2.mem ((c.tc : Thread Cert.OutputIdeal.nD Cert.OutputIdeal.τ).loc Cert.OutputIdeal.main_arg11) = m ((c.tc : Thread Cert.OutputIdeal.nD Cert.OutputIdeal.τ).loc Cert.OutputIdeal.main_arg11))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6)
      ∧ r.2.mem ((c.tc : Thread Cert.OutputReferenceIdeal.nD Cert.OutputReferenceIdeal.τ).loc Cert.OutputReferenceIdeal.main_arg7) = m ((c.tc : Thread Cert.OutputReferenceIdeal.nD Cert.OutputReferenceIdeal.τ).loc Cert.OutputReferenceIdeal.main_arg7)
      ∧ r.2.mem ((c.tc : Thread Cert.OutputReferenceIdeal.nD Cert.OutputReferenceIdeal.τ).loc Cert.OutputReferenceIdeal.main_arg8) = m ((c.tc : Thread Cert.OutputReferenceIdeal.nD Cert.OutputReferenceIdeal.τ).loc Cert.OutputReferenceIdeal.main_arg8)
      ∧ r.2.mem ((c.tc : Thread Cert.OutputReferenceIdeal.nD Cert.OutputReferenceIdeal.τ).loc Cert.OutputReferenceIdeal.main_arg9) = m ((c.tc : Thread Cert.OutputReferenceIdeal.nD Cert.OutputReferenceIdeal.τ).loc Cert.OutputReferenceIdeal.main_arg9)
      ∧ r.2.mem ((c.tc : Thread Cert.OutputReferenceIdeal.nD Cert.OutputReferenceIdeal.τ).loc Cert.OutputReferenceIdeal.main_arg10) = m ((c.tc : Thread Cert.OutputReferenceIdeal.nD Cert.OutputReferenceIdeal.τ).loc Cert.OutputReferenceIdeal.main_arg10)
      ∧ r.2.mem ((c.tc : Thread Cert.OutputReferenceIdeal.nD Cert.OutputReferenceIdeal.τ).loc Cert.OutputReferenceIdeal.main_arg11) = m ((c.tc : Thread Cert.OutputReferenceIdeal.nD Cert.OutputReferenceIdeal.τ).loc Cert.OutputReferenceIdeal.main_arg11))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2))
      ∧ r.2.sem = fun _ => 0)

def quiescent_ContextReferenceIdeal [hContextReferenceIdeal : Cert.ContextReferenceIdeal.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2))
      ∧ r.2.sem = fun _ => 0)

def preserves_Kernel_KernelIdeal : Prop :=
  True

def algebraic_KernelIdeal_ReferenceIdeal_pre_positive_floor [hKernelIdeal : Cert.KernelIdeal.Facts] [hReferenceIdeal : Cert.ReferenceIdeal.Facts] [hPre_positive_floor : Cert.Pre_positive_floor.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_floor m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v499) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)
      ∧ m' ((c.tc : Thread Cert.ProjectionReferenceIdeal.nD Cert.ProjectionReferenceIdeal.τ).loc Cert.ProjectionReferenceIdeal.main_arg6) = m ((c.tc : Thread Cert.ProjectionIdeal.nD Cert.ProjectionIdeal.τ).loc Cert.ProjectionIdeal.main_arg6)) →
    ∃ (v0 : (c : Dev Cert.ProjectionIdeal.nD) → Buf (Elt Ideal) ((c.tc : Thread Cert.ProjectionIdeal.nD Cert.ProjectionIdeal.τ).loc Cert.ProjectionIdeal.main_v10_0)) (v1 : (c : Dev Cert.ProjectionIdeal.nD) → Buf (Elt Ideal) ((c.tc : Thread Cert.ProjectionIdeal.nD Cert.ProjectionIdeal.τ).loc Cert.ProjectionIdeal.main_v10_1)) (v2 : (c : Dev Cert.ProjectionIdeal.nD) → Buf (Elt Ideal) ((c.tc : Thread Cert.ProjectionIdeal.nD Cert.ProjectionIdeal.τ).loc Cert.ProjectionIdeal.main_v10_2)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v10_0) = v0 c
          ∧ r.2.mem ((c.tc : Thread Cert.ProjectionIdeal.nD Cert.ProjectionIdeal.τ).loc Cert.ProjectionIdeal.main_v10_1) = v1 c
          ∧ r.2.mem ((c.tc : Thread Cert.ProjectionIdeal.nD Cert.ProjectionIdeal.τ).loc Cert.ProjectionIdeal.main_v10_2) = v2 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
          ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v71) = v0 c
          ∧ r.2.mem ((c.tc : Thread Cert.ProjectionReferenceIdeal.nD Cert.ProjectionReferenceIdeal.τ).loc Cert.ProjectionReferenceIdeal.main_v68) = v1 c
          ∧ r.2.mem ((c.tc : Thread Cert.ProjectionReferenceIdeal.nD Cert.ProjectionReferenceIdeal.τ).loc Cert.ProjectionReferenceIdeal.main_v72) = v2 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5)
          ∧ r.2.mem ((c.tc : Thread Cert.ProjectionReferenceIdeal.nD Cert.ProjectionReferenceIdeal.τ).loc Cert.ProjectionReferenceIdeal.main_arg6) = m' ((c.tc : Thread Cert.ProjectionReferenceIdeal.nD Cert.ProjectionReferenceIdeal.τ).loc Cert.ProjectionReferenceIdeal.main_arg6))

def preserves_Output_OutputIdeal : Prop :=
  IdealRules.bf16_pair.BufferStatement Cert.OutputIdeal.S131072x2x128 Cert.OutputIdeal.S131072x1x128
  ∧ IdealRules.bf16_pair.BufferStatement Cert.OutputIdeal.S4096x2x128 Cert.OutputIdeal.S4096x1x128
  ∧ IdealRules.bf16_pair.PackStatement Cert.OutputIdeal.S512x1024
  ∧ IdealRules.bf16_pair.Statement Cert.OutputIdeal.S512x2x128 Cert.OutputIdeal.S512x1x128

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
      ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)
      ∧ m' ((c.tc : Thread Cert.OutputReferenceIdeal.nD Cert.OutputReferenceIdeal.τ).loc Cert.OutputReferenceIdeal.main_arg7) = m ((c.tc : Thread Cert.OutputIdeal.nD Cert.OutputIdeal.τ).loc Cert.OutputIdeal.main_arg7)
      ∧ m' ((c.tc : Thread Cert.OutputReferenceIdeal.nD Cert.OutputReferenceIdeal.τ).loc Cert.OutputReferenceIdeal.main_arg8) = m ((c.tc : Thread Cert.OutputIdeal.nD Cert.OutputIdeal.τ).loc Cert.OutputIdeal.main_arg8)
      ∧ m' ((c.tc : Thread Cert.OutputReferenceIdeal.nD Cert.OutputReferenceIdeal.τ).loc Cert.OutputReferenceIdeal.main_arg9) = m ((c.tc : Thread Cert.OutputIdeal.nD Cert.OutputIdeal.τ).loc Cert.OutputIdeal.main_arg9)
      ∧ m' ((c.tc : Thread Cert.OutputReferenceIdeal.nD Cert.OutputReferenceIdeal.τ).loc Cert.OutputReferenceIdeal.main_arg10) = m ((c.tc : Thread Cert.OutputIdeal.nD Cert.OutputIdeal.τ).loc Cert.OutputIdeal.main_arg10)
      ∧ m' ((c.tc : Thread Cert.OutputReferenceIdeal.nD Cert.OutputReferenceIdeal.τ).loc Cert.OutputReferenceIdeal.main_arg11) = m ((c.tc : Thread Cert.OutputIdeal.nD Cert.OutputIdeal.τ).loc Cert.OutputIdeal.main_arg11)) →
    ∃ (v0 : (c : Dev Cert.OutputIdeal.nD) → Buf (Elt Ideal) ((c.tc : Thread Cert.OutputIdeal.nD Cert.OutputIdeal.τ).loc Cert.OutputIdeal.main_v9_0)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v9_0) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
          ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8)
          ∧ r.2.mem ((c.tc : Thread Cert.OutputIdeal.nD Cert.OutputIdeal.τ).loc Cert.OutputIdeal.main_arg9) = m ((c.tc : Thread Cert.OutputIdeal.nD Cert.OutputIdeal.τ).loc Cert.OutputIdeal.main_arg9)
          ∧ r.2.mem ((c.tc : Thread Cert.OutputIdeal.nD Cert.OutputIdeal.τ).loc Cert.OutputIdeal.main_arg10) = m ((c.tc : Thread Cert.OutputIdeal.nD Cert.OutputIdeal.τ).loc Cert.OutputIdeal.main_arg10)
          ∧ r.2.mem ((c.tc : Thread Cert.OutputIdeal.nD Cert.OutputIdeal.τ).loc Cert.OutputIdeal.main_arg11) = m ((c.tc : Thread Cert.OutputIdeal.nD Cert.OutputIdeal.τ).loc Cert.OutputIdeal.main_arg11))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v40) = v0 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5)
          ∧ r.2.mem ((c.tc : Thread Cert.OutputReferenceIdeal.nD Cert.OutputReferenceIdeal.τ).loc Cert.OutputReferenceIdeal.main_arg6) = m' ((c.tc : Thread Cert.OutputReferenceIdeal.nD Cert.OutputReferenceIdeal.τ).loc Cert.OutputReferenceIdeal.main_arg6)
          ∧ r.2.mem ((c.tc : Thread Cert.OutputReferenceIdeal.nD Cert.OutputReferenceIdeal.τ).loc Cert.OutputReferenceIdeal.main_arg7) = m' ((c.tc : Thread Cert.OutputReferenceIdeal.nD Cert.OutputReferenceIdeal.τ).loc Cert.OutputReferenceIdeal.main_arg7)
          ∧ r.2.mem ((c.tc : Thread Cert.OutputReferenceIdeal.nD Cert.OutputReferenceIdeal.τ).loc Cert.OutputReferenceIdeal.main_arg8) = m' ((c.tc : Thread Cert.OutputReferenceIdeal.nD Cert.OutputReferenceIdeal.τ).loc Cert.OutputReferenceIdeal.main_arg8)
          ∧ r.2.mem ((c.tc : Thread Cert.OutputReferenceIdeal.nD Cert.OutputReferenceIdeal.τ).loc Cert.OutputReferenceIdeal.main_arg9) = m' ((c.tc : Thread Cert.OutputReferenceIdeal.nD Cert.OutputReferenceIdeal.τ).loc Cert.OutputReferenceIdeal.main_arg9)
          ∧ r.2.mem ((c.tc : Thread Cert.OutputReferenceIdeal.nD Cert.OutputReferenceIdeal.τ).loc Cert.OutputReferenceIdeal.main_arg10) = m' ((c.tc : Thread Cert.OutputReferenceIdeal.nD Cert.OutputReferenceIdeal.τ).loc Cert.OutputReferenceIdeal.main_arg10)
          ∧ r.2.mem ((c.tc : Thread Cert.OutputReferenceIdeal.nD Cert.OutputReferenceIdeal.τ).loc Cert.OutputReferenceIdeal.main_arg11) = m' ((c.tc : Thread Cert.OutputReferenceIdeal.nD Cert.OutputReferenceIdeal.τ).loc Cert.OutputReferenceIdeal.main_arg11))

def preserves_Context_ContextIdeal : Prop :=
  True

def algebraic_ContextIdeal_ContextReferenceIdeal [hContextIdeal : Cert.ContextIdeal.Facts] [hContextReferenceIdeal : Cert.ContextReferenceIdeal.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextReferenceIdeal.nD Cert.ContextReferenceIdeal.τ Cert.ContextReferenceIdeal.sig) → Buf (Elt Ideal) ℓ) (g' : Dev Cert.ContextReferenceIdeal.nD → PrngReg), Pre_ContextIdeal m →
    (∀ c : Dev Cert.ContextIdeal.nD,
      m' ((c.tc : Thread Cert.ContextReferenceIdeal.nD Cert.ContextReferenceIdeal.τ).loc Cert.ContextReferenceIdeal.main_arg0) = m ((c.tc : Thread Cert.ContextIdeal.nD Cert.ContextIdeal.τ).loc Cert.ContextIdeal.main_arg0)
      ∧ m' ((c.tc : Thread Cert.ContextReferenceIdeal.nD Cert.ContextReferenceIdeal.τ).loc Cert.ContextReferenceIdeal.main_arg1) = m ((c.tc : Thread Cert.ContextIdeal.nD Cert.ContextIdeal.τ).loc Cert.ContextIdeal.main_arg1)
      ∧ m' ((c.tc : Thread Cert.ContextReferenceIdeal.nD Cert.ContextReferenceIdeal.τ).loc Cert.ContextReferenceIdeal.main_arg2) = m ((c.tc : Thread Cert.ContextIdeal.nD Cert.ContextIdeal.τ).loc Cert.ContextIdeal.main_arg2)) →
    ∃ (v0 : (c : Dev Cert.ContextIdeal.nD) → Buf (Elt Ideal) ((c.tc : Thread Cert.ContextIdeal.nD Cert.ContextIdeal.τ).loc Cert.ContextIdeal.main_v5_0)) (v1 : (c : Dev Cert.ContextIdeal.nD) → Buf (Elt Ideal) ((c.tc : Thread Cert.ContextIdeal.nD Cert.ContextIdeal.τ).loc Cert.ContextIdeal.main_v5_1)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v5_0) = v0 c
          ∧ r.2.mem ((c.tc : Thread Cert.ContextIdeal.nD Cert.ContextIdeal.τ).loc Cert.ContextIdeal.main_v5_1) = v1 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2))
      ∧ θ_run (Cert.ContextReferenceIdeal.defs (F := Ideal)) (onTc (τ := Cert.ContextReferenceIdeal.τ) (Cert.ContextReferenceIdeal.main (F := Ideal))) ⟨m', fun _ => 0, g'⟩ (fun r => ∀ c : Dev Cert.ContextReferenceIdeal.nD,
          r.2.mem ((c.tc : Thread Cert.ContextReferenceIdeal.nD Cert.ContextReferenceIdeal.τ).loc Cert.ContextReferenceIdeal.main_v19) = v0 c
          ∧ r.2.mem ((c.tc : Thread Cert.ContextReferenceIdeal.nD Cert.ContextReferenceIdeal.τ).loc Cert.ContextReferenceIdeal.main_v16) = v1 c
          ∧ r.2.mem ((c.tc : Thread Cert.ContextReferenceIdeal.nD Cert.ContextReferenceIdeal.τ).loc Cert.ContextReferenceIdeal.main_arg0) = m' ((c.tc : Thread Cert.ContextReferenceIdeal.nD Cert.ContextReferenceIdeal.τ).loc Cert.ContextReferenceIdeal.main_arg0)
          ∧ r.2.mem ((c.tc : Thread Cert.ContextReferenceIdeal.nD Cert.ContextReferenceIdeal.τ).loc Cert.ContextReferenceIdeal.main_arg1) = m' ((c.tc : Thread Cert.ContextReferenceIdeal.nD Cert.ContextReferenceIdeal.τ).loc Cert.ContextReferenceIdeal.main_arg1)
          ∧ r.2.mem ((c.tc : Thread Cert.ContextReferenceIdeal.nD Cert.ContextReferenceIdeal.τ).loc Cert.ContextReferenceIdeal.main_arg2) = m' ((c.tc : Thread Cert.ContextReferenceIdeal.nD Cert.ContextReferenceIdeal.τ).loc Cert.ContextReferenceIdeal.main_arg2))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectionReferenceIdeal : Cert.ProjectionReferenceIdeal.Facts) (hOutput : Cert.Output.Facts) (hOutputIdeal : Cert.OutputIdeal.Facts) (hOutputReferenceIdeal : Cert.OutputReferenceIdeal.Facts) (hContext : Cert.Context.Facts) (hContextIdeal : Cert.ContextIdeal.Facts) (hContextReferenceIdeal : Cert.ContextReferenceIdeal.Facts) (hPre_positive_floor : Cert.Pre_positive_floor.Facts),
    quiescent_Kernel (hKernel := hKernel)
    ∧ quiescent_KernelIdeal (hKernelIdeal := hKernelIdeal)
    ∧ quiescent_KernelIdeal_pre_positive_floor (hKernelIdeal := hKernelIdeal) (hPre_positive_floor := hPre_positive_floor)
    ∧ quiescent_ReferenceIdeal (hReferenceIdeal := hReferenceIdeal)
    ∧ quiescent_ReferenceIdeal_pre_positive_floor (hReferenceIdeal := hReferenceIdeal) (hPre_positive_floor := hPre_positive_floor)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Output (hOutput := hOutput)
    ∧ quiescent_OutputIdeal (hOutputIdeal := hOutputIdeal)
    ∧ quiescent_OutputReferenceIdeal (hOutputReferenceIdeal := hOutputReferenceIdeal)
    ∧ quiescent_Context (hContext := hContext)
    ∧ quiescent_ContextIdeal (hContextIdeal := hContextIdeal)
    ∧ quiescent_ContextReferenceIdeal (hContextReferenceIdeal := hContextReferenceIdeal)
    ∧ preserves_Kernel_KernelIdeal
    ∧ algebraic_KernelIdeal_ReferenceIdeal_pre_positive_floor (hKernelIdeal := hKernelIdeal) (hReferenceIdeal := hReferenceIdeal) (hPre_positive_floor := hPre_positive_floor)
    ∧ preserves_Projection_ProjectionIdeal
    ∧ algebraic_ProjectionIdeal_ProjectionReferenceIdeal (hProjectionIdeal := hProjectionIdeal) (hProjectionReferenceIdeal := hProjectionReferenceIdeal)
    ∧ preserves_Output_OutputIdeal
    ∧ algebraic_OutputIdeal_OutputReferenceIdeal (hOutputIdeal := hOutputIdeal) (hOutputReferenceIdeal := hOutputReferenceIdeal)
    ∧ preserves_Context_ContextIdeal
    ∧ algebraic_ContextIdeal_ContextReferenceIdeal (hContextIdeal := hContextIdeal) (hContextReferenceIdeal := hContextReferenceIdeal)
-- ==== Pre_positive_floor.lean ====
abbrev S16384x4096 : Shape := ⟨2, ![16384, 4096]⟩
abbrev S2048x2048 : Shape := ⟨2, ![2048, 2048]⟩
abbrev S3x2048 : Shape := ⟨2, ![3, 2048]⟩
abbrev S1x2048 : Shape := ⟨2, ![1, 2048]⟩
abbrev S8x4x16x256 : Shape := ⟨4, ![8, 4, 16, 256]⟩
abbrev S8x4x256x128 : Shape := ⟨4, ![8, 4, 256, 128]⟩
abbrev S1x1024 : Shape := ⟨2, ![1, 1024]⟩
abbrev S8x4x256x16 : Shape := ⟨4, ![8, 4, 256, 16]⟩
abbrev S_ : Shape := ⟨0, ![]⟩

class Facts : Prop where
  slices_S8x4x256x128_S8x4x256x16_0_0_0_48 : S8x4x256x128.Slices ![0, 0, 0, 48] S8x4x256x16
  bcast_S_S8x4x256x16 : S_.BroadcastsInDim S8x4x256x16 (![] : Fin 0 → Fin S8x4x256x16.rank)
  reducesTo_S8x4x256x16_S_d0_1_2_3 : S8x4x256x16.ReducesTo [0, 1, 2, 3] S_
  h_S_ : 0 < S_.numel

variable [Facts]

def fn {F : FTy → Type} [FloatOps F] (main_arg0 : FVec F S16384x4096 .bf16) (main_arg1 : FVec F S2048x2048 .bf16) (main_arg2 : FVec F S3x2048 .f32) (main_arg3 : FVec F S1x2048 .f32) (main_arg4 : FVec F S8x4x16x256 .f32) (main_arg5 : FVec F S8x4x256x128 .f32) (main_arg6 : FVec F S1x1024 .f32) : IVec S_ 1 :=
  let main_v0 : FVec F S8x4x256x16 .f32 := (extractStridedSlice S8x4x256x16 ![0, 0, 0, 48] · slices_S8x4x256x128_S8x4x256x16_0_0_0_48) main_arg5
  let main_cst : FVec F S_ .f32 := constant S_ .f32 0x00000000#32
  let main_v1 : FVec F S8x4x256x16 .f32 := broadcastInDim S8x4x256x16 ![] bcast_S_S8x4x256x16 main_cst
  let main_v2 : IVec S8x4x256x16 1 := cmpf .ogt main_v0 main_v1
  let main_c : IVec S_ 1 := constantI S_ 1 1#1
  let main_v3 : IVec S_ 1 := (fun x v => Host.reduce IntOp.andi x v reducesTo_S8x4x256x16_S_d0_1_2_3 h_S_) main_v2 main_c
  main_v3
-- ==== Kernel.lean ====
abbrev S16384x4096 : Shape := ⟨2, ![16384, 4096]⟩
abbrev S2048x2048 : Shape := ⟨2, ![2048, 2048]⟩
abbrev S3x2048 : Shape := ⟨2, ![3, 2048]⟩
abbrev S1x2048 : Shape := ⟨2, ![1, 2048]⟩
abbrev S8x4x16x256 : Shape := ⟨4, ![8, 4, 16, 256]⟩
abbrev S8x4x256x128 : Shape := ⟨4, ![8, 4, 256, 128]⟩
abbrev S1x1024 : Shape := ⟨2, ![1, 1024]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S256x768 : Shape := ⟨2, ![256, 768]⟩
abbrev S16 : Shape := ⟨1, ![16]⟩
abbrev S1x16 : Shape := ⟨2, ![1, 16]⟩
abbrev S256x16 : Shape := ⟨2, ![256, 16]⟩
abbrev S16384x1024 : Shape := ⟨2, ![16384, 1024]⟩
abbrev S2048x256 : Shape := ⟨2, ![2048, 256]⟩
abbrev S3x256 : Shape := ⟨2, ![3, 256]⟩
abbrev S1x1x16x256 : Shape := ⟨4, ![1, 1, 16, 256]⟩
abbrev S1x1x256x128 : Shape := ⟨4, ![1, 1, 256, 128]⟩
abbrev S16x256x256 : Shape := ⟨3, ![16, 256, 256]⟩
abbrev S16x1x256 : Shape := ⟨3, ![16, 1, 256]⟩
abbrev S768x256 : Shape := ⟨2, ![768, 256]⟩
abbrev S16x256 : Shape := ⟨2, ![16, 256]⟩
abbrev S256x128 : Shape := ⟨2, ![256, 128]⟩
abbrev S128x256 : Shape := ⟨2, ![128, 256]⟩
abbrev S8x256 : Shape := ⟨2, ![8, 256]⟩
abbrev S1x256x256 : Shape := ⟨3, ![1, 256, 256]⟩
abbrev S1x1x256 : Shape := ⟨3, ![1, 1, 256]⟩
abbrev S1x1x1x1 : Shape := ⟨4, ![1, 1, 1, 1]⟩
abbrev S1x1 : Shape := ⟨2, ![1, 1]⟩
abbrev S1x1x1x256 : Shape := ⟨4, ![1, 1, 1, 256]⟩
abbrev S1x1x256x1 : Shape := ⟨4, ![1, 1, 256, 1]⟩

abbrev nBuf : Space → Nat
  | .hbm => 63
  | .vmem => 35
  | .smem => 0
  | _ => 0

abbrev bufTy : (tb : Table) → Fin (tcTables nBuf tb) → BufTy
  | .hbm, ⟨0, _⟩ => ⟨S16384x4096, .bf16⟩
  | .hbm, ⟨1, _⟩ => ⟨S2048x2048, .bf16⟩
  | .hbm, ⟨2, _⟩ => ⟨S3x2048, .f32⟩
  | .hbm, ⟨3, _⟩ => ⟨S1x2048, .f32⟩
  | .hbm, ⟨4, _⟩ => ⟨S8x4x16x256, .f32⟩
  | .hbm, ⟨5, _⟩ => ⟨S8x4x256x128, .f32⟩
  | .hbm, ⟨6, _⟩ => ⟨S1x1024, .f32⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S_, .i32⟩
  | .hbm, ⟨12, _⟩ => ⟨S256x1, .i32⟩
  | .hbm, ⟨13, _⟩ => ⟨S256x1, .i32⟩
  | .hbm, ⟨14, _⟩ => ⟨S_, .i32⟩
  | .hbm, ⟨15, _⟩ => ⟨S256x1, .i32⟩
  | .hbm, ⟨16, _⟩ => ⟨S256x1, .i32⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S_, .i32⟩
  | .hbm, ⟨24, _⟩ => ⟨S256x1, .i32⟩
  | .hbm, ⟨25, _⟩ => ⟨S256x1, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S_, .i32⟩
  | .hbm, ⟨30, _⟩ => ⟨S256x1, .i32⟩
  | .hbm, ⟨31, _⟩ => ⟨S256x1, .i32⟩
  | .hbm, ⟨32, _⟩ => ⟨S_, .i32⟩
  | .hbm, ⟨33, _⟩ => ⟨S256x1, .i32⟩
  | .hbm, ⟨34, _⟩ => ⟨S256x1, .i32⟩
  | .hbm, ⟨35, _⟩ => ⟨S256x256, .i32⟩
  | .hbm, ⟨36, _⟩ => ⟨S256x256, .i32⟩
  | .hbm, ⟨37, _⟩ => ⟨S256x256, .i1⟩
  | .hbm, ⟨38, _⟩ => ⟨S256x768, .i1⟩
  | .hbm, ⟨39, _⟩ => ⟨S256x768, .bf16⟩
  | .hbm, ⟨40, _⟩ => ⟨S16, .i32⟩
  | .hbm, ⟨41, _⟩ => ⟨S1x16, .i32⟩
  | .hbm, ⟨42, _⟩ => ⟨S_, .i32⟩
  | .hbm, ⟨43, _⟩ => ⟨S256x1, .i32⟩
  | .hbm, ⟨44, _⟩ => ⟨S256x1, .i1⟩
  | .hbm, ⟨45, _⟩ => ⟨S_, .i32⟩
  | .hbm, ⟨46, _⟩ => ⟨S1x16, .i32⟩
  | .hbm, ⟨47, _⟩ => ⟨S1x16, .i1⟩
  | .hbm, ⟨48, _⟩ => ⟨S256x16, .i1⟩
  | .hbm, ⟨49, _⟩ => ⟨S256x16, .i1⟩
  | .hbm, ⟨50, _⟩ => ⟨S256x16, .i1⟩
  | .hbm, ⟨51, _⟩ => ⟨S_, .i32⟩
  | .hbm, ⟨52, _⟩ => ⟨S256x1, .i32⟩
  | .hbm, ⟨53, _⟩ => ⟨S256x1, .i1⟩
  | .hbm, ⟨54, _⟩ => ⟨S_, .i32⟩
  | .hbm, ⟨55, _⟩ => ⟨S1x16, .i32⟩
  | .hbm, ⟨56, _⟩ => ⟨S1x16, .i1⟩
  | .hbm, ⟨57, _⟩ => ⟨S256x16, .i1⟩
  | .hbm, ⟨58, _⟩ => ⟨S256x16, .i1⟩
  | .hbm, ⟨59, _⟩ => ⟨S256x16, .i1⟩
  | .hbm, ⟨60, _⟩ => ⟨S256x16, .i1⟩
  | .hbm, ⟨61, _⟩ => ⟨S256x16, .bf16⟩
  | .hbm, ⟨62, _⟩ => ⟨S16384x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S3x256, .f32⟩
  | .local _ .vmem, ⟨13, _⟩ => ⟨S3x256, .f32⟩
  | .local _ .vmem, ⟨14, _⟩ => ⟨S1x256, .f32⟩
  | .local _ .vmem, ⟨15, _⟩ => ⟨S1x256, .f32⟩
  | .local _ .vmem, ⟨16, _⟩ => ⟨S3x256, .f32⟩
  | .local _ .vmem, ⟨17, _⟩ => ⟨S3x256, .f32⟩
  | .local _ .vmem, ⟨18, _⟩ => ⟨S1x256, .f32⟩
  | .local _ .vmem, ⟨19, _⟩ => ⟨S1x256, .f32⟩
  | .local _ .vmem, ⟨20, _⟩ => ⟨S1x1x16x256, .f32⟩
  | .local _ .vmem, ⟨21, _⟩ => ⟨S1x1x16x256, .f32⟩
  | .local _ .vmem, ⟨22, _⟩ => ⟨S1x1x256x128, .f32⟩
  | .local _ .vmem, ⟨23, _⟩ => ⟨S1x1x256x128, .f32⟩
  | .local _ .vmem, ⟨24, _⟩ => ⟨S1x256, .f32⟩
  | .local _ .vmem, ⟨25, _⟩ => ⟨S1x256, .f32⟩
  | .local _ .vmem, ⟨26, _⟩ => ⟨S256x768, .bf16⟩
  | .local _ .vmem, ⟨27, _⟩ => ⟨S256x16, .bf16⟩
  | .local _ .vmem, ⟨28, _⟩ => ⟨S2048x256, .bf16⟩
  | .local _ .vmem, ⟨29, _⟩ => ⟨S2048x256, .bf16⟩
  | .local _ .vmem, ⟨30, _⟩ => ⟨S2048x256, .bf16⟩
  | .local _ .vmem, ⟨31, _⟩ => ⟨S2048x256, .bf16⟩
  | .local _ .vmem, ⟨32, _⟩ => ⟨S256x256, .bf16⟩
  | .local _ .vmem, ⟨33, _⟩ => ⟨S16x256x256, .bf16⟩
  | .local _ .vmem, ⟨34, _⟩ => ⟨S16x1x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S256x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x16 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S2048x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S16384x4096 : Shape := ⟨2, ![16384, 4096]⟩
abbrev S2048x2048 : Shape := ⟨2, ![2048, 2048]⟩
abbrev S3x2048 : Shape := ⟨2, ![3, 2048]⟩
abbrev S1x2048 : Shape := ⟨2, ![1, 2048]⟩
abbrev S8x4x16x256 : Shape := ⟨4, ![8, 4, 16, 256]⟩
abbrev S8x4x256x128 : Shape := ⟨4, ![8, 4, 256, 128]⟩
abbrev S1x1024 : Shape := ⟨2, ![1, 1024]⟩
abbrev S8x2048x4096 : Shape := ⟨3, ![8, 2048, 4096]⟩
abbrev S8x256x2048 : Shape := ⟨3, ![8, 256, 2048]⟩
abbrev S8x2048x2048 : Shape := ⟨3, ![8, 2048, 2048]⟩
abbrev S_ : Shape := ⟨0, ![]⟩
abbrev S8x2050x2048 : Shape := ⟨3, ![8, 2050, 2048]⟩
abbrev S2048 : Shape := ⟨1, ![2048]⟩
abbrev S1x1x2048 : Shape := ⟨3, ![1, 1, 2048]⟩
abbrev S8x2048x1024 : Shape := ⟨3, ![8, 2048, 1024]⟩
abbrev S8x8x256x4x256 : Shape := ⟨5, ![8, 8, 256, 4, 256]⟩
abbrev S8x256x1024 : Shape := ⟨3, ![8, 256, 1024]⟩
abbrev S3x1024 : Shape := ⟨2, ![3, 1024]⟩
abbrev S8x258x1024 : Shape := ⟨3, ![8, 258, 1024]⟩
abbrev S1024 : Shape := ⟨1, ![1024]⟩
abbrev S1x1x1024 : Shape := ⟨3, ![1, 1, 1024]⟩
abbrev S8x256x4x256 : Shape := ⟨4, ![8, 256, 4, 256]⟩
abbrev S8x8x4x256x256 : Shape := ⟨5, ![8, 8, 4, 256, 256]⟩
abbrev S256x256 : Shape := ⟨2, ![256, 256]⟩
abbrev S8x4x8x256 : Shape := ⟨4, ![8, 4, 8, 256]⟩
abbrev S8x8x4x256 : Shape := ⟨4, ![8, 8, 4, 256]⟩
abbrev S8x4x256x8 : Shape := ⟨4, ![8, 4, 256, 8]⟩
abbrev S8x4x256x1 : Shape := ⟨4, ![8, 4, 256, 1]⟩
abbrev S8x4x256 : Shape := ⟨3, ![8, 4, 256]⟩
abbrev S8x4x1x8 : Shape := ⟨4, ![8, 4, 1, 8]⟩
abbrev S8x4x8 : Shape := ⟨3, ![8, 4, 8]⟩
abbrev S8x8x256x4 : Shape := ⟨4, ![8, 8, 256, 4]⟩
abbrev S8x8x256x4x1 : Shape := ⟨5, ![8, 8, 256, 4, 1]⟩
abbrev S8x256x4 : Shape := ⟨3, ![8, 256, 4]⟩
abbrev S8x256x4x1 : Shape := ⟨4, ![8, 256, 4, 1]⟩
abbrev S8x4x256x256 : Shape := ⟨4, ![8, 4, 256, 256]⟩
abbrev S8x4x1 : Shape := ⟨3, ![8, 4, 1]⟩
abbrev S8x4 : Shape := ⟨2, ![8, 4]⟩
abbrev S8x4x1x1 : Shape := ⟨4, ![8, 4, 1, 1]⟩
abbrev S1x8x4x256x256 : Shape := ⟨5, ![1, 8, 4, 256, 256]⟩
abbrev S1x8x4x256 : Shape := ⟨4, ![1, 8, 4, 256]⟩
abbrev S8x8x4x1x256 : Shape := ⟨5, ![8, 8, 4, 1, 256]⟩
abbrev S8x8x4x256x1 : Shape := ⟨5, ![8, 8, 4, 256, 1]⟩
abbrev S4x1x256 : Shape := ⟨3, ![4, 1, 256]⟩
abbrev S1x1x4x1x256 : Shape := ⟨5, ![1, 1, 4, 1, 256]⟩
abbrev S16384x1024 : Shape := ⟨2, ![16384, 1024]⟩

abbrev nBuf : Space → Nat
  | .hbm => 558
  | .vmem => 0
  | .smem => 0
  | _ => 0

abbrev hbmTy0_0 (i : Nat) : BufTy := match i % 128 with
  | 0 => ⟨S16384x4096, .bf16⟩
  | 1 => ⟨S2048x2048, .bf16⟩
  | 2 => ⟨S3x2048, .f32⟩
  | 3 => ⟨S1x2048, .f32⟩
  | 4 => ⟨S8x4x16x256, .f32⟩
  | 5 => ⟨S8x4x256x128, .f32⟩
  | 6 => ⟨S1x1024, .f32⟩
  | 7 => ⟨S16384x4096, .f32⟩
  | 8 => ⟨S8x2048x4096, .f32⟩
  | 9 => ⟨S2048x2048, .f32⟩
  | 10 => ⟨S8x256x2048, .f32⟩
  | 11 => ⟨S8x2048x2048, .f32⟩
  | 12 => ⟨S_, .i32⟩
  | 13 => ⟨S_, .f32⟩
  | 14 => ⟨S8x2050x2048, .f32⟩
  | 15 => ⟨S8x2048x2048, .f32⟩
  | 16 => ⟨S1x2048, .f32⟩
  | 17 => ⟨S2048, .f32⟩
  | 18 => ⟨S1x1x2048, .f32⟩
  | 19 => ⟨S8x2048x2048, .f32⟩
  | 20 => ⟨S8x2048x2048, .f32⟩
  | 21 => ⟨S8x2048x2048, .f32⟩
  | 22 => ⟨S1x2048, .f32⟩
  | 23 => ⟨S2048, .f32⟩
  | 24 => ⟨S1x1x2048, .f32⟩
  | 25 => ⟨S8x2048x2048, .f32⟩
  | 26 => ⟨S8x2048x2048, .f32⟩
  | 27 => ⟨S8x2048x2048, .f32⟩
  | 28 => ⟨S8x2048x2048, .f32⟩
  | 29 => ⟨S1x2048, .f32⟩
  | 30 => ⟨S2048, .f32⟩
  | 31 => ⟨S1x1x2048, .f32⟩
  | 32 => ⟨S8x2048x2048, .f32⟩
  | 33 => ⟨S8x2048x2048, .f32⟩
  | 34 => ⟨S8x2048x2048, .f32⟩
  | 35 => ⟨S1x1x2048, .f32⟩
  | 36 => ⟨S8x2048x2048, .f32⟩
  | 37 => ⟨S8x2048x2048, .f32⟩
  | 38 => ⟨S8x2048x2048, .f32⟩
  | 39 => ⟨S8x2048x2048, .f32⟩
  | 40 => ⟨S_, .f32⟩
  | 41 => ⟨S8x2048x2048, .f32⟩
  | 42 => ⟨S8x2048x2048, .f32⟩
  | 43 => ⟨S_, .f32⟩
  | 44 => ⟨S8x2048x2048, .f32⟩
  | 45 => ⟨S8x2048x2048, .f32⟩
  | 46 => ⟨S8x2048x2048, .f32⟩
  | 47 => ⟨S8x2048x1024, .f32⟩
  | 48 => ⟨S8x8x256x4x256, .f32⟩
  | 49 => ⟨S8x2048x1024, .f32⟩
  | 50 => ⟨S_, .f32⟩
  | 51 => ⟨S8x2048x1024, .f32⟩
  | 52 => ⟨S8x2048x1024, .f32⟩
  | 53 => ⟨S8x8x256x4x256, .f32⟩
  | 54 => ⟨S8x2048x1024, .f32⟩
  | 55 => ⟨S8x8x256x4x256, .f32⟩
  | 56 => ⟨S8x2048x1024, .f32⟩
  | 57 => ⟨S8x8x256x4x256, .f32⟩
  | 58 => ⟨S8x256x1024, .f32⟩
  | 59 => ⟨S3x1024, .f32⟩
  | 60 => ⟨S1x1024, .f32⟩
  | 61 => ⟨S_, .i32⟩
  | 62 => ⟨S_, .f32⟩
  | 63 => ⟨S8x258x1024, .f32⟩
  | 64 => ⟨S8x256x1024, .f32⟩
  | 65 => ⟨S1x1024, .f32⟩
  | 66 => ⟨S1024, .f32⟩
  | 67 => ⟨S1x1x1024, .f32⟩
  | 68 => ⟨S8x256x1024, .f32⟩
  | 69 => ⟨S8x256x1024, .f32⟩
  | 70 => ⟨S8x256x1024, .f32⟩
  | 71 => ⟨S1x1024, .f32⟩
  | 72 => ⟨S1024, .f32⟩
  | 73 => ⟨S1x1x1024, .f32⟩
  | 74 => ⟨S8x256x1024, .f32⟩
  | 75 => ⟨S8x256x1024, .f32⟩
  | 76 => ⟨S8x256x1024, .f32⟩
  | 77 => ⟨S8x256x1024, .f32⟩
  | 78 => ⟨S1x1024, .f32⟩
  | 79 => ⟨S1024, .f32⟩
  | 80 => ⟨S1x1x1024, .f32⟩
  | 81 => ⟨S8x256x1024, .f32⟩
  | 82 => ⟨S8x256x1024, .f32⟩
  | 83 => ⟨S8x256x1024, .f32⟩
  | 84 => ⟨S1x1x1024, .f32⟩
  | 85 => ⟨S8x256x1024, .f32⟩
  | 86 => ⟨S8x256x1024, .f32⟩
  | 87 => ⟨S8x256x1024, .f32⟩
  | 88 => ⟨S8x256x1024, .f32⟩
  | 89 => ⟨S_, .f32⟩
  | 90 => ⟨S8x256x1024, .f32⟩
  | 91 => ⟨S8x256x1024, .f32⟩
  | 92 => ⟨S_, .f32⟩
  | 93 => ⟨S8x256x1024, .f32⟩
  | 94 => ⟨S8x256x1024, .f32⟩
  | 95 => ⟨S8x256x1024, .f32⟩
  | 96 => ⟨S_, .f32⟩
  | 97 => ⟨S8x256x1024, .f32⟩
  | 98 => ⟨S8x256x1024, .f32⟩
  | 99 => ⟨S8x256x4x256, .f32⟩
  | 100 => ⟨S8x256x1024, .f32⟩
  | 101 => ⟨S8x256x4x256, .f32⟩
  | 102 => ⟨S8x8x4x256x256, .f32⟩
  | 103 => ⟨S_, .i1⟩
  | 104 => ⟨S256x256, .i1⟩
  | 105 => ⟨S256x256, .i32⟩
  | 106 => ⟨S_, .i32⟩
  | 107 => ⟨S256x256, .i32⟩
  | 108 => ⟨S256x256, .i32⟩
  | 109 => ⟨S256x256, .i32⟩
  | 110 => ⟨S256x256, .i1⟩
  | 111 => ⟨S_, .i1⟩
  | 112 => ⟨S256x256, .i1⟩
  | 113 => ⟨S256x256, .i1⟩
  | 114 => ⟨S8x4x8x256, .f32⟩
  | 115 => ⟨S8x8x4x256, .f32⟩
  | 116 => ⟨S8x4x256x8, .f32⟩
  | 117 => ⟨S8x8x4x256, .f32⟩
  | 118 => ⟨S8x4x256x8, .f32⟩
  | 119 => ⟨S8x8x4x256, .f32⟩
  | 120 => ⟨S8x4x256x8, .f32⟩
  | 121 => ⟨S8x8x4x256, .f32⟩
  | 122 => ⟨S8x4x256x8, .f32⟩
  | 123 => ⟨S8x8x4x256, .f32⟩
  | 124 => ⟨S8x4x256x1, .f32⟩
  | 125 => ⟨S8x4x256, .f32⟩
  | 126 => ⟨S8x4x1x8, .f32⟩
  | 127 => ⟨S8x4x8, .f32⟩
  | _ => ⟨S16384x4096, .bf16⟩

abbrev hbmTy0_1 (i : Nat) : BufTy := match i % 128 with
  | 0 => ⟨S8x8x256x4, .f32⟩
  | 1 => ⟨S8x8x256x4x1, .f32⟩
  | 2 => ⟨S8x8x256x4x256, .f32⟩
  | 3 => ⟨S8x8x256x4x256, .f32⟩
  | 4 => ⟨S8x8x4x256x256, .f32⟩
  | 5 => ⟨S8x8x4x256, .f32⟩
  | 6 => ⟨S8x256x4, .f32⟩
  | 7 => ⟨S8x256x4x1, .f32⟩
  | 8 => ⟨S8x256x4x256, .f32⟩
  | 9 => ⟨S8x256x4x256, .f32⟩
  | 10 => ⟨S8x4x256x256, .f32⟩
  | 11 => ⟨S8x4x256, .f32⟩
  | 12 => ⟨S8x4x1, .f32⟩
  | 13 => ⟨S8x4, .f32⟩
  | 14 => ⟨S8x4x1x1, .f32⟩
  | 15 => ⟨S8x4x256x256, .f32⟩
  | 16 => ⟨S8x4x256x256, .f32⟩
  | 17 => ⟨S1x8x4x256x256, .f32⟩
  | 18 => ⟨S8x4x256x256, .f32⟩
  | 19 => ⟨S8x4x256x256, .f32⟩
  | 20 => ⟨S8x4x1, .f32⟩
  | 21 => ⟨S8x4, .f32⟩
  | 22 => ⟨S8x4x1, .f32⟩
  | 23 => ⟨S8x4x256, .f32⟩
  | 24 => ⟨S8x4x256, .f32⟩
  | 25 => ⟨S1x8x4x256, .f32⟩
  | 26 => ⟨S8x4x256, .f32⟩
  | 27 => ⟨S8x4x256, .f32⟩
  | 28 => ⟨S8x4x1, .f32⟩
  | 29 => ⟨S8x4, .f32⟩
  | 30 => ⟨S8x4x1x1, .f32⟩
  | 31 => ⟨S8x4x256x256, .f32⟩
  | 32 => ⟨S8x4x256x256, .f32⟩
  | 33 => ⟨S1x8x4x256x256, .f32⟩
  | 34 => ⟨S8x4x256x256, .f32⟩
  | 35 => ⟨S8x4x256x256, .f32⟩
  | 36 => ⟨S8x4x1, .f32⟩
  | 37 => ⟨S8x4, .f32⟩
  | 38 => ⟨S8x4x1, .f32⟩
  | 39 => ⟨S8x4x256, .f32⟩
  | 40 => ⟨S8x4x256, .f32⟩
  | 41 => ⟨S1x8x4x256, .f32⟩
  | 42 => ⟨S8x4x256, .f32⟩
  | 43 => ⟨S8x4x256, .f32⟩
  | 44 => ⟨S8x4x1, .f32⟩
  | 45 => ⟨S8x4, .f32⟩
  | 46 => ⟨S8x4x1x1, .f32⟩
  | 47 => ⟨S8x4x256x256, .f32⟩
  | 48 => ⟨S8x4x256x256, .f32⟩
  | 49 => ⟨S1x8x4x256x256, .f32⟩
  | 50 => ⟨S8x4x256x256, .f32⟩
  | 51 => ⟨S8x4x256x256, .f32⟩
  | 52 => ⟨S8x4x1, .f32⟩
  | 53 => ⟨S8x4, .f32⟩
  | 54 => ⟨S8x4x1, .f32⟩
  | 55 => ⟨S8x4x256, .f32⟩
  | 56 => ⟨S8x4x256, .f32⟩
  | 57 => ⟨S1x8x4x256, .f32⟩
  | 58 => ⟨S8x4x256, .f32⟩
  | 59 => ⟨S8x4x256, .f32⟩
  | 60 => ⟨S8x4x1, .f32⟩
  | 61 => ⟨S8x4, .f32⟩
  | 62 => ⟨S8x4x1x1, .f32⟩
  | 63 => ⟨S8x4x256x256, .f32⟩
  | 64 => ⟨S8x4x256x256, .f32⟩
  | 65 => ⟨S1x8x4x256x256, .f32⟩
  | 66 => ⟨S8x4x256x256, .f32⟩
  | 67 => ⟨S8x4x256x256, .f32⟩
  | 68 => ⟨S8x4x1, .f32⟩
  | 69 => ⟨S8x4, .f32⟩
  | 70 => ⟨S8x4x1, .f32⟩
  | 71 => ⟨S8x4x256, .f32⟩
  | 72 => ⟨S8x4x256, .f32⟩
  | 73 => ⟨S1x8x4x256, .f32⟩
  | 74 => ⟨S8x4x256, .f32⟩
  | 75 => ⟨S8x4x256, .f32⟩
  | 76 => ⟨S8x4x1, .f32⟩
  | 77 => ⟨S8x4, .f32⟩
  | 78 => ⟨S8x4x1x1, .f32⟩
  | 79 => ⟨S8x4x256x256, .f32⟩
  | 80 => ⟨S8x4x256x256, .f32⟩
  | 81 => ⟨S1x8x4x256x256, .f32⟩
  | 82 => ⟨S8x4x256x256, .f32⟩
  | 83 => ⟨S8x4x256x256, .f32⟩
  | 84 => ⟨S8x4x1, .f32⟩
  | 85 => ⟨S8x4, .f32⟩
  | 86 => ⟨S8x4x1, .f32⟩
  | 87 => ⟨S8x4x256, .f32⟩
  | 88 => ⟨S8x4x256, .f32⟩
  | 89 => ⟨S1x8x4x256, .f32⟩
  | 90 => ⟨S8x4x256, .f32⟩
  | 91 => ⟨S8x4x256, .f32⟩
  | 92 => ⟨S8x4x1, .f32⟩
  | 93 => ⟨S8x4, .f32⟩
  | 94 => ⟨S8x4x1x1, .f32⟩
  | 95 => ⟨S8x4x256x256, .f32⟩
  | 96 => ⟨S8x4x256x256, .f32⟩
  | 97 => ⟨S1x8x4x256x256, .f32⟩
  | 98 => ⟨S8x4x256x256, .f32⟩
  | 99 => ⟨S8x4x256x256, .f32⟩
  | 100 => ⟨S8x4x1, .f32⟩
  | 101 => ⟨S8x4, .f32⟩
  | 102 => ⟨S8x4x1, .f32⟩
  | 103 => ⟨S8x4x256, .f32⟩
  | 104 => ⟨S8x4x256, .f32⟩
  | 105 => ⟨S1x8x4x256, .f32⟩
  | 106 => ⟨S8x4x256, .f32⟩
  | 107 => ⟨S8x4x256, .f32⟩
  | 108 => ⟨S8x4x1, .f32⟩
  | 109 => ⟨S8x4, .f32⟩
  | 110 => ⟨S8x4x1x1, .f32⟩
  | 111 => ⟨S8x4x256x256, .f32⟩
  | 112 => ⟨S8x4x256x256, .f32⟩
  | 113 => ⟨S1x8x4x256x256, .f32⟩
  | 114 => ⟨S8x4x256x256, .f32⟩
  | 115 => ⟨S8x4x256x256, .f32⟩
  | 116 => ⟨S8x4x1, .f32⟩
  | 117 => ⟨S8x4, .f32⟩
  | 118 => ⟨S8x4x1, .f32⟩
  | 119 => ⟨S8x4x256, .f32⟩
  | 120 => ⟨S8x4x256, .f32⟩
  | 121 => ⟨S1x8x4x256, .f32⟩
  | 122 => ⟨S8x4x256, .f32⟩
  | 123 => ⟨S8x4x256, .f32⟩
  | 124 => ⟨S8x4x1, .f32⟩
  | 125 => ⟨S8x4, .f32⟩
  | 126 => ⟨S8x4x1x1, .f32⟩
  | 127 => ⟨S8x4x256x256, .f32⟩
  | _ => ⟨S16384x4096, .bf16⟩

abbrev hbmTy0_2 (i : Nat) : BufTy := match i % 128 with
  | 0 => ⟨S8x4x256x256, .f32⟩
  | 1 => ⟨S1x8x4x256x256, .f32⟩
  | 2 => ⟨S8x4x256x256, .f32⟩
  | 3 => ⟨S8x4x256x256, .f32⟩
  | 4 => ⟨S8x4x1, .f32⟩
  | 5 => ⟨S8x4, .f32⟩
  | 6 => ⟨S8x4x1, .f32⟩
  | 7 => ⟨S8x4x256, .f32⟩
  | 8 => ⟨S8x4x256, .f32⟩
  | 9 => ⟨S1x8x4x256, .f32⟩
  | 10 => ⟨S8x4x256, .f32⟩
  | 11 => ⟨S8x4x256, .f32⟩
  | 12 => ⟨S1x8x4x256x256, .f32⟩
  | 13 => ⟨S1x8x4x256x256, .f32⟩
  | 14 => ⟨S1x8x4x256x256, .f32⟩
  | 15 => ⟨S1x8x4x256x256, .f32⟩
  | 16 => ⟨S1x8x4x256x256, .f32⟩
  | 17 => ⟨S1x8x4x256x256, .f32⟩
  | 18 => ⟨S1x8x4x256x256, .f32⟩
  | 19 => ⟨S1x8x4x256x256, .f32⟩
  | 20 => ⟨S8x8x4x256x256, .f32⟩
  | 21 => ⟨S1x8x4x256, .f32⟩
  | 22 => ⟨S1x8x4x256, .f32⟩
  | 23 => ⟨S1x8x4x256, .f32⟩
  | 24 => ⟨S1x8x4x256, .f32⟩
  | 25 => ⟨S1x8x4x256, .f32⟩
  | 26 => ⟨S1x8x4x256, .f32⟩
  | 27 => ⟨S1x8x4x256, .f32⟩
  | 28 => ⟨S1x8x4x256, .f32⟩
  | 29 => ⟨S8x8x4x256, .f32⟩
  | 30 => ⟨S8x8x4x1x256, .f32⟩
  | 31 => ⟨S_, .f32⟩
  | 32 => ⟨S_, .f32⟩
  | 33 => ⟨S8x8x4x256x256, .i1⟩
  | 34 => ⟨S8x8x4x256x256, .f32⟩
  | 35 => ⟨S8x8x4x256x256, .f32⟩
  | 36 => ⟨S8x8x4x256x256, .f32⟩
  | 37 => ⟨S8x8x4x256x1, .f32⟩
  | 38 => ⟨S8x8x4x256x256, .f32⟩
  | 39 => ⟨S8x8x4x256x256, .f32⟩
  | 40 => ⟨S8x8x4x256x256, .f32⟩
  | 41 => ⟨S8x8x4x256x256, .f32⟩
  | 42 => ⟨S8x8x4x256x256, .f32⟩
  | 43 => ⟨S8x8x4x256x1, .f32⟩
  | 44 => ⟨S8x8x4x256x256, .f32⟩
  | 45 => ⟨S8x8x4x256x256, .f32⟩
  | 46 => ⟨S8x8x4x256x256, .f32⟩
  | 47 => ⟨S8x8x4x256x256, .f32⟩
  | 48 => ⟨S_, .f32⟩
  | 49 => ⟨S8x8x4x256, .f32⟩
  | 50 => ⟨S8x8x4x256, .f32⟩
  | 51 => ⟨S8x8x4x256, .f32⟩
  | 52 => ⟨S8x8x4x256, .f32⟩
  | 53 => ⟨S8x8x4x256, .f32⟩
  | 54 => ⟨S8x8x4x256, .f32⟩
  | 55 => ⟨S8x8x4x256x1, .f32⟩
  | 56 => ⟨S8x8x4x256x256, .f32⟩
  | 57 => ⟨S8x8x4x256x256, .f32⟩
  | 58 => ⟨S_, .f32⟩
  | 59 => ⟨S8x8x4x256x256, .f32⟩
  | 60 => ⟨S8x8x4x256x256, .f32⟩
  | 61 => ⟨S8x4x8x256, .f32⟩
  | 62 => ⟨S8x8x4x256, .f32⟩
  | 63 => ⟨S8x4x256x8, .f32⟩
  | 64 => ⟨S8x8x4x256, .f32⟩
  | 65 => ⟨S8x4x256x8, .f32⟩
  | 66 => ⟨S8x8x4x256, .f32⟩
  | 67 => ⟨S8x4x256x8, .f32⟩
  | 68 => ⟨S8x8x4x256, .f32⟩
  | 69 => ⟨S8x4x256x8, .f32⟩
  | 70 => ⟨S8x8x4x256, .f32⟩
  | 71 => ⟨S8x4x256x1, .f32⟩
  | 72 => ⟨S8x4x256, .f32⟩
  | 73 => ⟨S8x4x1x8, .f32⟩
  | 74 => ⟨S8x4x8, .f32⟩
  | 75 => ⟨S8x8x256x4, .f32⟩
  | 76 => ⟨S8x8x256x4x1, .f32⟩
  | 77 => ⟨S8x8x256x4x256, .f32⟩
  | 78 => ⟨S8x8x256x4x256, .f32⟩
  | 79 => ⟨S8x8x4x256x256, .f32⟩
  | 80 => ⟨S8x8x4x256, .f32⟩
  | 81 => ⟨S8x256x4, .f32⟩
  | 82 => ⟨S8x256x4x1, .f32⟩
  | 83 => ⟨S8x256x4x256, .f32⟩
  | 84 => ⟨S8x256x4x256, .f32⟩
  | 85 => ⟨S8x4x256x256, .f32⟩
  | 86 => ⟨S8x4x256, .f32⟩
  | 87 => ⟨S8x4x1, .f32⟩
  | 88 => ⟨S8x4, .f32⟩
  | 89 => ⟨S8x4x1x1, .f32⟩
  | 90 => ⟨S8x4x256x256, .f32⟩
  | 91 => ⟨S8x4x256x256, .f32⟩
  | 92 => ⟨S1x8x4x256x256, .f32⟩
  | 93 => ⟨S8x4x256x256, .f32⟩
  | 94 => ⟨S8x4x256x256, .f32⟩
  | 95 => ⟨S8x4x1, .f32⟩
  | 96 => ⟨S8x4, .f32⟩
  | 97 => ⟨S8x4x1, .f32⟩
  | 98 => ⟨S8x4x256, .f32⟩
  | 99 => ⟨S8x4x256, .f32⟩
  | 100 => ⟨S1x8x4x256, .f32⟩
  | 101 => ⟨S8x4x256, .f32⟩
  | 102 => ⟨S8x4x256, .f32⟩
  | 103 => ⟨S8x4x1, .f32⟩
  | 104 => ⟨S8x4, .f32⟩
  | 105 => ⟨S8x4x1x1, .f32⟩
  | 106 => ⟨S8x4x256x256, .f32⟩
  | 107 => ⟨S8x4x256x256, .f32⟩
  | 108 => ⟨S1x8x4x256x256, .f32⟩
  | 109 => ⟨S8x4x256x256, .f32⟩
  | 110 => ⟨S8x4x256x256, .f32⟩
  | 111 => ⟨S8x4x1, .f32⟩
  | 112 => ⟨S8x4, .f32⟩
  | 113 => ⟨S8x4x1, .f32⟩
  | 114 => ⟨S8x4x256, .f32⟩
  | 115 => ⟨S8x4x256, .f32⟩
  | 116 => ⟨S1x8x4x256, .f32⟩
  | 117 => ⟨S8x4x256, .f32⟩
  | 118 => ⟨S8x4x256, .f32⟩
  | 119 => ⟨S8x4x1, .f32⟩
  | 120 => ⟨S8x4, .f32⟩
  | 121 => ⟨S8x4x1x1, .f32⟩
  | 122 => ⟨S8x4x256x256, .f32⟩
  | 123 => ⟨S8x4x256x256, .f32⟩
  | 124 => ⟨S1x8x4x256x256, .f32⟩
  | 125 => ⟨S8x4x256x256, .f32⟩
  | 126 => ⟨S8x4x256x256, .f32⟩
  | 127 => ⟨S8x4x1, .f32⟩
  | _ => ⟨S16384x4096, .bf16⟩

abbrev hbmTy0_3 (i : Nat) : BufTy := match i % 128 with
  | 0 => ⟨S8x4, .f32⟩
  | 1 => ⟨S8x4x1, .f32⟩
  | 2 => ⟨S8x4x256, .f32⟩
  | 3 => ⟨S8x4x256, .f32⟩
  | 4 => ⟨S1x8x4x256, .f32⟩
  | 5 => ⟨S8x4x256, .f32⟩
  | 6 => ⟨S8x4x256, .f32⟩
  | 7 => ⟨S8x4x1, .f32⟩
  | 8 => ⟨S8x4, .f32⟩
  | 9 => ⟨S8x4x1x1, .f32⟩
  | 10 => ⟨S8x4x256x256, .f32⟩
  | 11 => ⟨S8x4x256x256, .f32⟩
  | 12 => ⟨S1x8x4x256x256, .f32⟩
  | 13 => ⟨S8x4x256x256, .f32⟩
  | 14 => ⟨S8x4x256x256, .f32⟩
  | 15 => ⟨S8x4x1, .f32⟩
  | 16 => ⟨S8x4, .f32⟩
  | 17 => ⟨S8x4x1, .f32⟩
  | 18 => ⟨S8x4x256, .f32⟩
  | 19 => ⟨S8x4x256, .f32⟩
  | 20 => ⟨S1x8x4x256, .f32⟩
  | 21 => ⟨S8x4x256, .f32⟩
  | 22 => ⟨S8x4x256, .f32⟩
  | 23 => ⟨S8x4x1, .f32⟩
  | 24 => ⟨S8x4, .f32⟩
  | 25 => ⟨S8x4x1x1, .f32⟩
  | 26 => ⟨S8x4x256x256, .f32⟩
  | 27 => ⟨S8x4x256x256, .f32⟩
  | 28 => ⟨S1x8x4x256x256, .f32⟩
  | 29 => ⟨S8x4x256x256, .f32⟩
  | 30 => ⟨S8x4x256x256, .f32⟩
  | 31 => ⟨S8x4x1, .f32⟩
  | 32 => ⟨S8x4, .f32⟩
  | 33 => ⟨S8x4x1, .f32⟩
  | 34 => ⟨S8x4x256, .f32⟩
  | 35 => ⟨S8x4x256, .f32⟩
  | 36 => ⟨S1x8x4x256, .f32⟩
  | 37 => ⟨S8x4x256, .f32⟩
  | 38 => ⟨S8x4x256, .f32⟩
  | 39 => ⟨S8x4x1, .f32⟩
  | 40 => ⟨S8x4, .f32⟩
  | 41 => ⟨S8x4x1x1, .f32⟩
  | 42 => ⟨S8x4x256x256, .f32⟩
  | 43 => ⟨S8x4x256x256, .f32⟩
  | 44 => ⟨S1x8x4x256x256, .f32⟩
  | 45 => ⟨S8x4x256x256, .f32⟩
  | 46 => ⟨S8x4x256x256, .f32⟩
  | 47 => ⟨S8x4x1, .f32⟩
  | 48 => ⟨S8x4, .f32⟩
  | 49 => ⟨S8x4x1, .f32⟩
  | 50 => ⟨S8x4x256, .f32⟩
  | 51 => ⟨S8x4x256, .f32⟩
  | 52 => ⟨S1x8x4x256, .f32⟩
  | 53 => ⟨S8x4x256, .f32⟩
  | 54 => ⟨S8x4x256, .f32⟩
  | 55 => ⟨S8x4x1, .f32⟩
  | 56 => ⟨S8x4, .f32⟩
  | 57 => ⟨S8x4x1x1, .f32⟩
  | 58 => ⟨S8x4x256x256, .f32⟩
  | 59 => ⟨S8x4x256x256, .f32⟩
  | 60 => ⟨S1x8x4x256x256, .f32⟩
  | 61 => ⟨S8x4x256x256, .f32⟩
  | 62 => ⟨S8x4x256x256, .f32⟩
  | 63 => ⟨S8x4x1, .f32⟩
  | 64 => ⟨S8x4, .f32⟩
  | 65 => ⟨S8x4x1, .f32⟩
  | 66 => ⟨S8x4x256, .f32⟩
  | 67 => ⟨S8x4x256, .f32⟩
  | 68 => ⟨S1x8x4x256, .f32⟩
  | 69 => ⟨S8x4x256, .f32⟩
  | 70 => ⟨S8x4x256, .f32⟩
  | 71 => ⟨S8x4x1, .f32⟩
  | 72 => ⟨S8x4, .f32⟩
  | 73 => ⟨S8x4x1x1, .f32⟩
  | 74 => ⟨S8x4x256x256, .f32⟩
  | 75 => ⟨S8x4x256x256, .f32⟩
  | 76 => ⟨S1x8x4x256x256, .f32⟩
  | 77 => ⟨S8x4x256x256, .f32⟩
  | 78 => ⟨S8x4x256x256, .f32⟩
  | 79 => ⟨S8x4x1, .f32⟩
  | 80 => ⟨S8x4, .f32⟩
  | 81 => ⟨S8x4x1, .f32⟩
  | 82 => ⟨S8x4x256, .f32⟩
  | 83 => ⟨S8x4x256, .f32⟩
  | 84 => ⟨S1x8x4x256, .f32⟩
  | 85 => ⟨S8x4x256, .f32⟩
  | 86 => ⟨S8x4x256, .f32⟩
  | 87 => ⟨S1x8x4x256x256, .f32⟩
  | 88 => ⟨S1x8x4x256x256, .f32⟩
  | 89 => ⟨S1x8x4x256x256, .f32⟩
  | 90 => ⟨S1x8x4x256x256, .f32⟩
  | 91 => ⟨S1x8x4x256x256, .f32⟩
  | 92 => ⟨S1x8x4x256x256, .f32⟩
  | 93 => ⟨S1x8x4x256x256, .f32⟩
  | 94 => ⟨S1x8x4x256x256, .f32⟩
  | 95 => ⟨S8x8x4x256x256, .f32⟩
  | 96 => ⟨S1x8x4x256, .f32⟩
  | 97 => ⟨S1x8x4x256, .f32⟩
  | 98 => ⟨S1x8x4x256, .f32⟩
  | 99 => ⟨S1x8x4x256, .f32⟩
  | 100 => ⟨S1x8x4x256, .f32⟩
  | 101 => ⟨S1x8x4x256, .f32⟩
  | 102 => ⟨S1x8x4x256, .f32⟩
  | 103 => ⟨S1x8x4x256, .f32⟩
  | 104 => ⟨S8x8x4x256, .f32⟩
  | 105 => ⟨S256x256, .i1⟩
  | 106 => ⟨S8x8x4x1x256, .f32⟩
  | 107 => ⟨S_, .f32⟩
  | 108 => ⟨S_, .f32⟩
  | 109 => ⟨S8x8x4x256x256, .i1⟩
  | 110 => ⟨S8x8x4x256x256, .f32⟩
  | 111 => ⟨S8x8x4x256x256, .f32⟩
  | 112 => ⟨S8x8x4x256x256, .f32⟩
  | 113 => ⟨S8x8x4x256x1, .f32⟩
  | 114 => ⟨S8x8x4x256x256, .f32⟩
  | 115 => ⟨S8x8x4x256x256, .f32⟩
  | 116 => ⟨S8x8x4x256x256, .f32⟩
  | 117 => ⟨S8x8x4x256x256, .f32⟩
  | 118 => ⟨S8x8x4x256x256, .f32⟩
  | 119 => ⟨S8x8x4x256x1, .f32⟩
  | 120 => ⟨S8x8x4x256x256, .f32⟩
  | 121 => ⟨S8x8x4x256x256, .f32⟩
  | 122 => ⟨S8x8x4x256x256, .f32⟩
  | 123 => ⟨S8x8x4x256x256, .f32⟩
  | 124 => ⟨S_, .f32⟩
  | 125 => ⟨S8x8x4x256, .f32⟩
  | 126 => ⟨S8x8x4x256, .f32⟩
  | 127 => ⟨S8x8x4x256, .f32⟩
  | _ => ⟨S16384x4096, .bf16⟩

abbrev hbmTy0_4 (i : Nat) : BufTy := match i % 128 with
  | 0 => ⟨S8x8x4x256, .f32⟩
  | 1 => ⟨S8x8x4x256, .f32⟩
  | 2 => ⟨S8x8x4x256, .f32⟩
  | 3 => ⟨S8x8x4x256x1, .f32⟩
  | 4 => ⟨S8x8x4x256x256, .f32⟩
  | 5 => ⟨S8x8x4x256x256, .f32⟩
  | 6 => ⟨S8x8x4x256x256, .f32⟩
  | 7 => ⟨S_, .f32⟩
  | 8 => ⟨S8x8x4x256, .f32⟩
  | 9 => ⟨S8x8x4x256x1, .f32⟩
  | 10 => ⟨S_, .f32⟩
  | 11 => ⟨S8x8x4x256x1, .f32⟩
  | 12 => ⟨S8x8x4x256x1, .f32⟩
  | 13 => ⟨S8x8x4x256x256, .f32⟩
  | 14 => ⟨S8x8x4x256x256, .f32⟩
  | 15 => ⟨S8x8x4x256x256, .f32⟩
  | 16 => ⟨S_, .f32⟩
  | 17 => ⟨S8x8x4x256, .f32⟩
  | 18 => ⟨S8x8x4x256x1, .f32⟩
  | 19 => ⟨S_, .f32⟩
  | 20 => ⟨S8x8x4x256x1, .f32⟩
  | 21 => ⟨S8x8x4x256x1, .f32⟩
  | 22 => ⟨S8x8x4x256x256, .f32⟩
  | 23 => ⟨S8x8x4x256x256, .f32⟩
  | 24 => ⟨S_, .f32⟩
  | 25 => ⟨S8x8x4x256x1, .f32⟩
  | 26 => ⟨S8x8x4x256x1, .f32⟩
  | 27 => ⟨S8x8x4x256x1, .f32⟩
  | 28 => ⟨S8x8x4x256x256, .f32⟩
  | 29 => ⟨S8x8x4x256x256, .f32⟩
  | 30 => ⟨S4x1x256, .f32⟩
  | 31 => ⟨S1x1x4x1x256, .f32⟩
  | 32 => ⟨S8x8x4x256x256, .f32⟩
  | 33 => ⟨S8x8x4x256x256, .f32⟩
  | 34 => ⟨S8x8x256x4x256, .f32⟩
  | 35 => ⟨S8x8x256x4x256, .f32⟩
  | 36 => ⟨S8x8x256x4x256, .f32⟩
  | 37 => ⟨S_, .f32⟩
  | 38 => ⟨S8x8x256x4x256, .f32⟩
  | 39 => ⟨S8x8x256x4x256, .f32⟩
  | 40 => ⟨S_, .f32⟩
  | 41 => ⟨S8x8x256x4x256, .f32⟩
  | 42 => ⟨S8x8x256x4x256, .f32⟩
  | 43 => ⟨S8x8x256x4x256, .f32⟩
  | 44 => ⟨S16384x1024, .f32⟩
  | 45 => ⟨S16384x1024, .bf16⟩
  | _ => ⟨S16384x4096, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_0 : Ref sig .tc := ⟨.hbm, 61, rfl⟩
abbrev main_call2_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_call3_v0 : Ref sig .tc := ⟨.hbm, 87, rfl⟩
abbrev main_call3_v1 : Ref sig .tc := ⟨.hbm, 88, rfl⟩
abbrev main_call3_cst : Ref sig .tc := ⟨.hbm, 89, rfl⟩
abbrev main_call3_v2 : Ref sig .tc := ⟨.hbm, 90, rfl⟩
abbrev main_call3_v3 : Ref sig .tc := ⟨.hbm, 91, rfl⟩
abbrev main_call3_cst_0 : Ref sig .tc := ⟨.hbm, 92, rfl⟩
abbrev main_call3_v4 : Ref sig .tc := ⟨.hbm, 93, rfl⟩
abbrev main_call3_v5 : Ref sig .tc := ⟨.hbm, 94, rfl⟩
abbrev main_v67 : Ref sig .tc := ⟨.hbm, 95, rfl⟩
abbrev main_cst_1 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_2 : Ref sig .tc := ⟨.hbm, 103, rfl⟩
abbrev main_v74 : Ref sig .tc := ⟨.hbm, 104, rfl⟩
abbrev main_call4_v0 : Ref sig .tc := ⟨.hbm, 105, rfl⟩
abbrev main_call4_c : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_c_0 : Ref sig .tc := ⟨.hbm, 111, rfl⟩
abbrev main_call4_v5 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_cst_3 : Ref sig .tc := ⟨.hbm, 287, rfl⟩
abbrev main_call5_v0 : Ref sig .tc := ⟨.hbm, 288, rfl⟩
abbrev main_call5_v1 : Ref sig .tc := ⟨.hbm, 289, rfl⟩
abbrev main_call5_v2 : Ref sig .tc := ⟨.hbm, 290, rfl⟩
abbrev main_call5_v3 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_cst_4 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_cst_5 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_v282 : Ref sig .tc := ⟨.hbm, 327, rfl⟩
abbrev main_v283 : Ref sig .tc := ⟨.hbm, 328, rfl⟩
abbrev main_v284 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_v318 : Ref sig .tc := ⟨.hbm, 363, rfl⟩
abbrev main_v319 : Ref sig .tc := ⟨.hbm, 364, rfl⟩
abbrev main_v320 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_v324 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_v336 : Ref sig .tc := ⟨.hbm, 381, rfl⟩
abbrev main_v337 : Ref sig .tc := ⟨.hbm, 382, rfl⟩
abbrev main_v338 : Ref sig .tc := ⟨.hbm, 383, rfl⟩
abbrev main_v339 : Ref sig .tc := ⟨.hbm, 384, rfl⟩
abbrev main_v340 : Ref sig .tc := ⟨.hbm, 385, rfl⟩
abbrev main_v341 : Ref sig .tc := ⟨.hbm, 386, rfl⟩
abbrev main_v342 : Ref sig .tc := ⟨.hbm, 387, rfl⟩
abbrev main_v343 : Ref sig .tc := ⟨.hbm, 388, rfl⟩
abbrev main_v344 : Ref sig .tc := ⟨.hbm, 389, rfl⟩
abbrev main_v345 : Ref sig .tc := ⟨.hbm, 390, rfl⟩
abbrev main_v346 : Ref sig .tc := ⟨.hbm, 391, rfl⟩
abbrev main_v347 : Ref sig .tc := ⟨.hbm, 392, rfl⟩
abbrev main_v348 : Ref sig .tc := ⟨.hbm, 393, rfl⟩
abbrev main_v349 : Ref sig .tc := ⟨.hbm, 394, rfl⟩
abbrev main_v350 : Ref sig .tc := ⟨.hbm, 395, rfl⟩
abbrev main_v351 : Ref sig .tc := ⟨.hbm, 396, rfl⟩
abbrev main_v352 : Ref sig .tc := ⟨.hbm, 397, rfl⟩
abbrev main_v353 : Ref sig .tc := ⟨.hbm, 398, rfl⟩
abbrev main_v354 : Ref sig .tc := ⟨.hbm, 399, rfl⟩
abbrev main_v355 : Ref sig .tc := ⟨.hbm, 400, rfl⟩
abbrev main_v356 : Ref sig .tc := ⟨.hbm, 401, rfl⟩
abbrev main_v357 : Ref sig .tc := ⟨.hbm, 402, rfl⟩
abbrev main_v358 : Ref sig .tc := ⟨.hbm, 403, rfl⟩
abbrev main_v359 : Ref sig .tc := ⟨.hbm, 404, rfl⟩
abbrev main_v360 : Ref sig .tc := ⟨.hbm, 405, rfl⟩
abbrev main_v361 : Ref sig .tc := ⟨.hbm, 406, rfl⟩
abbrev main_v362 : Ref sig .tc := ⟨.hbm, 407, rfl⟩
abbrev main_v363 : Ref sig .tc := ⟨.hbm, 408, rfl⟩
abbrev main_v364 : Ref sig .tc := ⟨.hbm, 409, rfl⟩
abbrev main_v365 : Ref sig .tc := ⟨.hbm, 410, rfl⟩
abbrev main_v366 : Ref sig .tc := ⟨.hbm, 411, rfl⟩
abbrev main_v367 : Ref sig .tc := ⟨.hbm, 412, rfl⟩
abbrev main_v368 : Ref sig .tc := ⟨.hbm, 413, rfl⟩
abbrev main_v369 : Ref sig .tc := ⟨.hbm, 414, rfl⟩
abbrev main_v370 : Ref sig .tc := ⟨.hbm, 415, rfl⟩
abbrev main_v371 : Ref sig .tc := ⟨.hbm, 416, rfl⟩
abbrev main_v372 : Ref sig .tc := ⟨.hbm, 417, rfl⟩
abbrev main_v373 : Ref sig .tc := ⟨.hbm, 418, rfl⟩
abbrev main_v374 : Ref sig .tc := ⟨.hbm, 419, rfl⟩
abbrev main_v375 : Ref sig .tc := ⟨.hbm, 420, rfl⟩
abbrev main_v376 : Ref sig .tc := ⟨.hbm, 421, rfl⟩
abbrev main_v377 : Ref sig .tc := ⟨.hbm, 422, rfl⟩
abbrev main_v378 : Ref sig .tc := ⟨.hbm, 423, rfl⟩
abbrev main_v379 : Ref sig .tc := ⟨.hbm, 424, rfl⟩
abbrev main_v380 : Ref sig .tc := ⟨.hbm, 425, rfl⟩
abbrev main_v381 : Ref sig .tc := ⟨.hbm, 426, rfl⟩
abbrev main_v382 : Ref sig .tc := ⟨.hbm, 427, rfl⟩
abbrev main_v383 : Ref sig .tc := ⟨.hbm, 428, rfl⟩
abbrev main_v384 : Ref sig .tc := ⟨.hbm, 429, rfl⟩
abbrev main_v385 : Ref sig .tc := ⟨.hbm, 430, rfl⟩
abbrev main_v386 : Ref sig .tc := ⟨.hbm, 431, rfl⟩
abbrev main_v387 : Ref sig .tc := ⟨.hbm, 432, rfl⟩
abbrev main_v388 : Ref sig .tc := ⟨.hbm, 433, rfl⟩
abbrev main_v389 : Ref sig .tc := ⟨.hbm, 434, rfl⟩
abbrev main_v390 : Ref sig .tc := ⟨.hbm, 435, rfl⟩
abbrev main_v391 : Ref sig .tc := ⟨.hbm, 436, rfl⟩
abbrev main_v392 : Ref sig .tc := ⟨.hbm, 437, rfl⟩
abbrev main_v393 : Ref sig .tc := ⟨.hbm, 438, rfl⟩
abbrev main_v394 : Ref sig .tc := ⟨.hbm, 439, rfl⟩
abbrev main_v395 : Ref sig .tc := ⟨.hbm, 440, rfl⟩
abbrev main_v396 : Ref sig .tc := ⟨.hbm, 441, rfl⟩
abbrev main_v397 : Ref sig .tc := ⟨.hbm, 442, rfl⟩
abbrev main_v398 : Ref sig .tc := ⟨.hbm, 443, rfl⟩
abbrev main_v399 : Ref sig .tc := ⟨.hbm, 444, rfl⟩
abbrev main_v400 : Ref sig .tc := ⟨.hbm, 445, rfl⟩
abbrev main_v401 : Ref sig .tc := ⟨.hbm, 446, rfl⟩
abbrev main_v402 : Ref sig .tc := ⟨.hbm, 447, rfl⟩
abbrev main_v403 : Ref sig .tc := ⟨.hbm, 448, rfl⟩
abbrev main_v404 : Ref sig .tc := ⟨.hbm, 449, rfl⟩
abbrev main_v405 : Ref sig .tc := ⟨.hbm, 450, rfl⟩
abbrev main_v406 : Ref sig .tc := ⟨.hbm, 451, rfl⟩
abbrev main_v407 : Ref sig .tc := ⟨.hbm, 452, rfl⟩
abbrev main_v408 : Ref sig .tc := ⟨.hbm, 453, rfl⟩
abbrev main_v409 : Ref sig .tc := ⟨.hbm, 454, rfl⟩
abbrev main_v410 : Ref sig .tc := ⟨.hbm, 455, rfl⟩
abbrev main_v411 : Ref sig .tc := ⟨.hbm, 456, rfl⟩
abbrev main_v412 : Ref sig .tc := ⟨.hbm, 457, rfl⟩
abbrev main_v413 : Ref sig .tc := ⟨.hbm, 458, rfl⟩
abbrev main_v414 : Ref sig .tc := ⟨.hbm, 459, rfl⟩
abbrev main_v415 : Ref sig .tc := ⟨.hbm, 460, rfl⟩
abbrev main_v416 : Ref sig .tc := ⟨.hbm, 461, rfl⟩
abbrev main_v417 : Ref sig .tc := ⟨.hbm, 462, rfl⟩
abbrev main_v418 : Ref sig .tc := ⟨.hbm, 463, rfl⟩
abbrev main_v419 : Ref sig .tc := ⟨.hbm, 464, rfl⟩
abbrev main_v420 : Ref sig .tc := ⟨.hbm, 465, rfl⟩
abbrev main_v421 : Ref sig .tc := ⟨.hbm, 466, rfl⟩
abbrev main_v422 : Ref sig .tc := ⟨.hbm, 467, rfl⟩
abbrev main_v423 : Ref sig .tc := ⟨.hbm, 468, rfl⟩
abbrev main_v424 : Ref sig .tc := ⟨.hbm, 469, rfl⟩
abbrev main_v425 : Ref sig .tc := ⟨.hbm, 470, rfl⟩
abbrev main_v426 : Ref sig .tc := ⟨.hbm, 471, rfl⟩
abbrev main_v427 : Ref sig .tc := ⟨.hbm, 472, rfl⟩
abbrev main_v428 : Ref sig .tc := ⟨.hbm, 473, rfl⟩
abbrev main_v429 : Ref sig .tc := ⟨.hbm, 474, rfl⟩
abbrev main_v430 : Ref sig .tc := ⟨.hbm, 475, rfl⟩
abbrev main_v431 : Ref sig .tc := ⟨.hbm, 476, rfl⟩
abbrev main_v432 : Ref sig .tc := ⟨.hbm, 477, rfl⟩
abbrev main_v433 : Ref sig .tc := ⟨.hbm, 478, rfl⟩
abbrev main_v434 : Ref sig .tc := ⟨.hbm, 479, rfl⟩
abbrev main_v435 : Ref sig .tc := ⟨.hbm, 480, rfl⟩
abbrev main_v436 : Ref sig .tc := ⟨.hbm, 481, rfl⟩
abbrev main_v437 : Ref sig .tc := ⟨.hbm, 482, rfl⟩
abbrev main_v438 : Ref sig .tc := ⟨.hbm, 483, rfl⟩
abbrev main_v439 : Ref sig .tc := ⟨.hbm, 484, rfl⟩
abbrev main_v440 : Ref sig .tc := ⟨.hbm, 485, rfl⟩
abbrev main_v441 : Ref sig .tc := ⟨.hbm, 486, rfl⟩
abbrev main_v442 : Ref sig .tc := ⟨.hbm, 487, rfl⟩
abbrev main_v443 : Ref sig .tc := ⟨.hbm, 488, rfl⟩
abbrev main_v444 : Ref sig .tc := ⟨.hbm, 489, rfl⟩
abbrev main_v445 : Ref sig .tc := ⟨.hbm, 490, rfl⟩
abbrev main_cst_6 : Ref sig .tc := ⟨.hbm, 491, rfl⟩
abbrev main_call6_v0 : Ref sig .tc := ⟨.hbm, 492, rfl⟩
abbrev main_call6_v1 : Ref sig .tc := ⟨.hbm, 493, rfl⟩
abbrev main_call6_v2 : Ref sig .tc := ⟨.hbm, 494, rfl⟩
abbrev main_call6_v3 : Ref sig .tc := ⟨.hbm, 495, rfl⟩
abbrev main_v446 : Ref sig .tc := ⟨.hbm, 496, rfl⟩
abbrev main_v447 : Ref sig .tc := ⟨.hbm, 497, rfl⟩
abbrev main_v448 : Ref sig .tc := ⟨.hbm, 498, rfl⟩
abbrev main_v449 : Ref sig .tc := ⟨.hbm, 499, rfl⟩
abbrev main_v450 : Ref sig .tc := ⟨.hbm, 500, rfl⟩
abbrev main_v451 : Ref sig .tc := ⟨.hbm, 501, rfl⟩
abbrev main_v452 : Ref sig .tc := ⟨.hbm, 502, rfl⟩
abbrev main_v453 : Ref sig .tc := ⟨.hbm, 503, rfl⟩
abbrev main_v454 : Ref sig .tc := ⟨.hbm, 504, rfl⟩
abbrev main_v455 : Ref sig .tc := ⟨.hbm, 505, rfl⟩
abbrev main_v456 : Ref sig .tc := ⟨.hbm, 506, rfl⟩
abbrev main_v457 : Ref sig .tc := ⟨.hbm, 507, rfl⟩
abbrev main_cst_7 : Ref sig .tc := ⟨.hbm, 508, rfl⟩
abbrev main_v458 : Ref sig .tc := ⟨.hbm, 509, rfl⟩
abbrev main_v459 : Ref sig .tc := ⟨.hbm, 510, rfl⟩
abbrev main_v460 : Ref sig .tc := ⟨.hbm, 511, rfl⟩
abbrev main_v461 : Ref sig .tc := ⟨.hbm, 512, rfl⟩
abbrev main_v462 : Ref sig .tc := ⟨.hbm, 513, rfl⟩
abbrev main_v463 : Ref sig .tc := ⟨.hbm, 514, rfl⟩
abbrev main_v464 : Ref sig .tc := ⟨.hbm, 515, rfl⟩
abbrev main_v465 : Ref sig .tc := ⟨.hbm, 516, rfl⟩
abbrev main_v466 : Ref sig .tc := ⟨.hbm, 517, rfl⟩
abbrev main_v467 : Ref sig .tc := ⟨.hbm, 518, rfl⟩
abbrev main_cst_8 : Ref sig .tc := ⟨.hbm, 519, rfl⟩
abbrev main_v468 : Ref sig .tc := ⟨.hbm, 520, rfl⟩
abbrev main_v469 : Ref sig .tc := ⟨.hbm, 521, rfl⟩
abbrev main_cst_9 : Ref sig .tc := ⟨.hbm, 522, rfl⟩
abbrev main_v470 : Ref sig .tc := ⟨.hbm, 523, rfl⟩
abbrev main_v471 : Ref sig .tc := ⟨.hbm, 524, rfl⟩
abbrev main_v472 : Ref sig .tc := ⟨.hbm, 525, rfl⟩
abbrev main_v473 : Ref sig .tc := ⟨.hbm, 526, rfl⟩
abbrev main_v474 : Ref sig .tc := ⟨.hbm, 527, rfl⟩
abbrev main_cst_10 : Ref sig .tc := ⟨.hbm, 528, rfl⟩
abbrev main_v475 : Ref sig .tc := ⟨.hbm, 529, rfl⟩
abbrev main_v476 : Ref sig .tc := ⟨.hbm, 530, rfl⟩
abbrev main_cst_11 : Ref sig .tc := ⟨.hbm, 531, rfl⟩
abbrev main_v477 : Ref sig .tc := ⟨.hbm, 532, rfl⟩
abbrev main_v478 : Ref sig .tc := ⟨.hbm, 533, rfl⟩
abbrev main_v479 : Ref sig .tc := ⟨.hbm, 534, rfl⟩
abbrev main_v480 : Ref sig .tc := ⟨.hbm, 535, rfl⟩
abbrev main_cst_12 : Ref sig .tc := ⟨.hbm, 536, rfl⟩
abbrev main_v481 : Ref sig .tc := ⟨.hbm, 537, rfl⟩
abbrev main_v482 : Ref sig .tc := ⟨.hbm, 538, rfl⟩
abbrev main_v483 : Ref sig .tc := ⟨.hbm, 539, rfl⟩
abbrev main_v484 : Ref sig .tc := ⟨.hbm, 540, rfl⟩
abbrev main_v485 : Ref sig .tc := ⟨.hbm, 541, rfl⟩
abbrev main_v486 : Ref sig .tc := ⟨.hbm, 542, rfl⟩
abbrev main_v487 : Ref sig .tc := ⟨.hbm, 543, rfl⟩
abbrev main_v488 : Ref sig .tc := ⟨.hbm, 544, rfl⟩
abbrev main_v489 : Ref sig .tc := ⟨.hbm, 545, rfl⟩
abbrev main_v490 : Ref sig .tc := ⟨.hbm, 546, rfl⟩
abbrev main_v491 : Ref sig .tc := ⟨.hbm, 547, rfl⟩
abbrev main_v492 : Ref sig .tc := ⟨.hbm, 548, rfl⟩
abbrev main_cst_13 : Ref sig .tc := ⟨.hbm, 549, rfl⟩
abbrev main_v493 : Ref sig .tc := ⟨.hbm, 550, rfl⟩
abbrev main_v494 : Ref sig .tc := ⟨.hbm, 551, rfl⟩
abbrev main_cst_14 : Ref sig .tc := ⟨.hbm, 552, rfl⟩
abbrev main_v495 : Ref sig .tc := ⟨.hbm, 553, rfl⟩
abbrev main_v496 : Ref sig .tc := ⟨.hbm, 554, rfl⟩
abbrev main_v497 : Ref sig .tc := ⟨.hbm, 555, rfl⟩
abbrev main_v498 : Ref sig .tc := ⟨.hbm, 556, rfl⟩
abbrev main_v499 : Ref sig .tc := ⟨.hbm, 557, rfl⟩

abbrev nD : Nat := 1
abbrev τ : Topo := Topo.v7x

variable {F : FTy → Type} [FloatOps F]
-- ==== Projection.lean ====
abbrev S16384x2048 : Shape := ⟨2, ![16384, 2048]⟩
abbrev S2048x2048 : Shape := ⟨2, ![2048, 2048]⟩
abbrev S16x6x2048 : Shape := ⟨3, ![16, 6, 2048]⟩
abbrev S2048x6160 : Shape := ⟨2, ![2048, 6160]⟩
abbrev S1024 : Shape := ⟨1, ![1024]⟩
abbrev S4x128x128 : Shape := ⟨3, ![4, 128, 128]⟩
abbrev S4x128 : Shape := ⟨2, ![4, 128]⟩
abbrev S2048x4096 : Shape := ⟨2, ![2048, 4096]⟩
abbrev S2048x16 : Shape := ⟨2, ![2048, 16]⟩
abbrev S_ : Shape := ⟨0, ![]⟩
abbrev S2048x128 : Shape := ⟨2, ![2048, 128]⟩
abbrev S1x1024 : Shape := ⟨2, ![1, 1024]⟩
abbrev S128x4 : Shape := ⟨2, ![128, 4]⟩
abbrev S16384x4096 : Shape := ⟨2, ![16384, 4096]⟩
abbrev S16384x128 : Shape := ⟨2, ![16384, 128]⟩
abbrev S16384x1024 : Shape := ⟨2, ![16384, 1024]⟩
abbrev S512x2048 : Shape := ⟨2, ![512, 2048]⟩
abbrev S1x6x2048 : Shape := ⟨3, ![1, 6, 2048]⟩
abbrev S512x4096 : Shape := ⟨2, ![512, 4096]⟩
abbrev S512x128 : Shape := ⟨2, ![512, 128]⟩
abbrev S512x1024 : Shape := ⟨2, ![512, 1024]⟩
abbrev S6x2048 : Shape := ⟨2, ![6, 2048]⟩
abbrev S1x2048 : Shape := ⟨2, ![1, 2048]⟩
abbrev S2048x1024 : Shape := ⟨2, ![2048, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S1x128x128 : Shape := ⟨3, ![1, 128, 128]⟩
abbrev S128x128 : Shape := ⟨2, ![128, 128]⟩
abbrev S128x256 : Shape := ⟨2, ![128, 256]⟩
abbrev S128x1 : Shape := ⟨2, ![128, 1]⟩

abbrev nBuf : Space → Nat
  | .hbm => 22
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16x6x2048, .f32⟩
  | .hbm, ⟨3, _⟩ => ⟨S2048x6160, .f32⟩
  | .hbm, ⟨4, _⟩ => ⟨S1024, .f32⟩
  | .hbm, ⟨5, _⟩ => ⟨S4x128x128, .f32⟩
  | .hbm, ⟨6, _⟩ => ⟨S4x128, .f32⟩
  | .hbm, ⟨7, _⟩ => ⟨S2048x4096, .f32⟩
  | .hbm, ⟨8, _⟩ => ⟨S2048x4096, .bf16⟩
  | .hbm, ⟨9, _⟩ => ⟨S2048x16, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S2048x2048, .f32⟩
  | .hbm, ⟨15, _⟩ => ⟨S2048x2048, .bf16⟩
  | .hbm, ⟨16, _⟩ => ⟨S1x1024, .f32⟩
  | .hbm, ⟨17, _⟩ => ⟨S4x128x128, .bf16⟩
  | .hbm, ⟨18, _⟩ => ⟨S128x4, .f32⟩
  | .hbm, ⟨19, _⟩ => ⟨S16384x4096, .bf16⟩
  | .hbm, ⟨20, _⟩ => ⟨S16384x128, .f32⟩
  | .hbm, ⟨21, _⟩ => ⟨S16384x1024, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x6x2048, .f32⟩
  | .local _ .vmem, ⟨5, _⟩ => ⟨S1x6x2048, .f32⟩
  | .local _ .vmem, ⟨6, _⟩ => ⟨S2048x4096, .bf16⟩
  | .local _ .vmem, ⟨7, _⟩ => ⟨S2048x128, .bf16⟩
  | .local _ .vmem, ⟨8, _⟩ => ⟨S2048x2048, .bf16⟩
  | .local _ .vmem, ⟨9, _⟩ => ⟨S1x1024, .f32⟩
  | .local _ .vmem, ⟨10, _⟩ => ⟨S4x128x128, .bf16⟩
  | .local _ .vmem, ⟨11, _⟩ => ⟨S128x4, .f32⟩
  | .local _ .vmem, ⟨12, _⟩ => ⟨S512x4096, .bf16⟩
  | .local _ .vmem, ⟨13, _⟩ => ⟨S512x4096, .bf16⟩
  | .local _ .vmem, ⟨14, _⟩ => ⟨S512x128, .f32⟩
  | .local _ .vmem, ⟨15, _⟩ => ⟨S512x128, .f32⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjectionReferenceIdeal.lean ====
abbrev S16384x2048 : Shape := ⟨2, ![16384, 2048]⟩
abbrev S2048x2048 : Shape := ⟨2, ![2048, 2048]⟩
abbrev S16x6x2048 : Shape := ⟨3, ![16, 6, 2048]⟩
abbrev S2048x6160 : Shape := ⟨2, ![2048, 6160]⟩
abbrev S1024 : Shape := ⟨1, ![1024]⟩
abbrev S4x128x128 : Shape := ⟨3, ![4, 128, 128]⟩
abbrev S4x128 : Shape := ⟨2, ![4, 128]⟩
abbrev S8x2048x2048 : Shape := ⟨3, ![8, 2048, 2048]⟩
abbrev S1x2048x2048 : Shape := ⟨3, ![1, 2048, 2048]⟩
abbrev S8x1x2048 : Shape := ⟨3, ![8, 1, 2048]⟩
abbrev S8x2048 : Shape := ⟨2, ![8, 2048]⟩
abbrev S_ : Shape := ⟨0, ![]⟩
abbrev S8x2048x6160 : Shape := ⟨3, ![8, 2048, 6160]⟩
abbrev S8x2048x1024 : Shape := ⟨3, ![8, 2048, 1024]⟩
abbrev S8x16x128x4x256 : Shape := ⟨5, ![8, 16, 128, 4, 256]⟩
abbrev S8x16x128x4 : Shape := ⟨4, ![8, 16, 128, 4]⟩
abbrev S8x16x128x4x1 : Shape := ⟨5, ![8, 16, 128, 4, 1]⟩
abbrev S4x256 : Shape := ⟨2, ![4, 256]⟩
abbrev S1x1x1x4x256 : Shape := ⟨5, ![1, 1, 1, 4, 256]⟩
abbrev S4x8x16x256x128 : Shape := ⟨5, ![4, 8, 16, 256, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S16384x1024 : Shape := ⟨2, ![16384, 1024]⟩
abbrev S8x2048x16 : Shape := ⟨3, ![8, 2048, 16]⟩
abbrev S16384x16 : Shape := ⟨2, ![16384, 16]⟩
abbrev S16384x128 : Shape := ⟨2, ![16384, 128]⟩
abbrev S8x2048x4096 : Shape := ⟨3, ![8, 2048, 4096]⟩
abbrev S16384x4096 : Shape := ⟨2, ![16384, 4096]⟩

abbrev nBuf : Space → Nat
  | .hbm => 92
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16x6x2048, .f32⟩
  | .hbm, ⟨3, _⟩ => ⟨S2048x6160, .f32⟩
  | .hbm, ⟨4, _⟩ => ⟨S1024, .f32⟩
  | .hbm, ⟨5, _⟩ => ⟨S4x128x128, .f32⟩
  | .hbm, ⟨6, _⟩ => ⟨S4x128, .f32⟩
  | .hbm, ⟨7, _⟩ => ⟨S8x2048x2048, .f32⟩
  | .hbm, ⟨8, _⟩ => ⟨S1x2048x2048, .f32⟩
  | .hbm, ⟨9, _⟩ => ⟨S8x2048x2048, .f32⟩
  | .hbm, ⟨10, _⟩ => ⟨S8x2048x2048, .f32⟩
  | .hbm, ⟨11, _⟩ => ⟨S8x1x2048, .f32⟩
  | .hbm, ⟨12, _⟩ => ⟨S8x2048, .f32⟩
  | .hbm, ⟨13, _⟩ => ⟨S8x1x2048, .f32⟩
  | .hbm, ⟨14, _⟩ => ⟨S_, .f32⟩
  | .hbm, ⟨15, _⟩ => ⟨S8x1x2048, .f32⟩
  | .hbm, ⟨16, _⟩ => ⟨S8x1x2048, .f32⟩
  | .hbm, ⟨17, _⟩ => ⟨S8x2048x2048, .f32⟩
  | .hbm, ⟨18, _⟩ => ⟨S8x2048x2048, .f32⟩
  | .hbm, ⟨19, _⟩ => ⟨S8x1x2048, .f32⟩
  | .hbm, ⟨20, _⟩ => ⟨S8x2048, .f32⟩
  | .hbm, ⟨21, _⟩ => ⟨S8x1x2048, .f32⟩
  | .hbm, ⟨22, _⟩ => ⟨S8x2048x2048, .f32⟩
  | .hbm, ⟨23, _⟩ => ⟨S8x2048x2048, .f32⟩
  | .hbm, ⟨24, _⟩ => ⟨S8x2048x6160, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x1024, .f32⟩
  | .hbm, ⟨44, _⟩ => ⟨S8x16x128x4x256, .f32⟩
  | .hbm, ⟨45, _⟩ => ⟨S8x2048x1024, .f32⟩
  | .hbm, ⟨46, _⟩ => ⟨S8x16x128x4x256, .f32⟩
  | .hbm, ⟨47, _⟩ => ⟨S_, .f32⟩
  | .hbm, ⟨48, _⟩ => ⟨S8x16x128x4, .f32⟩
  | .hbm, ⟨49, _⟩ => ⟨S8x16x128x4x1, .f32⟩
  | .hbm, ⟨50, _⟩ => ⟨S_, .f32⟩
  | .hbm, ⟨51, _⟩ => ⟨S8x16x128x4x1, .f32⟩
  | .hbm, ⟨52, _⟩ => ⟨S8x16x128x4x1, .f32⟩
  | .hbm, ⟨53, _⟩ => ⟨S8x16x128x4x256, .f32⟩
  | .hbm, ⟨54, _⟩ => ⟨S8x16x128x4x256, .f32⟩
  | .hbm, ⟨55, _⟩ => ⟨S8x16x128x4x256, .f32⟩
  | .hbm, ⟨56, _⟩ => ⟨S_, .f32⟩
  | .hbm, ⟨57, _⟩ => ⟨S8x16x128x4, .f32⟩
  | .hbm, ⟨58, _⟩ => ⟨S8x16x128x4x1, .f32⟩
  | .hbm, ⟨59, _⟩ => ⟨S_, .f32⟩
  | .hbm, ⟨60, _⟩ => ⟨S8x16x128x4x1, .f32⟩
  | .hbm, ⟨61, _⟩ => ⟨S8x16x128x4x1, .f32⟩
  | .hbm, ⟨62, _⟩ => ⟨S8x16x128x4x256, .f32⟩
  | .hbm, ⟨63, _⟩ => ⟨S8x16x128x4x256, .f32⟩
  | .hbm, ⟨64, _⟩ => ⟨S_, .f32⟩
  | .hbm, ⟨65, _⟩ => ⟨S8x16x128x4x1, .f32⟩
  | .hbm, ⟨66, _⟩ => ⟨S8x16x128x4x1, .f32⟩
  | .hbm, ⟨67, _⟩ => ⟨S8x16x128x4x1, .f32⟩
  | .hbm, ⟨68, _⟩ => ⟨S8x16x128x4x256, .f32⟩
  | .hbm, ⟨69, _⟩ => ⟨S8x16x128x4x256, .f32⟩
  | .hbm, ⟨70, _⟩ => ⟨S4x256, .f32⟩
  | .hbm, ⟨71, _⟩ => ⟨S1x1x1x4x256, .f32⟩
  | .hbm, ⟨72, _⟩ => ⟨S8x16x128x4x256, .f32⟩
  | .hbm, ⟨73, _⟩ => ⟨S8x16x128x4x256, .f32⟩
  | .hbm, ⟨74, _⟩ => ⟨S4x8x16x256x128, .f32⟩
  | .hbm, ⟨75, _⟩ => ⟨S8x16x128x4x256, .f32⟩
  | .hbm, ⟨76, _⟩ => ⟨S128x4, .f32⟩
  | .hbm, ⟨77, _⟩ => ⟨S128x4x1, .f32⟩
  | .hbm, ⟨78, _⟩ => ⟨S1x1x128x4x1, .f32⟩
  | .hbm, ⟨79, _⟩ => ⟨S8x16x128x4x256, .f32⟩
  | .hbm, ⟨80, _⟩ => ⟨S8x16x128x4x256, .f32⟩
  | .hbm, ⟨81, _⟩ => ⟨S8x16x128x4x256, .f32⟩
  | .hbm, ⟨82, _⟩ => ⟨S16384x1024, .f32⟩
  | .hbm, ⟨83, _⟩ => ⟨S8x2048x16, .f32⟩
  | .hbm, ⟨84, _⟩ => ⟨S16384x16, .f32⟩
  | .hbm, ⟨85, _⟩ => ⟨S_, .i32⟩
  | .hbm, ⟨86, _⟩ => ⟨S_, .f32⟩
  | .hbm, ⟨87, _⟩ => ⟨S16384x128, .f32⟩
  | .hbm, ⟨88, _⟩ => ⟨S8x2048x4096, .f32⟩
  | .hbm, ⟨89, _⟩ => ⟨S16384x4096, .f32⟩
  | .hbm, ⟨90, _⟩ => ⟨S16384x4096, .bf16⟩
  | .hbm, ⟨91, _⟩ => ⟨S16384x1024, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_c : Ref sig .tc := ⟨.hbm, 85, rfl⟩
abbrev main_call0_v0 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Output.lean ====
abbrev S16384x1024 : Shape := ⟨2, ![16384, 1024]⟩
abbrev S16384x2048 : Shape := ⟨2, ![16384, 2048]⟩
abbrev S2048x2048 : Shape := ⟨2, ![2048, 2048]⟩
abbrev S16x6x2048 : Shape := ⟨3, ![16, 6, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S2048x36 : Shape := ⟨2, ![2048, 36]⟩
abbrev S_ : Shape := ⟨0, ![]⟩
abbrev S2048x128 : Shape := ⟨2, ![2048, 128]⟩
abbrev S36 : Shape := ⟨1, ![36]⟩
abbrev S128 : Shape := ⟨1, ![128]⟩
abbrev S1x128 : Shape := ⟨2, ![1, 128]⟩
abbrev S1x2048 : Shape := ⟨2, ![1, 2048]⟩
abbrev S131072x128 : Shape := ⟨2, ![131072, 128]⟩
abbrev S16384x128 : Shape := ⟨2, ![16384, 128]⟩
abbrev S512x1024 : Shape := ⟨2, ![512, 1024]⟩
abbrev S512x2048 : Shape := ⟨2, ![512, 2048]⟩
abbrev S1x6x2048 : Shape := ⟨3, ![1, 6, 2048]⟩
abbrev S4096x128 : Shape := ⟨2, ![4096, 128]⟩
abbrev S512x128 : Shape := ⟨2, ![512, 128]⟩
abbrev S6x2048 : Shape := ⟨2, ![6, 2048]⟩
abbrev S1024x2048 : Shape := ⟨2, ![1024, 2048]⟩
abbrev S512 : Shape := ⟨1, ![512]⟩
abbrev S512x1 : Shape := ⟨2, ![512, 1]⟩
abbrev S128x512 : Shape := ⟨2, ![128, 512]⟩
abbrev S8x512 : Shape := ⟨2, ![8, 512]⟩
abbrev S1x512 : Shape := ⟨2, ![1, 512]⟩
abbrev S120x512 : Shape := ⟨2, ![120, 512]⟩

abbrev nBuf : Space → Nat
  | .hbm => 28
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S2048x2048, .f32⟩
  | .hbm, ⟨4, _⟩ => ⟨S16x6x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S2048x32, .f32⟩
  | .hbm, ⟨11, _⟩ => ⟨S32, .f32⟩
  | .hbm, ⟨12, _⟩ => ⟨S2048x36, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x128, .bf16⟩
  | .hbm, ⟨17, _⟩ => ⟨S36, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S2048x2048, .bf16⟩
  | .hbm, ⟨23, _⟩ => ⟨S1x2048, .f32⟩
  | .hbm, ⟨24, _⟩ => ⟨S1x2048, .f32⟩
  | .hbm, ⟨25, _⟩ => ⟨S16384x2048, .f32⟩
  | .hbm, ⟨26, _⟩ => ⟨S131072x128, .i32⟩
  | .hbm, ⟨27, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x6x2048, .f32⟩
  | .local _ .vmem, ⟨9, _⟩ => ⟨S1x6x2048, .f32⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S2048x128, .bf16⟩
  | .local _ .vmem, ⟨14, _⟩ => ⟨S1x128, .f32⟩
  | .local _ .vmem, ⟨15, _⟩ => ⟨S512x2048, .f32⟩
  | .local _ .vmem, ⟨16, _⟩ => ⟨S512x2048, .f32⟩
  | .local _ .vmem, ⟨17, _⟩ => ⟨S4096x128, .i32⟩
  | .local _ .vmem, ⟨18, _⟩ => ⟨S4096x128, .i32⟩
  | .local _ .vmem, ⟨19, _⟩ => ⟨S512x128, .f32⟩
  | .local _ .vmem, ⟨20, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_call1_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev main_v9_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutputIdeal.lean ====
abbrev S16384x1024 : Shape := ⟨2, ![16384, 1024]⟩
abbrev S16384x2048 : Shape := ⟨2, ![16384, 2048]⟩
abbrev S2048x2048 : Shape := ⟨2, ![2048, 2048]⟩
abbrev S16x6x2048 : Shape := ⟨3, ![16, 6, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S2048x36 : Shape := ⟨2, ![2048, 36]⟩
abbrev S_ : Shape := ⟨0, ![]⟩
abbrev S2048x128 : Shape := ⟨2, ![2048, 128]⟩
abbrev S36 : Shape := ⟨1, ![36]⟩
abbrev S128 : Shape := ⟨1, ![128]⟩
abbrev S1x128 : Shape := ⟨2, ![1, 128]⟩
abbrev S1x2048 : Shape := ⟨2, ![1, 2048]⟩
abbrev S131072x2x128 : Shape := ⟨3, ![131072, 2, 128]⟩
abbrev S16384x128 : Shape := ⟨2, ![16384, 128]⟩
abbrev S131072x1x128 : Shape := ⟨3, ![131072, 1, 128]⟩
abbrev S131072x128 : Shape := ⟨2, ![131072, 128]⟩
abbrev S512x1024 : Shape := ⟨2, ![512, 1024]⟩
abbrev S512x2048 : Shape := ⟨2, ![512, 2048]⟩
abbrev S1x6x2048 : Shape := ⟨3, ![1, 6, 2048]⟩
abbrev S4096x128 : Shape := ⟨2, ![4096, 128]⟩
abbrev S4096x2x128 : Shape := ⟨3, ![4096, 2, 128]⟩
abbrev S4096x1x128 : Shape := ⟨3, ![4096, 1, 128]⟩
abbrev S512x128 : Shape := ⟨2, ![512, 128]⟩
abbrev S6x2048 : Shape := ⟨2, ![6, 2048]⟩
abbrev S1024x2048 : Shape := ⟨2, ![1024, 2048]⟩
abbrev S512 : Shape := ⟨1, ![512]⟩
abbrev S512x1 : Shape := ⟨2, ![512, 1]⟩
abbrev S512x2x128 : Shape := ⟨3, ![512, 2, 128]⟩
abbrev S512x1x128 : Shape := ⟨3, ![512, 1, 128]⟩
abbrev S128x512 : Shape := ⟨2, ![128, 512]⟩
abbrev S8x512 : Shape := ⟨2, ![8, 512]⟩
abbrev S1x512 : Shape := ⟨2, ![1, 512]⟩
abbrev S120x512 : Shape := ⟨2, ![120, 512]⟩

abbrev nBuf : Space → Nat
  | .hbm => 28
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S2048x2048, .f32⟩
  | .hbm, ⟨4, _⟩ => ⟨S16x6x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S2048x32, .f32⟩
  | .hbm, ⟨11, _⟩ => ⟨S32, .f32⟩
  | .hbm, ⟨12, _⟩ => ⟨S2048x36, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x128, .bf16⟩
  | .hbm, ⟨17, _⟩ => ⟨S36, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S2048x2048, .bf16⟩
  | .hbm, ⟨23, _⟩ => ⟨S1x2048, .f32⟩
  | .hbm, ⟨24, _⟩ => ⟨S1x2048, .f32⟩
  | .hbm, ⟨25, _⟩ => ⟨S16384x2048, .f32⟩
  | .hbm, ⟨26, _⟩ => ⟨S131072x2x128, .bf16⟩
  | .hbm, ⟨27, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x6x2048, .f32⟩
  | .local _ .vmem, ⟨9, _⟩ => ⟨S1x6x2048, .f32⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S2048x128, .bf16⟩
  | .local _ .vmem, ⟨14, _⟩ => ⟨S1x128, .f32⟩
  | .local _ .vmem, ⟨15, _⟩ => ⟨S512x2048, .f32⟩
  | .local _ .vmem, ⟨16, _⟩ => ⟨S512x2048, .f32⟩
  | .local _ .vmem, ⟨17, _⟩ => ⟨S4096x2x128, .bf16⟩
  | .local _ .vmem, ⟨18, _⟩ => ⟨S4096x2x128, .bf16⟩
  | .local _ .vmem, ⟨19, _⟩ => ⟨S512x128, .f32⟩
  | .local _ .vmem, ⟨20, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_call1_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev main_v9_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_11 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, 0, c0_i32_10.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x2x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutputReferenceIdeal.lean ====
abbrev S16384x1024 : Shape := ⟨2, ![16384, 1024]⟩
abbrev S16384x2048 : Shape := ⟨2, ![16384, 2048]⟩
abbrev S2048x2048 : Shape := ⟨2, ![2048, 2048]⟩
abbrev S16x6x2048 : Shape := ⟨3, ![16, 6, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S8x2048x2048 : Shape := ⟨3, ![8, 2048, 2048]⟩
abbrev S1x2048x2048 : Shape := ⟨3, ![1, 2048, 2048]⟩
abbrev S_ : Shape := ⟨0, ![]⟩
abbrev S8x1x2048 : Shape := ⟨3, ![8, 1, 2048]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S2048x2048, .f32⟩
  | .hbm, ⟨4, _⟩ => ⟨S16x6x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S2048x32, .f32⟩
  | .hbm, ⟨11, _⟩ => ⟨S32, .f32⟩
  | .hbm, ⟨12, _⟩ => ⟨S16384x2048, .bf16⟩
  | .hbm, ⟨13, _⟩ => ⟨S16384x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S1x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S8x1x2048, .f32⟩
  | .hbm, ⟨24, _⟩ => ⟨S8x2048, .f32⟩
  | .hbm, ⟨25, _⟩ => ⟨S8x1x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S8x2048x1, .f32⟩
  | .hbm, ⟨50, _⟩ => ⟨S8x2048x2048, .f32⟩
  | .hbm, ⟨51, _⟩ => ⟨S8x2048x2048, .f32⟩
  | .hbm, ⟨52, _⟩ => ⟨S1x1x2048, .f32⟩
  | .hbm, ⟨53, _⟩ => ⟨S8x2048x2048, .f32⟩
  | .hbm, ⟨54, _⟩ => ⟨S8x2048x2048, .f32⟩
  | .hbm, ⟨55, _⟩ => ⟨S1x1x2048, .f32⟩
  | .hbm, ⟨56, _⟩ => ⟨S8x2048x2048, .f32⟩
  | .hbm, ⟨57, _⟩ => ⟨S8x2048x2048, .f32⟩
  | .hbm, ⟨58, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Context.lean ====
abbrev S2048x2048 : Shape := ⟨2, ![2048, 2048]⟩
abbrev S16x6x2048 : Shape := ⟨3, ![16, 6, 2048]⟩
abbrev S2048x6160 : Shape := ⟨2, ![2048, 6160]⟩
abbrev S2048x16 : Shape := ⟨2, ![2048, 16]⟩
abbrev S_ : Shape := ⟨0, ![]⟩
abbrev S2048x128 : Shape := ⟨2, ![2048, 128]⟩
abbrev S512x2048 : Shape := ⟨2, ![512, 2048]⟩
abbrev S1x6x2048 : Shape := ⟨3, ![1, 6, 2048]⟩
abbrev S512x128 : Shape := ⟨2, ![512, 128]⟩
abbrev S6x2048 : Shape := ⟨2, ![6, 2048]⟩
abbrev S1x2048 : Shape := ⟨2, ![1, 2048]⟩
abbrev S2048x1024 : Shape := ⟨2, ![2048, 1024]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S16x6x2048, .f32⟩
  | .hbm, ⟨2, _⟩ => ⟨S2048x6160, .f32⟩
  | .hbm, ⟨3, _⟩ => ⟨S2048x16, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S2048x2048, .f32⟩
  | .hbm, ⟨9, _⟩ => ⟨S2048x2048, .bf16⟩
  | .hbm, ⟨10, _⟩ => ⟨S2048x2048, .bf16⟩
  | .hbm, ⟨11, _⟩ => ⟨S2048x128, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S2048x2048, .bf16⟩
  | .local _ .vmem, ⟨4, _⟩ => ⟨S2048x128, .bf16⟩
  | .local _ .vmem, ⟨5, _⟩ => ⟨S512x2048, .bf16⟩
  | .local _ .vmem, ⟨6, _⟩ => ⟨S512x2048, .bf16⟩
  | .local _ .vmem, ⟨7, _⟩ => ⟨S512x128, .f32⟩
  | .local _ .vmem, ⟨8, _⟩ => ⟨S512x128, .f32⟩
  | .local _ .vmem, ⟨9, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ContextReferenceIdeal.lean ====
abbrev S2048x2048 : Shape := ⟨2, ![2048, 2048]⟩
abbrev S16x6x2048 : Shape := ⟨3, ![16, 6, 2048]⟩
abbrev S2048x6160 : Shape := ⟨2, ![2048, 6160]⟩
abbrev S8x256x2048 : Shape := ⟨3, ![8, 256, 2048]⟩
abbrev S1x1x2048 : Shape := ⟨3, ![1, 1, 2048]⟩
abbrev S2048 : Shape := ⟨1, ![2048]⟩
abbrev S_ : Shape := ⟨0, ![]⟩
abbrev S8x256x6160 : Shape := ⟨3, ![8, 256, 6160]⟩
abbrev S8x256x16 : Shape := ⟨3, ![8, 256, 16]⟩
abbrev S2048x16 : Shape := ⟨2, ![2048, 16]⟩
abbrev S2048x128 : Shape := ⟨2, ![2048, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S16x6x2048, .f32⟩
  | .hbm, ⟨2, _⟩ => ⟨S2048x6160, .f32⟩
  | .hbm, ⟨3, _⟩ => ⟨S8x256x2048, .f32⟩
  | .hbm, ⟨4, _⟩ => ⟨S1x1x2048, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x1x2048, .f32⟩
  | .hbm, ⟨10, _⟩ => ⟨S8x256x2048, .f32⟩
  | .hbm, ⟨11, _⟩ => ⟨S8x256x2048, .f32⟩
  | .hbm, ⟨12, _⟩ => ⟨S1x1x2048, .f32⟩
  | .hbm, ⟨13, _⟩ => ⟨S2048, .f32⟩
  | .hbm, ⟨14, _⟩ => ⟨S1x1x2048, .f32⟩
  | .hbm, ⟨15, _⟩ => ⟨S8x256x2048, .f32⟩
  | .hbm, ⟨16, _⟩ => ⟨S8x256x2048, .f32⟩
  | .hbm, ⟨17, _⟩ => ⟨S8x256x6160, .f32⟩
  | .hbm, ⟨18, _⟩ => ⟨S8x256x16, .f32⟩
  | .hbm, ⟨19, _⟩ => ⟨S2048x16, .f32⟩
  | .hbm, ⟨20, _⟩ => ⟨S_, .i32⟩
  | .hbm, ⟨21, _⟩ => ⟨S_, .f32⟩
  | .hbm, ⟨22, _⟩ => ⟨S2048x128, .f32⟩
  | .hbm, ⟨23, _⟩ => ⟨S8x256x2048, .f32⟩
  | .hbm, ⟨24, _⟩ => ⟨S2048x2048, .f32⟩
  | .hbm, ⟨25, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_call0_v0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.RunReads.lean ====
/-
  Reading a block of an array, and reading a scratch buffer back from the pieces stored in it.
-/
module

public import Idealize.ShloMosaic.PureOps.Ideal
public import Idealize.ShloMosaic.Lib.Pipeline.FrameBody
public import Idealize.ShloMosaic.Lib.Pipeline.Value

@[expose] public section

noncomputable section

namespace Cert.Mlstm

open Idealize.ShloMosaic

variable {sig : RefSig}

/-- A load of part of a whole buffer of two axes. -/
theorem read2 {a b m n r s : Nat} {e : EltTy} {v : Memref sig .tc .vmem ⟨2, ![a, b]⟩ e} (hv : v.IsWhole)
    {x : Vec Ideal ⟨2, ![a, b]⟩ e} {f : Nat → Nat → Elt Ideal e} (hx : ∀ i, x i = f (i 0).val (i 1).val)
    (inb : ∀ k, (![r, s] : Fin 2 → Nat) k + (![m, n] : Fin 2 → Nat) k ≤ (![a, b] : Fin 2 → Nat) k)
    (i : (⟨2, ![m, n]⟩ : Shape).Idx) :
    View.readAt (Elt Ideal) v.view (Rect.unit (s := ⟨2, ![a, b]⟩) ![r, s] ![m, n] inb).toLoadRect (hv.unread x) i
      = f (r + (i 0).val) (s + (i 1).val) := by
  rw [View.readAt_eq_ld, hv.read_unread]
  refine (hx _).trans ?_
  show f (r + 1 * (i 0).val) (s + 1 * (i 1).val) = _
  rw [one_mul, one_mul]

/-- Rows of the buffer, and all of it. -/
theorem rows2 {a b m r : Nat} {e : EltTy} {v : Memref sig .tc .vmem ⟨2, ![a, b]⟩ e} (hv : v.IsWhole)
    {x : Vec Ideal ⟨2, ![a, b]⟩ e} {f : Nat → Nat → Elt Ideal e} (hx : ∀ i, x i = f (i 0).val (i 1).val)
    (inb : ∀ k, (![r, 0] : Fin 2 → Nat) k + (![m, b] : Fin 2 → Nat) k ≤ (![a, b] : Fin 2 → Nat) k)
    (i : (⟨2, ![m, b]⟩ : Shape).Idx) :
    View.readAt (Elt Ideal) v.view (Rect.unit (s := ⟨2, ![a, b]⟩) ![r, 0] ![m, b] inb).toLoadRect (hv.unread x) i
      = f (r + (i 0).val) (i 1).val := (read2 hv hx inb i).trans (congrArg _ (Nat.zero_add _))

theorem whole2 {a b : Nat} {e : EltTy} {v : Memref sig .tc .vmem ⟨2, ![a, b]⟩ e} (hv : v.IsWhole)
    {x : Vec Ideal ⟨2, ![a, b]⟩ e} {f : Nat → Nat → Elt Ideal e} (hx : ∀ i, x i = f (i 0).val (i 1).val)
    (inb : ∀ k, (![0, 0] : Fin 2 → Nat) k + (![a, b] : Fin 2 → Nat) k ≤ (![a, b] : Fin 2 → Nat) k)
    (i : (⟨2, ![a, b]⟩ : Shape).Idx) :
    View.readAt (Elt Ideal) v.view (Rect.unit (s := ⟨2, ![a, b]⟩) ![0, 0] ![a, b] inb).toLoadRect (hv.unread x) i
      = f (i 0).val (i 1).val := (rows2 hv hx inb i).trans (congrArg (f · _) (Nat.zero_add _))

/-- The same for three axes. -/
theorem read3 {a b c m n o r s t : Nat} {e : EltTy} {v : Memref sig .tc .vmem ⟨3, ![a, b, c]⟩ e} (hv : v.IsWhole)
    {x : Vec Ideal ⟨3, ![a, b, c]⟩ e} {f : Nat → Nat → Nat → Elt Ideal e}
    (hx : ∀ i, x i = f (i 0).val (i 1).val (i 2).val)
    (inb : ∀ k, (![r, s, t] : Fin 3 → Nat) k + (![m, n, o] : Fin 3 → Nat) k ≤ (![a, b, c] : Fin 3 → Nat) k)
    (i : (⟨3, ![m, n, o]⟩ : Shape).Idx) :
    View.readAt (Elt Ideal) v.view (Rect.unit (s := ⟨3, ![a, b, c]⟩) ![r, s, t] ![m, n, o] inb).toLoadRect
      (hv.unread x) i = f (r + (i 0).val) (s + (i 1).val) (t + (i 2).val) := by
  rw [View.readAt_eq_ld, hv.read_unread]
  refine (hx _).trans ?_
  show f (r + 1 * (i 0).val) (s + 1 * (i 1).val) (t + 1 * (i 2).val) = _
  rw [one_mul, one_mul, one_mul]

/-- One slot of it. -/
theorem slot3 {a b c r : Nat} {e : EltTy} {v : Memref sig .tc .vmem ⟨3, ![a, b, c]⟩ e} (hv : v.IsWhole)
    {x : Vec Ideal ⟨3, ![a, b, c]⟩ e} {f : Nat → Nat → Nat → Elt Ideal e}
    (hx : ∀ i, x i = f (i 0).val (i 1).val (i 2).val)
    (inb : ∀ k, (![r, 0, 0] : Fin 3 → Nat) k + (![1, b, c] : Fin 3 → Nat) k ≤ (![a, b, c] : Fin 3 → Nat) k)
    (i : (⟨3, ![1, b, c]⟩ : Shape).Idx) :
    View.readAt (Elt Ideal) v.view (Rect.unit (s := ⟨3, ![a, b, c]⟩) ![r, 0, 0] ![1, b, c] inb).toLoadRect
      (hv.unread x) i = f r (i 1).val (i 2).val := (read3 hv hx inb i).trans (by
    have h0 : (i 0).val = 0 := Nat.lt_one_iff.mp (i 0).isLt
    rw [h0, Nat.zero_add, Nat.zero_add]; rfl)

/-- The same for four axes. -/
theorem read4 {a b c d m n o p r s t u : Nat} {e : EltTy} {v : Memref sig .tc .vmem ⟨4, ![a, b, c, d]⟩ e} (hv : v.IsWhole)
    {x : Vec Ideal ⟨4, ![a, b, c, d]⟩ e} {f : Nat → Nat → Elt Ideal e} (hx : ∀ i, x i = f (i 2).val (i 3).val)
    (inb : ∀ k, (![r, s, t, u] : Fin 4 → Nat) k + (![m, n, o, p] : Fin 4 → Nat) k ≤ (![a, b, c, d] : Fin 4 → Nat) k)
    (i : (⟨4, ![m, n, o, p]⟩ : Shape).Idx) :
    View.readAt (Elt Ideal) v.view (Rect.unit (s := ⟨4, ![a, b, c, d]⟩) ![r, s, t, u] ![m, n, o, p] inb).toLoadRect
      (hv.unread x) i = f (t + (i 2).val) (u + (i 3).val) := by
  rw [View.readAt_eq_ld, hv.read_unread]
  refine (hx _).trans ?_
  show f (t + 1 * (i 2).val) (u + 1 * (i 3).val) = _
  rw [one_mul, one_mul]

/-- A load of part of a buffer read back from its pieces. -/
theorem back2 {a b m n r s : Nat} {e : EltTy} {v : Memref sig .tc .vmem ⟨2, ![a, b]⟩ e}
    {L : List (View.Piece (Elt Ideal) ⟨2, ![a, b]⟩ e)} {f : Nat → Nat → Elt Ideal e}
    (hL : ∀ y, View.canon L y = f (y 0).val (y 1).val)
    (inb : ∀ k, (![r, s] : Fin 2 → Nat) k + (![m, n] : Fin 2 → Nat) k ≤ (![a, b] : Fin 2 → Nat) k)
    (i : (⟨2, ![m, n]⟩ : Shape).Idx) :
    v.view.readCov L (Rect.unit (s := ⟨2, ![a, b]⟩) ![r, s] ![m, n] inb).toLoadRect i
      = f (r + (i 0).val) (s + (i 1).val) := by
  rw [View.readCov_eq_canon']
  refine (hL _).trans ?_
  show f (r + 1 * (i 0).val) (s + 1 * (i 1).val) = _
  rw [one_mul, one_mul]

theorem backRows {a b m r : Nat} {e : EltTy} {v : Memref sig .tc .vmem ⟨2, ![a, b]⟩ e}
    {L : List (View.Piece (Elt Ideal) ⟨2, ![a, b]⟩ e)} {f : Nat → Nat → Elt Ideal e}
    (hL : ∀ y, View.canon L y = f (y 0).val (y 1).val)
    (inb : ∀ k, (![r, 0] : Fin 2 → Nat) k + (![m, b] : Fin 2 → Nat) k ≤ (![a, b] : Fin 2 → Nat) k)
    (i : (⟨2, ![m, b]⟩ : Shape).Idx) :
    v.view.readCov L (Rect.unit (s := ⟨2, ![a, b]⟩) ![r, 0] ![m, b] inb).toLoadRect i
      = f (r + (i 0).val) (i 1).val := (back2 hL inb i).trans (congrArg _ (Nat.zero_add _))

theorem back3 {a b c m n o r s t : Nat} {e : EltTy} {v : Memref sig .tc .vmem ⟨3, ![a, b, c]⟩ e}
    {L : List (View.Piece (Elt Ideal) ⟨3, ![a, b, c]⟩ e)} {f : Nat → Nat → Nat → Elt Ideal e}
    (hL : ∀ y, View.canon L y = f (y 0).val (y 1).val (y 2).val)
    (inb : ∀ k, (![r, s, t] : Fin 3 → Nat) k + (![m, n, o] : Fin 3 → Nat) k ≤ (![a, b, c] : Fin 3 → Nat) k)
    (i : (⟨3, ![m, n, o]⟩ : Shape).Idx) :
    v.view.readCov L (Rect.unit (s := ⟨3, ![a, b, c]⟩) ![r, s, t] ![m, n, o] inb).toLoadRect i
      = f (r + (i 0).val) (s + (i 1).val) (t + (i 2).val) := by
  rw [View.readCov_eq_canon']
  refine (hL _).trans ?_
  show f (r + 1 * (i 0).val) (s + 1 * (i 1).val) (t + 1 * (i 2).val) = _
  rw [one_mul, one_mul, one_mul]

/-- A piece of a buffer of two axes holds the buffer's function. -/
def Holds2 {a b : Nat} {e : EltTy} (f : Nat → Nat → Elt Ideal e) (p : View.Piece (Elt Ideal) ⟨2, ![a, b]⟩ e) : Prop :=
  ∀ i : p.1.shape.Idx, p.2 i = f (p.1.emb i 0).val (p.1.emb i 1).val

theorem holds2 {a b m n r s : Nat} {e : EltTy} {f : Nat → Nat → Elt Ideal e}
    (inb : ∀ k, (![r, s] : Fin 2 → Nat) k + (![m, n] : Fin 2 → Nat) k ≤ (![a, b] : Fin 2 → Nat) k)
    {x : Vec Ideal ⟨2, ![m, n]⟩ e} (hx : ∀ i, x i = f (r + (i 0).val) (s + (i 1).val)) :
    Holds2 f ⟨Rect.unit (s := ⟨2, ![a, b]⟩) ![r, s] ![m, n] inb, x⟩ := fun i => by
  show x i = f (r + 1 * (i 0).val) (s + 1 * (i 1).val)
  rw [one_mul, one_mul]
  exact hx i

theorem holdsRows {a b m r : Nat} {e : EltTy} {f : Nat → Nat → Elt Ideal e}
    (inb : ∀ k, (![r, 0] : Fin 2 → Nat) k + (![m, b] : Fin 2 → Nat) k ≤ (![a, b] : Fin 2 → Nat) k)
    {x : Vec Ideal ⟨2, ![m, b]⟩ e} (hx : ∀ i, x i = f (r + (i 0).val) (i 1).val) :
    Holds2 f ⟨Rect.unit (s := ⟨2, ![a, b]⟩) ![r, 0] ![m, b] inb, x⟩ :=
  holds2 inb fun i => (hx i).trans (congrArg _ (Nat.zero_add _).symm)

/-- A buffer covered by pieces that hold a function is that function. -/
theorem canon2 {a b : Nat} {e : EltTy} {L : List (View.Piece (Elt Ideal) ⟨2, ![a, b]⟩ e)} {f : Nat → Nat → Elt Ideal e}
    (hL : ∀ p ∈ L, Holds2 f p) (hc : ∀ y, ∃ p ∈ L, y ∈ p.1.set) (y : (⟨2, ![a, b]⟩ : Shape).Idx) :
    View.canon L y = f (y 0).val (y 1).val :=
  View.canon_apply_of_pieces (fun y => f (y 0).val (y 1).val) L hL y (hc y)

def Holds3 {a b c : Nat} {e : EltTy} (f : Nat → Nat → Nat → Elt Ideal e) (p : View.Piece (Elt Ideal) ⟨3, ![a, b, c]⟩ e) : Prop :=
  ∀ i : p.1.shape.Idx, p.2 i = f (p.1.emb i 0).val (p.1.emb i 1).val (p.1.emb i 2).val

theorem holds3 {a b c m n o r s t : Nat} {e : EltTy} {f : Nat → Nat → Nat → Elt Ideal e}
    (inb : ∀ k, (![r, s, t] : Fin 3 → Nat) k + (![m, n, o] : Fin 3 → Nat) k ≤ (![a, b, c] : Fin 3 → Nat) k)
    {x : Vec Ideal ⟨3, ![m, n, o]⟩ e} (hx : ∀ i, x i = f (r + (i 0).val) (s + (i 1).val) (t + (i 2).val)) :
    Holds3 f ⟨Rect.unit (s := ⟨3, ![a, b, c]⟩) ![r, s, t] ![m, n, o] inb, x⟩ := fun i => by
  show x i = f (r + 1 * (i 0).val) (s + 1 * (i 1).val) (t + 1 * (i 2).val)
  rw [one_mul, one_mul, one_mul]
  exact hx i

/-- One slot of a buffer of three axes. -/
theorem holdsSlot {a b c j : Nat} {e : EltTy} {f : Nat → Nat → Nat → Elt Ideal e}
    (inb : ∀ k, (![j, 0, 0] : Fin 3 → Nat) k + (![1, b, c] : Fin 3 → Nat) k ≤ (![a, b, c] : Fin 3 → Nat) k)
    {x : Vec Ideal ⟨3, ![1, b, c]⟩ e} (hx : ∀ i, x i = f j (i 1).val (i 2).val) :
    Holds3 f ⟨Rect.unit (s := ⟨3, ![a, b, c]⟩) ![j, 0, 0] ![1, b, c] inb, x⟩ :=
  holds3 inb fun i => by
    have h0 : (i 0).val = 0 := Nat.lt_one_iff.mp (i 0).isLt
    rw [hx i, h0, Nat.zero_add, Nat.zero_add]; rfl

theorem backSlot {a b c j : Nat} {e : EltTy} {v : Memref sig .tc .vmem ⟨3, ![a, b, c]⟩ e}
    {L : List (View.Piece (Elt Ideal) ⟨3, ![a, b, c]⟩ e)} {f : Nat → Nat → Nat → Elt Ideal e}
    (hL : ∀ y, View.canon L y = f (y 0).val (y 1).val (y 2).val)
    (inb : ∀ k, (![j, 0, 0] : Fin 3 → Nat) k + (![1, b, c] : Fin 3 → Nat) k ≤ (![a, b, c] : Fin 3 → Nat) k)
    (i : (⟨3, ![1, b, c]⟩ : Shape).Idx) :
    v.view.readCov L (Rect.unit (s := ⟨3, ![a, b, c]⟩) ![j, 0, 0] ![1, b, c] inb).toLoadRect i
      = f j (i 1).val (i 2).val := (back3 hL inb i).trans (by
    have h0 : (i 0).val = 0 := Nat.lt_one_iff.mp (i 0).isLt
    rw [h0, Nat.zero_add, Nat.zero_add]; rfl)

/-- The statistics: all of them, one entry, one column, one row. -/
theorem stats4 {a b c d : Nat} {e : EltTy} {v : Memref sig .tc .vmem ⟨4, ![a, b, c, d]⟩ e} (hv : v.IsWhole)
    {x : Vec Ideal ⟨4, ![a, b, c, d]⟩ e} {f : Nat → Nat → Elt Ideal e} (hx : ∀ i, x i = f (i 2).val (i 3).val)
    (inb : ∀ k, (![0, 0, 0, 0] : Fin 4 → Nat) k + (![a, b, c, d] : Fin 4 → Nat) k ≤ (![a, b, c, d] : Fin 4 → Nat) k)
    (i : (⟨4, ![a, b, c, d]⟩ : Shape).Idx) :
    View.readAt (Elt Ideal) v.view (Rect.unit (s := ⟨4, ![a, b, c, d]⟩) ![0, 0, 0, 0] ![a, b, c, d] inb).toLoadRect
      (hv.unread x) i = f (i 2).val (i 3).val :=
  (read4 hv hx inb i).trans (congrArg₂ f (Nat.zero_add _) (Nat.zero_add _))

theorem cell4 {a b c d u : Nat} {e : EltTy} {v : Memref sig .tc .vmem ⟨4, ![a, b, c, d]⟩ e} (hv : v.IsWhole)
    {x : Vec Ideal ⟨4, ![a, b, c, d]⟩ e} {f : Nat → Nat → Elt Ideal e} (hx : ∀ i, x i = f (i 2).val (i 3).val)
    (inb : ∀ k, (![0, 0, 0, u] : Fin 4 → Nat) k + (![1, 1, 1, 1] : Fin 4 → Nat) k ≤ (![a, b, c, d] : Fin 4 → Nat) k)
    (i : (⟨4, ![1, 1, 1, 1]⟩ : Shape).Idx) :
    View.readAt (Elt Ideal) v.view (Rect.unit (s := ⟨4, ![a, b, c, d]⟩) ![0, 0, 0, u] ![1, 1, 1, 1] inb).toLoadRect
      (hv.unread x) i = f 0 u := (read4 hv hx inb i).trans (by
    have h2 : (i 2).val = 0 := Nat.lt_one_iff.mp (i 2).isLt
    have h3 : (i 3).val = 0 := Nat.lt_one_iff.mp (i 3).isLt
    rw [h2, h3]; rfl)

theorem col4 {a b c d u : Nat} {e : EltTy} {v : Memref sig .tc .vmem ⟨4, ![a, b, c, d]⟩ e} (hv : v.IsWhole)
    {x : Vec Ideal ⟨4, ![a, b, c, d]⟩ e} {f : Nat → Nat → Elt Ideal e} (hx : ∀ i, x i = f (i 2).val (i 3).val)
    (inb : ∀ k, (![0, 0, 0, u] : Fin 4 → Nat) k + (![1, 1, c, 1] : Fin 4 → Nat) k ≤ (![a, b, c, d] : Fin 4 → Nat) k)
    (i : (⟨4, ![1, 1, c, 1]⟩ : Shape).Idx) :
    View.readAt (Elt Ideal) v.view (Rect.unit (s := ⟨4, ![a, b, c, d]⟩) ![0, 0, 0, u] ![1, 1, c, 1] inb).toLoadRect
      (hv.unread x) i = f (i 2).val u := (read4 hv hx inb i).trans (by
    have h3 : (i 3).val = 0 := Nat.lt_one_iff.mp (i 3).isLt
    rw [h3, Nat.zero_add]; rfl)

theorem row4 {a b c d u : Nat} {e : EltTy} {v : Memref sig .tc .vmem ⟨4, ![a, b, c, d]⟩ e} (hv : v.IsWhole)
    {x : Vec Ideal ⟨4, ![a, b, c, d]⟩ e} {f : Nat → Nat → Elt Ideal e} (hx : ∀ i, x i = f (i 2).val (i 3).val)
    (inb : ∀ k, (![0, 0, u, 0] : Fin 4 → Nat) k + (![1, 1, 1, d] : Fin 4 → Nat) k ≤ (![a, b, c, d] : Fin 4 → Nat) k)
    (i : (⟨4, ![1, 1, 1, d]⟩ : Shape).Idx) :
    View.readAt (Elt Ideal) v.view (Rect.unit (s := ⟨4, ![a, b, c, d]⟩) ![0, 0, u, 0] ![1, 1, 1, d] inb).toLoadRect
      (hv.unread x) i = f u (i 3).val := (read4 hv hx inb i).trans (by
    have h2 : (i 2).val = 0 := Nat.lt_one_iff.mp (i 2).isLt
    rw [h2, Nat.zero_add]; rfl)

theorem canon3 {a b c : Nat} {e : EltTy} {L : List (View.Piece (Elt Ideal) ⟨3, ![a, b, c]⟩ e)}
    {f : Nat → Nat → Nat → Elt Ideal e} (hL : ∀ p ∈ L, Holds3 f p) (hc : ∀ y, ∃ p ∈ L, y ∈ p.1.set)
    (y : (⟨3, ![a, b, c]⟩ : Shape).Idx) : View.canon L y = f (y 0).val (y 1).val (y 2).val :=
  View.canon_apply_of_pieces (fun y => f (y 0).val (y 1).val (y 2).val) L hL y (hc y)

end Cert.Mlstm

end
-- ==== Proof.Blocks.lean ====
/-
  The block computations of the kernel's body, named: the convolution of one chunk, the state of one chunk, one
  direction's part of a chunk's output, the norm and gate. Each is a function of the vectors the body has read.
-/
module

public import proofs.«01_k».proof.Proof.Gen.KernelIdeal.Skeleton

@[expose] public section

set_option synthInstance.maxSize 4096

noncomputable section

namespace Cert.Mlstm

open Idealize.ShloMosaic Cert.KernelIdeal Cert.KernelIdeal.Gen

variable {F : FTy → Type} [FloatOps F]

/-- The three rows of the taps' weights, over the block's rows. -/
def tap0 (w : Vec F S3x256 .f32) (x : Vec F S256x256 .bf16) : FVec F S256x256 .bf16 :=
  mulf x (broadcastTo S256x256 (extractStridedSlice S1x256 ![0, 0] (truncf .bf16 w bitsLt_bf16_f32)
    slices_S3x256_o0_0_S1x256) broadcasts_S1x256_S256x256)
def tap1 (w : Vec F S3x256 .f32) (x : Vec F S256x256 .bf16) : FVec F S256x256 .bf16 :=
  mulf x (broadcastTo S256x256 (extractStridedSlice S1x256 ![1, 0] (truncf .bf16 w bitsLt_bf16_f32)
    slices_S3x256_o1_0_S1x256) broadcasts_S1x256_S256x256)
def tap2 (w : Vec F S3x256 .f32) (x : Vec F S256x256 .bf16) : FVec F S256x256 .bf16 :=
  mulf x (broadcastTo S256x256 (extractStridedSlice S1x256 ![2, 0] (truncf .bf16 w bitsLt_bf16_f32)
    slices_S3x256_o2_0_S1x256) broadcasts_S1x256_S256x256)

/-- The taps inside the chunk: the band times the three products stacked. -/
def inner (w : Vec F S3x256 .f32) (x : Vec F S256x256 .bf16) (band : Vec F S256x768 .bf16) : FVec F S256x256 .f32 :=
  matmul dot_S256x768_S768x256_S256x256_1_0_0_1_n_n none (shapeCast S256x768 band shapeCasts_S256x768_S256x768)
    (concatenate S768x256 0 [⟨S256x256, tap0 w x⟩, ⟨S256x256, tap1 w x⟩, ⟨S256x256, tap2 w x⟩]
      concatenates_S256x256_S256x256_S256x256_S768x256_d0)
    (constant S256x256 .f32 0x00000000#32)

/-- The rows from the neighbouring chunks: none, the one before, the one after. -/
def halo : FVec F S16x256 .f32 := broadcast S16x256 (Scalar.ofBits .f32 0x00000000#32)
def withPrev (w : Vec F S3x256 .f32) (xp : Vec F S16x256 .bf16) (h : FVec F S16x256 .f32) : FVec F S16x256 .f32 :=
  select (cmpi .eq (iota .tc S16x256 32 [0] iota_S16x256_d0_w32) (broadcast S16x256 0#32))
    (broadcastTo S16x256 (shapeCast S1x256
      (mulf (extractStridedSlice S1x256 ![15, 0] (extf .f32 xp bitsLt_bf16_f32) slices_S16x256_o15_0_S1x256)
        (extractStridedSlice S1x256 ![0, 0] (extf .f32 (truncf .bf16 w bitsLt_bf16_f32 : FVec F S3x256 .bf16)
          bitsLt_bf16_f32) slices_S3x256_o0_0_S1x256)) shapeCasts_S1x256_S1x256) broadcasts_S1x256_S16x256) h
def withNext (w : Vec F S3x256 .f32) (xn : Vec F S16x256 .bf16) (h : FVec F S16x256 .f32) : FVec F S16x256 .f32 :=
  select (cmpi .eq (iota .tc S16x256 32 [0] iota_S16x256_d0_w32) (broadcast S16x256 1#32))
    (broadcastTo S16x256 (shapeCast S1x256
      (mulf (extractStridedSlice S1x256 ![0, 0] (extf .f32 xn bitsLt_bf16_f32) slices_S16x256_o0_0_S1x256)
        (extractStridedSlice S1x256 ![2, 0] (extf .f32 (truncf .bf16 w bitsLt_bf16_f32 : FVec F S3x256 .bf16)
          bitsLt_bf16_f32) slices_S3x256_o2_0_S1x256)) shapeCasts_S1x256_S1x256) broadcasts_S1x256_S16x256) h

/-- The chunk's taps with its neighbours' rows put on its first and last row. -/
def edged (y : FVec F S256x256 .f32) (edge : Vec F S256x16 .bf16) (h : FVec F S16x256 .f32) : FVec F S256x256 .f32 :=
  addf y (matmul dot_S256x16_S16x256_S256x256_1_0_0_1_n_n none (shapeCast S256x16 edge shapeCasts_S256x16_S256x16)
    (truncf .bf16 h bitsLt_bf16_f32) (constant S256x256 .f32 0x00000000#32))

def biased (y : FVec F S256x256 .f32) (b : Vec F S1x256 .f32) : FVec F S256x256 .f32 :=
  addf y (broadcastTo S256x256 b broadcasts_S1x256_S256x256)

/-- The logistic function of a block as the body writes it. -/
def gate (y : FVec F S256x256 .f32) : FVec F S256x256 .f32 :=
  addf (mulf (broadcast S256x256 (Scalar.ofBits .f32 0x3F000000#32))
      (tanh (mulf (broadcast S256x256 (Scalar.ofBits .f32 0x3F000000#32)) y)))
    (broadcast S256x256 (Scalar.ofBits .f32 0x3F000000#32))
def siluBlk (y : FVec F S256x256 .f32) : FVec F S256x256 .f32 := mulf y (gate y)
def scaled (y : FVec F S256x256 .f32) : FVec F S256x256 .f32 :=
  mulf y (broadcast S256x256 (Scalar.ofBits .f32 0x3D800000#32))
def stored (y : FVec F S256x256 .f32) : FVec F S256x256 .bf16 :=
  shapeCast S256x256 (truncf .bf16 y bitsLt_bf16_f32 : FVec F S256x256 .bf16) shapeCasts_S256x256_S256x256

/-- A row of the transposed statistics as a weight row. -/
def statT (s : Vec F S1x1x256x128 .f32) : FVec F S128x256 .f32 :=
  transpose S128x256 [1, 0] (shapeCast S256x128 s shapeCasts_S1x1x256x128_S256x128) transposes_S256x128_p1_0_S128x256
def wrow (s : Vec F S1x1x256x128 .f32) (j : Nat) (h : S128x256.Slices ![j, 0] S1x256) : FVec F S1x256 .bf16 :=
  truncf .bf16 (extractStridedSlice S1x256 ![j, 0] (statT s) h) bitsLt_bf16_f32

/-- One chunk's own state: the matrix, transposed, and the normaliser. -/
def ownC (k v : Vec F S256x256 .bf16) (w : FVec F S1x256 .bf16) : FVec F S256x256 .f32 :=
  matmul dot_S256x256_S256x256_S256x256_1_0_0_1_n_n none
    (mulf (transpose S256x256 [1, 0] k transposes_S256x256_p1_0_S256x256 : FVec F S256x256 .bf16)
      (broadcastTo S256x256 w broadcasts_S1x256_S256x256)) v
    (constant S256x256 .f32 0x00000000#32)
def ownN (k : Vec F S256x256 .bf16) (w : FVec F S1x256 .bf16) : FVec F S1x256 .f32 :=
  extractStridedSlice S1x256 ![0, 0]
    (matmul dot_S8x256_S256x256_S8x256_1_0_0_1_n_n none
      (broadcastTo S8x256 (shapeCast S1x256 w shapeCasts_S1x256_S1x256) broadcasts_S1x256_S8x256) k
      (constant S8x256 .f32 0x00000000#32)) slices_S8x256_o0_0_S1x256

/-- The state carried over a chunk. -/
def stepC (s : Vec F S1x1x1x1 .f32) (c own : FVec F S256x256 .f32) : FVec F S256x256 .f32 :=
  addf (mulf (broadcastTo S256x256 (shapeCast S1x1 s shapeCasts_S1x1x1x1_S1x1) broadcasts_S1x1_S256x256) c) own
def stepN (s : Vec F S1x1x1x1 .f32) (c own : FVec F S1x256 .f32) : FVec F S1x256 .f32 :=
  addf (mulf (broadcastTo S1x256 (shapeCast S1x1 s shapeCasts_S1x1x1x1_S1x1) broadcasts_S1x1_S1x256) c) own
def storedC (c : FVec F S256x256 .f32) : FVec F S1x256x256 .bf16 :=
  shapeCast S1x256x256 (truncf .bf16 c bitsLt_bf16_f32 : FVec F S256x256 .bf16) shapeCasts_S256x256_S1x256x256
def storedN (n : FVec F S1x256 .f32) : FVec F S1x1x256 .f32 := shapeCast S1x1x256 n shapeCasts_S1x256_S1x1x256

/-- The two orders: the token at column `s` is seen from row `t`. -/
def before : IVec S256x256 1 :=
  cmpi .sle (iota .tc S256x256 32 [1] iota_S256x256_d1_w32) (iota .tc S256x256 32 [0] iota_S256x256_d0_w32)
def after : IVec S256x256 1 :=
  cmpi .sge (iota .tc S256x256 32 [1] iota_S256x256_d1_w32) (iota .tc S256x256 32 [0] iota_S256x256_d0_w32)

def scores (q k : Vec F S256x256 .bf16) : FVec F S256x256 .f32 :=
  matmul dot_S256x256_S256x256_S256x256_1_1_0_0_n_n none q k (constant S256x256 .f32 0x00000000#32)

def colOf (x : Vec F S1x1x256x1 .f32) : FVec F S256x1 .f32 := shapeCast S256x1 x shapeCasts_S1x1x256x1_S256x1

/-- The gated scores. -/
def gated (m : IVec S256x256 1) (s : FVec F S256x256 .f32) (r : Vec F S1x1x1x256 .f32) (bigM : Vec F S1x1x256x1 .f32) :
    FVec F S256x256 .f32 :=
  mulf (select m
    (exp (subf (broadcastTo S256x256 (shapeCast S1x256 r shapeCasts_S1x1x1x256_S1x256) broadcasts_S1x256_S256x256)
      (broadcastTo S256x256 (colOf bigM) broadcasts_S256x1_S256x256)))
    (broadcast S256x256 (Scalar.ofBits .f32 0x00000000#32))) s

def rowSum (x : FVec F S256x256 .f32) : FVec F S256x1 .f32 :=
  shapeCast S256x1 (multiReduction .add [1] S256 x 0x00000000#32 reduces_S256x256_S256 (.inl rfl) rfl)
    shapeCasts_S256_S256x1

def denBlk (p : FVec F S256x256 .f32) (q : Vec F S256x256 .bf16) (sInt : Vec F S1x1x256x1 .f32)
    (n : Vec F S1x1x256 .f32) : FVec F S256x1 .f32 :=
  addf (rowSum p) (mulf (colOf sInt) (rowSum (mulf (extf .f32 q bitsLt_bf16_f32)
    (broadcastTo S256x256 (shapeCast S1x256 n shapeCasts_S1x1x256_S1x256) broadcasts_S1x256_S256x256))))

def numBlk (p : FVec F S256x256 .f32) (q v : Vec F S256x256 .bf16) (sInt : Vec F S1x1x256x1 .f32)
    (ct : Vec F S1x256x256 .bf16) : FVec F S256x256 .f32 :=
  addf (matmul dot_S256x256_S256x256_S256x256_1_0_0_1_n_n none (truncf .bf16 p bitsLt_bf16_f32 : FVec F S256x256 .bf16) v
      (constant S256x256 .f32 0x00000000#32))
    (mulf (broadcastTo S256x256 (colOf sInt) broadcasts_S256x1_S256x256)
      (matmul dot_S256x256_S256x256_S256x256_1_0_0_1_n_n none q (shapeCast S256x256 ct shapeCasts_S1x256x256_S256x256)
        (constant S256x256 .f32 0x00000000#32)))

def quot (num : FVec F S256x256 .f32) (den : FVec F S256x1 .f32) (eNeg : Vec F S1x1x256x1 .f32) : FVec F S256x256 .f32 :=
  mulf num (broadcastTo S256x256
    (divf (broadcast S256x1 (Scalar.ofBits .f32 0x3F800000#32)) (maximumf (absf den) (colOf eNeg)))
    broadcasts_S256x1_S256x256)

/-- One direction's part of a chunk's output. -/
def partOf (m : IVec S256x256 1) (q k v : Vec F S256x256 .bf16) (r : Vec F S1x1x1x256 .f32)
    (bigM sInt eNeg : Vec F S1x1x256x1 .f32) (n : Vec F S1x1x256 .f32) (ct : Vec F S1x256x256 .bf16) :
    FVec F S256x256 .f32 :=
  quot (numBlk (gated m (scores q k) r bigM) q v sInt ct) (denBlk (gated m (scores q k) r bigM) q sInt n) eNeg

def mean (h : FVec F S256x256 .f32) : FVec F S256x1 .f32 :=
  divf (rowSum h) (broadcast S256x1 (Scalar.ofBits .f32 0x43800000#32))
def centred (h : FVec F S256x256 .f32) : FVec F S256x256 .f32 :=
  subf h (broadcastTo S256x256 (mean h) broadcasts_S256x1_S256x256)

/-- The norm over a row, its weight, and the output gate. -/
def normed (h : FVec F S256x256 .f32) (nw : Vec F S1x256 .f32) (o : Vec F S256x256 .bf16) : FVec F S256x256 .bf16 :=
  truncf .bf16 (mulf (mulf (mulf (centred h)
      (broadcastTo S256x256 (rsqrt (addf (mean (mulf (centred h) (centred h)))
        (broadcast S256x1 (Scalar.ofBits .f32 0x358637BD#32)))) broadcasts_S256x1_S256x256))
      (broadcastTo S256x256 nw broadcasts_S1x256_S256x256)) (gate (extf .f32 o bitsLt_bf16_f32))) bitsLt_bf16_f32

end Cert.Mlstm

end
-- ==== Proof.Spec.lean ====
/-
  The mLSTM of one head as functions of natural-number coordinates over the extended reals: the text both programs
  are read against. Tokens run over 0..2047 in eight chunks of 256, features over 0..255.
-/
module

public import Idealize.ShloMosaic.PureOps.Ideal
public import Idealize.ShloMosaic.PureOps.IdealRules

@[expose] public section

noncomputable section

namespace Cert.Mlstm

open Idealize.ShloMosaic

/-- An array of two axes read at natural-number coordinates (zero outside). -/
def at2 {a b : Nat} (x : (⟨2, ![a, b]⟩ : Shape).Idx → EReal) (i j : Nat) : EReal :=
  if h : i < a ∧ j < b then x (fun k => match k with | ⟨0, _⟩ => ⟨i, h.1⟩ | ⟨1, _⟩ => ⟨j, h.2⟩) else 0

/-- An array of four axes read at natural-number coordinates (zero outside). -/
def at4 {a b c d : Nat} (x : (⟨4, ![a, b, c, d]⟩ : Shape).Idx → EReal) (i j k l : Nat) : EReal :=
  if h : i < a ∧ j < b ∧ k < c ∧ l < d then
    x (fun q => match q with | ⟨0, _⟩ => ⟨i, h.1⟩ | ⟨1, _⟩ => ⟨j, h.2.1⟩ | ⟨2, _⟩ => ⟨k, h.2.2.1⟩ | ⟨3, _⟩ => ⟨l, h.2.2.2⟩)
  else 0

theorem at2_of {a b : Nat} (x : (⟨2, ![a, b]⟩ : Shape).Idx → EReal) (i : (⟨2, ![a, b]⟩ : Shape).Idx) :
    x i = at2 x (i 0).val (i 1).val := by
  unfold at2
  rw [dif_pos ⟨(i 0).isLt, (i 1).isLt⟩]
  exact congrArg x (funext fun k => by match k with | ⟨0, _⟩ => rfl | ⟨1, _⟩ => rfl)

theorem at4_of {a b c d : Nat} (x : (⟨4, ![a, b, c, d]⟩ : Shape).Idx → EReal)
    (i : (⟨4, ![a, b, c, d]⟩ : Shape).Idx) :
    x i = at4 x (i 0).val (i 1).val (i 2).val (i 3).val := by
  unfold at4
  rw [dif_pos ⟨(i 0).isLt, (i 1).isLt, (i 2).isLt, (i 3).isLt⟩]
  exact congrArg x (funext fun k => by
    match k with | ⟨0, _⟩ => rfl | ⟨1, _⟩ => rfl | ⟨2, _⟩ => rfl | ⟨3, _⟩ => rfl)

/-- The logistic function as the reference writes it. -/
def sg (y : EReal) : EReal := Ideal.div 1 (1 + Ideal.exp (-y))

/-- silu. -/
def silu (y : EReal) : EReal := y * sg y

/-- The centred three-tap convolution with its bias, over a sequence of `n` tokens (zero outside it). -/
def conv (n : Nat) (x w : Nat → Nat → EReal) (b : Nat → EReal) (t e : Nat) : EReal :=
  (((if t = 0 then 0 else x (t - 1) e) * w 0 e + x t e * w 1 e)
    + (if t + 1 = n then 0 else x (t + 1) e) * w 2 e) + b e

/-- What one head reads. -/
structure Head where
  xq : Nat → Nat → EReal
  xk : Nat → Nat → EReal
  xv : Nat → Nat → EReal
  xo : Nat → Nat → EReal
  xkc : Nat → Nat → EReal
  xvc : Nat → Nat → EReal
  wq : Nat → Nat → EReal
  wk : Nat → Nat → EReal
  bq : Nat → EReal
  bk : Nat → EReal
  row : Nat → Nat → EReal
  col : Nat → Nat → EReal
  nw : Nat → EReal

/-- The two literals: the key scale 1/16, the norm's epsilon, the width 256. -/
def kscale : EReal := Ideal.ofBits .f32 0x3D800000#32
def eps : EReal := Ideal.ofBits .f32 0x358637BD#32
def width : EReal := Ideal.ofBits .f32 0x43800000#32

variable (H : Head)

def qq (t e : Nat) : EReal := silu (conv 2048 H.xq H.wq H.bq t e)
def kk (t e : Nat) : EReal := silu (conv 2048 H.xk H.wk H.bk t e) * kscale
def kc (t e : Nat) : EReal := silu (conv 256 H.xkc H.wk H.bk t e) * kscale

/-- The chunk's own matrix state and normaliser in direction `d`. -/
def locC (d c e f : Nat) : EReal :=
  ∑ s : Fin 256, H.xv (256 * c + s.val) e * H.col s.val (8 * d + c) * kk H (256 * c + s.val) f
def locN (d c f : Nat) : EReal :=
  ∑ s : Fin 256, H.col s.val (8 * d + c) * kk H (256 * c + s.val) f

/-- The context's. -/
def ctxC (d e f : Nat) : EReal := ∑ s : Fin 256, H.xvc s.val e * H.col s.val (64 + d) * kc H s.val f
def ctxN (d f : Nat) : EReal := ∑ s : Fin 256, H.col s.val (64 + d) * kc H s.val f

/-- The chunk met at position `j` of direction `d` (0 forward, 1 backward). -/
def chunkAt (d j : Nat) : Nat := if d = 0 then j else 7 - j

/-- The states entering the chunk at position `j`. -/
def stC (d : Nat) : Nat → Nat → Nat → EReal
  | 0, e, f => ctxC H d e f
  | j + 1, e, f => H.col 0 (66 + 8 * d + chunkAt d j) * stC d j e f + locC H d (chunkAt d j) e f
def stN (d : Nat) : Nat → Nat → EReal
  | 0, f => ctxN H d f
  | j + 1, f => H.col 0 (66 + 8 * d + chunkAt d j) * stN d j f + locN H d (chunkAt d j) f

/-- Token `s` of a chunk is seen by token `t` in direction `d`. -/
def seen (d t s : Nat) : Prop := if d = 0 then s ≤ t else t ≤ s
instance (d t s : Nat) : Decidable (seen d t s) := by unfold seen; infer_instance

def score (c t s : Nat) : EReal :=
  ∑ e : Fin 256, qq H (256 * c + t) e.val * kk H (256 * c + s) e.val

/-- The gated score. -/
def pp (d c t s : Nat) : EReal :=
  Ideal.exp ((if seen d t s then H.row (8 * d + c) s else ⊥) - H.col t (16 + 8 * d + c)) * score H c t s

def num (d c t e : Nat) : EReal :=
  (∑ s : Fin 256, pp H d c t s.val * H.xv (256 * c + s.val) e)
    + H.col t (32 + 8 * d + c) * ∑ f : Fin 256, qq H (256 * c + t) f.val * stC H d (chunkAt d c) e f.val

def den (d c t : Nat) : EReal :=
  (∑ s : Fin 256, pp H d c t s.val)
    + H.col t (32 + 8 * d + c) * ∑ f : Fin 256, stN H d (chunkAt d c) f.val * qq H (256 * c + t) f.val

def hd (d c t e : Nat) : EReal :=
  Ideal.div (num H d c t e) (max (max (den H d c t) (-(den H d c t))) (H.col t (48 + 8 * d + c)))

def hh (c t e : Nat) : EReal := hd H 0 c t e + hd H 1 c t e

def mu (c t : Nat) : EReal := Ideal.div (∑ e : Fin 256, hh H c t e.val) width
def var (c t : Nat) : EReal :=
  Ideal.div (∑ e : Fin 256, (hh H c t e.val - mu H c t) * (hh H c t e.val - mu H c t)) width

/-- The head's output at token `t` of chunk `c`. -/
def out (c t e : Nat) : EReal :=
  (hh H c t e - mu H c t) * Ideal.rsqrt (var H c t + eps) * H.nw e * sg (H.xo (256 * c + t) e)

/-- What head `h` of batch element `b` reads of the call's arguments. -/
def headOf (x0 : (⟨2, ![16384, 4096]⟩ : Shape).Idx → EReal) (x1 : (⟨2, ![2048, 2048]⟩ : Shape).Idx → EReal)
    (x2 : (⟨2, ![3, 2048]⟩ : Shape).Idx → EReal) (x3 : (⟨2, ![1, 2048]⟩ : Shape).Idx → EReal)
    (x4 : (⟨4, ![8, 4, 16, 256]⟩ : Shape).Idx → EReal) (x5 : (⟨4, ![8, 4, 256, 128]⟩ : Shape).Idx → EReal)
    (x6 : (⟨2, ![1, 1024]⟩ : Shape).Idx → EReal) (b h : Nat) : Head where
  xq t e := at2 x0 (2048 * b + t) (256 * h + e)
  xk t e := at2 x0 (2048 * b + t) (1024 + 256 * h + e)
  xv t e := at2 x0 (2048 * b + t) (2048 + 256 * h + e)
  xo t e := at2 x0 (2048 * b + t) (3072 + 256 * h + e)
  xkc t e := at2 x1 (256 * b + t) (256 * h + e)
  xvc t e := at2 x1 (256 * b + t) (1024 + 256 * h + e)
  wq j e := at2 x2 j (256 * h + e)
  wk j e := at2 x2 j (1024 + 256 * h + e)
  bq e := at2 x3 0 (256 * h + e)
  bk e := at2 x3 0 (1024 + 256 * h + e)
  row i s := at4 x4 b h i s
  col s l := at4 x5 b h s l
  nw e := at2 x6 0 (256 * h + e)

end Cert.Mlstm

end
-- ==== Proof.Products.lean ====
/-
  Products of matrices read at an index, for any shapes.
-/
module

public import proofs.«01_k».proof.Proof.Spec
public import Idealize.ShloMosaic.Lib.MatmulPlain
public import Idealize.ShloMosaic.Lib.Pipeline.Value
public import Idealize.ShloMosaic.Lib.Pointwise.Tactic

@[expose] public section

noncomputable section

namespace Cert.Mlstm

open Idealize.ShloMosaic

/-- A product over one axis, its operands read at natural coordinates. -/
theorem plain_at {M K N : ℕ} {φ₁ φ₂ : FTy} (prec : Option ContractPrecision) (lhs : FVec Ideal ⟨2, ![M, K]⟩ φ₁)
    (rhs : FVec Ideal ⟨2, ![K, N]⟩ φ₂) (acc : FVec Ideal ⟨2, ![M, N]⟩ .f32) {fl fr : Nat → Nat → EReal}
    (hl : ∀ i, lhs i = fl (i 0).val (i 1).val) (hr : ∀ i, rhs i = fr (i 0).val (i 1).val) (ha : ∀ i, acc i = 0)
    (i : (⟨2, ![M, N]⟩ : Shape).Idx) :
    FloatOps.matmul (DotDims.plain M K N) prec lhs rhs acc i = ∑ k : Fin K, fl (i 0).val k.val * fr k.val (i 1).val := by
  have e : i = ix2 (i 0 : Fin M) (i 1 : Fin N) := funext fun a => by match a with | ⟨0, _⟩ => rfl | ⟨1, _⟩ => rfl
  refine (congrArg _ e).trans ((Ideal.matmul_plain_apply prec lhs rhs acc (i 0) (i 1)).trans ?_)
  rw [ha, zero_add]
  exact Finset.sum_congr rfl fun k _ => by rw [hl, hr]; rfl

/-- The same with the right operand's rows contracted. -/
theorem across_at {M K N : ℕ} {φ₁ φ₂ : FTy} (prec : Option ContractPrecision) (lhs : FVec Ideal ⟨2, ![M, K]⟩ φ₁)
    (rhs : FVec Ideal ⟨2, ![N, K]⟩ φ₂) (acc : FVec Ideal ⟨2, ![M, N]⟩ .f32) {fl fr : Nat → Nat → EReal}
    (hl : ∀ i, lhs i = fl (i 0).val (i 1).val) (hr : ∀ i, rhs i = fr (i 0).val (i 1).val) (ha : ∀ i, acc i = 0)
    (i : (⟨2, ![M, N]⟩ : Shape).Idx) :
    FloatOps.matmul (DotDims.transposedRhs M K N) prec lhs rhs acc i
      = ∑ k : Fin K, fl (i 0).val k.val * fr (i 1).val k.val := by
  have e : i = ix2 (i 0 : Fin M) (i 1 : Fin N) := funext fun a => by match a with | ⟨0, _⟩ => rfl | ⟨1, _⟩ => rfl
  refine (congrArg _ e).trans ((Ideal.matmul_transposedRhs_apply prec lhs rhs acc (i 0) (i 1)).trans ?_)
  rw [ha, zero_add]
  exact Finset.sum_congr rfl fun k _ => by rw [hl, hr]; rfl

theorem zero_at {s : Shape} (i : s.Idx) : (constant s .f32 0x00000000#32 : FVec Ideal s .f32) i = 0 := by
  pointwise

variable {α : Type}

theorem cast_same {s : Shape} (x : s.Idx → α) (h : s.ShapeCasts s) (j : s.Idx) : shapeCast s x h j = x j :=
  shapeCast_apply x h j j rfl

end Cert.Mlstm

end
-- ==== Proof.BlockOps.lean ====
/-
  The layout operations the mLSTM kernel's body uses, read at an index.
-/
module

public import proofs.«01_k».proof.Proof.Blocks
public import proofs.«01_k».proof.Proof.Products

@[expose] public section

noncomputable section

namespace Cert.Mlstm

open Idealize.ShloMosaic Cert.KernelIdeal Cert.KernelIdeal.Gen

variable {α : Type}

theorem cast_stat (x : S1x1x256x128.Idx → α) (h : S1x1x256x128.ShapeCasts S256x128) (j : S256x128.Idx) :
    shapeCast S256x128 x h j = x (ix4 0 0 (j 0) (j 1)) :=
  shapeCast_apply x h j _ (by rw [Shape.rowMajor_val_four, Shape.rowMajor_val_two]; simp [ix4])

theorem cast_state (x : S256x256.Idx → α) (h : S256x256.ShapeCasts S1x256x256) (j : S1x256x256.Idx) :
    shapeCast S1x256x256 x h j = x (ix2 (j 1) (j 2)) :=
  shapeCast_apply x h j _ (by
    have h0 : (j 0).val < 1 := (j 0).isLt
    rw [Shape.rowMajor_val_three, Shape.rowMajor_val_two]; simp [ix2]; omega)

theorem cast_state' (x : S1x256x256.Idx → α) (h : S1x256x256.ShapeCasts S256x256) (j : S256x256.Idx) :
    shapeCast S256x256 x h j = x (ix3 0 (j 0) (j 1)) :=
  shapeCast_apply x h j _ (by rw [Shape.rowMajor_val_three, Shape.rowMajor_val_two]; simp [ix3])

theorem cast_norm (x : S1x256.Idx → α) (h : S1x256.ShapeCasts S1x1x256) (j : S1x1x256.Idx) :
    shapeCast S1x1x256 x h j = x (ix2 0 (j 2)) :=
  shapeCast_apply x h j _ (by
    have h0 : (j 0).val < 1 := (j 0).isLt
    have h1 : (j 1).val < 1 := (j 1).isLt
    rw [Shape.rowMajor_val_three, Shape.rowMajor_val_two]; simp [ix2]; omega)

theorem cast_norm' (x : S1x1x256.Idx → α) (h : S1x1x256.ShapeCasts S1x256) (j : S1x256.Idx) :
    shapeCast S1x256 x h j = x (ix3 0 0 (j 1)) :=
  shapeCast_apply x h j _ (by
    have h0 : (j 0).val < 1 := (j 0).isLt
    rw [Shape.rowMajor_val_three, Shape.rowMajor_val_two]; simp [ix3]; omega)

theorem cast_row (x : S1x1x1x256.Idx → α) (h : S1x1x1x256.ShapeCasts S1x256) (j : S1x256.Idx) :
    shapeCast S1x256 x h j = x (ix4 0 0 0 (j 1)) :=
  shapeCast_apply x h j _ (by
    have h0 : (j 0).val < 1 := (j 0).isLt
    rw [Shape.rowMajor_val_four, Shape.rowMajor_val_two]; simp [ix4]; omega)

theorem cast_col (x : S1x1x256x1.Idx → α) (h : S1x1x256x1.ShapeCasts S256x1) (j : S256x1.Idx) :
    shapeCast S256x1 x h j = x (ix4 0 0 (j 0) 0) :=
  shapeCast_apply x h j _ (by
    have h0 : (j 1).val < 1 := (j 1).isLt
    rw [Shape.rowMajor_val_four, Shape.rowMajor_val_two]; simp [ix4]; omega)

theorem cast_sum (x : S256.Idx → α) (h : S256.ShapeCasts S256x1) (j : S256x1.Idx) :
    shapeCast S256x1 x h j = x (ix1 (j 0)) :=
  shapeCast_apply x h j _ (by
    have h0 : (j 1).val < 1 := (j 1).isLt
    rw [Shape.rowMajor_val_one, Shape.rowMajor_val_two]; simp [ix1]; omega)

end Cert.Mlstm

end
-- ==== Proof.BlockConv.lean ====
/-
  The convolution of one chunk: the band and edge products are the three-tap convolution of the whole sequence.
-/
module

public import proofs.«01_k».proof.Proof.BlockOps
public import Idealize.ShloMosaic.Lib.Pointwise.SelectCore
public import Idealize.ShloMosaic.Lib.WordCmp

@[expose] public section

noncomputable section

namespace Cert.Mlstm

open Idealize.ShloMosaic Cert.KernelIdeal Cert.KernelIdeal.Gen

/-- A row of indicators picks one term. -/
theorem pick (n a : Nat) (g : Nat → EReal) :
    ∑ k ∈ Finset.range n, (if k + 1 = a then (1 : EReal) else 0) * g k = if a = 0 ∨ n < a then 0 else g (a - 1) := by
  by_cases h : a = 0 ∨ n < a
  · rw [if_pos h]
    refine Finset.sum_eq_zero fun k hk => ?_
    have hk' := Finset.mem_range.mp hk
    rw [if_neg (by omega), zero_mul]
  · rw [if_neg h, Finset.sum_eq_single (a - 1)]
    · rw [if_pos (by omega), one_mul]
    · intro k _ hk
      rw [if_neg (by omega), zero_mul]
    · intro hk
      exact absurd (Finset.mem_range.mpr (by omega)) hk

/-- The stacked products. -/
def stack (X W : Nat → Nat → EReal) (j e : Nat) : EReal :=
  if j < 256 then X j e * W 0 e else if j - 256 < 256 then X (j - 256) e * W 1 e else X (j - 256 - 256) e * W 2 e

def bandAt (t j : Nat) : EReal := if j % 256 + 1 = t + j / 256 then 1 else 0
def edgeAt (t j : Nat) : EReal := if t = 0 ∧ j = 0 ∨ t = 255 ∧ j = 1 then 1 else 0

theorem band_sum (X W : Nat → Nat → EReal) (t e : Nat) (ht : t < 256) :
    ∑ k : Fin 768, bandAt t k.val * stack X W k.val e
      = ((if t = 0 then 0 else X (t - 1) e * W 0 e) + X t e * W 1 e)
        + (if t = 255 then 0 else X (t + 1) e * W 2 e) := by
  rw [Fin.sum_univ_eq_sum_range (fun k => bandAt t k * stack X W k e) 768,
    show 768 = 256 + 256 + 256 from rfl, Finset.sum_range_add, Finset.sum_range_add]
  congr 1
  · congr 1
    · refine (Finset.sum_congr rfl fun k hk => ?_).trans ((pick 256 t fun k => X k e * W 0 e).trans ?_)
      · have hk' := Finset.mem_range.mp hk
        unfold bandAt stack
        rw [if_pos hk', Nat.mod_eq_of_lt hk', Nat.div_eq_of_lt hk']; rfl
      · by_cases h : t = 0
        · rw [if_pos (.inl h), if_pos h]
        · rw [if_neg (by omega), if_neg h]
    · refine (Finset.sum_congr rfl fun k hk => ?_).trans ((pick 256 (t + 1) fun k => X k e * W 1 e).trans ?_)
      · have hk' := Finset.mem_range.mp hk
        have e1 : (256 + k) % 256 = k := by omega
        have e2 : (256 + k) / 256 = 1 := by omega
        have e3 : 256 + k - 256 = k := by omega
        unfold bandAt stack
        rw [e1, e2, e3, if_neg (show ¬ 256 + k < 256 by omega), if_pos hk']
      · rw [if_neg (by omega)]; rfl
  · refine (Finset.sum_congr rfl fun k hk => ?_).trans ((pick 256 (t + 2) fun k => X k e * W 2 e).trans ?_)
    · have hk' := Finset.mem_range.mp hk
      have e1 : (256 + 256 + k) % 256 = k := by omega
      have e2 : (256 + 256 + k) / 256 = 2 := by omega
      have e3 : 256 + 256 + k - 256 - 256 = k := by omega
      unfold bandAt stack
      rw [e1, e2, e3, if_neg (show ¬ 256 + 256 + k < 256 by omega), if_neg (show ¬ 256 + 256 + k - 256 < 256 by omega)]
    · by_cases h : t = 255
      · rw [if_pos (by omega), if_pos h]
      · rw [if_neg (by omega), if_neg h]; rfl

theorem edge_sum (G : Nat → Nat → EReal) (t e : Nat) :
    ∑ k : Fin 16, edgeAt t k.val * G k.val e = if t = 0 then G 0 e else if t = 255 then G 1 e else 0 := by
  by_cases h0 : t = 0
  · rw [if_pos h0, Finset.sum_eq_single 0]
    · rw [edgeAt, if_pos (.inl ⟨h0, rfl⟩), one_mul]; rfl
    · intro k _ hk
      have hv : k.val ≠ 0 := fun h => hk (Fin.ext h)
      rw [edgeAt, if_neg (by omega), zero_mul]
    · intro h; exact absurd (Finset.mem_univ _) h
  · rw [if_neg h0]
    by_cases h1 : t = 255
    · rw [if_pos h1, Finset.sum_eq_single 1]
      · rw [edgeAt, if_pos (.inr ⟨h1, rfl⟩), one_mul]; rfl
      · intro k _ hk
        have hv : k.val ≠ 1 := fun h => hk (Fin.ext h)
        rw [edgeAt, if_neg (by omega), zero_mul]
      · intro h; exact absurd (Finset.mem_univ _) h
    · rw [if_neg h1]
      refine Finset.sum_eq_zero fun k _ => ?_
      rw [edgeAt, if_neg (by omega), zero_mul]

/-- What the band leaves at a row of the block, and with the edge's two rows. -/
def innerAt (X W : Nat → Nat → EReal) (t e : Nat) : EReal :=
  ((if t = 0 then 0 else X (t - 1) e * W 0 e) + X t e * W 1 e) + (if t = 255 then 0 else X (t + 1) e * W 2 e)
def edgedAt (Y G : Nat → Nat → EReal) (t e : Nat) : EReal :=
  Y t e + (if t = 0 then G 0 e else if t = 255 then G 1 e else 0)

/-- The halo's rows with one row put in. -/
def putRow (r : Nat) (p : Nat → EReal) (G : Nat → Nat → EReal) (t e : Nat) : EReal := if t = r then p e else G t e

section Blocks

variable {X W : Nat → Nat → EReal} {B : Nat → EReal}
variable {w : Vec Ideal S3x256 .f32} {x : Vec Ideal S256x256 .bf16} {band : Vec Ideal S256x768 .bf16}
variable {edge : Vec Ideal S256x16 .bf16} {b : Vec Ideal S1x256 .f32}

theorem tap0_at (hw : ∀ i, w i = W (i 0).val (i 1).val) (hx : ∀ i, x i = X (i 0).val (i 1).val) (i : S256x256.Idx) :
    tap0 w x i = X (i 0).val (i 1).val * W 0 (i 1).val := by
  unfold tap0
  pointwise [hx, hw]
theorem tap1_at (hw : ∀ i, w i = W (i 0).val (i 1).val) (hx : ∀ i, x i = X (i 0).val (i 1).val) (i : S256x256.Idx) :
    tap1 w x i = X (i 0).val (i 1).val * W 1 (i 1).val := by
  unfold tap1
  pointwise [hx, hw]
theorem tap2_at (hw : ∀ i, w i = W (i 0).val (i 1).val) (hx : ∀ i, x i = X (i 0).val (i 1).val) (i : S256x256.Idx) :
    tap2 w x i = X (i 0).val (i 1).val * W 2 (i 1).val := by
  unfold tap2
  pointwise [hx, hw]

/-- Three blocks stacked, read at a row. -/
theorem stack_at {y₀ y₁ y₂ : FVec Ideal S256x256 .bf16} (hw : ∀ i, y₀ i = X (i 0).val (i 1).val * W 0 (i 1).val)
    (h1 : ∀ i, y₁ i = X (i 0).val (i 1).val * W 1 (i 1).val) (h2 : ∀ i, y₂ i = X (i 0).val (i 1).val * W 2 (i 1).val)
    (i : S768x256.Idx) :
    concatenate S768x256 0 [⟨S256x256, y₀⟩, ⟨S256x256, y₁⟩, ⟨S256x256, y₂⟩]
      concatenates_S256x256_S256x256_S256x256_S768x256_d0 i = stack X W (i 0).val (i 1).val := by
  have side : ∀ (y : Fin 256) (a : Fin 2), a.cast rfl ≠ (0 : Fin S768x256.rank) →
      (ix2 y (i 1) : S256x256.Idx) a = (i (a.cast rfl)).val := by
    intro y a ha
    match a with
    | ⟨0, _⟩ => exact absurd rfl ha
    | ⟨1, _⟩ => rfl
  have hi : (i 0).val < 768 := (i 0).isLt
  unfold stack
  by_cases h : (i 0).val < 256
  · rw [if_pos h]
    exact (concatenate_apply_piece 0 _ _ i 0 (by simp) S256x256 y₀ rfl rfl 0 rfl (ix2 ⟨(i 0).val, h⟩ (i 1))
      (side _) (Nat.zero_add _)).trans (hw _)
  · rw [if_neg h]
    by_cases h' : (i 0).val - 256 < 256
    · rw [if_pos h']
      exact (concatenate_apply_piece 0 _ _ i 1 (by simp) S256x256 y₁ rfl rfl 256 rfl
        (ix2 ⟨(i 0).val - 256, h'⟩ (i 1)) (side _) (Nat.add_sub_cancel' (by omega))).trans (h1 _)
    · rw [if_neg h']
      exact (concatenate_apply_piece 0 _ _ i 2 (by simp) S256x256 y₂ rfl rfl 512 rfl
        (ix2 ⟨(i 0).val - 256 - 256, by omega⟩ (i 1)) (side _)
        (show 512 + ((i 0).val - 256 - 256) = (i 0).val by omega)).trans (h2 _)

theorem inner_at (hw : ∀ i, w i = W (i 0).val (i 1).val) (hx : ∀ i, x i = X (i 0).val (i 1).val)
    (hb : ∀ i, band i = bandAt (i 0).val (i 1).val) (i : S256x256.Idx) :
    inner w x band i = innerAt X W (i 0).val (i 1).val :=
  (plain_at (M := 256) (K := 768) (N := 256) none _ _ _ (fl := bandAt) (fr := stack X W)
    (fun i => (cast_same _ _ i).trans (hb i)) (stack_at (tap0_at hw hx) (tap1_at hw hx) (tap2_at hw hx)) zero_at i).trans
    (band_sum X W _ _ (i 0).isLt)

theorem edged_at {y : FVec Ideal S256x256 .f32} {h : FVec Ideal S16x256 .f32} {Y G : Nat → Nat → EReal}
    (hy : ∀ i, y i = Y (i 0).val (i 1).val) (he : ∀ i, edge i = edgeAt (i 0).val (i 1).val)
    (hh : ∀ i, h i = G (i 0).val (i 1).val) (i : S256x256.Idx) :
    edged y edge h i = edgedAt Y G (i 0).val (i 1).val := by
  refine (congrArg₂ (· + ·) (hy i) ?_ : _)
  exact (plain_at (M := 256) (K := 16) (N := 256) none _ _ _ (fl := edgeAt) (fr := G)
    (fun i => (cast_same _ _ i).trans (he i)) hh zero_at i).trans (edge_sum G _ _)

theorem biased_at {y : FVec Ideal S256x256 .f32} {Y : Nat → Nat → EReal}
    (hy : ∀ i, y i = Y (i 0).val (i 1).val) (hb : ∀ i, b i = B (i 1).val) (i : S256x256.Idx) :
    biased y b i = Y (i 0).val (i 1).val + B (i 1).val := by
  unfold biased
  pointwise [hy, hb]

theorem halo_at (i : S16x256.Idx) : (halo : FVec Ideal S16x256 .f32) i = 0 := by
  unfold halo
  pointwise

theorem withPrev_at {xp : Vec Ideal S16x256 .bf16} {h : FVec Ideal S16x256 .f32} {P G : Nat → Nat → EReal}
    (hw : ∀ i, w i = W (i 0).val (i 1).val) (hp : ∀ i, xp i = P (i 0).val (i 1).val)
    (hh : ∀ i, h i = G (i 0).val (i 1).val) (i : S16x256.Idx) :
    withPrev w xp h i = putRow 0 (fun e => P 15 e * W 0 e) G (i 0).val (i 1).val := by
  have h0 : (i 0).val < 16 := (i 0).isLt
  unfold withPrev
  pointwise [cast_same, hh, hp, hw]
  rw [WordCmp.cmpi_eq_ofNat (a := (i 0).val) (b := 0) (by omega) (by omega), Scalar.select_decide]
  rfl

theorem withNext_at {xn : Vec Ideal S16x256 .bf16} {h : FVec Ideal S16x256 .f32} {P G : Nat → Nat → EReal}
    (hw : ∀ i, w i = W (i 0).val (i 1).val) (hp : ∀ i, xn i = P (i 0).val (i 1).val)
    (hh : ∀ i, h i = G (i 0).val (i 1).val) (i : S16x256.Idx) :
    withNext w xn h i = putRow 1 (fun e => P 0 e * W 2 e) G (i 0).val (i 1).val := by
  have h0 : (i 0).val < 16 := (i 0).isLt
  unfold withNext
  pointwise [cast_same, hh, hp, hw]
  rw [WordCmp.cmpi_eq_ofNat (a := (i 0).val) (b := 1) (by omega) (by omega), Scalar.select_decide]
  rfl

/-- The convolution with its bias, for a chunk of the long sequence whose halo rows are known. -/
theorem conv_chunk {h : FVec Ideal S16x256 .f32} {G : Nat → Nat → EReal} (c : Nat) (hc : c < 8)
    (hw : ∀ i, w i = W (i 0).val (i 1).val) (hx : ∀ i, x i = X (256 * c + (i 0).val) (i 1).val)
    (hn : ∀ i, band i = bandAt (i 0).val (i 1).val) (he : ∀ i, edge i = edgeAt (i 0).val (i 1).val)
    (hb : ∀ i, b i = B (i 1).val) (hh : ∀ i, h i = G (i 0).val (i 1).val)
    (g0 : ∀ e, G 0 e = if c = 0 then 0 else X (256 * c - 1) e * W 0 e)
    (g1 : ∀ e, G 1 e = if c = 7 then 0 else X (256 * c + 256) e * W 2 e) (i : S256x256.Idx) :
    biased (edged (inner w x band) edge h) b i = conv 2048 X W B (256 * c + (i 0).val) (i 1).val := by
  have ht : (i 0).val < 256 := (i 0).isLt
  refine (biased_at (edged_at (inner_at (X := fun t e => X (256 * c + t) e) hw hx hn) he hh) hb i).trans ?_
  unfold conv edgedAt innerAt
  congr 1
  rw [g0, g1]
  generalize (i 0).val = t at ht
  generalize (i 1).val = e
  by_cases h0 : t = 0
  · subst h0
    rw [if_pos rfl, if_neg (show ¬ 0 = 255 by omega), if_pos rfl, zero_add, if_neg (show ¬ 256 * c + 0 + 1 = 2048 by omega)]
    by_cases hc0 : c = 0
    · rw [if_pos hc0, if_pos (show 256 * c + 0 = 0 by omega), zero_mul, zero_add, zero_add, add_zero]
    · rw [if_neg hc0, if_neg (show ¬ 256 * c + 0 = 0 by omega), add_comm, ← add_assoc]; rfl
  · rw [if_neg h0, if_neg h0, if_neg (show ¬ 256 * c + t = 0 by omega), show 256 * c + t - 1 = 256 * c + (t - 1) by omega]
    by_cases h1 : t = 255
    · subst h1
      rw [if_pos rfl, if_pos rfl, add_zero]
      by_cases hc7 : c = 7
      · rw [if_pos hc7, if_pos (show 256 * c + 255 + 1 = 2048 by omega), zero_mul]
      · rw [if_neg hc7, if_neg (show ¬ 256 * c + 255 + 1 = 2048 by omega)]
    · rw [if_neg h1, if_neg h1, add_zero, if_neg (show ¬ 256 * c + t + 1 = 2048 by omega)]; rfl

/-- The same for the context, which is one chunk. -/
theorem conv_whole (hw : ∀ i, w i = W (i 0).val (i 1).val) (hx : ∀ i, x i = X (i 0).val (i 1).val)
    (hn : ∀ i, band i = bandAt (i 0).val (i 1).val) (hb : ∀ i, b i = B (i 1).val) (i : S256x256.Idx) :
    biased (inner w x band) b i = conv 256 X W B (i 0).val (i 1).val := by
  refine (biased_at (inner_at hw hx hn) hb i).trans ?_
  unfold conv innerAt
  congr 1
  generalize (i 0).val = t
  generalize (i 1).val = e
  congr 1
  · congr 1
    by_cases h0 : t = 0
    · rw [if_pos h0, if_pos h0, zero_mul]
    · rw [if_neg h0, if_neg h0]
  · by_cases h0 : t = 255
    · rw [if_pos h0, if_pos (show t + 1 = 256 by omega), zero_mul]
    · rw [if_neg h0, if_neg (show ¬ t + 1 = 256 by omega)]

/-- The first, the middle and the last chunk's halo rows. -/
theorem conv_first {xn : Vec Ideal S16x256 .bf16} (hw : ∀ i, w i = W (i 0).val (i 1).val)
    (hx : ∀ i, x i = X (256 * 0 + (i 0).val) (i 1).val) (hxn : ∀ i, xn i = X (256 * 0 + 256 + (i 0).val) (i 1).val)
    (hn : ∀ i, band i = bandAt (i 0).val (i 1).val) (he : ∀ i, edge i = edgeAt (i 0).val (i 1).val)
    (hb : ∀ i, b i = B (i 1).val) (i : S256x256.Idx) :
    biased (edged (inner w x band) edge (withNext w xn halo)) b i
      = conv 2048 X W B (256 * 0 + (i 0).val) (i 1).val :=
  conv_chunk 0 (by omega) hw hx hn he hb (G := putRow 1 (fun e => X (256 * 0 + 256 + 0) e * W 2 e) fun _ _ => 0)
    (withNext_at hw (P := fun t e => X (256 * 0 + 256 + t) e) hxn halo_at) (fun _ => rfl) (fun _ => rfl) i

theorem conv_middle {xp xn : Vec Ideal S16x256 .bf16} (c : Nat) (hc : c < 7) (hc0 : c ≠ 0)
    (hw : ∀ i, w i = W (i 0).val (i 1).val)
    (hx : ∀ i, x i = X (256 * c + (i 0).val) (i 1).val) (hxp : ∀ i, xp i = X (256 * c - 16 + (i 0).val) (i 1).val)
    (hxn : ∀ i, xn i = X (256 * c + 256 + (i 0).val) (i 1).val)
    (hn : ∀ i, band i = bandAt (i 0).val (i 1).val) (he : ∀ i, edge i = edgeAt (i 0).val (i 1).val)
    (hb : ∀ i, b i = B (i 1).val) (i : S256x256.Idx) :
    biased (edged (inner w x band) edge (withNext w xn (withPrev w xp halo))) b i
      = conv 2048 X W B (256 * c + (i 0).val) (i 1).val :=
  conv_chunk c (by omega) hw hx hn he hb (G := putRow 1 (fun e => X (256 * c + 256 + 0) e * W 2 e)
      (putRow 0 (fun e => X (256 * c - 16 + 15) e * W 0 e) fun _ _ => 0))
    (withNext_at hw (P := fun t e => X (256 * c + 256 + t) e) hxn
      (withPrev_at hw (P := fun t e => X (256 * c - 16 + t) e) hxp halo_at))
    (fun e => by rw [if_neg hc0, show 256 * c - 1 = 256 * c - 16 + 15 by omega]; rfl)
    (fun e => by rw [if_neg (show ¬ c = 7 by omega)]; rfl) i

theorem conv_last {xp : Vec Ideal S16x256 .bf16} (hw : ∀ i, w i = W (i 0).val (i 1).val)
    (hx : ∀ i, x i = X (256 * 7 + (i 0).val) (i 1).val) (hxp : ∀ i, xp i = X (256 * 7 - 16 + (i 0).val) (i 1).val)
    (hn : ∀ i, band i = bandAt (i 0).val (i 1).val) (he : ∀ i, edge i = edgeAt (i 0).val (i 1).val)
    (hb : ∀ i, b i = B (i 1).val) (i : S256x256.Idx) :
    biased (edged (inner w x band) edge (withPrev w xp halo)) b i
      = conv 2048 X W B (256 * 7 + (i 0).val) (i 1).val :=
  conv_chunk 7 (by omega) hw hx hn he hb (G := putRow 0 (fun e => X (256 * 7 - 16 + 15) e * W 0 e) fun _ _ => 0)
    (withPrev_at hw (P := fun t e => X (256 * 7 - 16 + t) e) hxp halo_at) (fun _ => rfl) (fun _ => rfl) i

end Blocks

end Cert.Mlstm

end
-- ==== Proof.Logistic.lean ====
/-
  The logistic function: half the hyperbolic tangent of half the argument, plus a half.
-/
module

public import proofs.«01_k».proof.Proof.Spec
public import Idealize.ShloMosaic.Lib.IdealHost
public import Mathlib.Analysis.SpecialFunctions.Trigonometric.DerivHyp

@[expose] public section

noncomputable section

namespace Cert.Mlstm

open Idealize.ShloMosaic

/-- Zero, a half and one as 32-bit literals. -/
theorem zero_f32 : Ideal.ofBits .f32 0x00000000#32 = 0 := by
  simp [Ideal.ofBits, Ideal.ieee, -EReal.coe_mul]
theorem half_lit : Ideal.ofBits .f32 0x3F000000#32 = ((1 / 2 : ℝ) : EReal) := by
  simp [Ideal.ofBits, Ideal.ieee, -EReal.coe_mul]
  norm_num
theorem one_lit : Ideal.ofBits .f32 0x3F800000#32 = 1 := by
  rw [show (1 : EReal) = ((1 : ℝ) : EReal) by norm_cast]
  simp [Ideal.ofBits, Ideal.ieee, -EReal.coe_mul]
  norm_num

theorem real_half_tanh (r : ℝ) : 1 / 2 * Real.tanh (1 / 2 * r) + 1 / 2 = (1 + Real.exp (-r))⁻¹ := by
  rw [Real.tanh_eq_sinh_div_cosh, Real.sinh_eq, Real.cosh_eq]
  have e : Real.exp (-r) = Real.exp (-(1 / 2 * r)) * Real.exp (-(1 / 2 * r)) := by
    rw [← Real.exp_add]; ring_nf
  have e' : Real.exp (1 / 2 * r) * Real.exp (-(1 / 2 * r)) = 1 := by
    rw [← Real.exp_add]; simp
  rw [e]
  have h1 := Real.exp_pos (1 / 2 * r)
  have h2 := Real.exp_pos (-(1 / 2 * r))
  generalize Real.exp (1 / 2 * r) = a at *
  generalize Real.exp (-(1 / 2 * r)) = b at *
  field_simp
  nlinarith

theorem half_tanh (y : EReal) :
    ((1 / 2 : ℝ) : EReal) * Ideal.tanh (((1 / 2 : ℝ) : EReal) * y) + ((1 / 2 : ℝ) : EReal) = sg y := by
  unfold sg
  induction y with
  | bot =>
    rw [EReal.coe_mul_bot_of_pos (by norm_num), Ideal.tanh_bot, EReal.neg_bot, Ideal.exp_top,
      show (1 : EReal) + ⊤ = ⊤ from EReal.add_top_of_ne_bot (by decide), Ideal.div, if_neg (by decide), EReal.inv_top,
      mul_zero, show (-1 : EReal) = ((-1 : ℝ) : EReal) from rfl, ← EReal.coe_mul, ← EReal.coe_add]
    norm_num
  | top =>
    rw [EReal.coe_mul_top_of_pos (by norm_num), Ideal.tanh_top, EReal.neg_top, Ideal.exp_bot]
    simp [Ideal.div]
    norm_cast
    norm_num
  | coe r =>
    rw [← EReal.coe_mul, Ideal.tanh_coe, ← EReal.coe_mul, ← EReal.coe_add, real_half_tanh, ← EReal.coe_neg, Ideal.exp_coe]
    have hp : 0 < 1 + Real.exp (-r) := by positivity
    rw [show (1 : EReal) + (Real.exp (-r) : EReal) = ((1 + Real.exp (-r) : ℝ) : EReal) by norm_cast, Ideal.div,
      if_neg (by exact_mod_cast hp.ne'), one_mul, EReal.coe_inv]

end Cert.Mlstm

end
-- ==== Proof.BlockOut.lean ====
/-
  One chunk's output at extended reals: a direction's part, the norm and the gate.
-/
module

public import proofs.«01_k».proof.Proof.BlockOps
public import proofs.«01_k».proof.Proof.Logistic
public import Idealize.ShloMosaic.Lib.Pointwise.SelectCore
public import Idealize.ShloMosaic.Lib.WordCmp
public import Idealize.ShloMosaic.Lib.Pointwise.Reduce

@[expose] public section

noncomputable section

namespace Cert.Mlstm

open Idealize.ShloMosaic Cert.KernelIdeal Cert.KernelIdeal.Gen

theorem gate_at {y : FVec Ideal S256x256 .f32} (i : S256x256.Idx) : gate y i = sg (y i) := by
  unfold gate
  pointwise
  rw [half_lit]
  exact half_tanh _

theorem siluBlk_at {y : FVec Ideal S256x256 .f32} (i : S256x256.Idx) : siluBlk y i = silu (y i) := by
  unfold siluBlk silu
  rw [← gate_at]
  rfl

theorem scaled_at {y : FVec Ideal S256x256 .f32} (i : S256x256.Idx) : scaled y i = y i * kscale := rfl

theorem stored_at {y : FVec Ideal S256x256 .f32} (i : S256x256.Idx) : stored y i = y i := cast_same _ _ i

theorem before_at (i : S256x256.Idx) : before i = BitVec.ofBool (decide ((i 1).val ≤ (i 0).val)) := by
  have h0 : (i 0).val < 256 := (i 0).isLt
  have h1 : (i 1).val < 256 := (i 1).isLt
  unfold before
  pointwise
  rw [WordCmp.cmpi_sle_ofNat (by omega) (by omega)]

theorem after_at (i : S256x256.Idx) : after i = BitVec.ofBool (decide ((i 0).val ≤ (i 1).val)) := by
  have h0 : (i 0).val < 256 := (i 0).isLt
  have h1 : (i 1).val < 256 := (i 1).isLt
  unfold after
  pointwise
  rw [WordCmp.cmpi_sge_ofNat (by omega) (by omega)]

theorem scores_at {q k : Vec Ideal S256x256 .bf16} {fq fk : Nat → Nat → EReal}
    (hq : ∀ i, q i = fq (i 0).val (i 1).val) (hk : ∀ i, k i = fk (i 0).val (i 1).val) (i : S256x256.Idx) :
    scores q k i = ∑ e : Fin 256, fq (i 0).val e.val * fk (i 1).val e.val :=
  across_at (M := 256) (K := 256) (N := 256) none q k _ hq hk zero_at i

theorem colOf_at {x : Vec Ideal S1x1x256x1 .f32} {f : Nat → EReal} (hx : ∀ i, x i = f (i 2).val) (i : S256x1.Idx) :
    colOf x i = f (i 0).val := (cast_col _ _ i).trans (hx _)

theorem exp_masked (p : Prop) [Decidable p] (r M : EReal) :
    (if p then Ideal.exp (r - M) else 0) = Ideal.exp ((if p then r else ⊥) - M) := by
  by_cases h : p
  · rw [if_pos h, if_pos h]
  · rw [if_neg h, if_neg h, EReal.bot_sub, Ideal.exp_bot]

theorem gated_at {m : IVec S256x256 1} {s : FVec Ideal S256x256 .f32} {r : Vec Ideal S1x1x1x256 .f32}
    {bigM : Vec Ideal S1x1x256x1 .f32} {p : Nat → Nat → Prop} [∀ t s, Decidable (p t s)] {fs : Nat → Nat → EReal}
    {fr fM : Nat → EReal} (hm : ∀ i, m i = BitVec.ofBool (decide (p (i 0).val (i 1).val)))
    (hs : ∀ i, s i = fs (i 0).val (i 1).val) (hr : ∀ i, r i = fr (i 3).val) (hM : ∀ i, bigM i = fM (i 2).val)
    (i : S256x256.Idx) :
    gated m s r bigM i = Ideal.exp ((if p (i 0).val (i 1).val then fr (i 1).val else ⊥) - fM (i 0).val)
      * fs (i 0).val (i 1).val := by
  unfold gated
  pointwise [hm, hs, cast_row, hr, colOf_at hM]
  rw [← exp_masked]

theorem rowSum_at {x : FVec Ideal S256x256 .f32} {f : Nat → Nat → EReal} (hx : ∀ i, x i = f (i 0).val (i 1).val)
    (i : S256x1.Idx) : rowSum x i = ∑ e : Fin 256, f (i 0).val e.val := by
  unfold rowSum
  rw [cast_sum]
  refine (Ideal.reduceAdd_r2_a1 _ _ _).trans (Finset.sum_congr rfl fun k _ => ?_)
  exact hx _

theorem denBlk_at {p : FVec Ideal S256x256 .f32} {q : Vec Ideal S256x256 .bf16} {sInt : Vec Ideal S1x1x256x1 .f32}
    {n : Vec Ideal S1x1x256 .f32} {fp fq : Nat → Nat → EReal} {fS fn : Nat → EReal}
    (hp : ∀ i, p i = fp (i 0).val (i 1).val) (hq : ∀ i, q i = fq (i 0).val (i 1).val) (hS : ∀ i, sInt i = fS (i 2).val)
    (hn : ∀ i, n i = fn (i 2).val) (i : S256x1.Idx) :
    denBlk p q sInt n i = (∑ s : Fin 256, fp (i 0).val s.val)
      + fS (i 0).val * ∑ f : Fin 256, fn f.val * fq (i 0).val f.val := by
  unfold denBlk
  pointwise [colOf_at hS]
  rw [rowSum_at hp, rowSum_at (f := fun t f => fn f * fq t f) (fun i => by
    pointwise [hq, cast_norm', hn]
    exact mul_comm _ _)]

theorem numBlk_at {p : FVec Ideal S256x256 .f32} {q v : Vec Ideal S256x256 .bf16} {sInt : Vec Ideal S1x1x256x1 .f32}
    {ct : Vec Ideal S1x256x256 .bf16} {fp fq fv fc : Nat → Nat → EReal} {fS : Nat → EReal}
    (hp : ∀ i, p i = fp (i 0).val (i 1).val) (hq : ∀ i, q i = fq (i 0).val (i 1).val)
    (hv : ∀ i, v i = fv (i 0).val (i 1).val) (hS : ∀ i, sInt i = fS (i 2).val)
    (hc : ∀ i, ct i = fc (i 1).val (i 2).val) (i : S256x256.Idx) :
    numBlk p q v sInt ct i = (∑ s : Fin 256, fp (i 0).val s.val * fv s.val (i 1).val)
      + fS (i 0).val * ∑ f : Fin 256, fq (i 0).val f.val * fc f.val (i 1).val := by
  refine congrArg₂ (· + ·) ?_ (congrArg₂ (· * ·) ?_ ?_)
  · exact plain_at (φ₁ := .bf16) (φ₂ := .bf16) (M := 256) (K := 256) (N := 256) none _ _ _ hp hv zero_at i
  · pointwise [colOf_at hS]
  · exact plain_at (φ₁ := .bf16) (φ₂ := .bf16) (M := 256) (K := 256) (N := 256) none _ _ _ hq (fun i => (cast_state' _ _ i).trans (hc _)) zero_at i

/-- The reciprocal taken first. -/
theorem recip_mul (x y : EReal) (hy : y ≠ 0) : x * Ideal.div 1 y = Ideal.div x y := by
  unfold Ideal.div
  rw [if_neg hy, if_neg hy, one_mul]

theorem quot_at {num : FVec Ideal S256x256 .f32} {den : FVec Ideal S256x1 .f32} {eNeg : Vec Ideal S1x1x256x1 .f32}
    {fn : Nat → Nat → EReal} {fd fe : Nat → EReal}
    (hn : ∀ i, num i = fn (i 0).val (i 1).val) (hd : ∀ i, den i = fd (i 0).val) (he : ∀ i, eNeg i = fe (i 2).val)
    (hpos : ∀ t, t < 256 → 0 < fe t) (i : S256x256.Idx) :
    quot num den eNeg i = Ideal.div (fn (i 0).val (i 1).val) (max (max (fd (i 0).val) (-(fd (i 0).val))) (fe (i 0).val)) := by
  have hp := hpos (i 0).val (i 0).isLt
  unfold quot
  pointwise [hn, hd, colOf_at he]
  exact recip_mul _ _ (lt_of_lt_of_le hp (le_max_right _ _)).ne'

theorem mean_at {h : FVec Ideal S256x256 .f32} {f : Nat → Nat → EReal} (hh : ∀ i, h i = f (i 0).val (i 1).val)
    (i : S256x1.Idx) : mean h i = Ideal.div (∑ e : Fin 256, f (i 0).val e.val) width := by
  unfold mean
  pointwise [rowSum_at hh]
  rfl

theorem centred_at {h : FVec Ideal S256x256 .f32} {f : Nat → Nat → EReal} (hh : ∀ i, h i = f (i 0).val (i 1).val)
    (i : S256x256.Idx) :
    centred h i = f (i 0).val (i 1).val - Ideal.div (∑ e : Fin 256, f (i 0).val e.val) width := by
  unfold centred
  pointwise [hh, mean_at hh]

theorem normed_at {h : FVec Ideal S256x256 .f32} {nw : Vec Ideal S1x256 .f32} {o : Vec Ideal S256x256 .bf16}
    {f fo : Nat → Nat → EReal} {fw : Nat → EReal} (hh : ∀ i, h i = f (i 0).val (i 1).val)
    (hw : ∀ i, nw i = fw (i 1).val) (ho : ∀ i, o i = fo (i 0).val (i 1).val) (i : S256x256.Idx) :
    normed h nw o i = (f (i 0).val (i 1).val - Ideal.div (∑ e : Fin 256, f (i 0).val e.val) width)
      * Ideal.rsqrt (Ideal.div (∑ e : Fin 256,
          (f (i 0).val e.val - Ideal.div (∑ e' : Fin 256, f (i 0).val e'.val) width)
          * (f (i 0).val e.val - Ideal.div (∑ e' : Fin 256, f (i 0).val e'.val) width)) width + eps)
      * fw (i 1).val * sg (fo (i 0).val (i 1).val) := by
  have hv : ∀ i, mean (mulf (centred h) (centred h)) i = Ideal.div (∑ e : Fin 256,
      (f (i 0).val e.val - Ideal.div (∑ e' : Fin 256, f (i 0).val e'.val) width)
        * (f (i 0).val e.val - Ideal.div (∑ e' : Fin 256, f (i 0).val e'.val) width)) width :=
    mean_at (f := fun t e => (f t e - Ideal.div (∑ e' : Fin 256, f t e'.val) width)
      * (f t e - Ideal.div (∑ e' : Fin 256, f t e'.val) width)) (fun i => by
        pointwise [centred_at hh])
  unfold normed
  pointwise [centred_at hh, hv, hw, gate_at, ho]
  rfl

end Cert.Mlstm

end
-- ==== Proof.BlockStates.lean ====
/-
  The state computations at extended reals, element by element.
-/
module

public import proofs.«01_k».proof.Proof.BlockOps

@[expose] public section

noncomputable section

namespace Cert.Mlstm

open Idealize.ShloMosaic Cert.KernelIdeal Cert.KernelIdeal.Gen

/-- A row spread over the rows of a block, and a column over its columns. -/
theorem spread_row {α : Type} (x : S1x256.Idx → α) {f : Nat → Nat → α} (hx : ∀ i, x i = f (i 0).val (i 1).val)
    (i : S256x256.Idx) : broadcastTo S256x256 x broadcasts_S1x256_S256x256 i = f 0 (i 1).val := by
  pointwise [hx]
theorem spread_col {α : Type} (x : S256x1.Idx → α) {f : Nat → Nat → α} (hx : ∀ i, x i = f (i 0).val (i 1).val)
    (i : S256x256.Idx) : broadcastTo S256x256 x broadcasts_S256x1_S256x256 i = f (i 0).val 0 := by
  pointwise [hx]

theorem ownC_at (k v : Vec Ideal S256x256 .bf16) (w : FVec Ideal S1x256 .bf16) {fk fv fw : Nat → Nat → EReal}
    (hk : ∀ i, k i = fk (i 0).val (i 1).val) (hv : ∀ i, v i = fv (i 0).val (i 1).val)
    (hw : ∀ i, w i = fw (i 0).val (i 1).val) (i : S256x256.Idx) :
    ownC k v w i = ∑ s : Fin 256, fk s.val (i 0).val * fw 0 s.val * fv s.val (i 1).val :=
  plain_at (M := 256) (K := 256) (N := 256) none _ v _ (fl := fun a s => fk s a * fw 0 s) (fun i => by
    pointwise [hk, hw]) hv zero_at i

theorem ownN_at (k : Vec Ideal S256x256 .bf16) (w : FVec Ideal S1x256 .bf16) {fk fw : Nat → Nat → EReal}
    (hk : ∀ i, k i = fk (i 0).val (i 1).val)
    (hw : ∀ i, w i = fw (i 0).val (i 1).val) (i : S1x256.Idx) :
    ownN k w i = ∑ s : Fin 256, fw 0 s.val * fk s.val (i 1).val := by
  unfold ownN
  refine (extractStridedSlice_apply _ _ _ i (ix2 0 (i 1)) (by
    intro a
    match a with
    | ⟨0, _⟩ => have h0 : (i 0).val < 1 := (i 0).isLt
                show 0 = 0 + (i 0).val; omega
    | ⟨1, _⟩ => show (i 1).val = 0 + (i 1).val; omega)).trans ?_
  exact plain_at (M := 8) (K := 256) (N := 256) none _ k _ (fl := fun _ s => fw 0 s) (fun i => by
    pointwise [cast_same, hw]) hk zero_at (ix2 0 (i 1))

theorem stepC_at (s : Vec Ideal S1x1x1x1 .f32) (c o : FVec Ideal S256x256 .f32) {a : EReal} {fc fo : Nat → Nat → EReal}
    (hs : ∀ i, s i = a) (hc : ∀ i, c i = fc (i 0).val (i 1).val)
    (ho : ∀ i, o i = fo (i 0).val (i 1).val) (i : S256x256.Idx) :
    stepC s c o i = a * fc (i 0).val (i 1).val + fo (i 0).val (i 1).val := by
  have e : ∀ i, shapeCast S1x1 s shapeCasts_S1x1x1x1_S1x1 i = a := fun i => hs _
  unfold stepC
  pointwise [e, hc, ho]

theorem stepN_at (s : Vec Ideal S1x1x1x1 .f32) (c o : FVec Ideal S1x256 .f32) {a : EReal} {fc fo : Nat → EReal}
    (hs : ∀ i, s i = a) (hc : ∀ i, c i = fc (i 1).val)
    (ho : ∀ i, o i = fo (i 1).val) (i : S1x256.Idx) :
    stepN s c o i = a * fc (i 1).val + fo (i 1).val := by
  have e : ∀ i, shapeCast S1x1 s shapeCasts_S1x1x1x1_S1x1 i = a := fun i => hs _
  unfold stepN
  pointwise [e, hc, ho]

theorem wrow_at (s : Vec Ideal S1x1x256x128 .f32) (j : Nat) (h : S128x256.Slices ![j, 0] S1x256) {f : Nat → Nat → EReal}
    (hs : ∀ i, s i = f (i 2).val (i 3).val) (i : S1x256.Idx) : wrow s j h i = f (i 1).val j := by
  unfold wrow statT
  pointwise [cast_stat, hs]

theorem storedC_at (c : FVec Ideal S256x256 .f32) {f : Nat → Nat → EReal}
    (hs : ∀ i, c i = f (i 0).val (i 1).val) (i : S1x256x256.Idx) : storedC c i = f (i 1).val (i 2).val := by
  unfold storedC
  rw [cast_state]
  exact hs _

theorem storedN_at (n : FVec Ideal S1x256 .f32) {f : Nat → EReal}
    (hs : ∀ i, n i = f (i 1).val) (i : S1x1x256.Idx) : storedN n i = f (i 2).val := by
  unfold storedN
  rw [cast_norm]
  exact hs _

/-! ### The states of one head -/

variable {H : Head} {s : Vec Ideal S1x1x256x128 .f32}

/-- One chunk's own state is the head's. -/
theorem ownC_head (hs : ∀ i, s i = H.col (i 2).val (i 3).val) {k v : Vec Ideal S256x256 .bf16} (d c : Nat)
    (hk : ∀ i, k i = kk H (256 * c + (i 0).val) (i 1).val) (hv : ∀ i, v i = H.xv (256 * c + (i 0).val) (i 1).val)
    (h : S128x256.Slices ![8 * d + c, 0] S1x256) (i : S256x256.Idx) :
    ownC k v (wrow s (8 * d + c) h) i = locC H d c (i 1).val (i 0).val := by
  rw [ownC_at k v _ (fk := fun t e => kk H (256 * c + t) e) (fv := fun t e => H.xv (256 * c + t) e)
    (fw := fun _ t => H.col t (8 * d + c)) hk hv (wrow_at s _ h hs)]
  exact Finset.sum_congr rfl fun t _ => by rw [mul_comm (kk H _ _), mul_comm, ← mul_assoc]

theorem ownN_head (hs : ∀ i, s i = H.col (i 2).val (i 3).val) {k : Vec Ideal S256x256 .bf16} (d c : Nat)
    (hk : ∀ i, k i = kk H (256 * c + (i 0).val) (i 1).val)
    (h : S128x256.Slices ![8 * d + c, 0] S1x256) (i : S1x256.Idx) :
    ownN k (wrow s (8 * d + c) h) i = locN H d c (i 1).val :=
  ownN_at k _ (fk := fun t e => kk H (256 * c + t) e) (fw := fun _ t => H.col t (8 * d + c)) hk (wrow_at s _ h hs) i

theorem ctxC_head (hs : ∀ i, s i = H.col (i 2).val (i 3).val) {k v : Vec Ideal S256x256 .bf16} (d : Nat)
    (hk : ∀ i, k i = kc H (i 0).val (i 1).val) (hv : ∀ i, v i = H.xvc (i 0).val (i 1).val)
    (h : S128x256.Slices ![64 + d, 0] S1x256) (i : S256x256.Idx) :
    ownC k v (wrow s (64 + d) h) i = stC H d 0 (i 1).val (i 0).val := by
  rw [ownC_at k v _ (fw := fun _ t => H.col t (64 + d)) hk hv (wrow_at s _ h hs)]
  show _ = ctxC H d (i 1).val (i 0).val
  unfold ctxC
  exact Finset.sum_congr rfl fun t _ => by rw [mul_comm (kc H _ _), mul_comm, ← mul_assoc]

theorem ctxN_head (hs : ∀ i, s i = H.col (i 2).val (i 3).val) {k : Vec Ideal S256x256 .bf16} (d : Nat)
    (hk : ∀ i, k i = kc H (i 0).val (i 1).val)
    (h : S128x256.Slices ![64 + d, 0] S1x256) (i : S1x256.Idx) :
    ownN k (wrow s (64 + d) h) i = stN H d 0 (i 1).val :=
  ownN_at k _ (fw := fun _ t => H.col t (64 + d)) hk (wrow_at s _ h hs) i

/-- The state after a chunk from the state before it. -/
theorem nextC (hs : ∀ i, s i = H.col (i 2).val (i 3).val) {s' : Vec Ideal S1x1x1x1 .f32} {C : FVec Ideal S256x256 .f32}
    {k v : Vec Ideal S256x256 .bf16} (d j c : Nat) (hc : chunkAt d j = c) (h : S128x256.Slices ![8 * d + c, 0] S1x256)
    (h1 : ∀ i, s' i = H.col 0 (66 + 8 * d + c)) (hk : ∀ i, k i = kk H (256 * c + (i 0).val) (i 1).val)
    (hv : ∀ i, v i = H.xv (256 * c + (i 0).val) (i 1).val) (hC : ∀ i, C i = stC H d j (i 1).val (i 0).val)
    (i : S256x256.Idx) :
    stepC s' C (ownC k v (wrow s (8 * d + c) h)) i = stC H d (j + 1) (i 1).val (i 0).val := by
  subst hc
  exact stepC_at s' C _ (fc := fun f e => stC H d j e f) (fo := fun f e => locC H d (chunkAt d j) e f) h1 hC
    (ownC_head hs d _ hk hv h) i

theorem nextN (hs : ∀ i, s i = H.col (i 2).val (i 3).val) {s' : Vec Ideal S1x1x1x1 .f32} {C : FVec Ideal S1x256 .f32}
    {k : Vec Ideal S256x256 .bf16} (d j c : Nat) (hc : chunkAt d j = c) (h : S128x256.Slices ![8 * d + c, 0] S1x256)
    (h1 : ∀ i, s' i = H.col 0 (66 + 8 * d + c)) (hk : ∀ i, k i = kk H (256 * c + (i 0).val) (i 1).val)
    (hC : ∀ i, C i = stN H d j (i 1).val) (i : S1x256.Idx) :
    stepN s' C (ownN k (wrow s (8 * d + c) h)) i = stN H d (j + 1) (i 1).val := by
  subst hc
  exact stepN_at s' C _ h1 hC (ownN_head hs d _ hk h) i

/-- The state buffers: slot `8d + c` holds the state entering chunk `c` in direction `d`, the matrix transposed. -/
def ctAt (H : Head) (j f e : Nat) : EReal := stC H (j / 8) (chunkAt (j / 8) (j % 8)) e f
def nAt (H : Head) (j _u f : Nat) : EReal := stN H (j / 8) (chunkAt (j / 8) (j % 8)) f

end Cert.Mlstm

end
-- ==== Proof.RunConv.lean ====
/-
  What the body stores in its three convolution buffers: the queries, the keys, the context's keys.
-/
module

public import proofs.«01_k».proof.Proof.RunReads
public import proofs.«01_k».proof.Proof.BlockConv
public import proofs.«01_k».proof.Proof.BlockOut
public import proofs.«01_k».proof.Proof.BlockStates
public import proofs.«01_k».proof.Proof.Gen.KernelIdeal.Frame

@[expose] public section

noncomputable section

namespace Cert.Mlstm

open Idealize.ShloMosaic Cert.KernelIdeal Cert.KernelIdeal.Gen Cert.KernelIdeal.Gen.kernelRun0_A

section Chunks

variable {X W : Nat → Nat → EReal} {B : Nat → EReal} {x : Vec Ideal S256x256 .bf16} {xp xn : Vec Ideal S16x256 .bf16}
variable {w : Vec Ideal S3x256 .f32} {b : Vec Ideal S1x256 .f32} {band : Vec Ideal S256x768 .bf16}
variable {edge : Vec Ideal S256x16 .bf16}

/-- A stored block: silu, and silu scaled. -/
theorem plainStored {y : FVec Ideal S256x256 .f32} {Y : Nat → Nat → EReal} {r : Nat}
    (hy : ∀ i, y i = Y (r + (i 0).val) (i 1).val) (i : S256x256.Idx) :
    stored (siluBlk y) i = silu (Y (r + (i 0).val) (i 1).val) :=
  (stored_at i).trans ((siluBlk_at i).trans (congrArg silu (hy i)))

theorem scaledStored {y : FVec Ideal S256x256 .f32} {Y : Nat → Nat → EReal} {r : Nat}
    (hy : ∀ i, y i = Y (r + (i 0).val) (i 1).val) (i : S256x256.Idx) :
    stored (scaled (siluBlk y)) i = silu (Y (r + (i 0).val) (i 1).val) * kscale :=
  (stored_at i).trans (congrArg (· * kscale) ((siluBlk_at i).trans (congrArg silu (hy i))))

end Chunks

variable {H : Head} {x : Vec Ideal S2048x256 .bf16} {w : Vec Ideal S3x256 .f32} {b : Vec Ideal S1x256 .f32}
variable {band : Vec Ideal S256x768 .bf16} {edge : Vec Ideal S256x16 .bf16}

theorem holds_q (c : Dev nD) (a2 : Memref sig .tc .vmem S2048x256 .bf16) (h2 : a2.IsWhole)
    (a8 : Memref sig .tc .vmem S3x256 .f32) (h8 : a8.IsWhole) (a9 : Memref sig .tc .vmem S1x256 .f32) (h9 : a9.IsWhole)
    (a15 : Memref sig .tc .vmem S256x768 .bf16) (h15 : a15.IsWhole)
    (a16 : Memref sig .tc .vmem S256x16 .bf16) (h16 : a16.IsWhole)
    (hx : ∀ i, x i = H.xq (i 0).val (i 1).val) (hw : ∀ i, w i = H.wq (i 0).val (i 1).val)
    (hb : ∀ i, b i = H.bq (i 1).val) (hn : ∀ i, band i = bandAt (i 0).val (i 1).val)
    (he : ∀ i, edge i = edgeAt (i 0).val (i 1).val) :
    ∀ p ∈ sl.HS0_8 c a2 h2 a8 h8 a9 h9 a15 h15 a16 h16 x w b band edge, Holds2 (qq H) p := by
  have kw := whole2 h8 hw inb_S3x256_S3x256_0_0
  have kb := whole2 h9 (f := fun _ e => H.bq e) hb inb_S1x256_S1x256_0_0
  have kn := whole2 h15 hn inb_S256x768_S256x768_0_0
  have ke := whole2 h16 he inb_S256x16_S256x16_0_0
  have mid := fun (c : Nat) (hc : c < 7) (h0 : c ≠ 0) inb inb' inb'' =>
    plainStored (Y := conv 2048 H.xq H.wq H.bq) (r := 256 * c) (conv_middle c hc h0 kw
      (rows2 (m := 256) h2 hx inb) (rows2 (m := 16) h2 hx inb') (rows2 (m := 16) h2 hx inb'') kn ke kb)
  have first := plainStored (Y := conv 2048 H.xq H.wq H.bq) (r := 0) (conv_first (X := H.xq) (W := H.wq) (B := H.bq) kw
    (rows2 (r := 0) h2 hx inb_S2048x256_S256x256_0_0) (rows2 (r := 256) h2 hx inb_S2048x256_S16x256_256_0) kn ke kb)
  have last := plainStored (Y := conv 2048 H.xq H.wq H.bq) (r := 1792) (conv_last (X := H.xq) (W := H.wq) (B := H.bq) kw
    (rows2 (r := 1792) h2 hx inb_S2048x256_S256x256_1792_0) (rows2 (r := 1776) h2 hx inb_S2048x256_S16x256_1776_0) kn ke kb)
  unfold sl.HS0_8
  simp only [List.forall_mem_cons]
  refine ⟨?_, ?_, ?_, ?_, ?_, ?_, ?_, ?_, List.forall_mem_nil _⟩
  · exact holdsRows _ last
  · have m := mid 6 (by omega) (by omega) inb_S2048x256_S256x256_1536_0 inb_S2048x256_S16x256_1520_0
      inb_S2048x256_S16x256_1792_0
    exact holdsRows _ m
  · have m := mid 5 (by omega) (by omega) inb_S2048x256_S256x256_1280_0 inb_S2048x256_S16x256_1264_0
      inb_S2048x256_S16x256_1536_0
    exact holdsRows _ m
  · have m := mid 4 (by omega) (by omega) inb_S2048x256_S256x256_1024_0 inb_S2048x256_S16x256_1008_0
      inb_S2048x256_S16x256_1280_0
    exact holdsRows _ m
  · have m := mid 3 (by omega) (by omega) inb_S2048x256_S256x256_768_0 inb_S2048x256_S16x256_752_0
      inb_S2048x256_S16x256_1024_0
    exact holdsRows _ m
  · have m := mid 2 (by omega) (by omega) inb_S2048x256_S256x256_512_0 inb_S2048x256_S16x256_496_0
      inb_S2048x256_S16x256_768_0
    exact holdsRows _ m
  · have m := mid 1 (by omega) (by omega) inb_S2048x256_S256x256_256_0 inb_S2048x256_S16x256_240_0
      inb_S2048x256_S16x256_512_0
    exact holdsRows _ m
  · exact holdsRows _ first

theorem canon_q (c : Dev nD) (a2 : Memref sig .tc .vmem S2048x256 .bf16) (h2 : a2.IsWhole)
    (a8 : Memref sig .tc .vmem S3x256 .f32) (h8 : a8.IsWhole) (a9 : Memref sig .tc .vmem S1x256 .f32) (h9 : a9.IsWhole)
    (a15 : Memref sig .tc .vmem S256x768 .bf16) (h15 : a15.IsWhole)
    (a16 : Memref sig .tc .vmem S256x16 .bf16) (h16 : a16.IsWhole)
    (hx : ∀ i, x i = H.xq (i 0).val (i 1).val) (hw : ∀ i, w i = H.wq (i 0).val (i 1).val)
    (hb : ∀ i, b i = H.bq (i 1).val) (hn : ∀ i, band i = bandAt (i 0).val (i 1).val)
    (he : ∀ i, edge i = edgeAt (i 0).val (i 1).val) (y : S2048x256.Idx) :
    View.canon (sl.HS0_8 c a2 h2 a8 h8 a9 h9 a15 h15 a16 h16 x w b band edge) y = qq H (y 0).val (y 1).val :=
  canon2 (holds_q c a2 h2 a8 h8 a9 h9 a15 h15 a16 h16 hx hw hb hn he)
    (View.cover_of_tiledL _ S256x256.size (by sl_kernel_rfl)) y

theorem holds_k (c : Dev nD) (a3 : Memref sig .tc .vmem S2048x256 .bf16) (h3 : a3.IsWhole)
    (a10 : Memref sig .tc .vmem S3x256 .f32) (h10 : a10.IsWhole) (a11 : Memref sig .tc .vmem S1x256 .f32) (h11 : a11.IsWhole)
    (a15 : Memref sig .tc .vmem S256x768 .bf16) (h15 : a15.IsWhole)
    (a16 : Memref sig .tc .vmem S256x16 .bf16) (h16 : a16.IsWhole)
    (hx : ∀ i, x i = H.xk (i 0).val (i 1).val) (hw : ∀ i, w i = H.wk (i 0).val (i 1).val)
    (hb : ∀ i, b i = H.bk (i 1).val) (hn : ∀ i, band i = bandAt (i 0).val (i 1).val)
    (he : ∀ i, edge i = edgeAt (i 0).val (i 1).val) :
    ∀ p ∈ sl.HS1_8 c a3 h3 a10 h10 a11 h11 a15 h15 a16 h16 x w b band edge, Holds2 (kk H) p := by
  have kw := whole2 h10 hw inb_S3x256_S3x256_0_0
  have kb := whole2 h11 (f := fun _ e => H.bk e) hb inb_S1x256_S1x256_0_0
  have kn := whole2 h15 hn inb_S256x768_S256x768_0_0
  have ke := whole2 h16 he inb_S256x16_S256x16_0_0
  have mid := fun (c : Nat) (hc : c < 7) (h0 : c ≠ 0) inb inb' inb'' =>
    scaledStored (Y := conv 2048 H.xk H.wk H.bk) (r := 256 * c) (conv_middle c hc h0 kw
      (rows2 (m := 256) h3 hx inb) (rows2 (m := 16) h3 hx inb') (rows2 (m := 16) h3 hx inb'') kn ke kb)
  have first := scaledStored (Y := conv 2048 H.xk H.wk H.bk) (r := 0) (conv_first (X := H.xk) (W := H.wk) (B := H.bk) kw
    (rows2 (r := 0) h3 hx inb_S2048x256_S256x256_0_0) (rows2 (r := 256) h3 hx inb_S2048x256_S16x256_256_0) kn ke kb)
  have last := scaledStored (Y := conv 2048 H.xk H.wk H.bk) (r := 1792) (conv_last (X := H.xk) (W := H.wk) (B := H.bk) kw
    (rows2 (r := 1792) h3 hx inb_S2048x256_S256x256_1792_0) (rows2 (r := 1776) h3 hx inb_S2048x256_S16x256_1776_0) kn ke kb)
  unfold sl.HS1_8
  simp only [List.forall_mem_cons]
  refine ⟨?_, ?_, ?_, ?_, ?_, ?_, ?_, ?_, List.forall_mem_nil _⟩
  · exact holdsRows _ last
  · have m := mid 6 (by omega) (by omega) inb_S2048x256_S256x256_1536_0 inb_S2048x256_S16x256_1520_0
      inb_S2048x256_S16x256_1792_0
    exact holdsRows _ m
  · have m := mid 5 (by omega) (by omega) inb_S2048x256_S256x256_1280_0 inb_S2048x256_S16x256_1264_0
      inb_S2048x256_S16x256_1536_0
    exact holdsRows _ m
  · have m := mid 4 (by omega) (by omega) inb_S2048x256_S256x256_1024_0 inb_S2048x256_S16x256_1008_0
      inb_S2048x256_S16x256_1280_0
    exact holdsRows _ m
  · have m := mid 3 (by omega) (by omega) inb_S2048x256_S256x256_768_0 inb_S2048x256_S16x256_752_0
      inb_S2048x256_S16x256_1024_0
    exact holdsRows _ m
  · have m := mid 2 (by omega) (by omega) inb_S2048x256_S256x256_512_0 inb_S2048x256_S16x256_496_0
      inb_S2048x256_S16x256_768_0
    exact holdsRows _ m
  · have m := mid 1 (by omega) (by omega) inb_S2048x256_S256x256_256_0 inb_S2048x256_S16x256_240_0
      inb_S2048x256_S16x256_512_0
    exact holdsRows _ m
  · exact holdsRows _ first

theorem canon_k (c : Dev nD) (a3 : Memref sig .tc .vmem S2048x256 .bf16) (h3 : a3.IsWhole)
    (a10 : Memref sig .tc .vmem S3x256 .f32) (h10 : a10.IsWhole) (a11 : Memref sig .tc .vmem S1x256 .f32) (h11 : a11.IsWhole)
    (a15 : Memref sig .tc .vmem S256x768 .bf16) (h15 : a15.IsWhole)
    (a16 : Memref sig .tc .vmem S256x16 .bf16) (h16 : a16.IsWhole)
    (hx : ∀ i, x i = H.xk (i 0).val (i 1).val) (hw : ∀ i, w i = H.wk (i 0).val (i 1).val)
    (hb : ∀ i, b i = H.bk (i 1).val) (hn : ∀ i, band i = bandAt (i 0).val (i 1).val)
    (he : ∀ i, edge i = edgeAt (i 0).val (i 1).val) (y : S2048x256.Idx) :
    View.canon (sl.HS1_8 c a3 h3 a10 h10 a11 h11 a15 h15 a16 h16 x w b band edge) y = kk H (y 0).val (y 1).val :=
  canon2 (holds_k c a3 h3 a10 h10 a11 h11 a15 h15 a16 h16 hx hw hb hn he)
    (View.cover_of_tiledL _ S256x256.size (by sl_kernel_rfl)) y

theorem canon_kc (c : Dev nD) (a6 : Memref sig .tc .vmem S256x256 .bf16) (h6 : a6.IsWhole)
    (a10 : Memref sig .tc .vmem S3x256 .f32) (h10 : a10.IsWhole) (a11 : Memref sig .tc .vmem S1x256 .f32)
    (h11 : a11.IsWhole) (a15 : Memref sig .tc .vmem S256x768 .bf16) (h15 : a15.IsWhole) {x : Vec Ideal S256x256 .bf16}
    (hx : ∀ i, x i = H.xkc (i 0).val (i 1).val) (hw : ∀ i, w i = H.wk (i 0).val (i 1).val)
    (hb : ∀ i, b i = H.bk (i 1).val) (hn : ∀ i, band i = bandAt (i 0).val (i 1).val) (y : S256x256.Idx) :
    View.canon (sl.HS2_1 c a6 h6 a10 h10 a11 h11 a15 h15 x w b band) y = kc H (y 0).val (y 1).val := by
  refine canon2 ?_ (View.cover_of_tiledL _ S256x256.size (by sl_kernel_rfl)) y
  have kw := whole2 h10 hw inb_S3x256_S3x256_0_0
  have kb := whole2 h11 (f := fun _ e => H.bk e) hb inb_S1x256_S1x256_0_0
  have kn := whole2 h15 hn inb_S256x768_S256x768_0_0
  unfold sl.HS2_1
  simp only [List.forall_mem_cons]
  refine ⟨holds2 _ fun i => ?_, List.forall_mem_nil _⟩
  rw [Nat.zero_add, Nat.zero_add]
  exact (stored_at i).trans (congrArg (· * kscale) ((siluBlk_at i).trans (congrArg silu
    (conv_whole kw (whole2 h6 hx inb_S256x256_S256x256_0_0) kn kb i))))

end Cert.Mlstm

end
-- ==== Proof.RunStates.lean ====
/-
  What the body stores in its two state buffers.
-/
module

public import proofs.«01_k».proof.Proof.RunConv

@[expose] public section

noncomputable section

namespace Cert.Mlstm

open Idealize.ShloMosaic Cert.KernelIdeal Cert.KernelIdeal.Gen Cert.KernelIdeal.Gen.kernelRun0_A

variable {H : Head} {xk xv : Vec Ideal S2048x256 .bf16} {xkc xvc : Vec Ideal S256x256 .bf16} {w : Vec Ideal S3x256 .f32}
variable {b : Vec Ideal S1x256 .f32} {st : Vec Ideal S1x1x256x128 .f32}
variable {band : Vec Ideal S256x768 .bf16} {edge : Vec Ideal S256x16 .bf16}

theorem holds_ct (c : Dev nD) (a3 : Memref sig .tc .vmem S2048x256 .bf16) (h3 : a3.IsWhole)
    (a4 : Memref sig .tc .vmem S2048x256 .bf16) (h4 : a4.IsWhole) (a6 : Memref sig .tc .vmem S256x256 .bf16)
    (h6 : a6.IsWhole) (a7 : Memref sig .tc .vmem S256x256 .bf16) (h7 : a7.IsWhole)
    (a10 : Memref sig .tc .vmem S3x256 .f32) (h10 : a10.IsWhole) (a11 : Memref sig .tc .vmem S1x256 .f32)
    (h11 : a11.IsWhole) (a13 : Memref sig .tc .vmem S1x1x256x128 .f32) (h13 : a13.IsWhole)
    (a15 : Memref sig .tc .vmem S256x768 .bf16) (h15 : a15.IsWhole)
    (a16 : Memref sig .tc .vmem S256x16 .bf16) (h16 : a16.IsWhole)
    (a19 : Memref sig .tc .vmem S2048x256 .bf16) (a20 : Memref sig .tc .vmem S256x256 .bf16)
    (hv : ∀ i, xv i = H.xv (i 0).val (i 1).val) (hvc : ∀ i, xvc i = H.xvc (i 0).val (i 1).val)
    (hst : ∀ i, st i = H.col (i 2).val (i 3).val)
    (ck : ∀ y, View.canon (sl.HS1_8 c a3 h3 a10 h10 a11 h11 a15 h15 a16 h16 xk w b band edge) y
      = kk H (y 0).val (y 1).val)
    (ckc : ∀ y, View.canon (sl.HS2_1 c a6 h6 a10 h10 a11 h11 a15 h15 xkc w b band) y = kc H (y 0).val (y 1).val) :
    ∀ p ∈ sl.HS3_16 c a3 h3 a4 h4 a6 h6 a7 h7 a10 h10 a11 h11 a13 h13 a15 h15 a16 h16 a19 a20 xk xv xkc xvc w b st
      band edge, Holds3 (ctAt H) p := by
  have hs := stats4 h13 hst inb_S1x1x256x128_S1x1x256x128_0_0_0_0
  have kcb := fun i => (backRows (v := a20) (m := 256) (r := 0) ckc inb_S256x256_S256x256_0_0 i).trans
    (congrArg (kc H · _) (Nat.zero_add _))
  have vcb := whole2 h7 hvc inb_S256x256_S256x256_0_0
  have next := fun (d j q : Nat) (hq : chunkAt d j = q) h inb1 inb inb' {C} hC => nextC hs d j q hq h (C := C)
    (cell4 (u := 66 + 8 * d + q) h13 hst inb1) (backRows (v := a19) (m := 256) (r := 256 * q) ck inb)
    (rows2 (m := 256) (r := 256 * q) h4 hv inb') hC
  have put := fun (d j : Nat) {C : FVec Ideal S256x256 .f32} (hC : ∀ i, C i = stC H d j (i 1).val (i 0).val) =>
    storedC_at C (f := fun f e => stC H d j e f) hC
  have A0 := ctxC_head hs 0 kcb vcb slices_S128x256_o64_0_S1x256
  have A1 := next 0 0 0 rfl slices_S128x256_o0_0_S1x256 (by decide) (by decide) (by decide) A0
  have A2 := next 0 1 1 rfl slices_S128x256_o1_0_S1x256 (by decide) (by decide) (by decide) A1
  have A3 := next 0 2 2 rfl slices_S128x256_o2_0_S1x256 (by decide) (by decide) (by decide) A2
  have A4 := next 0 3 3 rfl slices_S128x256_o3_0_S1x256 (by decide) (by decide) (by decide) A3
  have A5 := next 0 4 4 rfl slices_S128x256_o4_0_S1x256 (by decide) (by decide) (by decide) A4
  have A6 := next 0 5 5 rfl slices_S128x256_o5_0_S1x256 (by decide) (by decide) (by decide) A5
  have A7 := next 0 6 6 rfl slices_S128x256_o6_0_S1x256 (by decide) (by decide) (by decide) A6
  have B0 := ctxC_head hs 1 kcb vcb slices_S128x256_o65_0_S1x256
  have B1 := next 1 0 7 rfl slices_S128x256_o15_0_S1x256 (by decide) (by decide) (by decide) B0
  have B2 := next 1 1 6 rfl slices_S128x256_o14_0_S1x256 (by decide) (by decide) (by decide) B1
  have B3 := next 1 2 5 rfl slices_S128x256_o13_0_S1x256 (by decide) (by decide) (by decide) B2
  have B4 := next 1 3 4 rfl slices_S128x256_o12_0_S1x256 (by decide) (by decide) (by decide) B3
  have B5 := next 1 4 3 rfl slices_S128x256_o11_0_S1x256 (by decide) (by decide) (by decide) B4
  have B6 := next 1 5 2 rfl slices_S128x256_o10_0_S1x256 (by decide) (by decide) (by decide) B5
  have B7 := next 1 6 1 rfl slices_S128x256_o9_0_S1x256 (by decide) (by decide) (by decide) B6
  unfold sl.HS3_16
  simp only [List.forall_mem_cons]
  refine ⟨?_, ?_, ?_, ?_, ?_, ?_, ?_, ?_, ?_, ?_, ?_, ?_, ?_, ?_, ?_, ?_, List.forall_mem_nil _⟩
  · exact holdsSlot _ (put 1 7 B7)
  · exact holdsSlot _ (put 1 6 B6)
  · exact holdsSlot _ (put 1 5 B5)
  · exact holdsSlot _ (put 1 4 B4)
  · exact holdsSlot _ (put 1 3 B3)
  · exact holdsSlot _ (put 1 2 B2)
  · exact holdsSlot _ (put 1 1 B1)
  · exact holdsSlot _ (put 1 0 B0)
  · exact holdsSlot _ (put 0 7 A7)
  · exact holdsSlot _ (put 0 6 A6)
  · exact holdsSlot _ (put 0 5 A5)
  · exact holdsSlot _ (put 0 4 A4)
  · exact holdsSlot _ (put 0 3 A3)
  · exact holdsSlot _ (put 0 2 A2)
  · exact holdsSlot _ (put 0 1 A1)
  · exact holdsSlot _ (put 0 0 A0)

theorem holds_n (c : Dev nD) (a3 : Memref sig .tc .vmem S2048x256 .bf16) (h3 : a3.IsWhole)
    (a6 : Memref sig .tc .vmem S256x256 .bf16)
    (h6 : a6.IsWhole) (a10 : Memref sig .tc .vmem S3x256 .f32) (h10 : a10.IsWhole) (a11 : Memref sig .tc .vmem S1x256 .f32)
    (h11 : a11.IsWhole) (a13 : Memref sig .tc .vmem S1x1x256x128 .f32) (h13 : a13.IsWhole)
    (a15 : Memref sig .tc .vmem S256x768 .bf16) (h15 : a15.IsWhole)
    (a16 : Memref sig .tc .vmem S256x16 .bf16) (h16 : a16.IsWhole)
    (a19 : Memref sig .tc .vmem S2048x256 .bf16) (a20 : Memref sig .tc .vmem S256x256 .bf16)
    (hst : ∀ i, st i = H.col (i 2).val (i 3).val)
    (ck : ∀ y, View.canon (sl.HS1_8 c a3 h3 a10 h10 a11 h11 a15 h15 a16 h16 xk w b band edge) y
      = kk H (y 0).val (y 1).val)
    (ckc : ∀ y, View.canon (sl.HS2_1 c a6 h6 a10 h10 a11 h11 a15 h15 xkc w b band) y = kc H (y 0).val (y 1).val) :
    ∀ p ∈ sl.HS4_16 c a3 h3 a6 h6 a10 h10 a11 h11 a13 h13 a15 h15 a16 h16 a19 a20 xk xkc w b st
      band edge, Holds3 (nAt H) p := by
  have hs := stats4 h13 hst inb_S1x1x256x128_S1x1x256x128_0_0_0_0
  have kcb := fun i => (backRows (v := a20) (m := 256) (r := 0) ckc inb_S256x256_S256x256_0_0 i).trans
    (congrArg (kc H · _) (Nat.zero_add _))
  have next := fun (d j q : Nat) (hq : chunkAt d j = q) h inb1 inb {C} hC => nextN hs d j q hq h (C := C)
    (cell4 (u := 66 + 8 * d + q) h13 hst inb1) (backRows (v := a19) (m := 256) (r := 256 * q) ck inb) hC
  have put := fun (d j : Nat) {C : FVec Ideal S1x256 .f32} (hC : ∀ i, C i = stN H d j (i 1).val) =>
    storedN_at C (f := fun f => stN H d j f) hC
  have A0 := ctxN_head hs 0 kcb slices_S128x256_o64_0_S1x256
  have A1 := next 0 0 0 rfl slices_S128x256_o0_0_S1x256 (by decide) (by decide) A0
  have A2 := next 0 1 1 rfl slices_S128x256_o1_0_S1x256 (by decide) (by decide) A1
  have A3 := next 0 2 2 rfl slices_S128x256_o2_0_S1x256 (by decide) (by decide) A2
  have A4 := next 0 3 3 rfl slices_S128x256_o3_0_S1x256 (by decide) (by decide) A3
  have A5 := next 0 4 4 rfl slices_S128x256_o4_0_S1x256 (by decide) (by decide) A4
  have A6 := next 0 5 5 rfl slices_S128x256_o5_0_S1x256 (by decide) (by decide) A5
  have A7 := next 0 6 6 rfl slices_S128x256_o6_0_S1x256 (by decide) (by decide) A6
  have B0 := ctxN_head hs 1 kcb slices_S128x256_o65_0_S1x256
  have B1 := next 1 0 7 rfl slices_S128x256_o15_0_S1x256 (by decide) (by decide) B0
  have B2 := next 1 1 6 rfl slices_S128x256_o14_0_S1x256 (by decide) (by decide) B1
  have B3 := next 1 2 5 rfl slices_S128x256_o13_0_S1x256 (by decide) (by decide) B2
  have B4 := next 1 3 4 rfl slices_S128x256_o12_0_S1x256 (by decide) (by decide) B3
  have B5 := next 1 4 3 rfl slices_S128x256_o11_0_S1x256 (by decide) (by decide) B4
  have B6 := next 1 5 2 rfl slices_S128x256_o10_0_S1x256 (by decide) (by decide) B5
  have B7 := next 1 6 1 rfl slices_S128x256_o9_0_S1x256 (by decide) (by decide) B6
  unfold sl.HS4_16
  simp only [List.forall_mem_cons]
  refine ⟨?_, ?_, ?_, ?_, ?_, ?_, ?_, ?_, ?_, ?_, ?_, ?_, ?_, ?_, ?_, ?_, List.forall_mem_nil _⟩
  · exact holdsSlot _ (put 1 7 B7)
  · exact holdsSlot _ (put 1 6 B6)
  · exact holdsSlot _ (put 1 5 B5)
  · exact holdsSlot _ (put 1 4 B4)
  · exact holdsSlot _ (put 1 3 B3)
  · exact holdsSlot _ (put 1 2 B2)
  · exact holdsSlot _ (put 1 1 B1)
  · exact holdsSlot _ (put 1 0 B0)
  · exact holdsSlot _ (put 0 7 A7)
  · exact holdsSlot _ (put 0 6 A6)
  · exact holdsSlot _ (put 0 5 A5)
  · exact holdsSlot _ (put 0 4 A4)
  · exact holdsSlot _ (put 0 3 A3)
  · exact holdsSlot _ (put 0 2 A2)
  · exact holdsSlot _ (put 0 1 A1)
  · exact holdsSlot _ (put 0 0 A0)

end Cert.Mlstm

end
-- ==== Proof.BlockHead.lean ====
/-
  A chunk's output block: the two directions' parts, added, normed and gated, are the head's output.
-/
module

public import proofs.«01_k».proof.Proof.BlockOut

@[expose] public section

noncomputable section

namespace Cert.Mlstm

open Idealize.ShloMosaic Cert.KernelIdeal Cert.KernelIdeal.Gen

variable {H : Head}

theorem part_at {m : IVec S256x256 1} {q k v : Vec Ideal S256x256 .bf16} {r : Vec Ideal S1x1x1x256 .f32}
    {bigM sInt eNeg : Vec Ideal S1x1x256x1 .f32} {n : Vec Ideal S1x1x256 .f32} {ct : Vec Ideal S1x256x256 .bf16}
    (d c : Nat) (hm : ∀ i, m i = BitVec.ofBool (decide (seen d (i 0).val (i 1).val)))
    (hq : ∀ i, q i = qq H (256 * c + (i 0).val) (i 1).val) (hk : ∀ i, k i = kk H (256 * c + (i 0).val) (i 1).val)
    (hv : ∀ i, v i = H.xv (256 * c + (i 0).val) (i 1).val) (hr : ∀ i, r i = H.row (8 * d + c) (i 3).val)
    (hM : ∀ i, bigM i = H.col (i 2).val (16 + 8 * d + c)) (hS : ∀ i, sInt i = H.col (i 2).val (32 + 8 * d + c))
    (hE : ∀ i, eNeg i = H.col (i 2).val (48 + 8 * d + c)) (hpos : ∀ t, t < 256 → 0 < H.col t (48 + 8 * d + c))
    (hn : ∀ i, n i = stN H d (chunkAt d c) (i 2).val)
    (hc : ∀ i, ct i = stC H d (chunkAt d c) (i 2).val (i 1).val) (i : S256x256.Idx) :
    partOf m q k v r bigM sInt eNeg n ct i = hd H d c (i 0).val (i 1).val := by
  have hs := scores_at (fq := fun t e => qq H (256 * c + t) e) (fk := fun t e => kk H (256 * c + t) e) hq hk
  have hp := gated_at (p := seen d) (fs := score H c) (fr := H.row (8 * d + c)) (fM := fun t => H.col t (16 + 8 * d + c))
    hm hs hr hM
  have hN := numBlk_at (fp := pp H d c) (fq := fun t e => qq H (256 * c + t) e) (fv := fun t e => H.xv (256 * c + t) e)
    (fc := fun f e => stC H d (chunkAt d c) e f) (fS := fun t => H.col t (32 + 8 * d + c)) hp hq hv hS hc
  have hD := denBlk_at (fp := pp H d c) (fq := fun t e => qq H (256 * c + t) e)
    (fn := stN H d (chunkAt d c)) (fS := fun t => H.col t (32 + 8 * d + c)) hp hq hS hn
  exact quot_at (fn := num H d c) (fd := den H d c) (fe := fun t => H.col t (48 + 8 * d + c)) hN hD hE hpos i

theorem chunk_at {f g : FVec Ideal S256x256 .f32} {nw : Vec Ideal S1x256 .f32} {o : Vec Ideal S256x256 .bf16} (c : Nat)
    (hf : ∀ i, f i = hd H 0 c (i 0).val (i 1).val) (hg : ∀ i, g i = hd H 1 c (i 0).val (i 1).val)
    (hw : ∀ i, nw i = H.nw (i 1).val) (ho : ∀ i, o i = H.xo (256 * c + (i 0).val) (i 1).val) (i : S256x256.Idx) :
    normed (addf f g) nw o i = out H c (i 0).val (i 1).val :=
  normed_at (f := hh H c) (fo := fun t e => H.xo (256 * c + t) e) (fw := H.nw)
    (fun i => congrArg₂ (· + ·) (hf i) (hg i)) hw ho i

end Cert.Mlstm

end
-- ==== Proof.RunOut.lean ====
/-
  What the body leaves of one head: the output's block is the head's output.
-/
module

public import proofs.«01_k».proof.Proof.RunStates
public import proofs.«01_k».proof.Proof.BlockHead

@[expose] public section

noncomputable section

namespace Cert.Mlstm

open Idealize.ShloMosaic Cert.KernelIdeal Cert.KernelIdeal.Gen Cert.KernelIdeal.Gen.kernelRun0_A

/-- What a head's blocks hold. -/
structure Reads (H : Head) (xq xk xv xo : Vec Ideal S2048x256 .bf16) (xkc xvc : Vec Ideal S256x256 .bf16)
    (wq : Vec Ideal S3x256 .f32) (bq : Vec Ideal S1x256 .f32) (wk : Vec Ideal S3x256 .f32) (bk : Vec Ideal S1x256 .f32)
    (row : Vec Ideal S1x1x16x256 .f32) (st : Vec Ideal S1x1x256x128 .f32) (nw : Vec Ideal S1x256 .f32)
    (band : Vec Ideal S256x768 .bf16) (edge : Vec Ideal S256x16 .bf16) : Prop where
  hq : ∀ i, xq i = H.xq (i 0).val (i 1).val
  hk : ∀ i, xk i = H.xk (i 0).val (i 1).val
  hv : ∀ i, xv i = H.xv (i 0).val (i 1).val
  ho : ∀ i, xo i = H.xo (i 0).val (i 1).val
  hkc : ∀ i, xkc i = H.xkc (i 0).val (i 1).val
  hvc : ∀ i, xvc i = H.xvc (i 0).val (i 1).val
  hwq : ∀ i, wq i = H.wq (i 0).val (i 1).val
  hbq : ∀ i, bq i = H.bq (i 1).val
  hwk : ∀ i, wk i = H.wk (i 0).val (i 1).val
  hbk : ∀ i, bk i = H.bk (i 1).val
  hrow : ∀ i, row i = H.row (i 2).val (i 3).val
  hst : ∀ i, st i = H.col (i 2).val (i 3).val
  hnw : ∀ i, nw i = H.nw (i 1).val
  hband : ∀ i, band i = bandAt (i 0).val (i 1).val
  hedge : ∀ i, edge i = edgeAt (i 0).val (i 1).val
  pos : ∀ t l, t < 256 → 48 ≤ l → l < 64 → 0 < H.col t l

variable {H : Head} {xq xk xv xo : Vec Ideal S2048x256 .bf16} {xkc xvc : Vec Ideal S256x256 .bf16}
variable {wq : Vec Ideal S3x256 .f32} {bq : Vec Ideal S1x256 .f32} {wk : Vec Ideal S3x256 .f32} {bk : Vec Ideal S1x256 .f32}
variable {row : Vec Ideal S1x1x16x256 .f32} {st : Vec Ideal S1x1x256x128 .f32} {nw : Vec Ideal S1x256 .f32}
variable {band : Vec Ideal S256x768 .bf16} {edge : Vec Ideal S256x16 .bf16}

/-- One chunk's rows of the output. -/
theorem holdsChunk {g : Nat → Nat → Nat → EReal} (c : Nat)
    (inb : ∀ k, (![256 * c, 0] : Fin 2 → Nat) k + (![256, 256] : Fin 2 → Nat) k ≤ (![2048, 256] : Fin 2 → Nat) k)
    {x : Vec Ideal S256x256 .bf16} (hx : ∀ i, x i = g c (i 0).val (i 1).val) :
    Holds2 (e := .bf16) (fun t e => g (t / 256) (t % 256) e) ⟨Rect.unit (s := S2048x256) ![256 * c, 0] ![256, 256] inb, x⟩ :=
  holdsRows inb fun i => by
    have h0 : (i 0).val < 256 := (i 0).isLt
    rw [hx i, show (256 * c + (i 0).val) / 256 = c by omega, show (256 * c + (i 0).val) % 256 = (i 0).val by omega]

set_option maxHeartbeats 2000000 in
theorem holds_out (c : Dev nD) (p : grid0.Coords)
    (a2 : Memref sig .tc .vmem S2048x256 .bf16) (h2 : a2.IsWhole)
    (a3 : Memref sig .tc .vmem S2048x256 .bf16) (h3 : a3.IsWhole)
    (a4 : Memref sig .tc .vmem S2048x256 .bf16) (h4 : a4.IsWhole)
    (a5 : Memref sig .tc .vmem S2048x256 .bf16) (h5 : a5.IsWhole)
    (a6 : Memref sig .tc .vmem S256x256 .bf16) (h6 : a6.IsWhole)
    (a7 : Memref sig .tc .vmem S256x256 .bf16) (h7 : a7.IsWhole)
    (a8 : Memref sig .tc .vmem S3x256 .f32) (h8 : a8.IsWhole)
    (a9 : Memref sig .tc .vmem S1x256 .f32) (h9 : a9.IsWhole)
    (a10 : Memref sig .tc .vmem S3x256 .f32) (h10 : a10.IsWhole)
    (a11 : Memref sig .tc .vmem S1x256 .f32) (h11 : a11.IsWhole)
    (a12 : Memref sig .tc .vmem S1x1x16x256 .f32) (h12 : a12.IsWhole)
    (a13 : Memref sig .tc .vmem S1x1x256x128 .f32) (h13 : a13.IsWhole)
    (a14 : Memref sig .tc .vmem S1x256 .f32) (h14 : a14.IsWhole)
    (a15 : Memref sig .tc .vmem S256x768 .bf16) (h15 : a15.IsWhole)
    (a16 : Memref sig .tc .vmem S256x16 .bf16) (h16 : a16.IsWhole)
    (a17 : Memref sig .tc .vmem S2048x256 .bf16) (h17 : a17.IsWhole)
    (a18 : Memref sig .tc .vmem S2048x256 .bf16) (h18 : a18.IsWhole)
    (a19 : Memref sig .tc .vmem S2048x256 .bf16) (h19 : a19.IsWhole)
    (a20 : Memref sig .tc .vmem S256x256 .bf16) (h20 : a20.IsWhole)
    (a21 : Memref sig .tc .vmem S16x256x256 .bf16) (h21 : a21.IsWhole)
    (a22 : Memref sig .tc .vmem S16x1x256 .f32) (h22 : a22.IsWhole)
    (R : Reads H xq xk xv xo xkc xvc wq bq wk bk row st nw band edge) :
    ∀ pc ∈ (kernelRun0_A (F := Ideal) c p a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22
      xq xk xv xo xkc xvc wq bq wk bk row st nw band edge).1,
      Holds2 (e := .bf16) (fun t e => out H (t / 256) (t % 256) e) pc := by
  have cq := canon_q c a2 h2 a8 h8 a9 h9 a15 h15 a16 h16 R.hq R.hwq R.hbq R.hband R.hedge
  have ck := canon_k c a3 h3 a10 h10 a11 h11 a15 h15 a16 h16 R.hk R.hwk R.hbk R.hband R.hedge
  have ckc := canon_kc c a6 h6 a10 h10 a11 h11 a15 h15 R.hkc R.hwk R.hbk R.hband
  have cct : ∀ y, View.canon (sl.HS3_16 c a3 h3 a4 h4 a6 h6 a7 h7 a10 h10 a11 h11 a13 h13 a15 h15 a16 h16 a19 a20 xk xv xkc xvc wk bk st band edge) y
      = ctAt H (y 0).val (y 1).val (y 2).val :=
    canon3 (holds_ct c a3 h3 a4 h4 a6 h6 a7 h7 a10 h10 a11 h11 a13 h13 a15 h15 a16 h16 a19 a20 R.hv R.hvc R.hst ck ckc)
      (View.cover_of_tiledL _ S1x256x256.size (by sl_kernel_rfl))
  have cn : ∀ y, View.canon (sl.HS4_16 c a3 h3 a6 h6 a10 h10 a11 h11 a13 h13 a15 h15 a16 h16 a19 a20 xk xkc wk bk st band edge) y
      = nAt H (y 0).val (y 1).val (y 2).val :=
    canon3 (holds_n c a3 h3 a6 h6 a10 h10 a11 h11 a13 h13 a15 h15 a16 h16 a19 a20 R.hst ck ckc)
      (View.cover_of_tiledL _ S1x1x256.size (by sl_kernel_rfl))
  have part := fun (d q : Nat) {m} hm i1 i2 i3 i4 i5 i6 i7 (hd : d < 2) (hq : q < 8) =>
    part_at (H := H) (m := m) d q hm (backRows (v := a18) (m := 256) (r := 256 * q) cq i1)
      (backRows (v := a19) (m := 256) (r := 256 * q) ck i1) (rows2 (m := 256) (r := 256 * q) h4 R.hv i1)
      (row4 (u := 8 * d + q) h12 R.hrow i2) (col4 (u := 16 + 8 * d + q) h13 R.hst i3)
      (col4 (u := 32 + 8 * d + q) h13 R.hst i4) (col4 (u := 48 + 8 * d + q) h13 R.hst i5)
      (fun t ht => R.pos t _ ht (by omega) (by omega))
      (n := a22.view.readCov _ (Rect.unit ![8 * d + q, 0, 0] ![1, 1, 256] i6).toLoadRect)
      (fun i => (backSlot (v := a22) cn i6 i).trans (by
        unfold nAt
        rw [show (8 * d + q) / 8 = d by omega, show (8 * d + q) % 8 = q by omega]))
      (ct := a21.view.readCov _ (Rect.unit ![8 * d + q, 0, 0] ![1, 256, 256] i7).toLoadRect)
      (fun i => (backSlot (v := a21) cct i7 i).trans (by
        unfold ctAt
        rw [show (8 * d + q) / 8 = d by omega, show (8 * d + q) % 8 = q by omega]))
  have chunk := fun (q : Nat) i1 j2 j3 j4 j5 j6 j7 k2 k3 k4 k5 k6 k7 (hq : q < 8) =>
    chunk_at (H := H) q
      (part 0 q (m := before) (fun i => (before_at i).trans (congrArg _ (decide_eq_decide.mpr Iff.rfl)))
        i1 j2 j3 j4 j5 j6 j7 (by decide) hq)
      (part 1 q (m := after) (fun i => (after_at i).trans (congrArg _ (decide_eq_decide.mpr Iff.rfl)))
        i1 k2 k3 k4 k5 k6 k7 (by decide) hq)
      (whole2 h14 (f := fun _ e => H.nw e) R.hnw inb_S1x256_S1x256_0_0)
      (rows2 (m := 256) (r := 256 * q) h5 R.ho i1)
  have P0 := chunk 0 (by decide) (by decide) (by decide) (by decide) (by decide) (by decide) (by decide) (by decide) (by decide) (by decide) (by decide) (by decide) (by decide) (by decide)
  have P1 := chunk 1 (by decide) (by decide) (by decide) (by decide) (by decide) (by decide) (by decide) (by decide) (by decide) (by decide) (by decide) (by decide) (by decide) (by decide)
  have P2 := chunk 2 (by decide) (by decide) (by decide) (by decide) (by decide) (by decide) (by decide) (by decide) (by decide) (by decide) (by decide) (by decide) (by decide) (by decide)
  have P3 := chunk 3 (by decide) (by decide) (by decide) (by decide) (by decide) (by decide) (by decide) (by decide) (by decide) (by decide) (by decide) (by decide) (by decide) (by decide)
  have P4 := chunk 4 (by decide) (by decide) (by decide) (by decide) (by decide) (by decide) (by decide) (by decide) (by decide) (by decide) (by decide) (by decide) (by decide) (by decide)
  have P5 := chunk 5 (by decide) (by decide) (by decide) (by decide) (by decide) (by decide) (by decide) (by decide) (by decide) (by decide) (by decide) (by decide) (by decide) (by decide)
  have P6 := chunk 6 (by decide) (by decide) (by decide) (by decide) (by decide) (by decide) (by decide) (by decide) (by decide) (by decide) (by decide) (by decide) (by decide) (by decide)
  have P7 := chunk 7 (by decide) (by decide) (by decide) (by decide) (by decide) (by decide) (by decide) (by decide) (by decide) (by decide) (by decide) (by decide) (by decide) (by decide)
  unfold kernelRun0_A
  simp only [List.forall_mem_cons]
  refine ⟨?_, ?_, ?_, ?_, ?_, ?_, ?_, ?_, List.forall_mem_nil _⟩
  · exact holdsChunk 7 (by decide) P7
  · exact holdsChunk 6 (by decide) P6
  · exact holdsChunk 5 (by decide) P5
  · exact holdsChunk 4 (by decide) P4
  · exact holdsChunk 3 (by decide) P3
  · exact holdsChunk 2 (by decide) P2
  · exact holdsChunk 1 (by decide) P1
  · exact holdsChunk 0 (by decide) P0

end Cert.Mlstm

end
-- ==== Proof.Tables.lean ====
/-
  The two tables the program builds before the kernel: the three diagonals of ones and the two corner ones.
-/
module

public import proofs.«01_k».proof.Proof.BlockConv
public import proofs.«01_k».proof.Proof.Gen.KernelIdeal.Value
public import Idealize.ShloMosaic.Lib.Pointwise
public import Idealize.ShloMosaic.Lib.WordCmp

@[expose] public section

set_option maxRecDepth 16384

noncomputable section

namespace Cert.Mlstm

open Idealize.ShloMosaic Idealize.ShloMosaic.TcCoe Cert.KernelIdeal Cert.KernelIdeal.Gen

/-- Row and column numbers. -/
def rowNo : IVec S256x1 32 := broadcastInDim S256x1 ![0] bcast_S256_S256x1_0 (iotaInDim S256 32 0)
def colNo : IVec S1x256 32 := broadcastInDim S1x256 ![1] bcast_S256_S1x256_1 (iotaInDim S256 32 0)
def col16 : IVec S1x16 32 := broadcastInDim S1x16 ![1] bcast_S16_S1x16_1 (iotaInDim S16 32 0)
def allRows (k : BitVec 32) : IVec S256x1 32 := broadcastInDim S256x1 ![] bcast_S_S256x1 (constantI S_ 32 k)
def all16 (k : BitVec 32) : IVec S1x16 32 := broadcastInDim S1x16 ![] bcast_S_S1x16 (constantI S_ 32 k)

/-- One diagonal, and one corner. -/
def diagonal (k : BitVec 32) : IVec S256x256 1 :=
  cmpi .eq (broadcastInDim S256x256 ![0, 1] bcast_S1x256_S256x256_0_1 colNo)
    (broadcastInDim S256x256 ![0, 1] bcast_S256x1_S256x256_0_1 (subi (addi rowNo (allRows k)) (allRows 1#32)))
def corner (k l : BitVec 32) : IVec S256x16 1 :=
  andi (broadcastInDim S256x16 ![0, 1] bcast_S256x1_S256x16_0_1 (cmpi .eq rowNo (allRows k)))
    (broadcastInDim S256x16 ![0, 1] bcast_S1x16_S256x16_0_1 (cmpi .eq col16 (all16 l)))

def bandTab : FVec Ideal S256x768 .bf16 :=
  uitofp .bf16 (concatenate S256x768 1 [⟨S256x256, diagonal 0#32⟩, ⟨S256x256, diagonal 1#32⟩, ⟨S256x256, diagonal 2#32⟩]
    concatenates_S256x256_S256x256_S256x256_S256x768_d1)
def edgeTab : FVec Ideal S256x16 .bf16 := uitofp .bf16 (ori (corner 0#32 0#32) (corner 255#32 1#32))

variable (m : (ℓ : Loc nD τ sig) → Buf (Elt Ideal) ℓ)

set_option maxHeartbeats 2000000 in
theorem V_band (c : Dev nD) : (V m c main_v26 : Vec Ideal S256x768 .bf16) = bandTab := by
  show StableHlo.after hostOps0 _ _ = _
  unfold hostOps0
  simp only [List.flatten_cons, List.flatten_nil, List.append_nil, List.cons_append, List.nil_append]
  after_results
  rfl

set_option maxHeartbeats 2000000 in
theorem V_edge (c : Dev nD) : (V m c main_v44 : Vec Ideal S256x16 .bf16) = edgeTab := by
  show StableHlo.after hostOps0 _ _ = _
  unfold hostOps0
  simp only [List.flatten_cons, List.flatten_nil, List.append_nil, List.cons_append, List.nil_append]
  after_results
  rfl

theorem eq_word (a b k : Nat) (ha : a < 256) (hb : b < 256) (hk : k < 3) :
    IntOp.cmpi .eq (BitVec.ofNat 32 a) (BitVec.ofNat 32 b + BitVec.ofNat 32 k - 1#32)
      = BitVec.ofBool (decide (a + 1 = b + k)) := by
  refine congrArg BitVec.ofBool (decide_eq_decide.mpr ?_)
  rw [← BitVec.toNat_inj]
  simp only [BitVec.toNat_sub, BitVec.toNat_add, BitVec.toNat_ofNat]
  omega

theorem diagonal_at (k : Nat) (hk : k < 3) (i : S256x256.Idx) :
    diagonal (BitVec.ofNat 32 k) i = BitVec.ofBool (decide ((i 1).val + 1 = (i 0).val + k)) := by
  rw [← eq_word _ _ _ (i 1).isLt (i 0).isLt hk]
  rfl

theorem bit_real (p : Prop) [Decidable p] : (((BitVec.ofBool (decide p)).toNat : ℝ) : EReal) = if p then 1 else 0 := by
  by_cases h : p <;> simp [h]

theorem band_at (i : S256x768.Idx) : bandTab i = bandAt (i 0).val (i 1).val := by
  have side : ∀ (j : Fin 256) (a : Fin 2), a ≠ (1 : Fin 2) → (ix2 (n0 := 256) (n1 := 256) (i 0) j a).val = (i a).val :=
    fun j a ha => match a with
    | ⟨0, _⟩ => rfl
    | ⟨1, _⟩ => absurd rfl ha
  have hi : (i 1).val < 768 := (i 1).isLt
  have fin : ∀ k j, k < 3 → j < 256 → (i 1).val = 256 * k + j →
      (((BitVec.ofBool (decide (j + 1 = (i 0).val + k))).toNat : ℝ) : EReal) = bandAt (i 0).val (i 1).val :=
    fun k j hk hj h => by
      rw [bit_real]
      unfold bandAt
      rw [show (i 1).val % 256 = j by omega, show (i 1).val / 256 = k by omega]
  unfold bandTab
  show (((concatenate _ _ _ _ i : BitVec 1).toNat : ℝ) : EReal) = _
  by_cases h : (i 1).val < 256
  · rw [concatenate_apply_piece 1 _ _ i 0 (by simp) S256x256 (diagonal 0#32) rfl rfl 0 rfl (ix2 (i 0) ⟨(i 1).val, h⟩)
      (side _) (Nat.zero_add _), diagonal_at 0 (by decide)]
    exact fin 0 (i 1).val (by decide) h (by omega)
  · by_cases h' : (i 1).val - 256 < 256
    · rw [concatenate_apply_piece 1 _ _ i 1 (by simp) S256x256 (diagonal 1#32) rfl rfl 256 rfl
        (ix2 (i 0) ⟨(i 1).val - 256, h'⟩) (side _) (Nat.add_sub_cancel' (by omega)), diagonal_at 1 (by decide)]
      exact fin 1 ((i 1).val - 256) (by decide) h' (by omega)
    · have h'' : (i 1).val - 256 - 256 < 256 := by omega
      rw [concatenate_apply_piece 1 _ _ i 2 (by simp) S256x256 (diagonal 2#32) rfl rfl 512 rfl
        (ix2 (i 0) ⟨(i 1).val - 256 - 256, h''⟩) (side _)
        (show 512 + ((i 1).val - 256 - 256) = (i 1).val by omega), diagonal_at 2 (by decide)]
      exact fin 2 ((i 1).val - 256 - 256) (by decide) h'' (by omega)

theorem eq_const (a k : Nat) (ha : a < 256) (hk : k < 256) :
    IntOp.cmpi .eq (BitVec.ofNat 32 a) (BitVec.ofNat 32 k) = BitVec.ofBool (decide (a = k)) := by
  refine congrArg BitVec.ofBool (decide_eq_decide.mpr ?_)
  rw [← BitVec.toNat_inj]
  simp only [BitVec.toNat_ofNat]
  omega

theorem corner_at (k l : Nat) (hk : k < 256) (hl : l < 16) (i : S256x16.Idx) :
    corner (BitVec.ofNat 32 k) (BitVec.ofNat 32 l) i
      = BitVec.ofBool (decide ((i 0).val = k)) &&& BitVec.ofBool (decide ((i 1).val = l)) := by
  have h1 : (i 1).val < 16 := (i 1).isLt
  rw [← eq_const _ _ (i 0).isLt hk, ← eq_const (i 1).val l (by omega) (by omega)]
  rfl

theorem edge_at (i : S256x16.Idx) : edgeTab i = edgeAt (i 0).val (i 1).val := by
  unfold edgeTab
  show (((corner 0#32 0#32 i ||| corner 255#32 1#32 i : BitVec 1).toNat : ℝ) : EReal) = _
  rw [corner_at 0 0 (by decide) (by decide), corner_at 255 1 (by decide) (by decide)]
  unfold edgeAt
  by_cases a : (i 0).val = 0 <;> by_cases b : (i 1).val = 0 <;> by_cases d : (i 0).val = 255 <;>
    by_cases e : (i 1).val = 1 <;> simp [a, b, d, e]

end Cert.Mlstm

end
-- ==== Proof.RefConv.lean ====
/-
  The reference's queries, keys, values and gates, element by element.
-/
module

public import proofs.«01_k».proof.Proof.Spec
public import proofs.«01_k».proof.Proof.Gen.ReferenceIdeal.Read
public import Idealize.ShloMosaic.Lib.Pointwise.Tactic

@[expose] public section

noncomputable section

namespace Cert.Mlstm

open Idealize.ShloMosaic Cert.ReferenceIdeal Cert.ReferenceIdeal.Gen Cert.ReferenceIdeal.Read

variable (x0 : (⟨S16384x4096, .bf16⟩ : BufTy).Contents (Elt Ideal)) (x1 : (⟨S2048x2048, .bf16⟩ : BufTy).Contents (Elt Ideal))
  (x2 : (⟨S3x2048, .f32⟩ : BufTy).Contents (Elt Ideal)) (x3 : (⟨S1x2048, .f32⟩ : BufTy).Contents (Elt Ideal))

/-- Two readings of one array at equal coordinates. -/
theorem at2_congr {a b : Nat} (x : (⟨2, ![a, b]⟩ : Shape).Idx → EReal) {i i' j j' : Nat} (hi : i = i') (hj : j = j') :
    at2 x i j = at2 x i' j' := by rw [hi, hj]
theorem at4_congr {a b c d : Nat} (x : (⟨4, ![a, b, c, d]⟩ : Shape).Idx → EReal) {i i' j j' k k' l l' : Nat}
    (hi : i = i') (hj : j = j') (hk : k = k') (hl : l = l') : at4 x i j k l = at4 x i' j' k' l' := by
  rw [hi, hj, hk, hl]

/-- The projections by batch element and token. -/
theorem ref_v1 (i : S8x2048x4096.Idx) :
    val_main_v1 (F := Ideal) x0 i = at2 x0 (2048 * (i 0).val + (i 1).val) (i 2).val := by
  rw [val_main_v1_apply, val_main_v0_apply]
  refine (at2_of (a := 16384) (b := 4096) x0 _).trans (at2_congr _ ?_ ?_)
  all_goals
    have h1 : (i 1).val < 2048 := (i 1).isLt
    have h2 : (i 2).val < 4096 := (i 2).isLt
  · show (((i 0).val * 2048 + (i 1).val) * 4096 + (i 2).val) / 4096 = _; omega
  · show (((i 0).val * 2048 + (i 1).val) * 4096 + (i 2).val) % 4096 = _; omega

theorem ref_v3 (i : S8x256x2048.Idx) :
    val_main_v3 (F := Ideal) x1 i = at2 x1 (256 * (i 0).val + (i 1).val) (i 2).val := by
  rw [val_main_v3_apply, val_main_v2_apply]
  refine (at2_of (a := 2048) (b := 2048) x1 _).trans (at2_congr _ ?_ ?_)
  all_goals
    have h1 : (i 1).val < 256 := (i 1).isLt
    have h2 : (i 2).val < 2048 := (i 2).isLt
  · show (((i 0).val * 256 + (i 1).val) * 2048 + (i 2).val) / 2048 = _; omega
  · show (((i 0).val * 256 + (i 1).val) * 2048 + (i 2).val) % 2048 = _; omega

theorem ref_pad0 (i : S_.Idx) : val_main_call0_v0 (F := Ideal) i = 0 := by
  rw [val_main_call0_v0_apply, val_main_c_apply]
  show ((((0#32 : BitVec 32).toInt : ℝ)) : EReal) = 0
  simp

theorem ref_pad2 (i : S_.Idx) : val_main_call2_v0 (F := Ideal) i = 0 := ref_pad0 i

/-- A sequence with a zero token before it and one after it. -/
theorem padded {n w : Nat} (x : (⟨3, ![8, n, w]⟩ : Shape).Idx → EReal) (v : S_.Idx → EReal)
    (hp : (⟨3, ![8, n, w]⟩ : Shape).Pads ![0, 1, 0] ![0, 1, 0] ![0, 0, 0] ⟨3, ![8, n + 2, w]⟩) (hr : 0 < S_.numel)
    {f : Nat → Nat → Nat → EReal} (hx : ∀ i, x i = f (i 0).val (i 1).val (i 2).val) (hv : ∀ i, v i = 0)
    (i : (⟨3, ![8, n + 2, w]⟩ : Shape).Idx) :
    pad ⟨3, ![8, n + 2, w]⟩ ![0, 1, 0] ![0, 1, 0] ![0, 0, 0] x v hp hr i
      = if (i 1).val = 0 ∨ (i 1).val = n + 1 then 0 else f (i 0).val ((i 1).val - 1) (i 2).val := by
  have h0 : (i 0).val < 8 := (i 0).isLt
  have h1 : (i 1).val < n + 2 := (i 1).isLt
  have h2 : (i 2).val < w := (i 2).isLt
  rw [pad_apply]
  split_ifs with hin he he
  · exfalso
    have := hin 1
    have q1 : (1 : Nat) ≤ (i 1).val := this.1
    have q2 : ((i 1).val - 1) / 1 < n := this.2.2
    omega
  · rw [Shape.Idx.norm_def, hx]
    show f (((i 0).val - 0) / (0 + 1)) (((i 1).val - 1) / (0 + 1)) (((i 2).val - 0) / (0 + 1)) = _
    simp
  · exact hv _
  · exfalso
    apply hin
    intro a
    match a with
    | ⟨0, _⟩ => exact ⟨Nat.zero_le _, Nat.mod_one _, by show ((i 0).val - 0) / (0 + 1) < 8; omega⟩
    | ⟨1, _⟩ => exact ⟨by show 1 ≤ (i 1).val; omega, Nat.mod_one _, by show ((i 1).val - 1) / (0 + 1) < n; omega⟩
    | ⟨2, _⟩ => exact ⟨Nat.zero_le _, Nat.mod_one _, by show ((i 2).val - 0) / (0 + 1) < w; omega⟩

theorem ref_v5 (i : S8x2050x2048.Idx) :
    val_main_v5 (F := Ideal) x0 i
      = if (i 1).val = 0 ∨ (i 1).val = 2049 then 0 else at2 x0 (2048 * (i 0).val + ((i 1).val - 1)) (i 2).val :=
  padded (n := 2048) (w := 2048) (val_main_v4 (F := Ideal) x0) (val_main_call0_v0 (F := Ideal)) _ _
    (f := fun b t e => at2 x0 (2048 * b + t) e) (fun j => by rw [val_main_v4_apply, ref_v1]) ref_pad0 i

theorem ref_v43 (i : S8x258x1024.Idx) :
    val_main_v43 (F := Ideal) x1 i
      = if (i 1).val = 0 ∨ (i 1).val = 257 then 0 else at2 x1 (256 * (i 0).val + ((i 1).val - 1)) (i 2).val :=
  padded (n := 256) (w := 1024) (val_main_v40 (F := Ideal) x1) (val_main_call2_v0 (F := Ideal)) _ _
    (f := fun b t e => at2 x1 (256 * b + t) e) (fun j => by rw [val_main_v40_apply, ref_v3]) ref_pad2 i

/-- The three taps of a padded sequence. -/
theorem tap_before (f : Nat → EReal) {n t : Nat} (ht : t < n) :
    (if t = 0 ∨ t = n + 1 then 0 else f (t - 1)) = if t = 0 then 0 else f (t - 1) := by
  have : ¬ t = n + 1 := by omega
  simp [this]
theorem tap_here (f : Nat → EReal) {n t : Nat} (ht : t < n) :
    (if 1 + t = 0 ∨ 1 + t = n + 1 then 0 else f (1 + t - 1)) = f t := by
  rw [if_neg (by omega), Nat.add_sub_cancel_left]
theorem tap_after (f : Nat → EReal) {n t : Nat} :
    (if 2 + t = 0 ∨ 2 + t = n + 1 then 0 else f (2 + t - 1)) = if t + 1 = n then 0 else f (t + 1) := by
  have e : 2 + t - 1 = t + 1 := by omega
  by_cases h : t + 1 = n
  · rw [if_pos h, if_pos (by omega)]
  · rw [if_neg h, if_neg (by omega), e]

/-- The convolution of the tokens. -/
theorem ref_v28 (i : S8x2048x2048.Idx) :
    val_main_v28 (F := Ideal) x0 x2 x3 i
      = conv 2048 (fun t e => at2 x0 (2048 * (i 0).val + t) e) (at2 x2) (at2 x3 0) (i 1).val (i 2).val := by
  have h1 : (i 1).val < 2048 := (i 1).isLt
  have h2 : (i 2).val < 2048 := (i 2).isLt
  have a0 := tap_before (fun t => at2 x0 (2048 * (i 0).val + t) (i 2).val) h1
  have a1 := tap_here (fun t => at2 x0 (2048 * (i 0).val + t) (i 2).val) h1
  have a2 := tap_after (fun t => at2 x0 (2048 * (i 0).val + t) (i 2).val) (n := 2048) (t := (i 1).val)
  rw [val_main_v28_apply, val_main_v25_apply, val_main_v18_apply, val_main_v11_apply, val_main_v17_apply,
    val_main_v24_apply, val_main_v6_apply, val_main_v12_apply, val_main_v19_apply, ref_v5, ref_v5, ref_v5,
    val_main_v10_apply, val_main_v9_apply, val_main_v8_apply, val_main_v7_apply,
    val_main_v16_apply, val_main_v15_apply, val_main_v14_apply, val_main_v13_apply,
    val_main_v23_apply, val_main_v22_apply, val_main_v21_apply, val_main_v20_apply,
    val_main_v27_apply, val_main_v26_apply]
  have w0 := (at2_of (a := 3) (b := 2048) x2 (idx_main_v7 (idx_main_v8 (idx_main_v9 (idx_main_v10 i))))).trans
    (at2_congr x2 (i' := 0) (j' := (i 2).val) rfl (Nat.mod_eq_of_lt h2))
  have w1 := (at2_of (a := 3) (b := 2048) x2 (idx_main_v13 (idx_main_v14 (idx_main_v15 (idx_main_v16 i))))).trans
    (at2_congr x2 (i' := 1) (j' := (i 2).val) rfl (Nat.mod_eq_of_lt h2))
  have w2 := (at2_of (a := 3) (b := 2048) x2 (idx_main_v20 (idx_main_v21 (idx_main_v22 (idx_main_v23 i))))).trans
    (at2_congr x2 (i' := 2) (j' := (i 2).val) rfl (Nat.mod_eq_of_lt h2))
  have b0 := at2_of (a := 1) (b := 2048) x3 (idx_main_v26 (idx_main_v27 i))
  exact congrArg₂ (· + ·) (congrArg₂ (· + ·) (congrArg₂ (· + ·) (congrArg₂ (· * ·) a0 w0)
    (congrArg₂ (· * ·) a1 w1)) (congrArg₂ (· * ·) a2 w2)) b0

/-- The convolution of the context. -/
theorem ref_v66 (i : S8x256x1024.Idx) :
    val_main_v66 (F := Ideal) x1 x2 x3 i
      = conv 256 (fun t e => at2 x1 (256 * (i 0).val + t) e) (fun j e => at2 x2 j (1024 + e))
          (fun e => at2 x3 0 (1024 + e)) (i 1).val (i 2).val := by
  have h1 : (i 1).val < 256 := (i 1).isLt
  have h2 : (i 2).val < 1024 := (i 2).isLt
  have q : 1024 + (i 2).val % 1024 = 1024 + (i 2).val := by rw [Nat.mod_eq_of_lt h2]
  have a0 := tap_before (fun t => at2 x1 (256 * (i 0).val + t) (i 2).val) h1
  have a1 := tap_here (fun t => at2 x1 (256 * (i 0).val + t) (i 2).val) h1
  have a2 := tap_after (fun t => at2 x1 (256 * (i 0).val + t) (i 2).val) (n := 256) (t := (i 1).val)
  rw [val_main_v66_apply, val_main_v63_apply, val_main_v56_apply, val_main_v49_apply, val_main_v55_apply,
    val_main_v62_apply, val_main_v44_apply, val_main_v50_apply, val_main_v57_apply, ref_v43, ref_v43, ref_v43,
    val_main_v48_apply, val_main_v47_apply, val_main_v46_apply, val_main_v45_apply, val_main_v41_apply,
    val_main_v54_apply, val_main_v53_apply, val_main_v52_apply, val_main_v51_apply, val_main_v41_apply,
    val_main_v61_apply, val_main_v60_apply, val_main_v59_apply, val_main_v58_apply, val_main_v41_apply,
    val_main_v65_apply, val_main_v64_apply, val_main_v42_apply]
  have w0 := (at2_of (a := 3) (b := 2048) x2
    (idx_main_v41 (idx_main_v45 (idx_main_v46 (idx_main_v47 (idx_main_v48 i)))))).trans
    (at2_congr x2 (i' := 0) (j' := 1024 + (i 2).val) rfl q)
  have w1 := (at2_of (a := 3) (b := 2048) x2
    (idx_main_v41 (idx_main_v51 (idx_main_v52 (idx_main_v53 (idx_main_v54 i)))))).trans
    (at2_congr x2 (i' := 1) (j' := 1024 + (i 2).val) rfl q)
  have w2 := (at2_of (a := 3) (b := 2048) x2
    (idx_main_v41 (idx_main_v58 (idx_main_v59 (idx_main_v60 (idx_main_v61 i)))))).trans
    (at2_congr x2 (i' := 2) (j' := 1024 + (i 2).val) rfl q)
  have b0 := at2_of (a := 1) (b := 2048) x3 (idx_main_v42 (idx_main_v64 (idx_main_v65 i)))
  exact congrArg₂ (· + ·) (congrArg₂ (· + ·) (congrArg₂ (· + ·) (congrArg₂ (· * ·) a0 w0)
    (congrArg₂ (· * ·) a1 w1)) (congrArg₂ (· * ·) a2 w2)) b0

theorem one_f32 : Ideal.ofBits .f32 0x3F800000#32 = 1 := by
  simp [Ideal.ofBits, Ideal.ieee, -EReal.coe_mul]
  norm_num

/-- silu of the two convolutions. -/
theorem ref_v29 (i : S8x2048x2048.Idx) :
    val_main_v29 (F := Ideal) x0 x2 x3 i
      = silu (conv 2048 (fun t e => at2 x0 (2048 * (i 0).val + t) e) (at2 x2) (at2 x3 0) (i 1).val (i 2).val) := by
  rw [← ref_v28, val_main_v29_apply, val_main_call1_v5_apply, val_main_call1_v3_apply, val_main_call1_v1_apply,
    val_main_call1_v0_apply, val_main_call1_v2_apply, val_main_call1_v4_apply, val_main_call1_cst_apply,
    val_main_call1_cst_0_apply]
  show _ * Ideal.div (Ideal.ofBits .f32 0x3F800000#32) (Ideal.ofBits .f32 0x3F800000#32 + Ideal.exp (-_)) = silu _
  rw [one_f32]
  rfl

theorem ref_v67 (i : S8x256x1024.Idx) :
    val_main_v67 (F := Ideal) x1 x2 x3 i
      = silu (conv 256 (fun t e => at2 x1 (256 * (i 0).val + t) e) (fun j e => at2 x2 j (1024 + e))
          (fun e => at2 x3 0 (1024 + e)) (i 1).val (i 2).val) := by
  rw [← ref_v66, val_main_v67_apply, val_main_call3_v5_apply, val_main_call3_v3_apply, val_main_call3_v1_apply,
    val_main_call3_v0_apply, val_main_call3_v2_apply, val_main_call3_v4_apply, val_main_call3_cst_apply,
    val_main_call3_cst_0_apply]
  show _ * Ideal.div (Ideal.ofBits .f32 0x3F800000#32) (Ideal.ofBits .f32 0x3F800000#32 + Ideal.exp (-_)) = silu _
  rw [one_f32]
  rfl

end Cert.Mlstm

end
-- ==== Proof.Arrays.lean ====
/-
  The program's result array: every head's block, so every element, is the head's output.
-/
module

public import proofs.«01_k».proof.Proof.RunOut
public import proofs.«01_k».proof.Proof.Tables
public import proofs.«01_k».proof.Proof.RefConv
public import Idealize.ShloMosaic.Lib.Pipeline.ValueKit

@[expose] public section

set_option maxRecDepth 16384

noncomputable section

namespace Cert.Mlstm

open Idealize.ShloMosaic Idealize.ShloMosaic.TcCoe Idealize.SL.Sem Cert.KernelIdeal Cert.KernelIdeal.Gen
open Idealize.ShloMosaic.Pipeline (Dat)

/-- The result array as a function of the arguments. -/
def result (x0 : (⟨2, ![16384, 4096]⟩ : Shape).Idx → EReal) (x1 : (⟨2, ![2048, 2048]⟩ : Shape).Idx → EReal)
    (x2 : (⟨2, ![3, 2048]⟩ : Shape).Idx → EReal) (x3 : (⟨2, ![1, 2048]⟩ : Shape).Idx → EReal)
    (x4 : (⟨4, ![8, 4, 16, 256]⟩ : Shape).Idx → EReal) (x5 : (⟨4, ![8, 4, 256, 128]⟩ : Shape).Idx → EReal)
    (x6 : (⟨2, ![1, 1024]⟩ : Shape).Idx → EReal) (i : (⟨2, ![16384, 1024]⟩ : Shape).Idx) : EReal :=
  out (headOf x0 x1 x2 x3 x4 x5 x6 ((i 0).val / 2048) ((i 1).val / 256))
    ((i 0).val % 2048 / 256) ((i 0).val % 2048 % 256) ((i 1).val % 256)

/-- The floor of the denominators is positive. -/
def Positive (x5 : (⟨4, ![8, 4, 256, 128]⟩ : Shape).Idx → EReal) : Prop :=
  ∀ b h t l, b < 8 → h < 4 → t < 256 → 48 ≤ l → l < 64 → 0 < at4 x5 b h t l

/-! ### The windows' places -/

theorem at_0 : ∀ t : Fin cfg0.N, win0_0.index t = ![(grid0.coords t 0).val, (grid0.coords t 1).val] :=
  (by decide +kernel : ∀ t : Fin grid0.N, _)
theorem at_1 : ∀ t : Fin cfg0.N, win0_1.index t = ![(grid0.coords t 0).val, 4 + (grid0.coords t 1).val] :=
  (by decide +kernel : ∀ t : Fin grid0.N, _)
theorem at_2 : ∀ t : Fin cfg0.N, win0_2.index t = ![(grid0.coords t 0).val, 8 + (grid0.coords t 1).val] :=
  (by decide +kernel : ∀ t : Fin grid0.N, _)
theorem at_3 : ∀ t : Fin cfg0.N, win0_3.index t = ![(grid0.coords t 0).val, 12 + (grid0.coords t 1).val] :=
  (by decide +kernel : ∀ t : Fin grid0.N, _)
theorem at_4 : ∀ t : Fin cfg0.N, win0_4.index t = ![(grid0.coords t 0).val, (grid0.coords t 1).val] :=
  (by decide +kernel : ∀ t : Fin grid0.N, _)
theorem at_5 : ∀ t : Fin cfg0.N, win0_5.index t = ![(grid0.coords t 0).val, 4 + (grid0.coords t 1).val] :=
  (by decide +kernel : ∀ t : Fin grid0.N, _)
theorem at_6 : ∀ t : Fin cfg0.N, win0_6.index t = ![0, (grid0.coords t 1).val] :=
  (by decide +kernel : ∀ t : Fin grid0.N, _)
theorem at_7 : ∀ t : Fin cfg0.N, win0_7.index t = ![0, (grid0.coords t 1).val] :=
  (by decide +kernel : ∀ t : Fin grid0.N, _)
theorem at_8 : ∀ t : Fin cfg0.N, win0_8.index t = ![0, 4 + (grid0.coords t 1).val] :=
  (by decide +kernel : ∀ t : Fin grid0.N, _)
theorem at_9 : ∀ t : Fin cfg0.N, win0_9.index t = ![0, 4 + (grid0.coords t 1).val] :=
  (by decide +kernel : ∀ t : Fin grid0.N, _)
theorem at_10 : ∀ t : Fin cfg0.N, win0_10.index t = ![(grid0.coords t 0).val, (grid0.coords t 1).val, 0, 0] :=
  (by decide +kernel : ∀ t : Fin grid0.N, _)
theorem at_11 : ∀ t : Fin cfg0.N, win0_11.index t = ![(grid0.coords t 0).val, (grid0.coords t 1).val, 0, 0] :=
  (by decide +kernel : ∀ t : Fin grid0.N, _)
theorem at_12 : ∀ t : Fin cfg0.N, win0_12.index t = ![0, (grid0.coords t 1).val] :=
  (by decide +kernel : ∀ t : Fin grid0.N, _)
theorem at_13 : ∀ t : Fin cfg0.N, win0_13.index t = ![0, 0] :=
  (by decide +kernel : ∀ t : Fin grid0.N, _)
theorem at_14 : ∀ t : Fin cfg0.N, win0_14.index t = ![0, 0] :=
  (by decide +kernel : ∀ t : Fin grid0.N, _)
theorem at_15 : ∀ t : Fin cfg0.N, win0_15.index t = ![(grid0.coords t 0).val, (grid0.coords t 1).val] :=
  (by decide +kernel : ∀ t : Fin grid0.N, _)

/-- The same element of the same head. -/
theorem place (f : Nat → Nat → Head) (b h b' h' : Nat) {c c' t t' e e' : Nat} (hb : b' = b) (hh : h' = h) (hc : c' = c)
    (ht : t' = t) (he : e' = e) : out (f b h) c t e = out (f b' h') c' t' e' := by
  rw [hb, hh, hc, ht, he]

variable (m : (ℓ : Loc nD τ sig) → Buf (Elt Ideal) ℓ)

set_option maxHeartbeats 2000000 in
theorem reads (c : Dev nD) (hp : Positive (m ((c : Thread nD τ).loc main_arg5))) (t : Fin cfg0.N) :
    Reads (headOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (grid0.coords t 0).val (grid0.coords t 1).val)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) where
  hq i := (congrFun (V_main_arg0 m c) _).trans ((at2_of (a := 16384) (b := 4096) _ _).trans
    (congrArg₂ _ (by blk_simp [at_0]; omega) (by blk_simp [at_0]; omega)))
  hk i := (congrFun (V_main_arg0 m c) _).trans ((at2_of (a := 16384) (b := 4096) _ _).trans
    (congrArg₂ _ (by blk_simp [at_1]; omega) (by blk_simp [at_1]; omega)))
  hv i := (congrFun (V_main_arg0 m c) _).trans ((at2_of (a := 16384) (b := 4096) _ _).trans
    (congrArg₂ _ (by blk_simp [at_2]; omega) (by blk_simp [at_2]; omega)))
  ho i := (congrFun (V_main_arg0 m c) _).trans ((at2_of (a := 16384) (b := 4096) _ _).trans
    (congrArg₂ _ (by blk_simp [at_3]; omega) (by blk_simp [at_3]; omega)))
  hkc i := (congrFun (V_main_arg1 m c) _).trans ((at2_of (a := 2048) (b := 2048) _ _).trans
    (congrArg₂ _ (by blk_simp [at_4]; omega) (by blk_simp [at_4]; omega)))
  hvc i := (congrFun (V_main_arg1 m c) _).trans ((at2_of (a := 2048) (b := 2048) _ _).trans
    (congrArg₂ _ (by blk_simp [at_5]; omega) (by blk_simp [at_5]; omega)))
  hwq i := (congrFun (V_main_arg2 m c) _).trans ((at2_of (a := 3) (b := 2048) _ _).trans
    (congrArg₂ _ (by blk_simp [at_6]) (by blk_simp [at_6]; omega)))
  hbq i := (congrFun (V_main_arg3 m c) _).trans ((at2_of (a := 1) (b := 2048) _ _).trans
    (congrArg₂ _ (by blk_simp [at_7]) (by blk_simp [at_7]; omega)))
  hwk i := (congrFun (V_main_arg2 m c) _).trans ((at2_of (a := 3) (b := 2048) _ _).trans
    (congrArg₂ _ (by blk_simp [at_8]) (by blk_simp [at_8]; omega)))
  hbk i := (congrFun (V_main_arg3 m c) _).trans ((at2_of (a := 1) (b := 2048) _ _).trans
    (congrArg₂ _ (by blk_simp [at_9]) (by blk_simp [at_9]; omega)))
  hrow i := (congrFun (V_main_arg4 m c) _).trans ((at4_of (a := 8) (b := 4) (c := 16) (d := 256) _ _).trans
    (at4_congr _ (by blk_simp [at_10]) (by blk_simp [at_10])
      (by blk_simp [at_10]) (by blk_simp [at_10])))
  hst i := (congrFun (V_main_arg5 m c) _).trans ((at4_of (a := 8) (b := 4) (c := 256) (d := 128) _ _).trans
    (at4_congr _ (by blk_simp [at_11]) (by blk_simp [at_11])
      (by blk_simp [at_11]) (by blk_simp [at_11])))
  hnw i := (congrFun (V_main_arg6 m c) _).trans ((at2_of (a := 1) (b := 1024) _ _).trans
    (congrArg₂ _ (by blk_simp [at_12]) (by blk_simp [at_12]; omega)))
  hband i := (congrFun (V_band m c) _).trans ((band_at _).trans
    (congrArg₂ _ (by blk_simp [at_13]) (by blk_simp [at_13])))
  hedge i := (congrFun (V_edge m c) _).trans ((edge_at _).trans
    (congrArg₂ _ (by blk_simp [at_14]) (by blk_simp [at_14])))
  pos s l hs hl hl' := hp _ _ s l (grid0.coords t 0).isLt (grid0.coords t 1).isLt hs hl hl'

set_option maxHeartbeats 2000000 in
theorem block_out (c : Dev nD) (hp : Positive (m ((c : Thread nD τ).loc main_arg5))) (t : Fin cfg0.N) (y : S2048x256.Idx) :
    outsAt0 m c t y = out (headOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (grid0.coords t 0).val (grid0.coords t 1).val) ((y 0).val / 256) ((y 0).val % 256) (y 1).val := by
  unfold outsAt0 out0_A_15
  rw [View.read_writes_junk_apply_eq_canon]
  exact canon2 (holds_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (reads m c hp t))
    (cover0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) y

theorem final (c : Dev nD) (hp : Positive (m ((c : Thread nD τ).loc main_arg5))) :
    (dats m 0 c).arrAt 15 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 15 _ (by decide +kernel) fun t hf y => ?_
  blk_simp
  rw [after0_15]
  refine (block_out m c hp t y).trans ?_
  unfold result
  blk_simp [at_15]
  have h0 : (y 0).val < 2048 := (y 0).isLt
  have h1 : (y 1).val < 256 := (y 1).isLt
  refine place (headOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) _ _ _ _ ?_ ?_ ?_ ?_ ?_ <;> omega

end Cert.Mlstm

end
-- ==== Proof.RefTokens.lean ====
/-
  The reference's queries, keys, values and gates of every head, element by element.
-/
module

public import proofs.«01_k».proof.Proof.RefConv

@[expose] public section

noncomputable section

namespace Cert.Mlstm

open Idealize.ShloMosaic Cert.ReferenceIdeal Cert.ReferenceIdeal.Gen Cert.ReferenceIdeal.Read

variable (x0 : (⟨S16384x4096, .bf16⟩ : BufTy).Contents (Elt Ideal)) (x1 : (⟨S2048x2048, .bf16⟩ : BufTy).Contents (Elt Ideal))
  (x2 : (⟨S3x2048, .f32⟩ : BufTy).Contents (Elt Ideal)) (x3 : (⟨S1x2048, .f32⟩ : BufTy).Contents (Elt Ideal))
  (x4 : (⟨S8x4x16x256, .f32⟩ : BufTy).Contents (Elt Ideal)) (x5 : (⟨S8x4x256x128, .f32⟩ : BufTy).Contents (Elt Ideal))
  (x6 : (⟨S1x1024, .f32⟩ : BufTy).Contents (Elt Ideal))

/-- The position of a head's feature among all heads' features. -/
theorem flat5 {b c t h e : Nat} (hc : c < 8) (ht : t < 256) (hh : h < 4) (he : e < 256) :
    ((((b * 8 + c) * 256 + t) * 4 + h) * 256 + e) / 2097152 = b
      ∧ ((((b * 8 + c) * 256 + t) * 4 + h) * 256 + e) / 1024 % 2048 = 256 * c + t
      ∧ ((((b * 8 + c) * 256 + t) * 4 + h) * 256 + e) % 1024 = 256 * h + e := by
  refine ⟨?_, ?_, ?_⟩ <;> omega
theorem flat4 {b t h e : Nat} (ht : t < 256) (hh : h < 4) (he : e < 256) :
    (((b * 256 + t) * 4 + h) * 256 + e) / 262144 = b
      ∧ (((b * 256 + t) * 4 + h) * 256 + e) / 1024 % 256 = t
      ∧ (((b * 256 + t) * 4 + h) * 256 + e) % 1024 = 256 * h + e := by
  refine ⟨?_, ?_, ?_⟩ <;> omega

/-- A convolution of shifted features is the shifted convolution. -/
theorem conv_congr {n : Nat} {x x' w w' : Nat → Nat → EReal} {b b' : Nat → EReal} {t t' e e' : Nat} (ht : t = t')
    (hx : ∀ s, x s e = x' s e') (hw : ∀ j, w j e = w' j e') (hb : b e = b' e') :
    conv n x w b t e = conv n x' w' b' t' e' := by
  subst ht
  unfold conv
  rw [hx, hx, hx, hw, hw, hw, hb]

theorem ref_v31 (i : S8x8x256x4x256.Idx) :
    val_main_v31 (F := Ideal) x0 x2 x3 i
      = qq (headOf x0 x1 x2 x3 x4 x5 x6 (i 0).val (i 3).val) (256 * (i 1).val + (i 2).val) (i 4).val := by
  obtain ⟨p, q, r⟩ := flat5 (b := (i 0).val) (i 1).isLt (i 2).isLt (i 3).isLt (i 4).isLt
  rw [val_main_v31_apply, val_main_v30_apply, ref_v29]
  refine congrArg silu (conv_congr q (fun s => ?_) (fun j => ?_) ?_)
  · exact at2_congr x0 (congrArg (2048 * · + s) p) r
  · exact at2_congr x2 rfl r
  · exact at2_congr x3 rfl r

theorem ref_v35 (i : S8x8x256x4x256.Idx) :
    val_main_v35 (F := Ideal) x0 x2 x3 i
      = kk (headOf x0 x1 x2 x3 x4 x5 x6 (i 0).val (i 3).val) (256 * (i 1).val + (i 2).val) (i 4).val := by
  obtain ⟨p, q, r⟩ := flat5 (b := (i 0).val) (i 1).isLt (i 2).isLt (i 3).isLt (i 4).isLt
  have r' := (congrArg (1024 + ·) r).trans (Nat.add_assoc _ _ _).symm
  rw [val_main_v35_apply, val_main_v34_apply, val_main_v32_apply, val_main_v33_apply, val_main_cst_apply, ref_v29]
  refine congrArg (silu · * kscale) (conv_congr q (fun s => ?_) (fun j => ?_) ?_)
  · exact at2_congr x0 (congrArg (2048 * · + s) p) r'
  · exact at2_congr x2 rfl r'
  · exact at2_congr x3 rfl r'

theorem ref_v37 (i : S8x8x256x4x256.Idx) :
    val_main_v37 (F := Ideal) x0 i
      = (headOf x0 x1 x2 x3 x4 x5 x6 (i 0).val (i 3).val).xv (256 * (i 1).val + (i 2).val) (i 4).val := by
  obtain ⟨p, q, r⟩ := flat5 (b := (i 0).val) (i 1).isLt (i 2).isLt (i 3).isLt (i 4).isLt
  rw [val_main_v37_apply, val_main_v36_apply, ref_v1]
  exact at2_congr x0 (congrArg₂ (2048 * · + ·) p q) ((congrArg (2048 + ·) r).trans (Nat.add_assoc _ _ _).symm)

theorem ref_v39 (i : S8x8x256x4x256.Idx) :
    val_main_v39 (F := Ideal) x0 i
      = (headOf x0 x1 x2 x3 x4 x5 x6 (i 0).val (i 3).val).xo (256 * (i 1).val + (i 2).val) (i 4).val := by
  obtain ⟨p, q, r⟩ := flat5 (b := (i 0).val) (i 1).isLt (i 2).isLt (i 3).isLt (i 4).isLt
  rw [val_main_v39_apply, val_main_v38_apply, ref_v1]
  exact at2_congr x0 (congrArg₂ (2048 * · + ·) p q) ((congrArg (3072 + ·) r).trans (Nat.add_assoc _ _ _).symm)

theorem ref_v70 (i : S8x256x4x256.Idx) :
    val_main_v70 (F := Ideal) x1 x2 x3 i
      = kc (headOf x0 x1 x2 x3 x4 x5 x6 (i 0).val (i 2).val) (i 1).val (i 3).val := by
  obtain ⟨p, q, r⟩ := flat4 (b := (i 0).val) (i 1).isLt (i 2).isLt (i 3).isLt
  have r' := (congrArg (1024 + ·) r).trans (Nat.add_assoc _ _ _).symm
  rw [val_main_v70_apply, val_main_v69_apply, val_main_v68_apply, val_main_cst_1_apply, ref_v67]
  refine congrArg (silu · * kscale) (conv_congr q (fun s => ?_) (fun j => ?_) ?_)
  · exact at2_congr x1 (congrArg (256 * · + s) p) r
  · exact at2_congr x2 rfl r'
  · exact at2_congr x3 rfl r'

theorem ref_v72 (i : S8x256x4x256.Idx) :
    val_main_v72 (F := Ideal) x1 i
      = (headOf x0 x1 x2 x3 x4 x5 x6 (i 0).val (i 2).val).xvc (i 1).val (i 3).val := by
  obtain ⟨p, q, r⟩ := flat4 (b := (i 0).val) (i 1).isLt (i 2).isLt (i 3).isLt
  rw [val_main_v72_apply, val_main_v71_apply, ref_v3]
  exact at2_congr x1 (congrArg₂ (256 * · + ·) p q) ((congrArg (1024 + ·) r).trans (Nat.add_assoc _ _ _).symm)

end Cert.Mlstm

end
-- ==== Proof.RefChain.lean ====
/-
  One step of the reference's scan over the chunks, and the stack of the states it meets, for any operands.
-/
module

public import proofs.«01_k».proof.Proof.Spec
public import proofs.«01_k».proof.Proof.Gen.ReferenceIdeal.Read
public import Idealize.ShloMosaic.Lib.Pipeline.Value

@[expose] public section

noncomputable section

namespace Cert.Mlstm

open Idealize.ShloMosaic Cert.ReferenceIdeal Cert.ReferenceIdeal.Gen

/-- The factor of chunk `k` for every head. -/
def gateR (k : Nat) (s : FVec Ideal S8x4x8 .f32) (hs : S8x4x8.Slices ![0, 0, k] S8x4x1) : FVec Ideal S8x4 .f32 :=
  shapeCast S8x4 (extractStridedSlice S8x4x1 ![0, 0, k] s hs) shapeCasts_S8x4x1_S8x4

/-- A matrix state moved over chunk `k`. -/
def moveC (k : Nat) (s : FVec Ideal S8x4x8 .f32) (hs : S8x4x8.Slices ![0, 0, k] S8x4x1)
    (L : FVec Ideal S8x8x4x256x256 .f32) (hl : S8x8x4x256x256.Slices ![k, 0, 0, 0, 0] S1x8x4x256x256)
    (C : FVec Ideal S8x4x256x256 .f32) : FVec Ideal S8x4x256x256 .f32 :=
  addf (mulf (broadcastInDim S8x4x256x256 ![0, 1, 2, 3] bcast_S8x4x1x1_S8x4x256x256_0_1_2_3
      (broadcastInDim S8x4x1x1 ![0, 1] bcast_S8x4_S8x4x1x1_0_1 (gateR k s hs))) C)
    (shapeCast S8x4x256x256 (extractStridedSlice S1x8x4x256x256 ![k, 0, 0, 0, 0] L hl)
      shapeCasts_S1x8x4x256x256_S8x4x256x256)

/-- A normaliser moved over chunk `k`. -/
def moveN (k : Nat) (s : FVec Ideal S8x4x8 .f32) (hs : S8x4x8.Slices ![0, 0, k] S8x4x1)
    (L : FVec Ideal S8x8x4x256 .f32) (hl : S8x8x4x256.Slices ![k, 0, 0, 0] S1x8x4x256)
    (N : FVec Ideal S8x4x256 .f32) : FVec Ideal S8x4x256 .f32 :=
  addf (mulf (broadcastInDim S8x4x256 ![0, 1, 2] bcast_S8x4x1_S8x4x256_0_1_2
      (broadcastInDim S8x4x1 ![0, 1] bcast_S8x4_S8x4x1_0_1 (gateR k s hs))) N)
    (shapeCast S8x4x256 (extractStridedSlice S1x8x4x256 ![k, 0, 0, 0] L hl) shapeCasts_S1x8x4x256_S8x4x256)

variable {H : Nat → Nat → Head} {d j k : Nat} {s : FVec Ideal S8x4x8 .f32}

theorem gateR_at (hs : S8x4x8.Slices ![0, 0, k] S8x4x1) (hk : k < 8)
    (h : ∀ i, s i = (H (i 0).val (i 1).val).col 0 (66 + 8 * d + (i 2).val)) (i : S8x4.Idx) :
    gateR k s hs i = (H (i 0).val (i 1).val).col 0 (66 + 8 * d + k) := by
  let p : S8x4x1.Idx := fun a => match a with | ⟨0, _⟩ => i 0 | ⟨1, _⟩ => i 1 | ⟨2, _⟩ => ⟨0, Nat.one_pos⟩
  let q : S8x4x8.Idx := fun a => match a with | ⟨0, _⟩ => i 0 | ⟨1, _⟩ => i 1 | ⟨2, _⟩ => ⟨k, hk⟩
  refine (shapeCast_apply _ _ i p ?_).trans ((extractStridedSlice_apply _ s hs p q ?_).trans (h q))
  · rw [Shape.rowMajor_val_three, Shape.rowMajor_val_two]
    show ((i 0).val * 4 + (i 1).val) * 1 + 0 = (i 0).val * 4 + (i 1).val
    omega
  · intro a
    match a with
    | ⟨0, _⟩ => exact (Nat.zero_add _).symm
    | ⟨1, _⟩ => exact (Nat.zero_add _).symm
    | ⟨2, _⟩ => rfl

theorem moveC_at (hs : S8x4x8.Slices ![0, 0, k] S8x4x1) {L : FVec Ideal S8x8x4x256x256 .f32}
    (hl : S8x8x4x256x256.Slices ![k, 0, 0, 0, 0] S1x8x4x256x256) {C : FVec Ideal S8x4x256x256 .f32}
    (hk : k < 8) (hd : chunkAt d j = k)
    (h : ∀ i, s i = (H (i 0).val (i 1).val).col 0 (66 + 8 * d + (i 2).val))
    (hL : ∀ i, L i = locC (H (i 1).val (i 2).val) d (i 0).val (i 3).val (i 4).val)
    (hC : ∀ i, C i = stC (H (i 0).val (i 1).val) d j (i 2).val (i 3).val) (i : S8x4x256x256.Idx) :
    moveC k s hs L hl C i = stC (H (i 0).val (i 1).val) d (j + 1) (i 2).val (i 3).val := by
  let g : S8x4.Idx := fun a => match a with | ⟨0, _⟩ => i 0 | ⟨1, _⟩ => i 1
  let g' : S8x4x1x1.Idx := fun a => match a with
    | ⟨0, _⟩ => i 0 | ⟨1, _⟩ => i 1 | ⟨2, _⟩ => ⟨0, Nat.one_pos⟩ | ⟨3, _⟩ => ⟨0, Nat.one_pos⟩
  let p : S1x8x4x256x256.Idx := fun a => match a with
    | ⟨0, _⟩ => ⟨0, Nat.one_pos⟩ | ⟨1, _⟩ => i 0 | ⟨2, _⟩ => i 1 | ⟨3, _⟩ => i 2 | ⟨4, _⟩ => i 3
  let q : S8x8x4x256x256.Idx := fun a => match a with
    | ⟨0, _⟩ => ⟨k, hk⟩ | ⟨1, _⟩ => i 0 | ⟨2, _⟩ => i 1 | ⟨3, _⟩ => i 2 | ⟨4, _⟩ => i 3
  have eg : broadcastInDim S8x4x256x256 ![0, 1, 2, 3] bcast_S8x4x1x1_S8x4x256x256_0_1_2_3
      (broadcastInDim S8x4x1x1 ![0, 1] bcast_S8x4_S8x4x1x1_0_1 (gateR k s hs)) i
        = (H (i 0).val (i 1).val).col 0 (66 + 8 * d + k) := by
    refine (broadcastInDim_apply _ _ _ i g' fun a => ?_).trans
      ((broadcastInDim_apply _ _ _ g' g fun a => ?_).trans (gateR_at hs hk h g))
    · match a with
      | ⟨0, _⟩ => exact (if_neg (show ¬ (8 : Nat) = 1 by decide)).symm
      | ⟨1, _⟩ => exact (if_neg (show ¬ (4 : Nat) = 1 by decide)).symm
      | ⟨2, _⟩ => exact (if_pos rfl).symm
      | ⟨3, _⟩ => exact (if_pos rfl).symm
    · match a with
      | ⟨0, _⟩ => exact (if_neg (show ¬ (8 : Nat) = 1 by decide)).symm
      | ⟨1, _⟩ => exact (if_neg (show ¬ (4 : Nat) = 1 by decide)).symm
  have el : shapeCast S8x4x256x256 (extractStridedSlice S1x8x4x256x256 ![k, 0, 0, 0, 0] L hl)
      shapeCasts_S1x8x4x256x256_S8x4x256x256 i = locC (H (i 0).val (i 1).val) d k (i 2).val (i 3).val := by
    refine (shapeCast_apply _ _ i p ?_).trans ((extractStridedSlice_apply _ L hl p q fun a => ?_).trans (hL q))
    · rw [Shape.rowMajor_val_five, Shape.rowMajor_val_four]
      show (((0 * 8 + (i 0).val) * 4 + (i 1).val) * 256 + (i 2).val) * 256 + (i 3).val
        = (((i 0).val * 4 + (i 1).val) * 256 + (i 2).val) * 256 + (i 3).val
      omega
    · match a with
      | ⟨0, _⟩ => rfl
      | ⟨1, _⟩ => exact (Nat.zero_add _).symm
      | ⟨2, _⟩ => exact (Nat.zero_add _).symm
      | ⟨3, _⟩ => exact (Nat.zero_add _).symm
      | ⟨4, _⟩ => exact (Nat.zero_add _).symm
  subst hd
  exact congrArg₂ (· + ·) (congrArg₂ (· * ·) eg (hC i)) el

theorem moveN_at (hs : S8x4x8.Slices ![0, 0, k] S8x4x1) {L : FVec Ideal S8x8x4x256 .f32}
    (hl : S8x8x4x256.Slices ![k, 0, 0, 0] S1x8x4x256) {N : FVec Ideal S8x4x256 .f32}
    (hk : k < 8) (hd : chunkAt d j = k)
    (h : ∀ i, s i = (H (i 0).val (i 1).val).col 0 (66 + 8 * d + (i 2).val))
    (hL : ∀ i, L i = locN (H (i 1).val (i 2).val) d (i 0).val (i 3).val)
    (hN : ∀ i, N i = stN (H (i 0).val (i 1).val) d j (i 2).val) (i : S8x4x256.Idx) :
    moveN k s hs L hl N i = stN (H (i 0).val (i 1).val) d (j + 1) (i 2).val := by
  let g : S8x4.Idx := fun a => match a with | ⟨0, _⟩ => i 0 | ⟨1, _⟩ => i 1
  let g' : S8x4x1.Idx := fun a => match a with | ⟨0, _⟩ => i 0 | ⟨1, _⟩ => i 1 | ⟨2, _⟩ => ⟨0, Nat.one_pos⟩
  let p : S1x8x4x256.Idx := fun a => match a with
    | ⟨0, _⟩ => ⟨0, Nat.one_pos⟩ | ⟨1, _⟩ => i 0 | ⟨2, _⟩ => i 1 | ⟨3, _⟩ => i 2
  let q : S8x8x4x256.Idx := fun a => match a with | ⟨0, _⟩ => ⟨k, hk⟩ | ⟨1, _⟩ => i 0 | ⟨2, _⟩ => i 1 | ⟨3, _⟩ => i 2
  have eg : broadcastInDim S8x4x256 ![0, 1, 2] bcast_S8x4x1_S8x4x256_0_1_2
      (broadcastInDim S8x4x1 ![0, 1] bcast_S8x4_S8x4x1_0_1 (gateR k s hs)) i
        = (H (i 0).val (i 1).val).col 0 (66 + 8 * d + k) := by
    refine (broadcastInDim_apply _ _ _ i g' fun a => ?_).trans
      ((broadcastInDim_apply _ _ _ g' g fun a => ?_).trans (gateR_at hs hk h g))
    · match a with
      | ⟨0, _⟩ => exact (if_neg (show ¬ (8 : Nat) = 1 by decide)).symm
      | ⟨1, _⟩ => exact (if_neg (show ¬ (4 : Nat) = 1 by decide)).symm
      | ⟨2, _⟩ => exact (if_pos rfl).symm
    · match a with
      | ⟨0, _⟩ => exact (if_neg (show ¬ (8 : Nat) = 1 by decide)).symm
      | ⟨1, _⟩ => exact (if_neg (show ¬ (4 : Nat) = 1 by decide)).symm
  have el : shapeCast S8x4x256 (extractStridedSlice S1x8x4x256 ![k, 0, 0, 0] L hl)
      shapeCasts_S1x8x4x256_S8x4x256 i = locN (H (i 0).val (i 1).val) d k (i 2).val := by
    refine (shapeCast_apply _ _ i p ?_).trans ((extractStridedSlice_apply _ L hl p q fun a => ?_).trans (hL q))
    · rw [Shape.rowMajor_val_four, Shape.rowMajor_val_three]
      show ((0 * 8 + (i 0).val) * 4 + (i 1).val) * 256 + (i 2).val = ((i 0).val * 4 + (i 1).val) * 256 + (i 2).val
      omega
    · match a with
      | ⟨0, _⟩ => rfl
      | ⟨1, _⟩ => exact (Nat.zero_add _).symm
      | ⟨2, _⟩ => exact (Nat.zero_add _).symm
      | ⟨3, _⟩ => exact (Nat.zero_add _).symm
  subst hd
  exact congrArg₂ (· + ·) (congrArg₂ (· * ·) eg (hN i)) el

/-- Eight matrix states stacked. -/
def stackC (f : Fin 8 → FVec Ideal S8x4x256x256 .f32) : FVec Ideal S8x8x4x256x256 .f32 :=
  let y := fun n => broadcastInDim S1x8x4x256x256 ![1, 2, 3, 4] bcast_S8x4x256x256_S1x8x4x256x256_1_2_3_4 (f n)
  concatenate S8x8x4x256x256 0 [⟨S1x8x4x256x256, y 0⟩, ⟨S1x8x4x256x256, y 1⟩, ⟨S1x8x4x256x256, y 2⟩,
    ⟨S1x8x4x256x256, y 3⟩, ⟨S1x8x4x256x256, y 4⟩, ⟨S1x8x4x256x256, y 5⟩, ⟨S1x8x4x256x256, y 6⟩, ⟨S1x8x4x256x256, y 7⟩]
    concatenates_S1x8x4x256x256_S1x8x4x256x256_S1x8x4x256x256_S1x8x4x256x256_S1x8x4x256x256_S1x8x4x256x256_S1x8x4x256x256_S1x8x4x256x256_S8x8x4x256x256_d0

/-- Eight normalisers stacked. -/
def stackN (f : Fin 8 → FVec Ideal S8x4x256 .f32) : FVec Ideal S8x8x4x256 .f32 :=
  let y := fun n => broadcastInDim S1x8x4x256 ![1, 2, 3] bcast_S8x4x256_S1x8x4x256_1_2_3 (f n)
  concatenate S8x8x4x256 0 [⟨S1x8x4x256, y 0⟩, ⟨S1x8x4x256, y 1⟩, ⟨S1x8x4x256, y 2⟩,
    ⟨S1x8x4x256, y 3⟩, ⟨S1x8x4x256, y 4⟩, ⟨S1x8x4x256, y 5⟩, ⟨S1x8x4x256, y 6⟩, ⟨S1x8x4x256, y 7⟩]
    concatenates_S1x8x4x256_S1x8x4x256_S1x8x4x256_S1x8x4x256_S1x8x4x256_S1x8x4x256_S1x8x4x256_S1x8x4x256_S8x8x4x256_d0

theorem stackC_at (f : Fin 8 → FVec Ideal S8x4x256x256 .f32) {G : Nat → Nat → Nat → Nat → Nat → EReal}
    (hf : ∀ n i, f n i = G n.val (i 0).val (i 1).val (i 2).val (i 3).val) (i : S8x8x4x256x256.Idx) :
    stackC f i = G (i 0).val (i 1).val (i 2).val (i 3).val (i 4).val := by
  let q : S8x4x256x256.Idx := fun a => match a with | ⟨0, _⟩ => i 1 | ⟨1, _⟩ => i 2 | ⟨2, _⟩ => i 3 | ⟨3, _⟩ => i 4
  let p : S1x8x4x256x256.Idx := fun a => match a with
    | ⟨0, _⟩ => ⟨0, Nat.one_pos⟩ | ⟨1, _⟩ => i 1 | ⟨2, _⟩ => i 2 | ⟨3, _⟩ => i 3 | ⟨4, _⟩ => i 4
  have piece := concatenate_ofFn_unit_apply (t := S8x8x4x256x256) 0
    (fun n : Fin 8 =>
      broadcastInDim S1x8x4x256x256 ![1, 2, 3, 4] bcast_S8x4x256x256_S1x8x4x256x256_1_2_3_4 (f n))
    concatenates_S1x8x4x256x256_S1x8x4x256x256_S1x8x4x256x256_S1x8x4x256x256_S1x8x4x256x256_S1x8x4x256x256_S1x8x4x256x256_S1x8x4x256x256_S8x8x4x256x256_d0
    rfl rfl i (i 0) rfl p fun b hb => by
      match b with
      | ⟨0, _⟩ => exact absurd rfl hb
      | ⟨1, _⟩ => rfl
      | ⟨2, _⟩ => rfl
      | ⟨3, _⟩ => rfl
      | ⟨4, _⟩ => rfl
  have laid := broadcastInDim_apply ![1, 2, 3, 4] bcast_S8x4x256x256_S1x8x4x256x256_1_2_3_4 (f (i 0)) p q fun a => by
    match a with
    | ⟨0, _⟩ => exact (if_neg (show ¬ (8 : Nat) = 1 by decide)).symm
    | ⟨1, _⟩ => exact (if_neg (show ¬ (4 : Nat) = 1 by decide)).symm
    | ⟨2, _⟩ => exact (if_neg (show ¬ (256 : Nat) = 1 by decide)).symm
    | ⟨3, _⟩ => exact (if_neg (show ¬ (256 : Nat) = 1 by decide)).symm
  exact piece.trans (laid.trans (hf (i 0) q))

theorem stackN_at (f : Fin 8 → FVec Ideal S8x4x256 .f32) {G : Nat → Nat → Nat → Nat → EReal}
    (hf : ∀ n i, f n i = G n.val (i 0).val (i 1).val (i 2).val) (i : S8x8x4x256.Idx) :
    stackN f i = G (i 0).val (i 1).val (i 2).val (i 3).val := by
  let q : S8x4x256.Idx := fun a => match a with | ⟨0, _⟩ => i 1 | ⟨1, _⟩ => i 2 | ⟨2, _⟩ => i 3
  let p : S1x8x4x256.Idx := fun a => match a with
    | ⟨0, _⟩ => ⟨0, Nat.one_pos⟩ | ⟨1, _⟩ => i 1 | ⟨2, _⟩ => i 2 | ⟨3, _⟩ => i 3
  have piece := concatenate_ofFn_unit_apply (t := S8x8x4x256) 0
    (fun n : Fin 8 => broadcastInDim S1x8x4x256 ![1, 2, 3] bcast_S8x4x256_S1x8x4x256_1_2_3 (f n))
    concatenates_S1x8x4x256_S1x8x4x256_S1x8x4x256_S1x8x4x256_S1x8x4x256_S1x8x4x256_S1x8x4x256_S1x8x4x256_S8x8x4x256_d0
    rfl rfl i (i 0) rfl p fun b hb => by
      match b with
      | ⟨0, _⟩ => exact absurd rfl hb
      | ⟨1, _⟩ => rfl
      | ⟨2, _⟩ => rfl
      | ⟨3, _⟩ => rfl
  have laid := broadcastInDim_apply ![1, 2, 3] bcast_S8x4x256_S1x8x4x256_1_2_3 (f (i 0)) p q fun a => by
    match a with
    | ⟨0, _⟩ => exact (if_neg (show ¬ (8 : Nat) = 1 by decide)).symm
    | ⟨1, _⟩ => exact (if_neg (show ¬ (4 : Nat) = 1 by decide)).symm
    | ⟨2, _⟩ => exact (if_neg (show ¬ (256 : Nat) = 1 by decide)).symm
  exact piece.trans (laid.trans (hf (i 0) q))

end Cert.Mlstm

end
-- ==== Proof.RefStats.lean ====
/-
  The statistics, the chunks' own states and the states entering every chunk, as the reference computes them.
-/
module

public import proofs.«01_k».proof.Proof.RefTokens
public import proofs.«01_k».proof.Proof.RefChain

@[expose] public section

noncomputable section

namespace Cert.Mlstm

open Idealize.ShloMosaic Cert.ReferenceIdeal Cert.ReferenceIdeal.Gen Cert.ReferenceIdeal.Read

variable (x0 : (⟨S16384x4096, .bf16⟩ : BufTy).Contents (Elt Ideal)) (x1 : (⟨S2048x2048, .bf16⟩ : BufTy).Contents (Elt Ideal))
  (x2 : (⟨S3x2048, .f32⟩ : BufTy).Contents (Elt Ideal)) (x3 : (⟨S1x2048, .f32⟩ : BufTy).Contents (Elt Ideal))
  (x4 : (⟨S8x4x16x256, .f32⟩ : BufTy).Contents (Elt Ideal)) (x5 : (⟨S8x4x256x128, .f32⟩ : BufTy).Contents (Elt Ideal))
  (x6 : (⟨S1x1024, .f32⟩ : BufTy).Contents (Elt Ideal))

theorem col_read (i : S8x4x256x128.Idx) {b h t l : Nat} (hb : (i 0).val = b) (hh : (i 1).val = h)
    (ht : (i 2).val = t) (hl : (i 3).val = l) : x5 i = (headOf x0 x1 x2 x3 x4 x5 x6 b h).col t l :=
  (at4_of (a := 8) (b := 4) (c := 256) (d := 128) x5 i).trans (at4_congr x5 hb hh ht hl)

theorem row_read (i : S8x4x16x256.Idx) {b h t l : Nat} (hb : (i 0).val = b) (hh : (i 1).val = h)
    (ht : (i 2).val = t) (hl : (i 3).val = l) : x4 i = (headOf x0 x1 x2 x3 x4 x5 x6 b h).row t l :=
  (at4_of (a := 8) (b := 4) (c := 16) (d := 256) x4 i).trans (at4_congr x4 hb hh ht hl)

/-- The statistics of a chunk, forward and backward: the row, the state's weight, the running maximum, the factor of
    the entering state, the floor. -/
theorem ref_v77 (i : S8x8x4x256.Idx) :
    val_main_v77 (F := Ideal) x4 i = (headOf x0 x1 x2 x3 x4 x5 x6 (i 0).val (i 2).val).row (8 * 0 + (i 1).val) (i 3).val := by
  rw [val_main_v77_apply, val_main_v76_apply]
  exact row_read x0 x1 x2 x3 x4 x5 x6 _ rfl rfl (by show (i 1).val = 8 * 0 + (i 1).val; omega) rfl

theorem ref_v273 (i : S8x8x4x256.Idx) :
    val_main_v273 (F := Ideal) x4 i = (headOf x0 x1 x2 x3 x4 x5 x6 (i 0).val (i 2).val).row (8 * 1 + (i 1).val) (i 3).val := by
  rw [val_main_v273_apply, val_main_v272_apply]
  exact row_read x0 x1 x2 x3 x4 x5 x6 _ rfl rfl rfl rfl

theorem ref_v79 (i : S8x8x4x256.Idx) :
    val_main_v79 (F := Ideal) x5 i = (headOf x0 x1 x2 x3 x4 x5 x6 (i 0).val (i 2).val).col (i 3).val (8 * 0 + (i 1).val) := by
  rw [val_main_v79_apply, val_main_v78_apply]
  exact col_read x0 x1 x2 x3 x4 x5 x6 _ rfl rfl rfl (by show (i 1).val = 8 * 0 + (i 1).val; omega)

theorem ref_v81 (i : S8x8x4x256.Idx) :
    val_main_v81 (F := Ideal) x5 i = (headOf x0 x1 x2 x3 x4 x5 x6 (i 0).val (i 2).val).col (i 3).val (16 + 8 * 0 + (i 1).val) := by
  rw [val_main_v81_apply, val_main_v80_apply]
  exact col_read x0 x1 x2 x3 x4 x5 x6 _ rfl rfl rfl rfl

theorem ref_v83 (i : S8x8x4x256.Idx) :
    val_main_v83 (F := Ideal) x5 i = (headOf x0 x1 x2 x3 x4 x5 x6 (i 0).val (i 2).val).col (i 3).val (32 + 8 * 0 + (i 1).val) := by
  rw [val_main_v83_apply, val_main_v82_apply]
  exact col_read x0 x1 x2 x3 x4 x5 x6 _ rfl rfl rfl rfl

theorem ref_v85 (i : S8x8x4x256.Idx) :
    val_main_v85 (F := Ideal) x5 i = (headOf x0 x1 x2 x3 x4 x5 x6 (i 0).val (i 2).val).col (i 3).val (48 + 8 * 0 + (i 1).val) := by
  rw [val_main_v85_apply, val_main_v84_apply]
  exact col_read x0 x1 x2 x3 x4 x5 x6 _ rfl rfl rfl rfl

theorem ref_v275 (i : S8x8x4x256.Idx) :
    val_main_v275 (F := Ideal) x5 i = (headOf x0 x1 x2 x3 x4 x5 x6 (i 0).val (i 2).val).col (i 3).val (8 * 1 + (i 1).val) := by
  rw [val_main_v275_apply, val_main_v274_apply]
  exact col_read x0 x1 x2 x3 x4 x5 x6 _ rfl rfl rfl rfl

theorem ref_v277 (i : S8x8x4x256.Idx) :
    val_main_v277 (F := Ideal) x5 i = (headOf x0 x1 x2 x3 x4 x5 x6 (i 0).val (i 2).val).col (i 3).val (16 + 8 * 1 + (i 1).val) := by
  rw [val_main_v277_apply, val_main_v276_apply]
  exact col_read x0 x1 x2 x3 x4 x5 x6 _ rfl rfl rfl rfl

theorem ref_v279 (i : S8x8x4x256.Idx) :
    val_main_v279 (F := Ideal) x5 i = (headOf x0 x1 x2 x3 x4 x5 x6 (i 0).val (i 2).val).col (i 3).val (32 + 8 * 1 + (i 1).val) := by
  rw [val_main_v279_apply, val_main_v278_apply]
  exact col_read x0 x1 x2 x3 x4 x5 x6 _ rfl rfl rfl rfl

theorem ref_v281 (i : S8x8x4x256.Idx) :
    val_main_v281 (F := Ideal) x5 i = (headOf x0 x1 x2 x3 x4 x5 x6 (i 0).val (i 2).val).col (i 3).val (48 + 8 * 1 + (i 1).val) := by
  rw [val_main_v281_apply, val_main_v280_apply]
  exact col_read x0 x1 x2 x3 x4 x5 x6 _ rfl rfl rfl rfl

/-- The position of a head among the heads. -/
theorem flat_head {b h t n : Nat} (hh : h < 4) (ht : t < n) :
    ((b * 4 + h) * n + t) / (4 * n) = b ∧ ((b * 4 + h) * n + t) / n % 4 = h ∧ ((b * 4 + h) * n + t) % n = t := by
  have hn : 0 < n := by omega
  have e : ((b * 4 + h) * n + t) / n = b * 4 + h := by
    rw [Nat.mul_comm, Nat.mul_add_div hn, Nat.div_eq_of_lt ht, Nat.add_zero]
  refine ⟨?_, by rw [e]; omega, by rw [Nat.mul_comm, Nat.mul_add_mod, Nat.mod_eq_of_lt ht]⟩
  rw [Nat.mul_comm 4 n, ← Nat.div_div_eq_div_mul, e]
  omega

/-- The context's weight and the factors of the states. -/
theorem ref_v87 (i : S8x4x256.Idx) :
    val_main_v87 (F := Ideal) x5 i = (headOf x0 x1 x2 x3 x4 x5 x6 (i 0).val (i 1).val).col (i 2).val (64 + 0) := by
  obtain ⟨p, q, r⟩ := flat_head (b := (i 0).val) (i 1).isLt (i 2).isLt
  rw [val_main_v87_apply, val_main_v86_apply]
  exact col_read x0 x1 x2 x3 x4 x5 x6 _ p q ((congrArg (· % 256) (Nat.div_one _)).trans r) rfl

theorem ref_v283 (i : S8x4x256.Idx) :
    val_main_v283 (F := Ideal) x5 i = (headOf x0 x1 x2 x3 x4 x5 x6 (i 0).val (i 1).val).col (i 2).val (64 + 1) := by
  obtain ⟨p, q, r⟩ := flat_head (b := (i 0).val) (i 1).isLt (i 2).isLt
  rw [val_main_v283_apply, val_main_v282_apply]
  exact col_read x0 x1 x2 x3 x4 x5 x6 _ p q ((congrArg (· % 256) (Nat.div_one _)).trans r) rfl

theorem ref_v89 (i : S8x4x8.Idx) :
    val_main_v89 (F := Ideal) x5 i = (headOf x0 x1 x2 x3 x4 x5 x6 (i 0).val (i 1).val).col 0 (66 + 8 * 0 + (i 2).val) := by
  obtain ⟨p, q, r⟩ := flat_head (b := (i 0).val) (i 1).isLt (i 2).isLt
  rw [val_main_v89_apply, val_main_v88_apply]
  exact col_read x0 x1 x2 x3 x4 x5 x6 _ p q rfl (congrArg (66 + ·) r)

theorem ref_v285 (i : S8x4x8.Idx) :
    val_main_v285 (F := Ideal) x5 i = (headOf x0 x1 x2 x3 x4 x5 x6 (i 0).val (i 1).val).col 0 (66 + 8 * 1 + (i 2).val) := by
  obtain ⟨p, q, r⟩ := flat_head (b := (i 0).val) (i 1).isLt (i 2).isLt
  rw [val_main_v285_apply, val_main_v284_apply]
  exact col_read x0 x1 x2 x3 x4 x5 x6 _ p q rfl (congrArg (74 + ·) r)

/-- The chunks' own states and the context's. -/
theorem ref_v94 (i : S8x8x4x256x256.Idx) :
    val_main_v94 (F := Ideal) x0 x2 x3 x5 i = locC (headOf x0 x1 x2 x3 x4 x5 x6 (i 1).val (i 2).val) 0 (i 0).val (i 3).val (i 4).val := by
  rw [val_main_v94_apply]
  refine Finset.sum_congr rfl fun s _ => ?_
  rw [val_main_v93_apply, val_main_v92_apply, val_main_v91_apply, val_main_v90_apply, ref_v79 x0 x1 x2 x3 x4 x5 x6, ref_v37 x0 x1 x2 x3 x4 x5 x6, ref_v35 x0 x1 x2 x3 x4 x5 x6]
  rfl

theorem ref_v95 (i : S8x8x4x256.Idx) :
    val_main_v95 (F := Ideal) x0 x2 x3 x5 i = locN (headOf x0 x1 x2 x3 x4 x5 x6 (i 1).val (i 2).val) 0 (i 0).val (i 3).val := by
  rw [val_main_v95_apply]
  refine Finset.sum_congr rfl fun s _ => ?_
  rw [ref_v79 x0 x1 x2 x3 x4 x5 x6, ref_v35 x0 x1 x2 x3 x4 x5 x6]

theorem ref_v290 (i : S8x8x4x256x256.Idx) :
    val_main_v290 (F := Ideal) x0 x2 x3 x5 i = locC (headOf x0 x1 x2 x3 x4 x5 x6 (i 1).val (i 2).val) 1 (i 0).val (i 3).val (i 4).val := by
  rw [val_main_v290_apply]
  refine Finset.sum_congr rfl fun s _ => ?_
  rw [val_main_v289_apply, val_main_v288_apply, val_main_v287_apply, val_main_v286_apply, ref_v275 x0 x1 x2 x3 x4 x5 x6, ref_v37 x0 x1 x2 x3 x4 x5 x6, ref_v35 x0 x1 x2 x3 x4 x5 x6]
  rfl

theorem ref_v291 (i : S8x8x4x256.Idx) :
    val_main_v291 (F := Ideal) x0 x2 x3 x5 i = locN (headOf x0 x1 x2 x3 x4 x5 x6 (i 1).val (i 2).val) 1 (i 0).val (i 3).val := by
  rw [val_main_v291_apply]
  refine Finset.sum_congr rfl fun s _ => ?_
  rw [ref_v275 x0 x1 x2 x3 x4 x5 x6, ref_v35 x0 x1 x2 x3 x4 x5 x6]

theorem ref_v100 (i : S8x4x256x256.Idx) :
    val_main_v100 (F := Ideal) x1 x2 x3 x5 i = stC (headOf x0 x1 x2 x3 x4 x5 x6 (i 0).val (i 1).val) 0 0 (i 2).val (i 3).val := by
  rw [val_main_v100_apply]
  show _ = ctxC _ 0 _ _
  unfold ctxC
  refine Finset.sum_congr rfl fun s _ => ?_
  rw [val_main_v99_apply, val_main_v98_apply, val_main_v97_apply, val_main_v96_apply, ref_v87 x0 x1 x2 x3 x4 x5 x6, ref_v72 x0 x1 x2 x3 x4 x5 x6, ref_v70 x0 x1 x2 x3 x4 x5 x6]
  rfl

theorem ref_v101 (i : S8x4x256.Idx) :
    val_main_v101 (F := Ideal) x1 x2 x3 x5 i = stN (headOf x0 x1 x2 x3 x4 x5 x6 (i 0).val (i 1).val) 0 0 (i 2).val := by
  rw [val_main_v101_apply]
  show _ = ctxN _ 0 _
  unfold ctxN
  refine Finset.sum_congr rfl fun s _ => ?_
  exact congrArg₂ (· * ·) (ref_v87 x0 x1 x2 x3 x4 x5 x6 _) (ref_v70 x0 x1 x2 x3 x4 x5 x6 _)

theorem ref_v296 (i : S8x4x256x256.Idx) :
    val_main_v296 (F := Ideal) x1 x2 x3 x5 i = stC (headOf x0 x1 x2 x3 x4 x5 x6 (i 0).val (i 1).val) 1 0 (i 2).val (i 3).val := by
  rw [val_main_v296_apply]
  show _ = ctxC _ 1 _ _
  unfold ctxC
  refine Finset.sum_congr rfl fun s _ => ?_
  rw [val_main_v295_apply, val_main_v294_apply, val_main_v293_apply, val_main_v292_apply, ref_v283 x0 x1 x2 x3 x4 x5 x6, ref_v72 x0 x1 x2 x3 x4 x5 x6, ref_v70 x0 x1 x2 x3 x4 x5 x6]
  rfl

theorem ref_v297 (i : S8x4x256.Idx) :
    val_main_v297 (F := Ideal) x1 x2 x3 x5 i = stN (headOf x0 x1 x2 x3 x4 x5 x6 (i 0).val (i 1).val) 1 0 (i 2).val := by
  rw [val_main_v297_apply]
  show _ = ctxN _ 1 _
  unfold ctxN
  refine Finset.sum_congr rfl fun s _ => ?_
  exact congrArg₂ (· * ·) (ref_v283 x0 x1 x2 x3 x4 x5 x6 _) (ref_v70 x0 x1 x2 x3 x4 x5 x6 _)

end Cert.Mlstm

end
-- ==== Proof.RefStates.lean ====
/-
  The states entering every chunk, forward and backward, as the reference computes them.
-/
module

public import proofs.«01_k».proof.Proof.RefStats

@[expose] public section

noncomputable section

namespace Cert.Mlstm

open Idealize.ShloMosaic Cert.ReferenceIdeal Cert.ReferenceIdeal.Gen Cert.ReferenceIdeal.Read

variable (x0 : (⟨S16384x4096, .bf16⟩ : BufTy).Contents (Elt Ideal)) (x1 : (⟨S2048x2048, .bf16⟩ : BufTy).Contents (Elt Ideal))
  (x2 : (⟨S3x2048, .f32⟩ : BufTy).Contents (Elt Ideal)) (x3 : (⟨S1x2048, .f32⟩ : BufTy).Contents (Elt Ideal))
  (x4 : (⟨S8x4x16x256, .f32⟩ : BufTy).Contents (Elt Ideal)) (x5 : (⟨S8x4x256x128, .f32⟩ : BufTy).Contents (Elt Ideal))
  (x6 : (⟨S1x1024, .f32⟩ : BufTy).Contents (Elt Ideal))

theorem ref_v109 (i : S8x4x256x256.Idx) :
    val_main_v109 (F := Ideal) x0 x1 x2 x3 x5 i = stC (headOf x0 x1 x2 x3 x4 x5 x6 (i 0).val (i 1).val) 0 1 (i 2).val (i 3).val :=
  moveC_at (H := headOf x0 x1 x2 x3 x4 x5 x6) (k := 0) _ _ (by decide) rfl (ref_v89 x0 x1 x2 x3 x4 x5 x6) (ref_v94 x0 x1 x2 x3 x4 x5 x6) (ref_v100 x0 x1 x2 x3 x4 x5 x6) i

theorem ref_v117 (i : S8x4x256.Idx) :
    val_main_v117 (F := Ideal) x0 x1 x2 x3 x5 i = stN (headOf x0 x1 x2 x3 x4 x5 x6 (i 0).val (i 1).val) 0 1 (i 2).val :=
  moveN_at (H := headOf x0 x1 x2 x3 x4 x5 x6) (k := 0) _ _ (by decide) rfl (ref_v89 x0 x1 x2 x3 x4 x5 x6) (ref_v95 x0 x1 x2 x3 x4 x5 x6) (ref_v101 x0 x1 x2 x3 x4 x5 x6) i

theorem ref_v125 (i : S8x4x256x256.Idx) :
    val_main_v125 (F := Ideal) x0 x1 x2 x3 x5 i = stC (headOf x0 x1 x2 x3 x4 x5 x6 (i 0).val (i 1).val) 0 2 (i 2).val (i 3).val :=
  moveC_at (H := headOf x0 x1 x2 x3 x4 x5 x6) (k := 1) _ _ (by decide) rfl (ref_v89 x0 x1 x2 x3 x4 x5 x6) (ref_v94 x0 x1 x2 x3 x4 x5 x6) (ref_v109 x0 x1 x2 x3 x4 x5 x6) i

theorem ref_v133 (i : S8x4x256.Idx) :
    val_main_v133 (F := Ideal) x0 x1 x2 x3 x5 i = stN (headOf x0 x1 x2 x3 x4 x5 x6 (i 0).val (i 1).val) 0 2 (i 2).val :=
  moveN_at (H := headOf x0 x1 x2 x3 x4 x5 x6) (k := 1) _ _ (by decide) rfl (ref_v89 x0 x1 x2 x3 x4 x5 x6) (ref_v95 x0 x1 x2 x3 x4 x5 x6) (ref_v117 x0 x1 x2 x3 x4 x5 x6) i

theorem ref_v141 (i : S8x4x256x256.Idx) :
    val_main_v141 (F := Ideal) x0 x1 x2 x3 x5 i = stC (headOf x0 x1 x2 x3 x4 x5 x6 (i 0).val (i 1).val) 0 3 (i 2).val (i 3).val :=
  moveC_at (H := headOf x0 x1 x2 x3 x4 x5 x6) (k := 2) _ _ (by decide) rfl (ref_v89 x0 x1 x2 x3 x4 x5 x6) (ref_v94 x0 x1 x2 x3 x4 x5 x6) (ref_v125 x0 x1 x2 x3 x4 x5 x6) i

theorem ref_v149 (i : S8x4x256.Idx) :
    val_main_v149 (F := Ideal) x0 x1 x2 x3 x5 i = stN (headOf x0 x1 x2 x3 x4 x5 x6 (i 0).val (i 1).val) 0 3 (i 2).val :=
  moveN_at (H := headOf x0 x1 x2 x3 x4 x5 x6) (k := 2) _ _ (by decide) rfl (ref_v89 x0 x1 x2 x3 x4 x5 x6) (ref_v95 x0 x1 x2 x3 x4 x5 x6) (ref_v133 x0 x1 x2 x3 x4 x5 x6) i

theorem ref_v157 (i : S8x4x256x256.Idx) :
    val_main_v157 (F := Ideal) x0 x1 x2 x3 x5 i = stC (headOf x0 x1 x2 x3 x4 x5 x6 (i 0).val (i 1).val) 0 4 (i 2).val (i 3).val :=
  moveC_at (H := headOf x0 x1 x2 x3 x4 x5 x6) (k := 3) _ _ (by decide) rfl (ref_v89 x0 x1 x2 x3 x4 x5 x6) (ref_v94 x0 x1 x2 x3 x4 x5 x6) (ref_v141 x0 x1 x2 x3 x4 x5 x6) i

theorem ref_v165 (i : S8x4x256.Idx) :
    val_main_v165 (F := Ideal) x0 x1 x2 x3 x5 i = stN (headOf x0 x1 x2 x3 x4 x5 x6 (i 0).val (i 1).val) 0 4 (i 2).val :=
  moveN_at (H := headOf x0 x1 x2 x3 x4 x5 x6) (k := 3) _ _ (by decide) rfl (ref_v89 x0 x1 x2 x3 x4 x5 x6) (ref_v95 x0 x1 x2 x3 x4 x5 x6) (ref_v149 x0 x1 x2 x3 x4 x5 x6) i

theorem ref_v173 (i : S8x4x256x256.Idx) :
    val_main_v173 (F := Ideal) x0 x1 x2 x3 x5 i = stC (headOf x0 x1 x2 x3 x4 x5 x6 (i 0).val (i 1).val) 0 5 (i 2).val (i 3).val :=
  moveC_at (H := headOf x0 x1 x2 x3 x4 x5 x6) (k := 4) _ _ (by decide) rfl (ref_v89 x0 x1 x2 x3 x4 x5 x6) (ref_v94 x0 x1 x2 x3 x4 x5 x6) (ref_v157 x0 x1 x2 x3 x4 x5 x6) i

theorem ref_v181 (i : S8x4x256.Idx) :
    val_main_v181 (F := Ideal) x0 x1 x2 x3 x5 i = stN (headOf x0 x1 x2 x3 x4 x5 x6 (i 0).val (i 1).val) 0 5 (i 2).val :=
  moveN_at (H := headOf x0 x1 x2 x3 x4 x5 x6) (k := 4) _ _ (by decide) rfl (ref_v89 x0 x1 x2 x3 x4 x5 x6) (ref_v95 x0 x1 x2 x3 x4 x5 x6) (ref_v165 x0 x1 x2 x3 x4 x5 x6) i

theorem ref_v189 (i : S8x4x256x256.Idx) :
    val_main_v189 (F := Ideal) x0 x1 x2 x3 x5 i = stC (headOf x0 x1 x2 x3 x4 x5 x6 (i 0).val (i 1).val) 0 6 (i 2).val (i 3).val :=
  moveC_at (H := headOf x0 x1 x2 x3 x4 x5 x6) (k := 5) _ _ (by decide) rfl (ref_v89 x0 x1 x2 x3 x4 x5 x6) (ref_v94 x0 x1 x2 x3 x4 x5 x6) (ref_v173 x0 x1 x2 x3 x4 x5 x6) i

theorem ref_v197 (i : S8x4x256.Idx) :
    val_main_v197 (F := Ideal) x0 x1 x2 x3 x5 i = stN (headOf x0 x1 x2 x3 x4 x5 x6 (i 0).val (i 1).val) 0 6 (i 2).val :=
  moveN_at (H := headOf x0 x1 x2 x3 x4 x5 x6) (k := 5) _ _ (by decide) rfl (ref_v89 x0 x1 x2 x3 x4 x5 x6) (ref_v95 x0 x1 x2 x3 x4 x5 x6) (ref_v181 x0 x1 x2 x3 x4 x5 x6) i

theorem ref_v205 (i : S8x4x256x256.Idx) :
    val_main_v205 (F := Ideal) x0 x1 x2 x3 x5 i = stC (headOf x0 x1 x2 x3 x4 x5 x6 (i 0).val (i 1).val) 0 7 (i 2).val (i 3).val :=
  moveC_at (H := headOf x0 x1 x2 x3 x4 x5 x6) (k := 6) _ _ (by decide) rfl (ref_v89 x0 x1 x2 x3 x4 x5 x6) (ref_v94 x0 x1 x2 x3 x4 x5 x6) (ref_v189 x0 x1 x2 x3 x4 x5 x6) i

theorem ref_v213 (i : S8x4x256.Idx) :
    val_main_v213 (F := Ideal) x0 x1 x2 x3 x5 i = stN (headOf x0 x1 x2 x3 x4 x5 x6 (i 0).val (i 1).val) 0 7 (i 2).val :=
  moveN_at (H := headOf x0 x1 x2 x3 x4 x5 x6) (k := 6) _ _ (by decide) rfl (ref_v89 x0 x1 x2 x3 x4 x5 x6) (ref_v95 x0 x1 x2 x3 x4 x5 x6) (ref_v197 x0 x1 x2 x3 x4 x5 x6) i

theorem ref_v238 (i : S8x8x4x256x256.Idx) :
    val_main_v238 (F := Ideal) x0 x1 x2 x3 x5 i
      = stC (headOf x0 x1 x2 x3 x4 x5 x6 (i 1).val (i 2).val) 0 (chunkAt 0 (i 0).val) (i 3).val (i 4).val :=
  stackC_at ![val_main_v100 (F := Ideal) x1 x2 x3 x5,
      val_main_v109 (F := Ideal) x0 x1 x2 x3 x5,
      val_main_v125 (F := Ideal) x0 x1 x2 x3 x5,
      val_main_v141 (F := Ideal) x0 x1 x2 x3 x5,
      val_main_v157 (F := Ideal) x0 x1 x2 x3 x5,
      val_main_v173 (F := Ideal) x0 x1 x2 x3 x5,
      val_main_v189 (F := Ideal) x0 x1 x2 x3 x5,
      val_main_v205 (F := Ideal) x0 x1 x2 x3 x5]
    (G := fun n a b e f => stC (headOf x0 x1 x2 x3 x4 x5 x6 a b) 0 (chunkAt 0 n) e f) (fun n i => by
      match n with
      | ⟨0, _⟩ => exact ref_v100 x0 x1 x2 x3 x4 x5 x6 i
      | ⟨1, _⟩ => exact ref_v109 x0 x1 x2 x3 x4 x5 x6 i
      | ⟨2, _⟩ => exact ref_v125 x0 x1 x2 x3 x4 x5 x6 i
      | ⟨3, _⟩ => exact ref_v141 x0 x1 x2 x3 x4 x5 x6 i
      | ⟨4, _⟩ => exact ref_v157 x0 x1 x2 x3 x4 x5 x6 i
      | ⟨5, _⟩ => exact ref_v173 x0 x1 x2 x3 x4 x5 x6 i
      | ⟨6, _⟩ => exact ref_v189 x0 x1 x2 x3 x4 x5 x6 i
      | ⟨7, _⟩ => exact ref_v205 x0 x1 x2 x3 x4 x5 x6 i) i

theorem ref_v247 (i : S8x8x4x256.Idx) :
    val_main_v247 (F := Ideal) x0 x1 x2 x3 x5 i
      = stN (headOf x0 x1 x2 x3 x4 x5 x6 (i 1).val (i 2).val) 0 (chunkAt 0 (i 0).val) (i 3).val :=
  stackN_at ![val_main_v101 (F := Ideal) x1 x2 x3 x5,
      val_main_v117 (F := Ideal) x0 x1 x2 x3 x5,
      val_main_v133 (F := Ideal) x0 x1 x2 x3 x5,
      val_main_v149 (F := Ideal) x0 x1 x2 x3 x5,
      val_main_v165 (F := Ideal) x0 x1 x2 x3 x5,
      val_main_v181 (F := Ideal) x0 x1 x2 x3 x5,
      val_main_v197 (F := Ideal) x0 x1 x2 x3 x5,
      val_main_v213 (F := Ideal) x0 x1 x2 x3 x5]
    (G := fun n a b f => stN (headOf x0 x1 x2 x3 x4 x5 x6 a b) 0 (chunkAt 0 n) f) (fun n i => by
      match n with
      | ⟨0, _⟩ => exact ref_v101 x0 x1 x2 x3 x4 x5 x6 i
      | ⟨1, _⟩ => exact ref_v117 x0 x1 x2 x3 x4 x5 x6 i
      | ⟨2, _⟩ => exact ref_v133 x0 x1 x2 x3 x4 x5 x6 i
      | ⟨3, _⟩ => exact ref_v149 x0 x1 x2 x3 x4 x5 x6 i
      | ⟨4, _⟩ => exact ref_v165 x0 x1 x2 x3 x4 x5 x6 i
      | ⟨5, _⟩ => exact ref_v181 x0 x1 x2 x3 x4 x5 x6 i
      | ⟨6, _⟩ => exact ref_v197 x0 x1 x2 x3 x4 x5 x6 i
      | ⟨7, _⟩ => exact ref_v213 x0 x1 x2 x3 x4 x5 x6 i) i

theorem ref_v305 (i : S8x4x256x256.Idx) :
    val_main_v305 (F := Ideal) x0 x1 x2 x3 x5 i = stC (headOf x0 x1 x2 x3 x4 x5 x6 (i 0).val (i 1).val) 1 1 (i 2).val (i 3).val :=
  moveC_at (H := headOf x0 x1 x2 x3 x4 x5 x6) (k := 7) _ _ (by decide) rfl (ref_v285 x0 x1 x2 x3 x4 x5 x6) (ref_v290 x0 x1 x2 x3 x4 x5 x6) (ref_v296 x0 x1 x2 x3 x4 x5 x6) i

theorem ref_v313 (i : S8x4x256.Idx) :
    val_main_v313 (F := Ideal) x0 x1 x2 x3 x5 i = stN (headOf x0 x1 x2 x3 x4 x5 x6 (i 0).val (i 1).val) 1 1 (i 2).val :=
  moveN_at (H := headOf x0 x1 x2 x3 x4 x5 x6) (k := 7) _ _ (by decide) rfl (ref_v285 x0 x1 x2 x3 x4 x5 x6) (ref_v291 x0 x1 x2 x3 x4 x5 x6) (ref_v297 x0 x1 x2 x3 x4 x5 x6) i

theorem ref_v321 (i : S8x4x256x256.Idx) :
    val_main_v321 (F := Ideal) x0 x1 x2 x3 x5 i = stC (headOf x0 x1 x2 x3 x4 x5 x6 (i 0).val (i 1).val) 1 2 (i 2).val (i 3).val :=
  moveC_at (H := headOf x0 x1 x2 x3 x4 x5 x6) (k := 6) _ _ (by decide) rfl (ref_v285 x0 x1 x2 x3 x4 x5 x6) (ref_v290 x0 x1 x2 x3 x4 x5 x6) (ref_v305 x0 x1 x2 x3 x4 x5 x6) i

theorem ref_v329 (i : S8x4x256.Idx) :
    val_main_v329 (F := Ideal) x0 x1 x2 x3 x5 i = stN (headOf x0 x1 x2 x3 x4 x5 x6 (i 0).val (i 1).val) 1 2 (i 2).val :=
  moveN_at (H := headOf x0 x1 x2 x3 x4 x5 x6) (k := 6) _ _ (by decide) rfl (ref_v285 x0 x1 x2 x3 x4 x5 x6) (ref_v291 x0 x1 x2 x3 x4 x5 x6) (ref_v313 x0 x1 x2 x3 x4 x5 x6) i

theorem ref_v337 (i : S8x4x256x256.Idx) :
    val_main_v337 (F := Ideal) x0 x1 x2 x3 x5 i = stC (headOf x0 x1 x2 x3 x4 x5 x6 (i 0).val (i 1).val) 1 3 (i 2).val (i 3).val :=
  moveC_at (H := headOf x0 x1 x2 x3 x4 x5 x6) (k := 5) _ _ (by decide) rfl (ref_v285 x0 x1 x2 x3 x4 x5 x6) (ref_v290 x0 x1 x2 x3 x4 x5 x6) (ref_v321 x0 x1 x2 x3 x4 x5 x6) i

theorem ref_v345 (i : S8x4x256.Idx) :
    val_main_v345 (F := Ideal) x0 x1 x2 x3 x5 i = stN (headOf x0 x1 x2 x3 x4 x5 x6 (i 0).val (i 1).val) 1 3 (i 2).val :=
  moveN_at (H := headOf x0 x1 x2 x3 x4 x5 x6) (k := 5) _ _ (by decide) rfl (ref_v285 x0 x1 x2 x3 x4 x5 x6) (ref_v291 x0 x1 x2 x3 x4 x5 x6) (ref_v329 x0 x1 x2 x3 x4 x5 x6) i

theorem ref_v353 (i : S8x4x256x256.Idx) :
    val_main_v353 (F := Ideal) x0 x1 x2 x3 x5 i = stC (headOf x0 x1 x2 x3 x4 x5 x6 (i 0).val (i 1).val) 1 4 (i 2).val (i 3).val :=
  moveC_at (H := headOf x0 x1 x2 x3 x4 x5 x6) (k := 4) _ _ (by decide) rfl (ref_v285 x0 x1 x2 x3 x4 x5 x6) (ref_v290 x0 x1 x2 x3 x4 x5 x6) (ref_v337 x0 x1 x2 x3 x4 x5 x6) i

theorem ref_v361 (i : S8x4x256.Idx) :
    val_main_v361 (F := Ideal) x0 x1 x2 x3 x5 i = stN (headOf x0 x1 x2 x3 x4 x5 x6 (i 0).val (i 1).val) 1 4 (i 2).val :=
  moveN_at (H := headOf x0 x1 x2 x3 x4 x5 x6) (k := 4) _ _ (by decide) rfl (ref_v285 x0 x1 x2 x3 x4 x5 x6) (ref_v291 x0 x1 x2 x3 x4 x5 x6) (ref_v345 x0 x1 x2 x3 x4 x5 x6) i

theorem ref_v369 (i : S8x4x256x256.Idx) :
    val_main_v369 (F := Ideal) x0 x1 x2 x3 x5 i = stC (headOf x0 x1 x2 x3 x4 x5 x6 (i 0).val (i 1).val) 1 5 (i 2).val (i 3).val :=
  moveC_at (H := headOf x0 x1 x2 x3 x4 x5 x6) (k := 3) _ _ (by decide) rfl (ref_v285 x0 x1 x2 x3 x4 x5 x6) (ref_v290 x0 x1 x2 x3 x4 x5 x6) (ref_v353 x0 x1 x2 x3 x4 x5 x6) i

theorem ref_v377 (i : S8x4x256.Idx) :
    val_main_v377 (F := Ideal) x0 x1 x2 x3 x5 i = stN (headOf x0 x1 x2 x3 x4 x5 x6 (i 0).val (i 1).val) 1 5 (i 2).val :=
  moveN_at (H := headOf x0 x1 x2 x3 x4 x5 x6) (k := 3) _ _ (by decide) rfl (ref_v285 x0 x1 x2 x3 x4 x5 x6) (ref_v291 x0 x1 x2 x3 x4 x5 x6) (ref_v361 x0 x1 x2 x3 x4 x5 x6) i

theorem ref_v385 (i : S8x4x256x256.Idx) :
    val_main_v385 (F := Ideal) x0 x1 x2 x3 x5 i = stC (headOf x0 x1 x2 x3 x4 x5 x6 (i 0).val (i 1).val) 1 6 (i 2).val (i 3).val :=
  moveC_at (H := headOf x0 x1 x2 x3 x4 x5 x6) (k := 2) _ _ (by decide) rfl (ref_v285 x0 x1 x2 x3 x4 x5 x6) (ref_v290 x0 x1 x2 x3 x4 x5 x6) (ref_v369 x0 x1 x2 x3 x4 x5 x6) i

theorem ref_v393 (i : S8x4x256.Idx) :
    val_main_v393 (F := Ideal) x0 x1 x2 x3 x5 i = stN (headOf x0 x1 x2 x3 x4 x5 x6 (i 0).val (i 1).val) 1 6 (i 2).val :=
  moveN_at (H := headOf x0 x1 x2 x3 x4 x5 x6) (k := 2) _ _ (by decide) rfl (ref_v285 x0 x1 x2 x3 x4 x5 x6) (ref_v291 x0 x1 x2 x3 x4 x5 x6) (ref_v377 x0 x1 x2 x3 x4 x5 x6) i

theorem ref_v401 (i : S8x4x256x256.Idx) :
    val_main_v401 (F := Ideal) x0 x1 x2 x3 x5 i = stC (headOf x0 x1 x2 x3 x4 x5 x6 (i 0).val (i 1).val) 1 7 (i 2).val (i 3).val :=
  moveC_at (H := headOf x0 x1 x2 x3 x4 x5 x6) (k := 1) _ _ (by decide) rfl (ref_v285 x0 x1 x2 x3 x4 x5 x6) (ref_v290 x0 x1 x2 x3 x4 x5 x6) (ref_v385 x0 x1 x2 x3 x4 x5 x6) i

theorem ref_v409 (i : S8x4x256.Idx) :
    val_main_v409 (F := Ideal) x0 x1 x2 x3 x5 i = stN (headOf x0 x1 x2 x3 x4 x5 x6 (i 0).val (i 1).val) 1 7 (i 2).val :=
  moveN_at (H := headOf x0 x1 x2 x3 x4 x5 x6) (k := 1) _ _ (by decide) rfl (ref_v285 x0 x1 x2 x3 x4 x5 x6) (ref_v291 x0 x1 x2 x3 x4 x5 x6) (ref_v393 x0 x1 x2 x3 x4 x5 x6) i

theorem ref_v434 (i : S8x8x4x256x256.Idx) :
    val_main_v434 (F := Ideal) x0 x1 x2 x3 x5 i
      = stC (headOf x0 x1 x2 x3 x4 x5 x6 (i 1).val (i 2).val) 1 (chunkAt 1 (i 0).val) (i 3).val (i 4).val :=
  stackC_at ![val_main_v401 (F := Ideal) x0 x1 x2 x3 x5,
      val_main_v385 (F := Ideal) x0 x1 x2 x3 x5,
      val_main_v369 (F := Ideal) x0 x1 x2 x3 x5,
      val_main_v353 (F := Ideal) x0 x1 x2 x3 x5,
      val_main_v337 (F := Ideal) x0 x1 x2 x3 x5,
      val_main_v321 (F := Ideal) x0 x1 x2 x3 x5,
      val_main_v305 (F := Ideal) x0 x1 x2 x3 x5,
      val_main_v296 (F := Ideal) x1 x2 x3 x5]
    (G := fun n a b e f => stC (headOf x0 x1 x2 x3 x4 x5 x6 a b) 1 (chunkAt 1 n) e f) (fun n i => by
      match n with
      | ⟨0, _⟩ => exact ref_v401 x0 x1 x2 x3 x4 x5 x6 i
      | ⟨1, _⟩ => exact ref_v385 x0 x1 x2 x3 x4 x5 x6 i
      | ⟨2, _⟩ => exact ref_v369 x0 x1 x2 x3 x4 x5 x6 i
      | ⟨3, _⟩ => exact ref_v353 x0 x1 x2 x3 x4 x5 x6 i
      | ⟨4, _⟩ => exact ref_v337 x0 x1 x2 x3 x4 x5 x6 i
      | ⟨5, _⟩ => exact ref_v321 x0 x1 x2 x3 x4 x5 x6 i
      | ⟨6, _⟩ => exact ref_v305 x0 x1 x2 x3 x4 x5 x6 i
      | ⟨7, _⟩ => exact ref_v296 x0 x1 x2 x3 x4 x5 x6 i) i

theorem ref_v443 (i : S8x8x4x256.Idx) :
    val_main_v443 (F := Ideal) x0 x1 x2 x3 x5 i
      = stN (headOf x0 x1 x2 x3 x4 x5 x6 (i 1).val (i 2).val) 1 (chunkAt 1 (i 0).val) (i 3).val :=
  stackN_at ![val_main_v409 (F := Ideal) x0 x1 x2 x3 x5,
      val_main_v393 (F := Ideal) x0 x1 x2 x3 x5,
      val_main_v377 (F := Ideal) x0 x1 x2 x3 x5,
      val_main_v361 (F := Ideal) x0 x1 x2 x3 x5,
      val_main_v345 (F := Ideal) x0 x1 x2 x3 x5,
      val_main_v329 (F := Ideal) x0 x1 x2 x3 x5,
      val_main_v313 (F := Ideal) x0 x1 x2 x3 x5,
      val_main_v297 (F := Ideal) x1 x2 x3 x5]
    (G := fun n a b f => stN (headOf x0 x1 x2 x3 x4 x5 x6 a b) 1 (chunkAt 1 n) f) (fun n i => by
      match n with
      | ⟨0, _⟩ => exact ref_v409 x0 x1 x2 x3 x4 x5 x6 i
      | ⟨1, _⟩ => exact ref_v393 x0 x1 x2 x3 x4 x5 x6 i
      | ⟨2, _⟩ => exact ref_v377 x0 x1 x2 x3 x4 x5 x6 i
      | ⟨3, _⟩ => exact ref_v361 x0 x1 x2 x3 x4 x5 x6 i
      | ⟨4, _⟩ => exact ref_v345 x0 x1 x2 x3 x4 x5 x6 i
      | ⟨5, _⟩ => exact ref_v329 x0 x1 x2 x3 x4 x5 x6 i
      | ⟨6, _⟩ => exact ref_v313 x0 x1 x2 x3 x4 x5 x6 i
      | ⟨7, _⟩ => exact ref_v297 x0 x1 x2 x3 x4 x5 x6 i) i

end Cert.Mlstm

end
-- ==== Proof.RefOut.lean ====
/-
  The reference's gated scores, the heads' two directions, the norm and the gated output.
-/
module

public import proofs.«01_k».proof.Proof.Logistic
public import proofs.«01_k».proof.Proof.RefStates
public import Idealize.ShloMosaic.Lib.WordCmp
public import Idealize.ShloMosaic.Lib.Pointwise.SelectCore

@[expose] public section

noncomputable section

namespace Cert.Mlstm

open Idealize.ShloMosaic Cert.ReferenceIdeal Cert.ReferenceIdeal.Gen Cert.ReferenceIdeal.Read

variable (x0 : (⟨S16384x4096, .bf16⟩ : BufTy).Contents (Elt Ideal)) (x1 : (⟨S2048x2048, .bf16⟩ : BufTy).Contents (Elt Ideal))
  (x2 : (⟨S3x2048, .f32⟩ : BufTy).Contents (Elt Ideal)) (x3 : (⟨S1x2048, .f32⟩ : BufTy).Contents (Elt Ideal))
  (x4 : (⟨S8x4x16x256, .f32⟩ : BufTy).Contents (Elt Ideal)) (x5 : (⟨S8x4x256x128, .f32⟩ : BufTy).Contents (Elt Ideal))
  (x6 : (⟨S1x1024, .f32⟩ : BufTy).Contents (Elt Ideal))

theorem bot_f32 : Ideal.ofBits .f32 0xFF800000#32 = ⊥ := by
  simp [Ideal.ofBits, Ideal.ieee, -EReal.coe_mul]

/-- The lower triangle. -/
theorem ref_v75 (i : S256x256.Idx) :
    val_main_v75 (F := Ideal) i = BitVec.ofBool (decide ((i 1).val ≤ (i 0).val)) := by
  have h0 : (i 0).val < 256 := (i 0).isLt
  have h1 : (i 1).val < 256 := (i 1).isLt
  rw [val_main_v75_apply, val_main_call4_v4_apply, val_main_call4_v2_apply, val_main_call4_v0_apply,
    val_main_call4_v1_apply, val_main_call4_c_apply, val_main_call4_v3_apply, val_main_v74_apply, val_main_c_2_apply,
    val_main_call4_v5_apply, val_main_call4_c_0_apply]
  show Scalar.select (IntOp.cmpi .sge (BitVec.ofNat 32 (i 0).val + 0#32) _) _ _ = _
  rw [BitVec.add_zero, WordCmp.cmpi_sge_ofNat (by omega) (by omega), WordCmp.select_decide]
  by_cases h : (i 1).val ≤ (i 0).val
  · rw [if_pos h, decide_eq_true h]; rfl
  · rw [if_neg h, decide_eq_false h]; rfl

theorem ref_v73 (i : S8x8x4x256x256.Idx) :
    val_main_v73 (F := Ideal) x0 x2 x3 i = score (headOf x0 x1 x2 x3 x4 x5 x6 (i 0).val (i 2).val) (i 1).val (i 3).val (i 4).val := by
  rw [val_main_v73_apply]
  unfold score
  refine Finset.sum_congr rfl fun e _ => ?_
  exact congrArg₂ (· * ·) (ref_v31 x0 x1 x2 x3 x4 x5 x6 _) (ref_v35 x0 x1 x2 x3 x4 x5 x6 _)

/-- The forward direction. -/
theorem ref_v254 (i : S8x8x4x256x256.Idx) :
    val_main_v254 (F := Ideal) x0 x2 x3 x4 x5 i = pp (headOf x0 x1 x2 x3 x4 x5 x6 (i 0).val (i 2).val) 0 (i 1).val (i 3).val (i 4).val := by
  rw [val_main_v254_apply, ref_v73 x0 x1 x2 x3 x4 x5 x6, val_main_v253_apply, val_main_v252_apply,
    val_main_v249_apply, val_main_call5_v1_apply, ref_v75, val_main_call5_v2_apply, val_main_v248_apply,
    ref_v77 x0 x1 x2 x3 x4 x5 x6, val_main_call5_v3_apply, val_main_call5_v0_apply, val_main_cst_3_apply,
    val_main_v251_apply, val_main_v250_apply, ref_v81 x0 x1 x2 x3 x4 x5 x6, WordCmp.select_decide]
  have m : FloatOps.ofBits (F := Ideal) .f32 0xFF800000#32 = (⊥ : EReal) := bot_f32
  rw [m]
  rfl

theorem ref_v260 (i : S8x8x4x256x256.Idx) :
    val_main_v260 (F := Ideal) x0 x1 x2 x3 x4 x5 i = num (headOf x0 x1 x2 x3 x4 x5 x6 (i 0).val (i 2).val) 0 (i 1).val (i 3).val (i 4).val := by
  rw [val_main_v260_apply, val_main_v255_apply, val_main_v259_apply, val_main_v257_apply,
    val_main_v258_apply, val_main_v256_apply, ref_v83 x0 x1 x2 x3 x4 x5 x6]
  exact congrArg₂ (· + ·) (Finset.sum_congr rfl fun s _ => congrArg₂ (· * ·) (ref_v254 x0 x1 x2 x3 x4 x5 x6 _) (ref_v37 x0 x1 x2 x3 x4 x5 x6 _))
    (congrArg₂ (· * ·) rfl (Finset.sum_congr rfl fun s _ => congrArg₂ (· * ·) (ref_v31 x0 x1 x2 x3 x4 x5 x6 _) (ref_v238 x0 x1 x2 x3 x4 x5 x6 _)))

theorem ref_v264 (i : S8x8x4x256.Idx) :
    val_main_v264 (F := Ideal) x0 x1 x2 x3 x4 x5 i = den (headOf x0 x1 x2 x3 x4 x5 x6 (i 0).val (i 2).val) 0 (i 1).val (i 3).val := by
  have z : FloatOps.ofBits (F := Ideal) .f32 0x00000000#32 = (0 : EReal) := zero_f32
  rw [val_main_v264_apply, val_main_v261_apply, val_main_v263_apply, val_main_v262_apply,
    val_main_cst_4_apply, ref_v83 x0 x1 x2 x3 x4 x5 x6, z, zero_add]
  exact congrArg₂ (· + ·) (Finset.sum_congr rfl fun s _ => ref_v254 x0 x1 x2 x3 x4 x5 x6 _)
    (congrArg₂ (· * ·) rfl (Finset.sum_congr rfl fun s _ => congrArg₂ (· * ·) (ref_v247 x0 x1 x2 x3 x4 x5 x6 _) (ref_v31 x0 x1 x2 x3 x4 x5 x6 _)))

theorem ref_v269 (i : S8x8x4x256x256.Idx) :
    val_main_v269 (F := Ideal) x0 x1 x2 x3 x4 x5 i = hd (headOf x0 x1 x2 x3 x4 x5 x6 (i 0).val (i 2).val) 0 (i 1).val (i 3).val (i 4).val := by
  rw [val_main_v269_apply, ref_v260 x0 x1 x2 x3 x4 x5 x6, val_main_v268_apply, val_main_v267_apply,
    val_main_v266_apply, val_main_v265_apply, ref_v264 x0 x1 x2 x3 x4 x5 x6, ref_v85 x0 x1 x2 x3 x4 x5 x6]
  rfl

/-- The backward direction. -/
theorem ref_v451 (i : S8x8x4x256x256.Idx) :
    val_main_v451 (F := Ideal) x0 x2 x3 x4 x5 i = pp (headOf x0 x1 x2 x3 x4 x5 x6 (i 0).val (i 2).val) 1 (i 1).val (i 3).val (i 4).val := by
  rw [val_main_v451_apply, ref_v73 x0 x1 x2 x3 x4 x5 x6, val_main_v450_apply, val_main_v449_apply,
    val_main_v446_apply, val_main_call6_v1_apply, val_main_v444_apply, ref_v75, val_main_call6_v2_apply, val_main_v445_apply,
    ref_v273 x0 x1 x2 x3 x4 x5 x6, val_main_call6_v3_apply, val_main_call6_v0_apply, val_main_cst_6_apply,
    val_main_v448_apply, val_main_v447_apply, ref_v277 x0 x1 x2 x3 x4 x5 x6, WordCmp.select_decide]
  have m : FloatOps.ofBits (F := Ideal) .f32 0xFF800000#32 = (⊥ : EReal) := bot_f32
  rw [m]
  rfl

theorem ref_v457 (i : S8x8x4x256x256.Idx) :
    val_main_v457 (F := Ideal) x0 x1 x2 x3 x4 x5 i = num (headOf x0 x1 x2 x3 x4 x5 x6 (i 0).val (i 2).val) 1 (i 1).val (i 3).val (i 4).val := by
  rw [val_main_v457_apply, val_main_v452_apply, val_main_v456_apply, val_main_v454_apply,
    val_main_v455_apply, val_main_v453_apply, ref_v279 x0 x1 x2 x3 x4 x5 x6]
  exact congrArg₂ (· + ·) (Finset.sum_congr rfl fun s _ => congrArg₂ (· * ·) (ref_v451 x0 x1 x2 x3 x4 x5 x6 _) (ref_v37 x0 x1 x2 x3 x4 x5 x6 _))
    (congrArg₂ (· * ·) rfl (Finset.sum_congr rfl fun s _ => congrArg₂ (· * ·) (ref_v31 x0 x1 x2 x3 x4 x5 x6 _) (ref_v434 x0 x1 x2 x3 x4 x5 x6 _)))

theorem ref_v461 (i : S8x8x4x256.Idx) :
    val_main_v461 (F := Ideal) x0 x1 x2 x3 x4 x5 i = den (headOf x0 x1 x2 x3 x4 x5 x6 (i 0).val (i 2).val) 1 (i 1).val (i 3).val := by
  have z : FloatOps.ofBits (F := Ideal) .f32 0x00000000#32 = (0 : EReal) := zero_f32
  rw [val_main_v461_apply, val_main_v458_apply, val_main_v460_apply, val_main_v459_apply,
    val_main_cst_7_apply, ref_v279 x0 x1 x2 x3 x4 x5 x6, z, zero_add]
  exact congrArg₂ (· + ·) (Finset.sum_congr rfl fun s _ => ref_v451 x0 x1 x2 x3 x4 x5 x6 _)
    (congrArg₂ (· * ·) rfl (Finset.sum_congr rfl fun s _ => congrArg₂ (· * ·) (ref_v443 x0 x1 x2 x3 x4 x5 x6 _) (ref_v31 x0 x1 x2 x3 x4 x5 x6 _)))

theorem ref_v466 (i : S8x8x4x256x256.Idx) :
    val_main_v466 (F := Ideal) x0 x1 x2 x3 x4 x5 i = hd (headOf x0 x1 x2 x3 x4 x5 x6 (i 0).val (i 2).val) 1 (i 1).val (i 3).val (i 4).val := by
  rw [val_main_v466_apply, ref_v457 x0 x1 x2 x3 x4 x5 x6, val_main_v465_apply, val_main_v464_apply,
    val_main_v463_apply, val_main_v462_apply, ref_v461 x0 x1 x2 x3 x4 x5 x6, ref_v281 x0 x1 x2 x3 x4 x5 x6]
  rfl

/-- The head's sum of both directions, its mean and variance. -/
theorem ref_v467 (i : S8x8x4x256x256.Idx) :
    val_main_v467 (F := Ideal) x0 x1 x2 x3 x4 x5 i = hh (headOf x0 x1 x2 x3 x4 x5 x6 (i 0).val (i 2).val) (i 1).val (i 3).val (i 4).val := by
  have z : FloatOps.ofBits (F := Ideal) .f32 0x00000000#32 = (0 : EReal) := zero_f32
  rw [val_main_v467_apply, val_main_v271_apply, val_main_v270_apply, val_main_cst_5_apply, z, ref_v269 x0 x1 x2 x3 x4 x5 x6, ref_v466 x0 x1 x2 x3 x4 x5 x6]
  exact congrArg (· + _) (zero_add _)

theorem ref_v471 (i : S8x8x4x256x1.Idx) :
    val_main_v471 (F := Ideal) x0 x1 x2 x3 x4 x5 i = mu (headOf x0 x1 x2 x3 x4 x5 x6 (i 0).val (i 2).val) (i 1).val (i 3).val := by
  have z : FloatOps.ofBits (F := Ideal) .f32 0x00000000#32 = (0 : EReal) := zero_f32
  rw [val_main_v471_apply, val_main_v469_apply, val_main_v468_apply, val_main_cst_8_apply, val_main_v470_apply,
    val_main_cst_9_apply, z, zero_add]
  exact congrArg (Ideal.div · width) (Finset.sum_congr rfl fun e _ => ref_v467 x0 x1 x2 x3 x4 x5 x6 _)

theorem ref_v473 (i : S8x8x4x256x256.Idx) :
    val_main_v473 (F := Ideal) x0 x1 x2 x3 x4 x5 i
      = hh (headOf x0 x1 x2 x3 x4 x5 x6 (i 0).val (i 2).val) (i 1).val (i 3).val (i 4).val - mu (headOf x0 x1 x2 x3 x4 x5 x6 (i 0).val (i 2).val) (i 1).val (i 3).val := by
  rw [val_main_v473_apply, val_main_v472_apply, ref_v471 x0 x1 x2 x3 x4 x5 x6, ref_v467 x0 x1 x2 x3 x4 x5 x6]
  rfl

theorem ref_v478 (i : S8x8x4x256x1.Idx) :
    val_main_v478 (F := Ideal) x0 x1 x2 x3 x4 x5 i = var (headOf x0 x1 x2 x3 x4 x5 x6 (i 0).val (i 2).val) (i 1).val (i 3).val := by
  have z : FloatOps.ofBits (F := Ideal) .f32 0x00000000#32 = (0 : EReal) := zero_f32
  rw [val_main_v478_apply, val_main_v476_apply, val_main_v475_apply, val_main_cst_10_apply, val_main_v477_apply,
    val_main_cst_11_apply, z, zero_add]
  refine congrArg (Ideal.div · width) (Finset.sum_congr rfl fun e _ => ?_)
  rw [val_main_v474_apply, ref_v473 x0 x1 x2 x3 x4 x5 x6]
  rfl

/-- The normalised head with the norm's weight. -/
theorem ref_v489 (i : S8x8x4x256x256.Idx) :
    val_main_v489 (F := Ideal) x0 x1 x2 x3 x4 x5 x6 i
      = (hh (headOf x0 x1 x2 x3 x4 x5 x6 (i 0).val (i 2).val) (i 1).val (i 3).val (i 4).val - mu (headOf x0 x1 x2 x3 x4 x5 x6 (i 0).val (i 2).val) (i 1).val (i 3).val)
          * Ideal.rsqrt (var (headOf x0 x1 x2 x3 x4 x5 x6 (i 0).val (i 2).val) (i 1).val (i 3).val + eps) * (headOf x0 x1 x2 x3 x4 x5 x6 (i 0).val (i 2).val).nw (i 4).val := by
  have h2 : (i 2).val < 4 := (i 2).isLt
  have h4 : (i 4).val < 256 := (i 4).isLt
  rw [val_main_v489_apply, val_main_v485_apply, val_main_v480_apply, val_main_v479_apply, ref_v471 x0 x1 x2 x3 x4 x5 x6, ref_v467 x0 x1 x2 x3 x4 x5 x6,
    val_main_v484_apply, val_main_v483_apply, val_main_v482_apply, ref_v478 x0 x1 x2 x3 x4 x5 x6, val_main_v481_apply,
    val_main_cst_12_apply, val_main_v488_apply, val_main_v487_apply, val_main_v486_apply]
  refine congrArg₂ (· * ·) rfl ((at2_of (a := 1) (b := 1024) x6 _).trans (at2_congr x6 rfl ?_))
  show (((i 2).val * 1 + 0) * 256 + (i 4).val) % 1024 = 256 * (i 2).val + (i 4).val
  omega

theorem ref_v497 (i : S8x8x256x4x256.Idx) :
    val_main_v497 (F := Ideal) x0 x1 x2 x3 x4 x5 x6 i = out (headOf x0 x1 x2 x3 x4 x5 x6 (i 0).val (i 3).val) (i 1).val (i 2).val (i 4).val := by
  have z : FloatOps.ofBits (F := Ideal) .f32 0x3F800000#32 = (1 : EReal) := one_f32
  rw [val_main_v497_apply, val_main_v490_apply, ref_v489 x0 x1 x2 x3 x4 x5 x6, val_main_v496_apply, val_main_v495_apply,
    val_main_cst_14_apply, val_main_v494_apply, val_main_v493_apply, val_main_cst_13_apply, val_main_v492_apply,
    val_main_v491_apply, ref_v39 x0 x1 x2 x3 x4 x5 x6, z]
  rfl

/-- The reference's result. -/
theorem ref_v499 (i : S16384x1024.Idx) :
    val_main_v499 (F := Ideal) x0 x1 x2 x3 x4 x5 x6 i
      = out (headOf x0 x1 x2 x3 x4 x5 x6 ((i 0).val / 2048) ((i 1).val / 256)) ((i 0).val % 2048 / 256) ((i 0).val % 2048 % 256)
          ((i 1).val % 256) := by
  have h0 : (i 0).val < 16384 := (i 0).isLt
  have h1 : (i 1).val < 1024 := (i 1).isLt
  have a : ((i 0).val * 1024 + (i 1).val) / 2097152 = (i 0).val / 2048 := by omega
  have b : ((i 0).val * 1024 + (i 1).val) / 262144 % 8 = (i 0).val % 2048 / 256 := by omega
  have c : ((i 0).val * 1024 + (i 1).val) / 1024 % 256 = (i 0).val % 2048 % 256 := by omega
  have d : ((i 0).val * 1024 + (i 1).val) / 256 % 4 = (i 1).val / 256 := by omega
  have e : ((i 0).val * 1024 + (i 1).val) % 256 = (i 1).val % 256 := by omega
  rw [val_main_v499_apply, val_main_v498_apply, ref_v497 x0 x1 x2 x3 x4 x5 x6]
  show out (headOf x0 x1 x2 x3 x4 x5 x6 (((i 0).val * 1024 + (i 1).val) / 2097152) (((i 0).val * 1024 + (i 1).val) / 256 % 4))
    (((i 0).val * 1024 + (i 1).val) / 262144 % 8) (((i 0).val * 1024 + (i 1).val) / 1024 % 256)
    (((i 0).val * 1024 + (i 1).val) % 256) = _
  rw [a, b, c, d, e]

end Cert.Mlstm

end
-- ==== Proof.Claims.lean ====
/-
  The kernel and the reference, from equal arguments, end with equal results.
-/
module

public import proofs.«01_k».proof.Defs
public import proofs.«01_k».proof.Proof.Arrays
public import proofs.«01_k».proof.Proof.RefOut
public import proofs.«01_k».proof.Proof.Gen.Pre_positive_floor
public import proofs.«01_k».proof.Proof.Gen.KernelIdeal.Value
public import proofs.«01_k».proof.Proof.Gen.ReferenceIdeal.Run
public import proofs.«01_k».proof.Proof.Gen.ReferenceIdeal.Read
public import Idealize.ShloMosaic.Lib.ReduceAll

@[expose] public section

noncomputable section

namespace Cert.Mlstm

open Idealize.ShloMosaic Idealize.ShloMosaic.TcCoe Idealize.SL.Sem
open Idealize.ShloMosaic.StableHlo (launchContents)

/-- The stated condition's array has one index. -/
theorem one_index : Subsingleton Cert.Pre_positive_floor.S_.Idx :=
  ⟨fun _ _ => funext fun k => k.elim0⟩

/-- The stated condition, read entry by entry. -/
theorem positive_of_fn (x0 : (⟨2, ![16384, 4096]⟩ : Shape).Idx → EReal) (x1 : (⟨2, ![2048, 2048]⟩ : Shape).Idx → EReal)
    (x2 : (⟨2, ![3, 2048]⟩ : Shape).Idx → EReal) (x3 : (⟨2, ![1, 2048]⟩ : Shape).Idx → EReal)
    (x4 : (⟨4, ![8, 4, 16, 256]⟩ : Shape).Idx → EReal) (x5 : (⟨4, ![8, 4, 256, 128]⟩ : Shape).Idx → EReal)
    (x6 : (⟨2, ![1, 1024]⟩ : Shape).Idx → EReal)
    (h : Cert.Pre_positive_floor.fn (F := Ideal) x0 x1 x2 x3 x4 x5 x6 = fun _ => 1#1) : Positive x5 := by
  intro b hd t l hb hh ht hl hl'
  haveI := one_index
  have e := Host.reduce_andi_all _ _ _ _ (fun k => k.elim0) (congrFun h fun k => k.elim0)
    (Fin.cons (⟨b, hb⟩ : Fin 8) (Fin.cons (⟨hd, hh⟩ : Fin 4) (Fin.cons (⟨t, ht⟩ : Fin 256) (Fin.cons (⟨l - 48, by omega⟩ : Fin 16) (fun k => k.elim0)))) : Cert.Pre_positive_floor.S8x4x256x16.Idx)
  have e' : BitVec.ofBool (decide (Ideal.ofBits .f32 0x00000000#32 < x5 _)) = 1#1 := e
  rw [zero_f32] at e'
  have p := of_decide_eq_true (by
    by_contra hc
    rw [Bool.not_eq_true] at hc
    rw [hc] at e'
    exact absurd e' (by decide))
  refine p.trans_eq ((at4_of x5 _).trans ?_)
  show at4 x5 (0 + b) (0 + hd) (0 + t) (48 + (l - 48)) = _
  rw [Nat.zero_add, Nat.zero_add, Nat.zero_add, Nat.add_sub_cancel' hl]

/-- The reference's result array is the kernel's function of the arguments. -/
theorem ref_result (x0 : (⟨2, ![16384, 4096]⟩ : Shape).Idx → EReal) (x1 : (⟨2, ![2048, 2048]⟩ : Shape).Idx → EReal)
    (x2 : (⟨2, ![3, 2048]⟩ : Shape).Idx → EReal) (x3 : (⟨2, ![1, 2048]⟩ : Shape).Idx → EReal)
    (x4 : (⟨4, ![8, 4, 16, 256]⟩ : Shape).Idx → EReal) (x5 : (⟨4, ![8, 4, 256, 128]⟩ : Shape).Idx → EReal)
    (x6 : (⟨2, ![1, 1024]⟩ : Shape).Idx → EReal) :
    Cert.ReferenceIdeal.Read.val_main_v499 (F := Ideal) x0 x1 x2 x3 x4 x5 x6 = result x0 x1 x2 x3 x4 x5 x6 :=
  funext fun i => ref_v499 x0 x1 x2 x3 x4 x5 x6 i

/-- The reference runs, keeps its arguments and ends with every counter at zero: it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's and the reference's results are the same function of the arguments. -/
theorem equal_results : Cert.algebraic_KernelIdeal_ReferenceIdeal_pre_positive_floor := by
  intro m ρ m' ρ' hpre hag
  refine ⟨fun c => result (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)), ?_, ?_⟩
  · exact (θ_run Cert.KernelIdeal.defs _ _).mono
      (fun _ h c => ⟨(h c).1.trans (final m c (positive_of_fn _ _ _ _ _ _ _ (hpre c))), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hag c
    refine (Cert.ReferenceIdeal.Read.val_main_v499_eq (F := Ideal) (launchContents m' c)).trans ?_
    refine (ref_result _ _ _ _ _ _ _).trans ?_
    exact congr (congr (congr (congr (congr (congr (congrArg result h0) h1) h2) h3) h4) h5) h6

end Cert.Mlstm

end
-- ==== Proof.ProjSpec.lean ====
/-
  The latent input projection as functions of natural-number coordinates over the extended reals: the text both
  programs are read against. Tokens are rows, features columns; the four groups of gated features are 256 wide, and a
  chunk is 128 tokens.
-/
module

public import proofs.«01_k».proof.Proof.Logistic

@[expose] public section

noncomputable section

namespace Cert.Proj

open Idealize.ShloMosaic Cert.Mlstm

/-- The literals: one, a half, and the two of the tanh form of gelu. -/
def one : EReal := Ideal.ofBits .f32 0x3F800000#32
theorem one_eq : one = 1 := one_lit
def half : EReal := Ideal.ofBits .f32 0x3F000000#32
def cube : EReal := Ideal.ofBits .f32 0x3D372713#32
def root : EReal := Ideal.ofBits .f32 0x3F4C422A#32

/-- gelu in its tanh form. -/
def gelu (x : EReal) : EReal := half * x * (one + Ideal.tanh (root * (x + cube * (x * x * x))))

/-- A product with the weights. -/
def dot (h w : Nat → Nat → EReal) (t l : Nat) : EReal := ∑ k : Fin 2048, h t k.val * w k.val l

/-- The norm over a group of 256 features. -/
def gmean (v : Nat → Nat → EReal) (t g : Nat) : EReal := Ideal.div (∑ e : Fin 256, v t (256 * g + e.val)) width
def gvar (v : Nat → Nat → EReal) (t g : Nat) : EReal :=
  Ideal.div (∑ e : Fin 256, (v t (256 * g + e.val) - gmean v t g) * (v t (256 * g + e.val) - gmean v t g)) width
def gnorm (v : Nat → Nat → EReal) (nw : Nat → EReal) (t e : Nat) : EReal :=
  (v t e - gmean v t (e / 256)) * Ideal.rsqrt (gvar v t (e / 256) + eps) * nw e

/-- The tokens of a chunk mixed, one matrix and one bias per group. -/
def mix (v : Nat → Nat → EReal) (ws : Nat → Nat → Nat → EReal) (bs : Nat → Nat → EReal) (t e : Nat) : EReal :=
  (∑ q : Fin 128, ws (e / 256) (t % 128) q.val * v (128 * (t / 128) + q.val) e) + bs (e / 256) (t % 128)

/-- What the call reads besides the tokens. -/
structure Layer where
  w : Nat → Nat → EReal
  nw : Nat → EReal
  ws : Nat → Nat → Nat → EReal
  bs : Nat → Nat → EReal

variable (L : Layer) (h : Nat → Nat → EReal)

/-- The gating half of the gated features, mixed along the chunk. -/
def gate (t e : Nat) : EReal := mix (gnorm (fun t e => gelu (dot h L.w t (5136 + e))) L.nw) L.ws L.bs t e

/-- The three results: the projected features, the gates, the gated features. -/
def features (t l : Nat) : EReal := dot h L.w t l
def gates (t l : Nat) : EReal := if l < 16 then dot h L.w t (4096 + l) else 0
def gated (t e : Nat) : EReal := gelu (dot h L.w t (4112 + e)) * gate L h t e

/-- The same of rows further on, by whole chunks. -/
theorem mix_shift (v : Nat → Nat → EReal) (ws : Nat → Nat → Nat → EReal) (bs : Nat → Nat → EReal) (r t e : Nat) :
    mix (fun t e => v (128 * r + t) e) ws bs t e = mix v ws bs (128 * r + t) e := by
  unfold mix
  rw [show (128 * r + t) % 128 = t % 128 by omega]
  refine congrArg (· + _) (Finset.sum_congr rfl fun q _ => ?_)
  rw [show 128 * ((128 * r + t) / 128) + q.val = 128 * r + (128 * (t / 128) + q.val) by omega]

theorem gated_shift (r t e : Nat) :
    gated L (fun t k => h (128 * r + t) k) t e = gated L h (128 * r + t) e :=
  congrArg (gelu (dot h L.w (128 * r + t) (4112 + e)) * ·)
    (mix_shift (gnorm (fun t e => gelu (dot h L.w t (5136 + e))) L.nw) L.ws L.bs r t e)

/-- An array of three axes read at natural-number coordinates (zero outside). -/
def at3 {a b c : Nat} (x : (⟨3, ![a, b, c]⟩ : Shape).Idx → EReal) (i j k : Nat) : EReal :=
  if h : i < a ∧ j < b ∧ k < c then
    x (fun q => match q with | ⟨0, _⟩ => ⟨i, h.1⟩ | ⟨1, _⟩ => ⟨j, h.2.1⟩ | ⟨2, _⟩ => ⟨k, h.2.2⟩)
  else 0

theorem at3_of {a b c : Nat} (x : (⟨3, ![a, b, c]⟩ : Shape).Idx → EReal) (i : (⟨3, ![a, b, c]⟩ : Shape).Idx) :
    x i = at3 x (i 0).val (i 1).val (i 2).val := by
  unfold at3
  rw [dif_pos ⟨(i 0).isLt, (i 1).isLt, (i 2).isLt⟩]
  exact congrArg x (funext fun k => by match k with | ⟨0, _⟩ => rfl | ⟨1, _⟩ => rfl | ⟨2, _⟩ => rfl)

/-- A row read at a natural-number coordinate (zero outside). -/
def at1 {a : Nat} (x : (⟨1, ![a]⟩ : Shape).Idx → EReal) (i : Nat) : EReal :=
  if h : i < a then x (fun q => match q with | ⟨0, _⟩ => ⟨i, h⟩) else 0

theorem at1_of {a : Nat} (x : (⟨1, ![a]⟩ : Shape).Idx → EReal) (i : (⟨1, ![a]⟩ : Shape).Idx) :
    x i = at1 x (i 0).val := by
  have h0 : (i 0).val < a := (i 0).isLt
  refine Eq.trans ?_ (dif_pos h0).symm
  exact congrArg x (funext fun k => by match k with | ⟨0, _⟩ => rfl)

theorem at3_congr {a b c : Nat} (x : (⟨3, ![a, b, c]⟩ : Shape).Idx → EReal) {i i' j j' k k' : Nat} (hi : i = i')
    (hj : j = j') (hk : k = k') : at3 x i j k = at3 x i' j' k' := by rw [hi, hj, hk]

/-- The tokens after the positional term and the modulation. -/
def modulated (x0 : (⟨2, ![16384, 2048]⟩ : Shape).Idx → EReal) (x1 : (⟨2, ![2048, 2048]⟩ : Shape).Idx → EReal)
    (x2 : (⟨3, ![16, 6, 2048]⟩ : Shape).Idx → EReal) (t k : Nat) : EReal :=
  (at2 x0 t k + at2 x1 (t % 2048) k) * (one + at3 x2 (t / 2048) 1 k) + at3 x2 (t / 2048) 0 k

/-- The layer of the call's arguments. -/
def layerOf (x3 : (⟨2, ![2048, 6160]⟩ : Shape).Idx → EReal) (x4 : (⟨1, ![1024]⟩ : Shape).Idx → EReal)
    (x5 : (⟨3, ![4, 128, 128]⟩ : Shape).Idx → EReal) (x6 : (⟨2, ![4, 128]⟩ : Shape).Idx → EReal) : Layer where
  w := at2 x3
  nw := at1 x4
  ws := at3 x5
  bs := at2 x6

end Cert.Proj

end
-- ==== Proof.ProjBlock.lean ====
/-
  The projection's body at extended reals, one block at a time: the modulated tokens, the products, the norm of a
  group and one chunk of its mixing.
-/
module

public import proofs.«01_k».proof.Proof.ProjSpec
public import proofs.«01_k».proof.Proof.Products
public import proofs.«01_k».proof.Proof.Gen.ProjectionIdeal.Skeleton
public import Idealize.ShloMosaic.Lib.Pointwise.Reduce

@[expose] public section

noncomputable section

namespace Cert.Proj

open Idealize.ShloMosaic Cert.Mlstm Cert.ProjectionIdeal Cert.ProjectionIdeal.Gen

variable {α : Type}

theorem cast_mods (x : S1x6x2048.Idx → α) (h : S1x6x2048.ShapeCasts S6x2048) (j : S6x2048.Idx) :
    shapeCast S6x2048 x h j = x (ix3 0 (j 0) (j 1)) :=
  shapeCast_apply x h j _ (by rw [Shape.rowMajor_val_three, Shape.rowMajor_val_two]; simp [ix3])

theorem cast_weight (x : S1x128x128.Idx → α) (h : S1x128x128.ShapeCasts S128x128) (j : S128x128.Idx) :
    shapeCast S128x128 x h j = x (ix3 0 (j 0) (j 1)) :=
  shapeCast_apply x h j _ (by rw [Shape.rowMajor_val_three, Shape.rowMajor_val_two]; simp [ix3])

theorem cast_sums (x : S512.Idx → α) (h : S512.ShapeCasts S512x1) (j : S512x1.Idx) :
    shapeCast S512x1 x h j = x (ix1 (j 0)) :=
  shapeCast_apply x h j _ (by
    have h0 : (j 1).val < 1 := (j 1).isLt
    rw [Shape.rowMajor_val_one, Shape.rowMajor_val_two]; simp [ix1]; omega)

/-- The modulated tokens. -/
theorem modulated_at {x pe : Vec Ideal S512x2048 .f32} {md : Vec Ideal S1x6x2048 .f32} {fx fp fm : Nat → Nat → EReal}
    (hx : ∀ i, x i = fx (i 0).val (i 1).val) (hp : ∀ i, pe i = fp (i 0).val (i 1).val)
    (hm : ∀ i, md i = fm (i 1).val (i 2).val) (i : S512x2048.Idx) :
    k0_pay1 x pe md i = (fx (i 0).val (i 1).val + fp (i 0).val (i 1).val) * (one + fm 1 (i 1).val) + fm 0 (i 1).val := by
  unfold k0_pay1
  rw [cast_same]
  pointwise [cast_mods, hx, hp, hm]
  rw [one_eq]

/-- The product with one block of the weights. -/
def dotBlk (h : Vec Ideal S512x2048 .bf16) (w : Vec Ideal S2048x1024 .bf16) : FVec Ideal S512x1024 .f32 :=
  matmul (φ₁ := .bf16) (φ₂ := .bf16) dot_S512x2048_S2048x1024_S512x1024_1_0_0_1_n_n none h
    (shapeCast S2048x1024 w shapeCasts_S2048x1024_S2048x1024 : FVec Ideal S2048x1024 .bf16) (constant S512x1024 .f32 0x00000000#32)

theorem dotBlk_at {h : Vec Ideal S512x2048 .bf16} {w : Vec Ideal S2048x1024 .bf16} {fh fw : Nat → Nat → EReal}
    (hh : ∀ i, h i = fh (i 0).val (i 1).val) (hw : ∀ i, w i = fw (i 0).val (i 1).val) (i : S512x1024.Idx) :
    dotBlk h w i = dot fh fw (i 0).val (i 1).val :=
  plain_at (φ₁ := .bf16) (φ₂ := .bf16) (M := 512) (K := 2048) (N := 1024) none _ _ _ hh
    (fun i => (cast_same _ _ i).trans (hw i)) zero_at i

theorem gateDot_at {h : Vec Ideal S512x2048 .bf16} {w : Vec Ideal S2048x128 .bf16} {fh fw : Nat → Nat → EReal}
    (hh : ∀ i, h i = fh (i 0).val (i 1).val) (hw : ∀ i, w i = fw (i 0).val (i 1).val) (i : S512x128.Idx) :
    k0_pay6 h w i = dot fh fw (i 0).val (i 1).val :=
  plain_at (φ₁ := .bf16) (φ₂ := .bf16) (M := 512) (K := 2048) (N := 128) none _ _ _ hh
    (fun i => (cast_same _ _ i).trans (hw i)) zero_at i

/-- gelu of a block. -/
def geluBlk (y : FVec Ideal S512x1024 .f32) : FVec Ideal S512x1024 .f32 :=
  mulf (mulf (broadcast S512x1024 (Scalar.ofBits .f32 0x3F000000#32)) y)
    (addf (broadcast S512x1024 (Scalar.ofBits .f32 0x3F800000#32))
      (tanh (mulf (broadcast S512x1024 (Scalar.ofBits .f32 0x3F4C422A#32))
        (addf y (mulf (broadcast S512x1024 (Scalar.ofBits .f32 0x3D372713#32)) (mulf (mulf y y) y))))))

theorem geluBlk_at (y : FVec Ideal S512x1024 .f32) (i : S512x1024.Idx) : geluBlk y i = gelu (y i) := rfl

theorem geluDot_eq (h : Vec Ideal S512x2048 .bf16) (w : Vec Ideal S2048x1024 .bf16) :
    k0_pay10 (k0_pay8 h w) (k0_pay9 h w) = geluBlk (dotBlk h w) := rfl

theorem geluDot_at {h : Vec Ideal S512x2048 .bf16} {w : Vec Ideal S2048x1024 .bf16} {fh fw : Nat → Nat → EReal}
    (hh : ∀ i, h i = fh (i 0).val (i 1).val) (hw : ∀ i, w i = fw (i 0).val (i 1).val) (i : S512x1024.Idx) :
    k0_pay10 (k0_pay8 h w) (k0_pay9 h w) i = gelu (dot fh fw (i 0).val (i 1).val) :=
  (congrFun (geluDot_eq h w) i).trans ((geluBlk_at _ i).trans (congrArg gelu (dotBlk_at hh hw i)))

theorem out_at {h : Vec Ideal S512x2048 .bf16} {w : Vec Ideal S2048x1024 .bf16} {s : Vec Ideal S512x1024 .f32}
    {fh fw fs : Nat → Nat → EReal} (hh : ∀ i, h i = fh (i 0).val (i 1).val) (hw : ∀ i, w i = fw (i 0).val (i 1).val)
    (hs : ∀ i, s i = fs (i 0).val (i 1).val) (i : S512x1024.Idx) :
    k0_pay40 h w s i = gelu (dot fh fw (i 0).val (i 1).val) * fs (i 0).val (i 1).val :=
  congrArg₂ (· * ·) ((geluBlk_at (dotBlk h w) i).trans (congrArg gelu (dotBlk_at hh hw i))) (hs i)

/-- The sums of a block's rows. -/
def sums (x : FVec Ideal S512x256 .f32) : FVec Ideal S512x1 .f32 :=
  shapeCast S512x1 (multiReduction .add [1] S512 x 0x00000000#32 reduces_S512x256_S512 (.inl rfl) rfl)
    shapeCasts_S512_S512x1

theorem sums_at {x : FVec Ideal S512x256 .f32} {f : Nat → Nat → EReal} (hx : ∀ i, x i = f (i 0).val (i 1).val)
    (i : S512x1.Idx) : sums x i = ∑ e : Fin 256, f (i 0).val e.val := by
  unfold sums
  rw [cast_sums]
  refine (Ideal.reduceAdd_r2_a1 _ _ _).trans (Finset.sum_congr rfl fun k _ => ?_)
  exact hx _

/-- The means, and the block less its means. -/
def means (x : FVec Ideal S512x256 .f32) : FVec Ideal S512x1 .f32 :=
  divf (sums x) (broadcast S512x1 (Scalar.ofBits .f32 0x43800000#32))
def centred (x : FVec Ideal S512x256 .f32) : FVec Ideal S512x256 .f32 :=
  subf x (broadcastTo S512x256 (means x) broadcasts_S512x1_S512x256)

/-- The norm of a group. -/
def normBlk (x : FVec Ideal S512x256 .f32) (nw : Vec Ideal S1x256 .f32) : FVec Ideal S512x256 .bf16 :=
  truncf .bf16 (mulf (mulf (centred x) (broadcastTo S512x256
      (rsqrt (addf (means (mulf (centred x) (centred x))) (broadcast S512x1 (Scalar.ofBits .f32 0x358637BD#32))))
      broadcasts_S512x1_S512x256))
    (broadcastTo S512x256 (shapeCast S1x256 nw shapeCasts_S1x256_S1x256) broadcasts_S1x256_S512x256)) bitsLt_bf16_f32

theorem means_at {x : FVec Ideal S512x256 .f32} {f : Nat → Nat → EReal} (hx : ∀ i, x i = f (i 0).val (i 1).val)
    (i : S512x1.Idx) : means x i = Ideal.div (∑ e : Fin 256, f (i 0).val e.val) width :=
  congrArg (Ideal.div · width) (sums_at hx i)

theorem centred_at {x : FVec Ideal S512x256 .f32} {f : Nat → Nat → EReal} (hx : ∀ i, x i = f (i 0).val (i 1).val)
    (i : S512x256.Idx) :
    centred x i = f (i 0).val (i 1).val - Ideal.div (∑ e : Fin 256, f (i 0).val e.val) width := by
  unfold centred
  pointwise [hx, means_at hx]

theorem normBlk_at {v : Nat → Nat → EReal} {nw : Nat → EReal} {g : Nat} {x : FVec Ideal S512x256 .f32}
    {n : Vec Ideal S1x256 .f32} (hx : ∀ i, x i = v (i 0).val (256 * g + (i 1).val))
    (hn : ∀ i, n i = nw (256 * g + (i 1).val)) (i : S512x256.Idx) :
    normBlk x n i = gnorm v nw (i 0).val (256 * g + (i 1).val) := by
  have h1 : (i 1).val < 256 := (i 1).isLt
  have hc := centred_at (f := fun t e => v t (256 * g + e)) hx
  unfold normBlk gnorm gvar gmean
  rw [show (256 * g + (i 1).val) / 256 = g by omega]
  pointwise [hc, cast_same, hn, means_at (x := mulf (centred x) (centred x)) (f := fun t e => (v t (256 * g + e) - Ideal.div (∑ e : Fin 256, v t (256 * g + e.val)) width) * (v t (256 * g + e) - Ideal.div (∑ e : Fin 256, v t (256 * g + e.val)) width)) (fun j => congrArg₂ (· * ·) (hc j) (hc j))]
  rfl

/-- One chunk of a group mixed. -/
def mixBlk (o : Nat) (hs : S512x256.Slices ![o, 0] S128x256) (v : FVec Ideal S512x256 .bf16)
    (w : Vec Ideal S1x128x128 .bf16) (b : Vec Ideal S128x1 .f32) : FVec Ideal S128x256 .f32 :=
  shapeCast S128x256 (addf (matmul dot_S128x128_S128x256_S128x256_1_0_0_1_n_n none
      (shapeCast S128x128 w shapeCasts_S1x128x128_S128x128 : FVec Ideal S128x128 .bf16)
      (extractStridedSlice S128x256 ![o, 0] v hs) (constant S128x256 .f32 0x00000000#32))
    (broadcastTo S128x256 (shapeCast S128x1 b shapeCasts_S128x1_S128x1) broadcasts_S128x1_S128x256))
    shapeCasts_S128x256_S128x256

theorem mixBlk_at {o : Nat} {hs : S512x256.Slices ![o, 0] S128x256} {v : FVec Ideal S512x256 .bf16}
    {w : Vec Ideal S1x128x128 .bf16} {b : Vec Ideal S128x1 .f32} {fv fw : Nat → Nat → EReal} {fb : Nat → EReal}
    (hv : ∀ i, v i = fv (i 0).val (i 1).val) (hw : ∀ i, w i = fw (i 1).val (i 2).val)
    (hb : ∀ i, b i = fb (i 0).val) (i : S128x256.Idx) :
    mixBlk o hs v w b i = (∑ q : Fin 128, fw (i 0).val q.val * fv (o + q.val) (i 1).val) + fb (i 0).val := by
  unfold mixBlk
  rw [cast_same]
  refine congrArg₂ (· + ·) (plain_at (φ₁ := .bf16) (φ₂ := .bf16) (M := 128) (K := 128) (N := 256)
    (fr := fun q e => fv (o + q) e) none _ _ _ (fun j => (cast_weight _ _ j).trans (hw _)) (fun j => ?_) zero_at i) ?_
  · pointwise [hv]
  · pointwise [cast_same, hb]

end Cert.Proj

end
-- ==== Proof.ProjRun.lean ====
/-
  What the projection's body leaves of one block of 512 tokens: its two scratch buffers and its three outputs.
-/
module

public import proofs.«01_k».proof.Proof.ProjBlock
public import proofs.«01_k».proof.Proof.RunReads
public import proofs.«01_k».proof.Proof.Gen.ProjectionIdeal.Frame

@[expose] public section

noncomputable section

namespace Cert.Proj

open Idealize.ShloMosaic Cert.Mlstm Cert.ProjectionIdeal Cert.ProjectionIdeal.Gen Cert.ProjectionIdeal.Gen.kernelRun0_A

/-- A block's modulated tokens. -/
def modBlk (fx fp : Nat → Nat → EReal) (fm : Nat → Nat → Nat → EReal) (t k : Nat) : EReal :=
  (fx t k + fp t k) * (one + fm t 1 k) + fm t 0 k

/-- What the blocks of one step hold. -/
structure Reads (L : Layer) (fx fp : Nat → Nat → EReal) (fm : Nat → Nat → Nat → EReal)
    (x pe : Vec Ideal S512x2048 .f32) (md : Vec Ideal S1x6x2048 .f32) (w : Vec Ideal S2048x4096 .bf16)
    (wg : Vec Ideal S2048x128 .bf16) (wuv : Vec Ideal S2048x2048 .bf16) (nw : Vec Ideal S1x1024 .f32)
    (ws : Vec Ideal S4x128x128 .bf16) (bs : Vec Ideal S128x4 .f32) : Prop where
  hx : ∀ i, x i = fx (i 0).val (i 1).val
  hp : ∀ i, pe i = fp (i 0).val (i 1).val
  hm : ∀ t, t < 512 → ∀ i, md i = fm t (i 1).val (i 2).val
  hw : ∀ i, w i = L.w (i 0).val (i 1).val
  hg : ∀ i, wg i = if (i 1).val < 16 then L.w (i 0).val (4096 + (i 1).val) else 0
  huv : ∀ i, wuv i = L.w (i 0).val (4112 + (i 1).val)
  hn : ∀ i, nw i = L.nw (i 1).val
  hs : ∀ i, ws i = L.ws (i 0).val (i 1).val (i 2).val
  hb : ∀ i, bs i = L.bs (i 1).val (i 0).val

variable {L : Layer} {fx fp : Nat → Nat → EReal} {fm : Nat → Nat → Nat → EReal}
variable {x pe : Vec Ideal S512x2048 .f32} {md : Vec Ideal S1x6x2048 .f32} {w : Vec Ideal S2048x4096 .bf16}
variable {wg : Vec Ideal S2048x128 .bf16} {wuv : Vec Ideal S2048x2048 .bf16} {nw : Vec Ideal S1x1024 .f32}
variable {ws : Vec Ideal S4x128x128 .bf16} {bs : Vec Ideal S128x4 .f32}

section Buffers

variable (c : Dev nD) (a1 : Memref sig .tc .vmem S512x2048 .f32) (h1 : a1.IsWhole)
variable (a2 : Memref sig .tc .vmem S512x2048 .f32) (h2 : a2.IsWhole)
variable (a3 : Memref sig .tc .vmem S1x6x2048 .f32) (h3 : a3.IsWhole)
variable (a6 : Memref sig .tc .vmem S2048x2048 .bf16) (h6 : a6.IsWhole)
variable (a7 : Memref sig .tc .vmem S1x1024 .f32) (h7 : a7.IsWhole)
variable (a8 : Memref sig .tc .vmem S4x128x128 .bf16) (h8 : a8.IsWhole)
variable (a9 : Memref sig .tc .vmem S128x4 .f32) (h9 : a9.IsWhole)
variable (a13 : Memref sig .tc .vmem S512x2048 .bf16) (a14 : Memref sig .tc .vmem S512x1024 .f32)
variable (R : Reads L fx fp fm x pe md w wg wuv nw ws bs)
include R

/-- The scratch that keeps the modulated tokens, read back. -/
theorem tokens_at (i : S512x2048.Idx) :
    sl.v17 c a1 h1 a2 h2 a3 h3 a13 x pe md i = modBlk fx fp fm (i 0).val (i 1).val := by
  refine (backRows (v := a13) (f := modBlk fx fp fm) (canon2 ?_
    (View.cover_of_tiledL _ S512x2048.size (by sl_kernel_rfl))) inb_S512x2048_S512x2048_0_0 i).trans
      (congrArg (modBlk fx fp fm · _) (Nat.zero_add _))
  unfold sl.HS0_1
  simp only [List.forall_mem_cons]
  refine ⟨holdsRows _ fun j => ?_, List.forall_mem_nil _⟩
  rw [Nat.zero_add]
  exact modulated_at (fm := fm (j 0).val) (whole2 h1 R.hx inb_S512x2048_S512x2048_0_0)
    (whole2 h2 R.hp inb_S512x2048_S512x2048_0_0)
    (slot3 h3 (f := fun _ => fm (j 0).val) (R.hm _ (j 0).isLt) inb_S1x6x2048_S1x6x2048_0_0_0) j

/-- The gating half after gelu. -/
theorem gating_at (i : S512x1024.Idx) :
    sl.r_2 c a1 h1 a2 h2 a3 h3 a6 h6 a13 x pe md wuv i
      = gelu (dot (modBlk fx fp fm) L.w (i 0).val (5136 + (i 1).val)) :=
  geluDot_at (fw := fun k e => L.w k (5136 + e)) (tokens_at c a1 h1 a2 h2 a3 h3 a13 R)
    (fun i => (read2 h6 (f := fun k l => L.w k (4112 + l)) R.huv inb_S2048x2048_S2048x1024_0_1024 i).trans (by
      show L.w _ (4112 + (1024 + (i 1).val)) = _
      rw [Nat.zero_add, show 4112 + (1024 + (i 1).val) = 5136 + (i 1).val by omega])) i

/-- A group's columns of the norm weights. -/
theorem normRow_at (g : Nat) (inb : ∀ k, (![0, 256 * g] : Fin 2 → Nat) k + (![1, 256] : Fin 2 → Nat) k ≤ (![1, 1024] : Fin 2 → Nat) k)
    (i : S1x256.Idx) :
    View.readAt (Elt Ideal) a7.view (Rect.unit (s := S1x1024) ![0, 256 * g] ![1, 256] inb).toLoadRect (h7.unread nw) i
      = L.nw (256 * g + (i 1).val) :=
  read2 h7 (f := fun _ e => L.nw e) R.hn inb i

/-- A group's bias. -/
theorem bias_at (g : Nat) (inb : ∀ k, (![0, g] : Fin 2 → Nat) k + (![128, 1] : Fin 2 → Nat) k ≤ (![128, 4] : Fin 2 → Nat) k)
    (i : S128x1.Idx) :
    View.readAt (Elt Ideal) a9.view (Rect.unit (s := S128x4) ![0, g] ![128, 1] inb).toLoadRect (h9.unread bs) i
      = L.bs g (i 0).val :=
  (read2 h9 (f := fun p g => L.bs g p) R.hb inb i).trans (by
    have h0 : (i 1).val = 0 := Nat.lt_one_iff.mp (i 1).isLt
    rw [h0, Nat.zero_add]; rfl)

/-- A group normed. -/
theorem group_at (g : Nat) (hs : S512x1024.Slices ![0, 256 * g] S512x256)
    (inb : ∀ k, (![0, 256 * g] : Fin 2 → Nat) k + (![1, 256] : Fin 2 → Nat) k ≤ (![1, 1024] : Fin 2 → Nat) k)
    (i : S512x256.Idx) :
    normBlk (extractStridedSlice S512x256 ![0, 256 * g] (sl.r_2 c a1 h1 a2 h2 a3 h3 a6 h6 a13 x pe md wuv) hs)
        (View.readAt (Elt Ideal) a7.view (Rect.unit (s := S1x1024) ![0, 256 * g] ![1, 256] inb).toLoadRect (h7.unread nw)) i
      = gnorm (fun t e => gelu (dot (modBlk fx fp fm) L.w t (5136 + e))) L.nw (i 0).val (256 * g + (i 1).val) :=
  normBlk_at (v := fun t e => gelu (dot (modBlk fx fp fm) L.w t (5136 + e))) (g := g)
    (fun j => by pointwise [gating_at c a1 h1 a2 h2 a3 h3 a6 h6 a13 R])
    (normRow_at a7 h7 R g inb) i

end Buffers

/-- One chunk of one group in the scratch that keeps the mixed features. -/
theorem holdsMix {V : Nat → Nat → EReal} {fs : Nat → Nat → Nat → EReal} {fb : Nat → Nat → EReal} (p g : Nat)
    (inb : ∀ k, (![128 * p, 256 * g] : Fin 2 → Nat) k + (![128, 256] : Fin 2 → Nat) k ≤ (![512, 1024] : Fin 2 → Nat) k)
    (hs : S512x256.Slices ![128 * p, 0] S128x256) {v : FVec Ideal S512x256 .bf16}
    {wt : Vec Ideal S1x128x128 .bf16} {b : Vec Ideal S128x1 .f32} (hv : ∀ i, v i = V (i 0).val (256 * g + (i 1).val))
    (hw : ∀ i, wt i = fs g (i 1).val (i 2).val) (hb : ∀ i, b i = fb g (i 0).val) :
    Holds2 (e := .f32) (mix V fs fb)
      ⟨Rect.unit (s := S512x1024) ![128 * p, 256 * g] ![128, 256] inb, mixBlk (128 * p) hs v wt b⟩ :=
  holds2 inb fun i => by
    have e0 : (i 0).val < 128 := (i 0).isLt
    have e1 : (i 1).val < 256 := (i 1).isLt
    rw [mixBlk_at (fv := fun t e => V t (256 * g + e)) hv hw hb]
    unfold mix
    rw [show (256 * g + (i 1).val) / 256 = g by omega, show (128 * p + (i 0).val) % 128 = (i 0).val by omega,
      show (128 * p + (i 0).val) / 128 = p by omega]

set_option maxHeartbeats 2000000 in
/-- The scratch that keeps the mixed features. -/
theorem mixed_at (c : Dev nD) (a1 : Memref sig .tc .vmem S512x2048 .f32) (h1 : a1.IsWhole)
    (a2 : Memref sig .tc .vmem S512x2048 .f32) (h2 : a2.IsWhole)
    (a3 : Memref sig .tc .vmem S1x6x2048 .f32) (h3 : a3.IsWhole)
    (a6 : Memref sig .tc .vmem S2048x2048 .bf16) (h6 : a6.IsWhole)
    (a7 : Memref sig .tc .vmem S1x1024 .f32) (h7 : a7.IsWhole)
    (a8 : Memref sig .tc .vmem S4x128x128 .bf16) (h8 : a8.IsWhole)
    (a9 : Memref sig .tc .vmem S128x4 .f32) (h9 : a9.IsWhole)
    (a13 : Memref sig .tc .vmem S512x2048 .bf16) (R : Reads L fx fp fm x pe md w wg wuv nw ws bs) (y : S512x1024.Idx) :
    View.canon (sl.HS1_16 c a1 h1 a2 h2 a3 h3 a6 h6 a7 h7 a8 h8 a9 h9 a13 x pe md wuv nw ws bs) y
      = gate L (modBlk fx fp fm) (y 0).val (y 1).val := by
  refine canon2 (a := 512) (b := 1024) (e := .f32) (f := gate L (modBlk fx fp fm)) ?_ (View.cover_of_tiledL
    (sl.HS1_16 c a1 h1 a2 h2 a3 h3 a6 h6 a7 h7 a8 h8 a9 h9 a13 x pe md wuv nw ws bs) S128x256.size (by sl_kernel_rfl)) y
  have piece := fun (p g : Nat) ib is iv hs ic iw => holdsMix (V := gnorm (fun t e => gelu (dot (modBlk fx fp fm) L.w t (5136 + e))) L.nw)
    (fs := L.ws) (fb := L.bs) p g ib is (group_at c a1 h1 a2 h2 a3 h3 a6 h6 a7 h7 a13 R g hs iv)
    (slot3 h8 R.hs iw) (bias_at a9 h9 R g ic)
  unfold sl.HS1_16
  simp only [List.forall_mem_cons]
  refine ⟨?_, ?_, ?_, ?_, ?_, ?_, ?_, ?_, ?_, ?_, ?_, ?_, ?_, ?_, ?_, ?_, List.forall_mem_nil _⟩
  · exact piece 3 3 inb_S512x1024_S128x256_384_768 slices_S512x256_o384_0_S128x256 inb_S1x1024_S1x256_0_768
      slices_S512x1024_o0_768_S512x256 inb_S128x4_S128x1_0_3 inb_S4x128x128_S1x128x128_3_0_0
  · exact piece 2 3 inb_S512x1024_S128x256_256_768 slices_S512x256_o256_0_S128x256 inb_S1x1024_S1x256_0_768
      slices_S512x1024_o0_768_S512x256 inb_S128x4_S128x1_0_3 inb_S4x128x128_S1x128x128_3_0_0
  · exact piece 1 3 inb_S512x1024_S128x256_128_768 slices_S512x256_o128_0_S128x256 inb_S1x1024_S1x256_0_768
      slices_S512x1024_o0_768_S512x256 inb_S128x4_S128x1_0_3 inb_S4x128x128_S1x128x128_3_0_0
  · exact piece 0 3 inb_S512x1024_S128x256_0_768 slices_S512x256_o0_0_S128x256 inb_S1x1024_S1x256_0_768
      slices_S512x1024_o0_768_S512x256 inb_S128x4_S128x1_0_3 inb_S4x128x128_S1x128x128_3_0_0
  · exact piece 3 2 inb_S512x1024_S128x256_384_512 slices_S512x256_o384_0_S128x256 inb_S1x1024_S1x256_0_512
      slices_S512x1024_o0_512_S512x256 inb_S128x4_S128x1_0_2 inb_S4x128x128_S1x128x128_2_0_0
  · exact piece 2 2 inb_S512x1024_S128x256_256_512 slices_S512x256_o256_0_S128x256 inb_S1x1024_S1x256_0_512
      slices_S512x1024_o0_512_S512x256 inb_S128x4_S128x1_0_2 inb_S4x128x128_S1x128x128_2_0_0
  · exact piece 1 2 inb_S512x1024_S128x256_128_512 slices_S512x256_o128_0_S128x256 inb_S1x1024_S1x256_0_512
      slices_S512x1024_o0_512_S512x256 inb_S128x4_S128x1_0_2 inb_S4x128x128_S1x128x128_2_0_0
  · exact piece 0 2 inb_S512x1024_S128x256_0_512 slices_S512x256_o0_0_S128x256 inb_S1x1024_S1x256_0_512
      slices_S512x1024_o0_512_S512x256 inb_S128x4_S128x1_0_2 inb_S4x128x128_S1x128x128_2_0_0
  · exact piece 3 1 inb_S512x1024_S128x256_384_256 slices_S512x256_o384_0_S128x256 inb_S1x1024_S1x256_0_256
      slices_S512x1024_o0_256_S512x256 inb_S128x4_S128x1_0_1 inb_S4x128x128_S1x128x128_1_0_0
  · exact piece 2 1 inb_S512x1024_S128x256_256_256 slices_S512x256_o256_0_S128x256 inb_S1x1024_S1x256_0_256
      slices_S512x1024_o0_256_S512x256 inb_S128x4_S128x1_0_1 inb_S4x128x128_S1x128x128_1_0_0
  · exact piece 1 1 inb_S512x1024_S128x256_128_256 slices_S512x256_o128_0_S128x256 inb_S1x1024_S1x256_0_256
      slices_S512x1024_o0_256_S512x256 inb_S128x4_S128x1_0_1 inb_S4x128x128_S1x128x128_1_0_0
  · exact piece 0 1 inb_S512x1024_S128x256_0_256 slices_S512x256_o0_0_S128x256 inb_S1x1024_S1x256_0_256
      slices_S512x1024_o0_256_S512x256 inb_S128x4_S128x1_0_1 inb_S4x128x128_S1x128x128_1_0_0
  · exact piece 3 0 inb_S512x1024_S128x256_384_0 slices_S512x256_o384_0_S128x256 inb_S1x1024_S1x256_0_0
      slices_S512x1024_o0_0_S512x256 inb_S128x4_S128x1_0_0 inb_S4x128x128_S1x128x128_0_0_0
  · exact piece 2 0 inb_S512x1024_S128x256_256_0 slices_S512x256_o256_0_S128x256 inb_S1x1024_S1x256_0_0
      slices_S512x1024_o0_0_S512x256 inb_S128x4_S128x1_0_0 inb_S4x128x128_S1x128x128_0_0_0
  · exact piece 1 0 inb_S512x1024_S128x256_128_0 slices_S512x256_o128_0_S128x256 inb_S1x1024_S1x256_0_0
      slices_S512x1024_o0_0_S512x256 inb_S128x4_S128x1_0_0 inb_S4x128x128_S1x128x128_0_0_0
  · exact piece 0 0 inb_S512x1024_S128x256_0_0 slices_S512x256_o0_0_S128x256 inb_S1x1024_S1x256_0_0
      slices_S512x1024_o0_0_S512x256 inb_S128x4_S128x1_0_0 inb_S4x128x128_S1x128x128_0_0_0

section Outputs

variable (c : Dev nD) (p : grid0.Coords) (a1 : Memref sig .tc .vmem S512x2048 .f32) (h1 : a1.IsWhole)
variable (a2 : Memref sig .tc .vmem S512x2048 .f32) (h2 : a2.IsWhole)
variable (a3 : Memref sig .tc .vmem S1x6x2048 .f32) (h3 : a3.IsWhole)
variable (a4 : Memref sig .tc .vmem S2048x4096 .bf16) (h4 : a4.IsWhole)
variable (a5 : Memref sig .tc .vmem S2048x128 .bf16) (h5 : a5.IsWhole)
variable (a6 : Memref sig .tc .vmem S2048x2048 .bf16) (h6 : a6.IsWhole)
variable (a7 : Memref sig .tc .vmem S1x1024 .f32) (h7 : a7.IsWhole)
variable (a8 : Memref sig .tc .vmem S4x128x128 .bf16) (h8 : a8.IsWhole)
variable (a9 : Memref sig .tc .vmem S128x4 .f32) (h9 : a9.IsWhole)
variable (a10 : Memref sig .tc .vmem S512x4096 .bf16) (h10 : a10.IsWhole)
variable (a11 : Memref sig .tc .vmem S512x128 .f32) (h11 : a11.IsWhole)
variable (a12 : Memref sig .tc .vmem S512x1024 .bf16) (h12 : a12.IsWhole)
variable (a13 : Memref sig .tc .vmem S512x2048 .bf16) (h13 : a13.IsWhole)
variable (a14 : Memref sig .tc .vmem S512x1024 .f32) (h14 : a14.IsWhole)
variable (R : Reads L fx fp fm x pe md w wg wuv nw ws bs)
include R

/-- The first output: the projected features, a quarter of the columns at a time. -/
theorem holds_features : ∀ pc ∈ (kernelRun0_A (F := Ideal) c p a1 h1 a2 h2 a3 h3 a4 h4 a5 h5 a6 h6 a7 h7 a8 h8 a9 h9 a10 h10 a11 h11 a12 h12 a13 h13 a14 h14 x pe md w wg wuv nw ws bs).1,
    Holds2 (e := .bf16) (features L (modBlk fx fp fm)) pc := by
  have quarter := fun (o : Nat) i1 i2 => holds2 (e := .bf16) (a := 512) (b := 4096) (m := 512) (n := 1024) (r := 0) (s := o)
    (f := features L (modBlk fx fp fm)) i1 fun i =>
      (dotBlk_at (fw := fun k l => L.w k (o + l)) (tokens_at c a1 h1 a2 h2 a3 h3 a13 R)
        (fun i => (read2 (m := 2048) (n := 1024) (r := 0) (s := o) h4 R.hw i2 i).trans (congrArg (L.w · _) (Nat.zero_add _))) i).trans
        (congrArg (features L (modBlk fx fp fm) · (o + (i 1).val)) (Nat.zero_add (i 0).val).symm)
  unfold kernelRun0_A
  simp only [List.forall_mem_cons]
  refine ⟨?_, ?_, ?_, ?_, List.forall_mem_nil _⟩
  · exact quarter 3072 inb_S512x4096_S512x1024_0_3072 inb_S2048x4096_S2048x1024_0_3072
  · exact quarter 2048 inb_S512x4096_S512x1024_0_2048 inb_S2048x4096_S2048x1024_0_2048
  · exact quarter 1024 inb_S512x4096_S512x1024_0_1024 inb_S2048x4096_S2048x1024_0_1024
  · exact quarter 0 inb_S512x4096_S512x1024_0_0 inb_S2048x4096_S2048x1024_0_0

/-- The second: the gates, and zero in the columns that pad them. -/
theorem holds_gates : ∀ pc ∈ (kernelRun0_A (F := Ideal) c p a1 h1 a2 h2 a3 h3 a4 h4 a5 h5 a6 h6 a7 h7 a8 h8 a9 h9 a10 h10 a11 h11 a12 h12 a13 h13 a14 h14 x pe md w wg wuv nw ws bs).2.1,
    Holds2 (e := .f32) (gates L (modBlk fx fp fm)) pc := by
  unfold kernelRun0_A
  simp only [List.forall_mem_cons]
  refine ⟨holdsRows _ fun i => ?_, List.forall_mem_nil _⟩
  rw [Nat.zero_add]
  refine (gateDot_at (fw := fun k l => if l < 16 then L.w k (4096 + l) else 0) (tokens_at c a1 h1 a2 h2 a3 h3 a13 R)
    (whole2 h5 (f := fun k l => if l < 16 then L.w k (4096 + l) else 0) R.hg inb_S2048x128_S2048x128_0_0) i).trans ?_
  unfold dot gates
  by_cases h : (i 1).val < 16
  · simp only [if_pos h]; rfl
  · simp only [if_neg h, mul_zero, Finset.sum_const_zero]

/-- The third: the gated features. -/
theorem holds_gated : ∀ pc ∈ (kernelRun0_A (F := Ideal) c p a1 h1 a2 h2 a3 h3 a4 h4 a5 h5 a6 h6 a7 h7 a8 h8 a9 h9 a10 h10 a11 h11 a12 h12 a13 h13 a14 h14 x pe md w wg wuv nw ws bs).2.2.1,
    Holds2 (e := .bf16) (gated L (modBlk fx fp fm)) pc := by
  unfold kernelRun0_A
  simp only [List.forall_mem_cons]
  refine ⟨holdsRows _ fun i => ?_, List.forall_mem_nil _⟩
  rw [Nat.zero_add]
  exact out_at (fw := fun k l => L.w k (4112 + l)) (fs := gate L (modBlk fx fp fm)) (tokens_at c a1 h1 a2 h2 a3 h3 a13 R)
    (fun i => (read2 h6 (f := fun k l => L.w k (4112 + l)) R.huv inb_S2048x2048_S2048x1024_0_0 i).trans
      (congrArg₂ (fun k l => L.w k (4112 + l)) (Nat.zero_add _) (Nat.zero_add _)))
    (fun i => (backRows (v := a14) (mixed_at c a1 h1 a2 h2 a3 h3 a6 h6 a7 h7 a8 h8 a9 h9 a13 R) inb_S512x1024_S512x1024_0_0 i).trans
      (congrArg (gate L (modBlk fx fp fm) · _) (Nat.zero_add _))) i

end Outputs

end Cert.Proj

end
-- ==== Proof.ProjTables.lean ====
/-
  The operands the program prepares before the projection: three slices of the weights, the narrow one padded with zero
  columns, the norm's weights as a row, and the biases with tokens along the rows.
-/
module

public import proofs.«01_k».proof.Proof.ProjSpec
public import proofs.«01_k».proof.Proof.Gen.ProjectionIdeal.Value
public import Idealize.ShloMosaic.Lib.Pointwise
public import Idealize.ShloMosaic.Lib.KernelVsHost

@[expose] public section

set_option maxRecDepth 16384

noncomputable section

namespace Cert.Proj

open Idealize.ShloMosaic Idealize.ShloMosaic.TcCoe Cert.Mlstm

/-- Sixteen columns padded to 128 on the right. -/
theorem padded {n : Nat} (x : (⟨2, ![n, 16]⟩ : Shape).Idx → EReal) (f : Nat → Nat → EReal)
    (hx : ∀ i, x i = f (i 0).val (i 1).val) {u : Shape} (v : u.Idx → EReal) (hv : ∀ i, v i = 0)
    (h : (⟨2, ![n, 16]⟩ : Shape).Pads ![0, 0] ![0, 112] ![0, 0] ⟨2, ![n, 128]⟩) (hu : 0 < u.numel)
    (i : (⟨2, ![n, 128]⟩ : Shape).Idx) :
    pad ⟨2, ![n, 128]⟩ ![0, 0] ![0, 112] ![0, 0] x v h hu i
      = if (i 1).val < 16 then f (i 0).val (i 1).val else 0 := by
  by_cases hi : (i 1).val < 16
  · rw [if_pos hi]
    refine (pad_apply_of_inside ![0, 0] ![0, 112] ![0, 0] x v h hu i
      (fun q => match q with | ⟨0, _⟩ => i 0 | ⟨1, _⟩ => ⟨(i 1).val, hi⟩) fun a => ?_).trans (hx _)
    match a with
    | ⟨0, _⟩ => show (i 0).val = 0 + (i 0).val * (0 + 1); omega
    | ⟨1, _⟩ => show (i 1).val = 0 + (i 1).val * (0 + 1); omega
  · rw [if_neg hi]
    refine (pad_apply_of_not_inside ![0, 0] ![0, 112] ![0, 0] x v h hu i 1 fun hc => ?_).trans (hv _)
    have h2 : ((i 1).val - 0) / (0 + 1) < 16 := hc.2.2
    omega

/-- The padding value, an integer zero converted. -/
theorem zero_int : ∀ {u : Shape} (i : u.Idx), (sitofp (F := Ideal) .f32 (constantI u 32 0#32) : u.Idx → EReal) i = 0 :=
  fun _ => by
    show ((((0#32 : BitVec 32).toInt : ℝ)) : EReal) = 0
    simp

open Cert.ProjectionIdeal Cert.ProjectionIdeal.Gen

variable (m : (ℓ : Loc nD τ sig) → Buf (Elt Ideal) ℓ) (c : Dev nD)

set_option maxHeartbeats 2000000 in
theorem V_w : (V m c main_v1 : FVec Ideal S2048x4096 .bf16)
    = (truncf (F := Ideal) .bf16 (extractStridedSlice S2048x4096 ![0, 0] (m ((c : Thread nD τ).loc main_arg3) : FVec Ideal S2048x6160 .f32) slices_S2048x6160_S2048x4096_0_0) bitsLt_bf16_f32 : FVec Ideal S2048x4096 .bf16) := by
  show StableHlo.after (List.flatten [hostOps0, hostOps0_1, hostOps0_2]) _ _ = _
  unfold hostOps0 hostOps0_1 hostOps0_2
  simp only [List.flatten_cons, List.flatten_nil, List.append_nil, List.cons_append, List.nil_append]
  after_results

set_option maxHeartbeats 2000000 in
theorem V_wg : (V m c main_v4 : FVec Ideal S2048x128 .bf16)
    = (truncf (F := Ideal) .bf16 (pad S2048x128 ![0, 0] ![0, 112] ![0, 0] (extractStridedSlice S2048x16 ![0, 4096] (m ((c : Thread nD τ).loc main_arg3) : FVec Ideal S2048x6160 .f32) slices_S2048x6160_S2048x16_0_4096)
        (sitofp (F := Ideal) .f32 (constantI S_ 32 0#32)) pads_S2048x16_S2048x128_000_01120 h_S_) bitsLt_bf16_f32 : FVec Ideal S2048x128 .bf16) := by
  show StableHlo.after (List.flatten [hostOps0, hostOps0_1, hostOps0_2]) _ _ = _
  unfold hostOps0 hostOps0_1 hostOps0_2
  simp only [List.flatten_cons, List.flatten_nil, List.append_nil, List.cons_append, List.nil_append]
  after_results
  rfl

set_option maxHeartbeats 2000000 in
theorem V_wuv : (V m c main_v6 : FVec Ideal S2048x2048 .bf16)
    = (truncf (F := Ideal) .bf16 (extractStridedSlice S2048x2048 ![0, 4112] (m ((c : Thread nD τ).loc main_arg3) : FVec Ideal S2048x6160 .f32) slices_S2048x6160_S2048x2048_0_4112) bitsLt_bf16_f32 : FVec Ideal S2048x2048 .bf16) := by
  show StableHlo.after (List.flatten [hostOps0, hostOps0_1, hostOps0_2]) _ _ = _
  unfold hostOps0 hostOps0_1 hostOps0_2
  simp only [List.flatten_cons, List.flatten_nil, List.append_nil, List.cons_append, List.nil_append]
  after_results

set_option maxHeartbeats 2000000 in
theorem V_nw : (V m c main_v7 : FVec Ideal S1x1024 .f32)
    = shapeCast S1x1024 (m ((c : Thread nD τ).loc main_arg4) : FVec Ideal S1024 .f32) shapeCasts_S1024_S1x1024 := by
  show StableHlo.after (List.flatten [hostOps0, hostOps0_1, hostOps0_2]) _ _ = _
  unfold hostOps0 hostOps0_1 hostOps0_2
  simp only [List.flatten_cons, List.flatten_nil, List.append_nil, List.cons_append, List.nil_append]
  after_results
  rfl

set_option maxHeartbeats 2000000 in
theorem V_ws : (V m c main_v8 : FVec Ideal S4x128x128 .bf16)
    = (truncf (F := Ideal) .bf16 (m ((c : Thread nD τ).loc main_arg5) : FVec Ideal S4x128x128 .f32) bitsLt_bf16_f32 : FVec Ideal S4x128x128 .bf16) := by
  show StableHlo.after (List.flatten [hostOps0, hostOps0_1, hostOps0_2]) _ _ = _
  unfold hostOps0 hostOps0_1 hostOps0_2
  simp only [List.flatten_cons, List.flatten_nil, List.append_nil, List.cons_append, List.nil_append]
  after_results

set_option maxHeartbeats 2000000 in
theorem V_bs : (V m c main_v9 : FVec Ideal S128x4 .f32)
    = transpose S128x4 [1, 0] (m ((c : Thread nD τ).loc main_arg6) : FVec Ideal S4x128 .f32) transposes_S4x128_S128x4_1_0 := by
  show StableHlo.after (List.flatten [hostOps0, hostOps0_1, hostOps0_2]) _ _ = _
  unfold hostOps0 hostOps0_1 hostOps0_2
  simp only [List.flatten_cons, List.flatten_nil, List.append_nil, List.cons_append, List.nil_append]
  after_results

/-! ### At an index -/

theorem w_at (i : S2048x4096.Idx) : (V m c main_v1 : FVec Ideal S2048x4096 .bf16) i
    = at2 (m ((c : Thread nD τ).loc main_arg3)) (i 0).val (i 1).val :=
  (congrFun (V_w m c) i).trans ((at2_of (a := 2048) (b := 6160) (m ((c : Thread nD τ).loc main_arg3)) _).trans
    (congrArg₂ _ (Nat.zero_add _) (Nat.zero_add _)))

theorem wg_at (i : S2048x128.Idx) : (V m c main_v4 : FVec Ideal S2048x128 .bf16) i
    = if (i 1).val < 16 then at2 (m ((c : Thread nD τ).loc main_arg3)) (i 0).val (4096 + (i 1).val) else 0 :=
  (congrFun (V_wg m c) i).trans (padded (n := 2048)
    (extractStridedSlice S2048x16 ![0, 4096] (m ((c : Thread nD τ).loc main_arg3) : FVec Ideal S2048x6160 .f32) slices_S2048x6160_S2048x16_0_4096)
    (fun k l => at2 (m ((c : Thread nD τ).loc main_arg3)) k (4096 + l))
    (fun j => (at2_of (a := 2048) (b := 6160) (m ((c : Thread nD τ).loc main_arg3)) _).trans
      (congrArg₂ _ (Nat.zero_add _) rfl)) _ zero_int pads_S2048x16_S2048x128_000_01120 h_S_ i)

theorem wuv_at (i : S2048x2048.Idx) : (V m c main_v6 : FVec Ideal S2048x2048 .bf16) i
    = at2 (m ((c : Thread nD τ).loc main_arg3)) (i 0).val (4112 + (i 1).val) :=
  (congrFun (V_wuv m c) i).trans ((at2_of (a := 2048) (b := 6160) (m ((c : Thread nD τ).loc main_arg3)) _).trans
    (congrArg₂ _ (Nat.zero_add _) rfl))

theorem nw_at (i : S1x1024.Idx) : (V m c main_v7 : FVec Ideal S1x1024 .f32) i
    = at1 (m ((c : Thread nD τ).loc main_arg4)) (i 1).val := by
  have h0 : (i 0).val < 1 := (i 0).isLt
  have h1 : (i 1).val < 1024 := (i 1).isLt
  refine (congrFun (V_nw m c) i).trans ?_
  refine (shapeCast_apply (m ((c : Thread nD τ).loc main_arg4) : FVec Ideal S1024 .f32) shapeCasts_S1024_S1x1024 i
    (fun q => match q with | ⟨0, _⟩ => ⟨(i 1).val, h1⟩) ?_).trans (at1_of (a := 1024) (m ((c : Thread nD τ).loc main_arg4)) _)
  refine (Shape.rowMajor_val_one (d := ![1024]) _).trans (Eq.trans ?_ (Shape.rowMajor_val_two (d := ![1, 1024]) i).symm)
  show (i 1).val = (i 0).val * 1024 + (i 1).val
  omega

theorem ws_at (i : S4x128x128.Idx) : (V m c main_v8 : FVec Ideal S4x128x128 .bf16) i
    = at3 (m ((c : Thread nD τ).loc main_arg5)) (i 0).val (i 1).val (i 2).val :=
  (congrFun (V_ws m c) i).trans (at3_of (a := 4) (b := 128) (c := 128) (m ((c : Thread nD τ).loc main_arg5)) i)

theorem bs_at (i : S128x4.Idx) : (V m c main_v9 : FVec Ideal S128x4 .f32) i
    = at2 (m ((c : Thread nD τ).loc main_arg6)) (i 1).val (i 0).val := by
  refine (congrFun (V_bs m c) i).trans ?_
  pointwise
  exact at2_of (a := 4) (b := 128) (m ((c : Thread nD τ).loc main_arg6)) _

end Cert.Proj

end
-- ==== Proof.ProjArrays.lean ====
/-
  The projection's result arrays: every block of 512 tokens, so every element, is the stated function of the arguments.
-/
module

public import proofs.«01_k».proof.Proof.ProjRun
public import proofs.«01_k».proof.Proof.ProjTables
public import Idealize.ShloMosaic.Lib.Pipeline.ValueKit

@[expose] public section

set_option maxRecDepth 16384

noncomputable section

namespace Cert.Proj

open Idealize.ShloMosaic Idealize.ShloMosaic.TcCoe Idealize.SL.Sem Cert.Mlstm Cert.ProjectionIdeal Cert.ProjectionIdeal.Gen
open Idealize.ShloMosaic.Pipeline (Dat)

/-- The block of tokens a grid point works on. -/
def rowBlock (p : Nat) : Nat := p % 8 * 4 + p / 8

/-! ### The windows' places -/

theorem at_0 : ∀ t : Fin cfg0.N, win0_0.index t = ![rowBlock (grid0.coords t 0).val, 0] :=
  (by decide +kernel : ∀ t : Fin grid0.N, _)
theorem at_1 : ∀ t : Fin cfg0.N, win0_1.index t = ![(grid0.coords t 0).val / 8, 0] :=
  (by decide +kernel : ∀ t : Fin grid0.N, _)
theorem at_2 : ∀ t : Fin cfg0.N, win0_2.index t = ![(grid0.coords t 0).val % 8, 0, 0] :=
  (by decide +kernel : ∀ t : Fin grid0.N, _)
theorem at_3 : ∀ t : Fin cfg0.N, win0_3.index t = ![0, 0] := (by decide +kernel : ∀ t : Fin grid0.N, _)
theorem at_4 : ∀ t : Fin cfg0.N, win0_4.index t = ![0, 0] := (by decide +kernel : ∀ t : Fin grid0.N, _)
theorem at_5 : ∀ t : Fin cfg0.N, win0_5.index t = ![0, 0] := (by decide +kernel : ∀ t : Fin grid0.N, _)
theorem at_6 : ∀ t : Fin cfg0.N, win0_6.index t = ![0, 0] := (by decide +kernel : ∀ t : Fin grid0.N, _)
theorem at_7 : ∀ t : Fin cfg0.N, win0_7.index t = ![0, 0, 0] := (by decide +kernel : ∀ t : Fin grid0.N, _)
theorem at_8 : ∀ t : Fin cfg0.N, win0_8.index t = ![0, 0] := (by decide +kernel : ∀ t : Fin grid0.N, _)
theorem at_9 : ∀ t : Fin cfg0.N, win0_9.index t = ![rowBlock (grid0.coords t 0).val, 0] :=
  (by decide +kernel : ∀ t : Fin grid0.N, _)
theorem at_10 : ∀ t : Fin cfg0.N, win0_10.index t = ![rowBlock (grid0.coords t 0).val, 0] :=
  (by decide +kernel : ∀ t : Fin grid0.N, _)
theorem at_11 : ∀ t : Fin cfg0.N, win0_11.index t = ![rowBlock (grid0.coords t 0).val, 0] :=
  (by decide +kernel : ∀ t : Fin grid0.N, _)

variable (m : (ℓ : Loc nD τ sig) → Buf (Elt Ideal) ℓ) (c : Dev nD)

/-- The layer and the modulated tokens of a program's arguments. -/
abbrev theLayer : Layer := layerOf (m ((c : Thread nD τ).loc main_arg3)) (m ((c : Thread nD τ).loc main_arg4))
  (m ((c : Thread nD τ).loc main_arg5)) (m ((c : Thread nD τ).loc main_arg6))
abbrev theTokens : Nat → Nat → EReal := modulated (m ((c : Thread nD τ).loc main_arg0))
  (m ((c : Thread nD τ).loc main_arg1)) (m ((c : Thread nD τ).loc main_arg2))

/-- The first token of a grid point's block. -/
def first (t : Fin cfg0.N) : Nat := 512 * rowBlock (grid0.coords t 0).val

set_option maxHeartbeats 2000000 in
theorem reads (t : Fin cfg0.N) : Reads (theLayer m c)
    (fun s k => at2 (m ((c : Thread nD τ).loc main_arg0)) (first t + s) k)
    (fun s k => at2 (m ((c : Thread nD τ).loc main_arg1)) ((first t + s) % 2048) k)
    (fun s j k => at3 (m ((c : Thread nD τ).loc main_arg2)) ((first t + s) / 2048) j k)
    (iblk m c 0 t) (iblk m c 1 t) (iblk m c 2 t) (iblk m c 3 t) (iblk m c 4 t) (iblk m c 5 t) (iblk m c 6 t) (iblk m c 7 t) (iblk m c 8 t) where
  hx i := (congrFun (V_main_arg0 m c) _).trans ((at2_of (a := 16384) (b := 2048) _ _).trans
    (congrArg₂ _ (by unfold first; blk_simp [at_0]; omega) (by blk_simp [at_0])))
  hp i := (congrFun (V_main_arg1 m c) _).trans ((at2_of (a := 2048) (b := 2048) _ _).trans
    (congrArg₂ _ (by
      have h0 : (i 0).val < 512 := (i 0).isLt
      have hp : (grid0.coords t 0).val < 32 := (grid0.coords t 0).isLt
      unfold first rowBlock; blk_simp [at_1]; omega) (by blk_simp [at_1])))
  hm s hs i := (congrFun (V_main_arg2 m c) _).trans ((at3_of (a := 16) (b := 6) (c := 2048) _ _).trans
    (at3_congr _ (by
      have h0 : (i 0).val < 1 := (i 0).isLt
      have hp : (grid0.coords t 0).val < 32 := (grid0.coords t 0).isLt
      unfold first rowBlock; blk_simp [at_2]; omega) (by blk_simp [at_2]) (by blk_simp [at_2])))
  hw i := (w_at m c _).trans (congrArg₂ _ (by blk_simp [at_3]) (by blk_simp [at_3]))
  hg i := (wg_at m c _).trans (congrArg₂ (fun k l => if l < 16 then at2 (m ((c : Thread nD τ).loc main_arg3)) k (4096 + l) else 0)
    (by blk_simp [at_4]) (by blk_simp [at_4]))
  huv i := (wuv_at m c _).trans (congrArg₂ (fun k l => at2 (m ((c : Thread nD τ).loc main_arg3)) k (4112 + l))
    (by blk_simp [at_5]) (by blk_simp [at_5]))
  hn i := (nw_at m c _).trans (congrArg (at1 (m ((c : Thread nD τ).loc main_arg4))) (by blk_simp [at_6]))
  hs i := (ws_at m c _).trans (at3_congr _ (by blk_simp [at_7]) (by blk_simp [at_7]) (by blk_simp [at_7]))
  hb i := (bs_at m c _).trans (congrArg₂ _ (by blk_simp [at_8]) (by blk_simp [at_8]))

/-- A block's tokens are the program's. -/
theorem block_tokens (t : Fin cfg0.N) :
    modBlk (fun s k => at2 (m ((c : Thread nD τ).loc main_arg0)) (first t + s) k)
      (fun s k => at2 (m ((c : Thread nD τ).loc main_arg1)) ((first t + s) % 2048) k)
      (fun s j k => at3 (m ((c : Thread nD τ).loc main_arg2)) ((first t + s) / 2048) j k)
      = fun s k => theTokens m c (first t + s) k := rfl

set_option maxHeartbeats 2000000 in
theorem block_features (t : Fin cfg0.N) (y : S512x4096.Idx) :
    (outsAt0 m c t).1 y = features (theLayer m c) (theTokens m c) (first t + (y 0).val) (y 1).val := by
  unfold outsAt0 out0_A_9
  dsimp only
  rw [View.read_writes_junk_apply_eq_canon]
  exact canon2 (a := 512) (b := 4096) (e := .bf16) (f := features (theLayer m c) fun s k => theTokens m c (first t + s) k)
    (holds_features c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (reads m c t))
    (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t)) y

set_option maxHeartbeats 2000000 in
theorem block_gates (t : Fin cfg0.N) (y : S512x128.Idx) :
    (outsAt0 m c t).2.1 y = gates (theLayer m c) (theTokens m c) (first t + (y 0).val) (y 1).val := by
  unfold outsAt0 out0_A_10
  dsimp only
  rw [View.read_writes_junk_apply_eq_canon]
  exact canon2 (a := 512) (b := 128) (e := .f32) (f := gates (theLayer m c) fun s k => theTokens m c (first t + s) k)
    (holds_gates c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (reads m c t))
    (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t)) y

set_option maxHeartbeats 2000000 in
theorem block_gated (t : Fin cfg0.N) (y : S512x1024.Idx) :
    (outsAt0 m c t).2.2 y = gated (theLayer m c) (theTokens m c) (first t + (y 0).val) (y 1).val := by
  unfold outsAt0 out0_A_11
  dsimp only
  rw [View.read_writes_junk_apply_eq_canon]
  refine (canon2 (a := 512) (b := 1024) (e := .bf16) (f := gated (theLayer m c) fun s k => theTokens m c (first t + s) k)
    (holds_gated c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (reads m c t))
    (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t)) y).trans ?_
  rw [show first t = 128 * (4 * rowBlock (grid0.coords t 0).val) by unfold first; omega]
  exact gated_shift (theLayer m c) (theTokens m c) _ _ _

theorem final_features : (dats m 0 c).arrAt 9 cfg0.N
    = fun i => features (theLayer m c) (theTokens m c) (i 0).val (i 1).val := by
  refine (dats m 0 c).arrAt_eq_of_covers 9 _ (by decide +kernel) fun t hf y => ?_
  blk_simp
  rw [after0_9]
  refine (block_features m c t y).trans (congrArg₂ (features (theLayer m c) (theTokens m c)) ?_ ?_)
  · unfold first; blk_simp [at_9]; omega
  · blk_simp [at_9]

theorem final_gates : (dats m 0 c).arrAt 10 cfg0.N
    = fun i => gates (theLayer m c) (theTokens m c) (i 0).val (i 1).val := by
  refine (dats m 0 c).arrAt_eq_of_covers 10 _ (by decide +kernel) fun t hf y => ?_
  blk_simp
  rw [after0_10]
  refine (block_gates m c t y).trans (congrArg₂ (gates (theLayer m c) (theTokens m c)) ?_ ?_)
  · unfold first; blk_simp [at_10]; omega
  · blk_simp [at_10]

theorem final_gated : (dats m 0 c).arrAt 11 cfg0.N
    = fun i => gated (theLayer m c) (theTokens m c) (i 0).val (i 1).val := by
  refine (dats m 0 c).arrAt_eq_of_covers 11 _ (by decide +kernel) fun t hf y => ?_
  blk_simp
  rw [after0_11]
  refine (block_gated m c t y).trans (congrArg₂ (gated (theLayer m c) (theTokens m c)) ?_ ?_)
  · unfold first; blk_simp [at_11]; omega
  · blk_simp [at_11]

end Cert.Proj

end
-- ==== Proof.ProjRef.lean ====
/-
  The projection as the reference computes it, read at an index.
-/
module

public import proofs.«01_k».proof.Proof.ProjTables
public import proofs.«01_k».proof.Proof.Gen.ProjectionReferenceIdeal.Read

@[expose] public section

set_option maxRecDepth 16384

noncomputable section

namespace Cert.Proj

open Idealize.ShloMosaic Cert.Mlstm Cert.ProjectionReferenceIdeal Cert.ProjectionReferenceIdeal.Gen
open Cert.ProjectionReferenceIdeal.Read

variable (x0 : (⟨S16384x2048, .f32⟩ : BufTy).Contents (Elt Ideal)) (x1 : (⟨S2048x2048, .f32⟩ : BufTy).Contents (Elt Ideal))
  (x2 : (⟨S16x6x2048, .f32⟩ : BufTy).Contents (Elt Ideal)) (x3 : (⟨S2048x6160, .f32⟩ : BufTy).Contents (Elt Ideal))
  (x4 : (⟨S1024, .f32⟩ : BufTy).Contents (Elt Ideal)) (x5 : (⟨S4x128x128, .f32⟩ : BufTy).Contents (Elt Ideal))
  (x6 : (⟨S4x128, .f32⟩ : BufTy).Contents (Elt Ideal))

/-- The modulated tokens, a batch row of 2048 at a time. -/
theorem ref_v15 (i : S8x2048x2048.Idx) : val_main_v15 (F := Ideal) x0 x1 x2 i
    = modulated x0 x1 x2 (2048 * (i 0).val + (i 1).val) (i 2).val := by
  have h0 : (i 0).val < 8 := (i 0).isLt
  have h1 : (i 1).val < 2048 := (i 1).isLt
  have h2 : (i 2).val < 2048 := (i 2).isLt
  rw [val_main_v15_apply, val_main_v10_apply, val_main_v3_apply, val_main_v0_apply, val_main_v2_apply, val_main_v1_apply,
    val_main_v9_apply, val_main_v8_apply, val_main_v7_apply, val_main_cst_apply, val_main_v6_apply, val_main_v5_apply,
    val_main_v4_apply, val_main_v14_apply, val_main_v13_apply, val_main_v12_apply, val_main_v11_apply]
  unfold modulated
  refine congrArg₂ (· + ·) (congrArg₂ (· * ·) (congrArg₂ (· + ·) ?_ ?_) (congrArg (one + ·) ?_)) ?_
  · refine (at2_of (a := 16384) (b := 2048) x0 _).trans (congrArg₂ _ ?_ ?_)
    · show (((i 0).val * 2048 + (i 1).val) * 2048 + (i 2).val) / 2048 = _; omega
    · show (((i 0).val * 2048 + (i 1).val) * 2048 + (i 2).val) % 2048 = _; omega
  · refine (at2_of (a := 2048) (b := 2048) x1 _).trans (congrArg₂ _ ?_ rfl)
    show (i 1).val = _; omega
  · refine (at3_of (a := 16) (b := 6) (c := 2048) x2 _).trans (at3_congr x2 ?_ rfl ?_)
    · show ((i 0).val * 2048 + (i 2).val) / 2048 = _; omega
    · show ((i 0).val * 2048 + (i 2).val) % 2048 = _; omega
  · refine (at3_of (a := 16) (b := 6) (c := 2048) x2 _).trans (at3_congr x2 ?_ rfl ?_)
    · show ((i 0).val * 2048 + (i 2).val) / 2048 = _; omega
    · show ((i 0).val * 2048 + (i 2).val) % 2048 = _; omega

/-- The product with all the weights. -/
theorem ref_v16 (i : S8x2048x6160.Idx) : val_main_v16 (F := Ideal) x0 x1 x2 x3 i
    = dot (modulated x0 x1 x2) (at2 x3) (2048 * (i 0).val + (i 1).val) (i 2).val := by
  rw [val_main_v16_apply]
  unfold dot
  exact Finset.sum_congr rfl fun k _ => congrArg₂ (· * ·) (ref_v15 x0 x1 x2 _) (at2_of (a := 2048) (b := 6160) x3 _)

/-- The gated features before their split. -/
theorem ref_v30 (i : S8x2048x2048.Idx) : val_main_v30 (F := Ideal) x0 x1 x2 x3 i
    = gelu (dot (modulated x0 x1 x2) (at2 x3) (2048 * (i 0).val + (i 1).val) (4112 + (i 2).val)) := by
  rw [val_main_v30_apply, val_main_v29_apply, val_main_v28_apply, val_main_v27_apply, val_main_v26_apply,
    val_main_v25_apply, val_main_v24_apply, val_main_v23_apply, val_main_v22_apply, val_main_v21_apply,
    val_main_v20_apply, val_main_v19_apply, val_main_v18_apply, val_main_v17_apply, ref_v16]
  unfold gelu
  rw [mul_comm half, mul_assoc]
  rfl

/-- The chunk's token and the feature of an index of the chunked arrays. -/
def tok (b n t : Nat) : Nat := 2048 * b + 128 * n + t

theorem ref_v32 (i : S8x16x128x4x256.Idx) : val_main_v32 (F := Ideal) x0 x1 x2 x3 i
    = gelu (dot (modulated x0 x1 x2) (at2 x3) (tok (i 0).val (i 1).val (i 2).val) (4112 + (256 * (i 3).val + (i 4).val))) := by
  have h0 : (i 0).val < 8 := (i 0).isLt
  have h1 : (i 1).val < 16 := (i 1).isLt
  have h2 : (i 2).val < 128 := (i 2).isLt
  have h3 : (i 3).val < 4 := (i 3).isLt
  have h4 : (i 4).val < 256 := (i 4).isLt
  rw [val_main_v32_apply, val_main_v31_apply, ref_v30]
  refine congrArg gelu (congrArg₂ (dot (modulated x0 x1 x2) (at2 x3)) ?_ ?_)
  · show 2048 * ((((((i 0).val * 16 + (i 1).val) * 128 + (i 2).val) * 4 + (i 3).val) * 256 + (i 4).val) / 2097152)
      + (((((i 0).val * 16 + (i 1).val) * 128 + (i 2).val) * 4 + (i 3).val) * 256 + (i 4).val) / 1024 % 2048
      = 2048 * (i 0).val + 128 * (i 1).val + (i 2).val
    omega
  · show 4112 + (((((i 0).val * 16 + (i 1).val) * 128 + (i 2).val) * 4 + (i 3).val) * 256 + (i 4).val) % 1024 = _
    omega

/-- The gating half, before its norm. -/
abbrev gating (t e : Nat) : EReal := gelu (dot (modulated x0 x1 x2) (at2 x3) t (5136 + e))

theorem ref_v34 (i : S8x16x128x4x256.Idx) : val_main_v34 (F := Ideal) x0 x1 x2 x3 i
    = gating x0 x1 x2 x3 (tok (i 0).val (i 1).val (i 2).val) (256 * (i 3).val + (i 4).val) := by
  have h0 : (i 0).val < 8 := (i 0).isLt
  have h1 : (i 1).val < 16 := (i 1).isLt
  have h2 : (i 2).val < 128 := (i 2).isLt
  have h3 : (i 3).val < 4 := (i 3).isLt
  have h4 : (i 4).val < 256 := (i 4).isLt
  rw [val_main_v34_apply, val_main_v33_apply, ref_v30]
  refine congrArg gelu (congrArg₂ (dot (modulated x0 x1 x2) (at2 x3)) ?_ ?_)
  · show 2048 * ((((((i 0).val * 16 + (i 1).val) * 128 + (i 2).val) * 4 + (i 3).val) * 256 + (i 4).val) / 2097152)
      + (((((i 0).val * 16 + (i 1).val) * 128 + (i 2).val) * 4 + (i 3).val) * 256 + (i 4).val) / 1024 % 2048
      = 2048 * (i 0).val + 128 * (i 1).val + (i 2).val
    omega
  · show 4112 + (1024 + (((((i 0).val * 16 + (i 1).val) * 128 + (i 2).val) * 4 + (i 3).val) * 256 + (i 4).val) % 1024) = _
    omega

/-- The mean and the variance of a group. -/
theorem ref_v38 (i : S8x16x128x4x1.Idx) : val_main_v38 (F := Ideal) x0 x1 x2 x3 i
    = gmean (gating x0 x1 x2 x3) (tok (i 0).val (i 1).val (i 2).val) (i 3).val := by
  rw [val_main_v38_apply, val_main_v36_apply, val_main_v35_apply, val_main_v37_apply, val_main_cst_5_apply,
    show val_main_cst_4 (F := Ideal) (Shape.Idx.first h_S_) = 0 from zero_f32, zero_add]
  unfold gmean
  exact congrArg (Ideal.div · width) (Finset.sum_congr rfl fun k _ => ref_v34 x0 x1 x2 x3 _)

theorem ref_v40 (i : S8x16x128x4x256.Idx) : val_main_v40 (F := Ideal) x0 x1 x2 x3 i
    = gating x0 x1 x2 x3 (tok (i 0).val (i 1).val (i 2).val) (256 * (i 3).val + (i 4).val)
      - gmean (gating x0 x1 x2 x3) (tok (i 0).val (i 1).val (i 2).val) (i 3).val := by
  rw [val_main_v40_apply, ref_v34, val_main_v39_apply, ref_v38]
  rfl

theorem ref_v45 (i : S8x16x128x4x1.Idx) : val_main_v45 (F := Ideal) x0 x1 x2 x3 i
    = gvar (gating x0 x1 x2 x3) (tok (i 0).val (i 1).val (i 2).val) (i 3).val := by
  rw [val_main_v45_apply, val_main_v43_apply, val_main_v42_apply, val_main_v44_apply, val_main_cst_7_apply,
    show val_main_cst_6 (F := Ideal) (Shape.Idx.first h_S_) = 0 from zero_f32, zero_add]
  unfold gvar
  exact congrArg (Ideal.div · width) (Finset.sum_congr rfl fun k _ =>
    (val_main_v41_apply x0 x1 x2 x3 _).trans (congrArg₂ (· * ·) (ref_v40 x0 x1 x2 x3 _) (ref_v40 x0 x1 x2 x3 _)))

/-- The normed group. -/
theorem ref_v56 (i : S8x16x128x4x256.Idx) : val_main_v56 (F := Ideal) x0 x1 x2 x3 x4 i
    = gnorm (gating x0 x1 x2 x3) (at1 x4) (tok (i 0).val (i 1).val (i 2).val) (256 * (i 3).val + (i 4).val) := by
  have h4 : (i 4).val < 256 := (i 4).isLt
  rw [val_main_v56_apply, val_main_v52_apply, val_main_v47_apply, ref_v34, val_main_v46_apply, ref_v38,
    val_main_v51_apply, val_main_v50_apply, val_main_v49_apply, ref_v45, val_main_v48_apply, val_main_cst_8_apply,
    val_main_v55_apply, val_main_v54_apply, val_main_v53_apply]
  unfold gnorm
  rw [show (256 * (i 3).val + (i 4).val) / 256 = (i 3).val by omega]
  refine congrArg₂ (· * ·) rfl ((at1_of (a := 1024) x4 _).trans (congrArg (at1 x4) ?_))
  show (i 3).val * 256 + (i 4).val = _
  omega

/-- The gating half mixed along its chunk. -/
theorem ref_v63 (i : S8x16x128x4x256.Idx) : val_main_v63 (F := Ideal) x0 x1 x2 x3 x4 x5 x6 i
    = gate (layerOf x3 x4 x5 x6) (modulated x0 x1 x2) (tok (i 0).val (i 1).val (i 2).val) (256 * (i 3).val + (i 4).val) := by
  have h2 : (i 2).val < 128 := (i 2).isLt
  have h4 : (i 4).val < 256 := (i 4).isLt
  rw [val_main_v63_apply, val_main_v58_apply, val_main_v57_apply, val_main_v62_apply, val_main_v61_apply,
    val_main_v60_apply, val_main_v59_apply]
  unfold gate mix
  rw [show (256 * (i 3).val + (i 4).val) / 256 = (i 3).val by omega,
    show tok (i 0).val (i 1).val (i 2).val % 128 = (i 2).val by unfold tok; omega,
    show 128 * (tok (i 0).val (i 1).val (i 2).val / 128) = 2048 * (i 0).val + 128 * (i 1).val by unfold tok; omega]
  refine congrArg₂ (· + ·) (Finset.sum_congr rfl fun k _ => ?_) (at2_of (a := 4) (b := 128) x6 _)
  rw [mul_comm]
  exact congrArg₂ (· * ·) (at3_of (a := 4) (b := 128) (c := 128) x5 _) (ref_v56 x0 x1 x2 x3 x4 _)

/-- The three results. -/
theorem ref_features (i : S16384x4096.Idx) : val_main_v71 (F := Ideal) x0 x1 x2 x3 i
    = features (layerOf x3 x4 x5 x6) (modulated x0 x1 x2) (i 0).val (i 1).val := by
  have h1 : (i 1).val < 4096 := (i 1).isLt
  have h0 : (i 0).val < 16384 := (i 0).isLt
  rw [val_main_v71_apply, val_main_v70_apply, val_main_v69_apply, ref_v16]
  refine congrArg₂ (dot (modulated x0 x1 x2) (at2 x3)) ?_ ?_
  · show 2048 * (((i 0).val * 4096 + (i 1).val) / 8388608) + ((i 0).val * 4096 + (i 1).val) / 4096 % 2048 = _
    omega
  · show ((i 0).val * 4096 + (i 1).val) % 4096 = _
    omega

theorem ref_v67 (i : S16384x16.Idx) : val_main_v67 (F := Ideal) x0 x1 x2 x3 i
    = dot (modulated x0 x1 x2) (at2 x3) (i 0).val (4096 + (i 1).val) := by
  have h1 : (i 1).val < 16 := (i 1).isLt
  have h0 : (i 0).val < 16384 := (i 0).isLt
  rw [val_main_v67_apply, val_main_v66_apply, ref_v16]
  refine congrArg₂ (dot (modulated x0 x1 x2) (at2 x3)) ?_ ?_
  · show 2048 * (((i 0).val * 16 + (i 1).val) / 32768) + ((i 0).val * 16 + (i 1).val) / 16 % 2048 = _
    omega
  · show 4096 + ((i 0).val * 16 + (i 1).val) % 16 = _
    omega

theorem ref_gates (i : S16384x128.Idx) : val_main_v68 (F := Ideal) x0 x1 x2 x3 i
    = gates (layerOf x3 x4 x5 x6) (modulated x0 x1 x2) (i 0).val (i 1).val := by
  unfold val_main_v68
  exact padded (n := 16384) (val_main_v67 (F := Ideal) x0 x1 x2 x3)
    (fun t l => dot (modulated x0 x1 x2) (at2 x3) t (4096 + l)) (ref_v67 x0 x1 x2 x3)
    (val_main_call0_v0 (F := Ideal)) zero_int pads_S16384x16_S16384x128_000_01120 h_S_ i

theorem ref_gated (i : S16384x1024.Idx) : val_main_v72 (F := Ideal) x0 x1 x2 x3 x4 x5 x6 i
    = gated (layerOf x3 x4 x5 x6) (modulated x0 x1 x2) (i 0).val (i 1).val := by
  have h1 : (i 1).val < 1024 := (i 1).isLt
  have h0 : (i 0).val < 16384 := (i 0).isLt
  have ht : tok (((i 0).val * 1024 + (i 1).val) / 2097152) (((i 0).val * 1024 + (i 1).val) / 131072 % 16)
      (((i 0).val * 1024 + (i 1).val) / 1024 % 128) = (i 0).val := by unfold tok; omega
  have he : 256 * (((i 0).val * 1024 + (i 1).val) / 256 % 4) + ((i 0).val * 1024 + (i 1).val) % 256 = (i 1).val := by omega
  rw [val_main_v72_apply, val_main_v65_apply, val_main_v64_apply, ref_v32, ref_v63]
  unfold gated
  exact congrArg₂ (fun t e => gelu (dot (modulated x0 x1 x2) (at2 x3) t (4112 + e))
    * gate (layerOf x3 x4 x5 x6) (modulated x0 x1 x2) t e) ht he

end Cert.Proj

end
-- ==== Proof.ProjClaims.lean ====
/-
  The projection and its reference, from equal arguments, end with equal results.
-/
module

public import proofs.«01_k».proof.Defs
public import proofs.«01_k».proof.Proof.ProjArrays
public import proofs.«01_k».proof.Proof.ProjRef
public import proofs.«01_k».proof.Proof.Gen.ProjectionIdeal.Value
public import proofs.«01_k».proof.Proof.Gen.ProjectionReferenceIdeal.Run
public import proofs.«01_k».proof.Proof.Gen.ProjectionReferenceIdeal.Read

@[expose] public section

noncomputable section

namespace Cert.Proj

open Idealize.ShloMosaic Idealize.ShloMosaic.TcCoe Idealize.SL.Sem

/-- The reference runs, keeps its arguments and ends with every counter at zero: it has no counter. -/
theorem frame_reference : Cert.quiescent_ProjectionReferenceIdeal := fun m ρ _ =>
  (θ_run Cert.ProjectionReferenceIdeal.defs _ _).mono
    (fun r h => ⟨fun c => (h c).2.2.2, sem_eq_zero_of_no_sems (by decide) r.2⟩)
    (Cert.ProjectionReferenceIdeal.Value.run (F := Ideal) m ρ)

/-- The two programs' results are the same functions of the arguments. -/
theorem equal_results : Cert.algebraic_ProjectionIdeal_ProjectionReferenceIdeal := by
  intro m ρ m' ρ' _ hag
  refine ⟨fun c i => features (theLayer m c) (theTokens m c) (i 0).val (i 1).val,
    fun c i => gates (theLayer m c) (theTokens m c) (i 0).val (i 1).val,
    fun c i => gated (theLayer m c) (theTokens m c) (i 0).val (i 1).val, ?_, ?_⟩
  · exact (θ_run Cert.ProjectionIdeal.defs _ _).mono
      (fun _ h c => ⟨(h c).1.trans (final_features m c), (h c).2.1.trans (final_gates m c),
        (h c).2.2.1.trans (final_gated m c), (h c).2.2.2⟩)
      (Cert.ProjectionIdeal.Value.run_blocks (F := Ideal) m ρ)
  · refine (θ_run Cert.ProjectionReferenceIdeal.defs _ _).mono
      (fun _ h c => ⟨(h c).1.trans ?_, (h c).2.1.trans ?_, (h c).2.2.1.trans ?_, (h c).2.2.2⟩)
      (Cert.ProjectionReferenceIdeal.Value.run (F := Ideal) m' ρ')
    all_goals
      obtain ⟨h0, h1, h2, h3, h4, h5, h6⟩ := hag c
      have hl : layerOf (m' ((c.tc : Thread Cert.ProjectionReferenceIdeal.nD Cert.ProjectionReferenceIdeal.τ).loc Cert.ProjectionReferenceIdeal.main_arg3)) (m' ((c.tc : Thread Cert.ProjectionReferenceIdeal.nD Cert.ProjectionReferenceIdeal.τ).loc Cert.ProjectionReferenceIdeal.main_arg4))
          (m' ((c.tc : Thread Cert.ProjectionReferenceIdeal.nD Cert.ProjectionReferenceIdeal.τ).loc Cert.ProjectionReferenceIdeal.main_arg5)) (m' ((c.tc : Thread Cert.ProjectionReferenceIdeal.nD Cert.ProjectionReferenceIdeal.τ).loc Cert.ProjectionReferenceIdeal.main_arg6)) = theLayer m c :=
        congr (congr (congr (congrArg layerOf h3) h4) h5) h6
      have ht : modulated (m' ((c.tc : Thread Cert.ProjectionReferenceIdeal.nD Cert.ProjectionReferenceIdeal.τ).loc Cert.ProjectionReferenceIdeal.main_arg0)) (m' ((c.tc : Thread Cert.ProjectionReferenceIdeal.nD Cert.ProjectionReferenceIdeal.τ).loc Cert.ProjectionReferenceIdeal.main_arg1))
          (m' ((c.tc : Thread Cert.ProjectionReferenceIdeal.nD Cert.ProjectionReferenceIdeal.τ).loc Cert.ProjectionReferenceIdeal.main_arg2)) = theTokens m c :=
        congr (congr (congrArg modulated h0) h1) h2
    · refine (Cert.ProjectionReferenceIdeal.Read.val_main_v71_eq (F := Ideal) _ _ _ _).trans (funext fun i => ?_)
      exact (ref_features _ _ _ _ (m' ((c.tc : Thread Cert.ProjectionReferenceIdeal.nD Cert.ProjectionReferenceIdeal.τ).loc Cert.ProjectionReferenceIdeal.main_arg4))
        (m' ((c.tc : Thread Cert.ProjectionReferenceIdeal.nD Cert.ProjectionReferenceIdeal.τ).loc Cert.ProjectionReferenceIdeal.main_arg5)) (m' ((c.tc : Thread Cert.ProjectionReferenceIdeal.nD Cert.ProjectionReferenceIdeal.τ).loc Cert.ProjectionReferenceIdeal.main_arg6)) i).trans
        (congrArg₂ (fun L h => features L h (i 0).val (i 1).val) hl ht)
    · refine (Cert.ProjectionReferenceIdeal.Read.val_main_v68_eq (F := Ideal) _ _ _ _).trans (funext fun i => ?_)
      exact (ref_gates _ _ _ _ (m' ((c.tc : Thread Cert.ProjectionReferenceIdeal.nD Cert.ProjectionReferenceIdeal.τ).loc Cert.ProjectionReferenceIdeal.main_arg4))
        (m' ((c.tc : Thread Cert.ProjectionReferenceIdeal.nD Cert.ProjectionReferenceIdeal.τ).loc Cert.ProjectionReferenceIdeal.main_arg5)) (m' ((c.tc : Thread Cert.ProjectionReferenceIdeal.nD Cert.ProjectionReferenceIdeal.τ).loc Cert.ProjectionReferenceIdeal.main_arg6)) i).trans
        (congrArg₂ (fun L h => gates L h (i 0).val (i 1).val) hl ht)
    · refine (Cert.ProjectionReferenceIdeal.Read.val_main_v72_eq (F := Ideal) m' c).trans (funext fun i => ?_)
      exact (ref_gated _ _ _ _ _ _ _ i).trans (congrArg₂ (fun L h => gated L h (i 0).val (i 1).val) hl ht)

end Cert.Proj

end
-- ==== Proof.OutSpec.lean ====
/-
  The output projection with its residual and norm as functions of natural-number coordinates over the extended reals:
  the text both programs are read against. Tokens are rows, features columns.
-/
module

public import proofs.«01_k».proof.Proof.ProjSpec

@[expose] public section

noncomputable section

namespace Cert.Outp

open Idealize.ShloMosaic Cert.Mlstm Cert.Proj

/-- The literals: the residual's factor and the width 2048. -/
def alpha : EReal := Ideal.ofBits .f32 0x3F9837F0#32
def wide : EReal := Ideal.ofBits .f32 0x45000000#32

/-- The product of the two halves of the features, each with its half of the weights. -/
def mixed (a b w : Nat → Nat → EReal) (t l : Nat) : EReal :=
  (∑ k : Fin 1024, a t k.val * w k.val l) + ∑ k : Fin 1024, b t k.val * w (1024 + k.val) l

/-- The residual and the gated product. -/
def resid (x p g : Nat → Nat → EReal) (y : Nat → Nat → EReal) (t l : Nat) : EReal :=
  alpha * (x t l + p t l) + g t l * y t l

/-- The norm over all the features of a token. -/
def mean (v : Nat → Nat → EReal) (t : Nat) : EReal := Ideal.div (∑ k : Fin 2048, v t k.val) wide
def var (v : Nat → Nat → EReal) (t : Nat) : EReal :=
  Ideal.div (∑ k : Fin 2048, (v t k.val - mean v t) * (v t k.val - mean v t)) wide
def normed (v : Nat → Nat → EReal) (nw nb : Nat → EReal) (t l : Nat) : EReal :=
  (v t l - mean v t) * Ideal.rsqrt (var v t + eps) * nw l + nb l

/-- A sum over both halves, split. -/
theorem sum_halves (f : Nat → EReal) :
    ∑ k : Fin 2048, f k.val = (∑ k : Fin 1024, f k.val) + ∑ k : Fin 1024, f (1024 + k.val) :=
  Fin.sum_univ_add (M := EReal) (a := 1024) (b := 1024) fun k => f k.val

/-- What is normed, of the call's arguments. -/
def summed (x0 x1 : (⟨2, ![16384, 1024]⟩ : Shape).Idx → EReal) (x2 : (⟨2, ![16384, 2048]⟩ : Shape).Idx → EReal)
    (x3 : (⟨2, ![2048, 2048]⟩ : Shape).Idx → EReal) (x4 : (⟨3, ![16, 6, 2048]⟩ : Shape).Idx → EReal)
    (x5 : (⟨2, ![2048, 2048]⟩ : Shape).Idx → EReal) : Nat → Nat → EReal :=
  resid (at2 x2) (fun t l => at2 x3 (t % 2048) l) (fun t l => at3 x4 (t / 2048) 2 l)
    (mixed (at2 x0) (at2 x1) (at2 x5))

end Cert.Outp

end
-- ==== Proof.OutBlock.lean ====
/-
  The output projection's body at extended reals, one block of 512 tokens at a time.
-/
module

public import proofs.«01_k».proof.Proof.OutSpec
public import proofs.«01_k».proof.Proof.Products
public import proofs.«01_k».proof.Proof.Gen.OutputIdeal.Skeleton
public import Idealize.ShloMosaic.Lib.Pointwise.Reduce

@[expose] public section

noncomputable section

namespace Cert.Outp

open Idealize.ShloMosaic Cert.Mlstm Cert.Proj Cert.OutputIdeal Cert.OutputIdeal.Gen

variable {α : Type}

theorem row_of_mods (x : S1x6x2048.Idx → α) (h : S1x6x2048.ShapeCasts S6x2048) (j : S6x2048.Idx) :
    shapeCast S6x2048 x h j = x (ix3 0 (j 0) (j 1)) :=
  shapeCast_apply x h j _ (by rw [Shape.rowMajor_val_three, Shape.rowMajor_val_two]; simp [ix3])

theorem as_column (x : S512.Idx → α) (h : S512.ShapeCasts S512x1) (j : S512x1.Idx) :
    shapeCast S512x1 x h j = x (ix1 (j 0)) :=
  shapeCast_apply x h j _ (by
    have h0 : (j 1).val < 1 := (j 1).isLt
    rw [Shape.rowMajor_val_one, Shape.rowMajor_val_two]; simp [ix1]; omega)

/-- The product of one half. -/
def halfBlk (a : Vec Ideal S512x1024 .bf16) (w : Vec Ideal S1024x2048 .bf16) : FVec Ideal S512x2048 .f32 :=
  matmul (φ₁ := .bf16) (φ₂ := .bf16) dot_S512x1024_S1024x2048_S512x2048_1_0_0_1_n_n none a
    (shapeCast S1024x2048 w shapeCasts_S1024x2048_S1024x2048 : FVec Ideal S1024x2048 .bf16) (constant S512x2048 .f32 0x00000000#32)

theorem halfBlk_at {a : Vec Ideal S512x1024 .bf16} {w : Vec Ideal S1024x2048 .bf16} {fa fw : Nat → Nat → EReal}
    (ha : ∀ i, a i = fa (i 0).val (i 1).val) (hw : ∀ i, w i = fw (i 0).val (i 1).val) (i : S512x2048.Idx) :
    halfBlk a w i = ∑ k : Fin 1024, fa (i 0).val k.val * fw k.val (i 1).val :=
  plain_at (φ₁ := .bf16) (φ₂ := .bf16) (M := 512) (K := 1024) (N := 2048) none _ _ _ ha
    (fun i => (cast_same _ _ i).trans (hw i)) zero_at i

/-- The residual and the gated product of a block. -/
def residBlk (md : Vec Ideal S1x6x2048 .f32) (a : Vec Ideal S512x1024 .bf16) (wa : Vec Ideal S1024x2048 .bf16)
    (b : Vec Ideal S512x1024 .bf16) (wb : Vec Ideal S1024x2048 .bf16) (x p : Vec Ideal S512x2048 .f32) :
    FVec Ideal S512x2048 .f32 :=
  addf (mulf (broadcast S512x2048 (Scalar.ofBits .f32 0x3F9837F0#32)) (addf x p))
    (mulf (broadcastTo S512x2048 (extractStridedSlice S1x2048 ![2, 0]
        (shapeCast S6x2048 md shapeCasts_S1x6x2048_S6x2048 : FVec Ideal S6x2048 .f32) slices_S6x2048_o2_0_S1x2048)
      broadcasts_S1x2048_S512x2048) (addf (halfBlk a wa) (halfBlk b wb)))

/-- The sums and the means of a block's rows, and the block less its means. -/
def sums (x : FVec Ideal S512x2048 .f32) : FVec Ideal S512x1 .f32 :=
  shapeCast S512x1 (multiReduction .add [1] S512 x 0x00000000#32 reduces_S512x2048_S512 (.inl rfl) rfl)
    shapeCasts_S512_S512x1
def means (x : FVec Ideal S512x2048 .f32) : FVec Ideal S512x1 .f32 :=
  divf (sums x) (broadcast S512x1 (Scalar.ofBits .f32 0x45000000#32))
def centred (x : FVec Ideal S512x2048 .f32) : FVec Ideal S512x2048 .f32 :=
  subf x (broadcastTo S512x2048 (means x) broadcasts_S512x1_S512x2048)

theorem sums_at {x : FVec Ideal S512x2048 .f32} {f : Nat → Nat → EReal} (hx : ∀ i, x i = f (i 0).val (i 1).val)
    (i : S512x1.Idx) : sums x i = ∑ k : Fin 2048, f (i 0).val k.val := by
  unfold sums
  rw [as_column]
  exact (Ideal.reduceAdd_r2_a1 _ _ _).trans (Finset.sum_congr rfl fun k _ => hx _)

theorem means_at {x : FVec Ideal S512x2048 .f32} {f : Nat → Nat → EReal} (hx : ∀ i, x i = f (i 0).val (i 1).val)
    (i : S512x1.Idx) : means x i = mean f (i 0).val :=
  congrArg (Ideal.div · wide) (sums_at hx i)

theorem centred_at {x : FVec Ideal S512x2048 .f32} {f : Nat → Nat → EReal} (hx : ∀ i, x i = f (i 0).val (i 1).val)
    (i : S512x2048.Idx) : centred x i = f (i 0).val (i 1).val - mean f (i 0).val := by
  unfold centred
  pointwise [hx, means_at hx]

/-- The norm of a block, with the weights and the bias as rows. -/
def normBlk (x : FVec Ideal S512x2048 .f32) (nw nb : Vec Ideal S1x2048 .f32) : FVec Ideal S512x2048 .f32 :=
  addf (mulf (mulf (centred x) (broadcastTo S512x2048
      (rsqrt (addf (means (mulf (centred x) (centred x))) (broadcast S512x1 (Scalar.ofBits .f32 0x358637BD#32))))
      broadcasts_S512x1_S512x2048))
    (broadcastTo S512x2048 (shapeCast S1x2048 nw shapeCasts_S1x2048_S1x2048) broadcasts_S1x2048_S512x2048))
    (broadcastTo S512x2048 (shapeCast S1x2048 nb shapeCasts_S1x2048_S1x2048) broadcasts_S1x2048_S512x2048)

theorem normBlk_at {v : Nat → Nat → EReal} {fw fb : Nat → EReal} {x : FVec Ideal S512x2048 .f32}
    {nw nb : Vec Ideal S1x2048 .f32} (hx : ∀ i, x i = v (i 0).val (i 1).val) (hw : ∀ i, nw i = fw (i 1).val)
    (hb : ∀ i, nb i = fb (i 1).val) (i : S512x2048.Idx) :
    normBlk x nw nb i = normed v fw fb (i 0).val (i 1).val := by
  have hc := centred_at hx
  unfold normBlk normed
  pointwise [hc, cast_same, hw, hb, means_at (x := mulf (centred x) (centred x))
    (f := fun t l => (v t l - mean v t) * (v t l - mean v t)) (fun j => congrArg₂ (· * ·) (hc j) (hc j))]
  rfl

theorem residBlk_at {md : Vec Ideal S1x6x2048 .f32} {a b : Vec Ideal S512x1024 .bf16} {wa wb : Vec Ideal S1024x2048 .bf16}
    {x p : Vec Ideal S512x2048 .f32} {fa fb fw fx fp : Nat → Nat → EReal} {fm : Nat → Nat → EReal}
    (hm : ∀ i, md i = fm (i 1).val (i 2).val)
    (ha : ∀ i, a i = fa (i 0).val (i 1).val) (hwa : ∀ i, wa i = fw (i 0).val (i 1).val)
    (hb : ∀ i, b i = fb (i 0).val (i 1).val) (hwb : ∀ i, wb i = fw (1024 + (i 0).val) (i 1).val)
    (hx : ∀ i, x i = fx (i 0).val (i 1).val) (hp : ∀ i, p i = fp (i 0).val (i 1).val) (i : S512x2048.Idx) :
    residBlk md a wa b wb x p i
      = resid fx fp (fun _ l => fm 2 l) (mixed fa fb fw) (i 0).val (i 1).val := by
  unfold residBlk
  pointwise [row_of_mods, hx, hp, hm, halfBlk_at ha hwa, halfBlk_at (fw := fun k l => fw (1024 + k) l) hb hwb]
  rfl

/-- The block the body stores. -/
theorem stored_eq (md : Vec Ideal S1x6x2048 .f32) (a : Vec Ideal S512x1024 .bf16) (wa : Vec Ideal S1024x2048 .bf16)
    (b : Vec Ideal S512x1024 .bf16) (wb : Vec Ideal S1024x2048 .bf16) (x p : Vec Ideal S512x2048 .f32)
    (nw nb : Vec Ideal S1x2048 .f32) :
    k0_pay7 (k0_pay3 nw) (k0_pay4 nb) (k0_pay5 md a wa b wb x p) (k0_pay6 md a wa b wb x p)
      (Scalar.ofBits .f32 0x45000000#32) = normBlk (residBlk md a wa b wb x p) nw nb := rfl

end Cert.Outp

end
-- ==== Proof.OutHalves.lean ====
/-
  The output projection's launch over `Cert.OutputIdeal`: what its body leaves in each result's buffer, the body's triple, the
  run of the pipeline and the frame. The packed result is stored a line of every token at a time: eight rectangles of
  512 lines, eight lines apart, which together hold every line of the block.
-/
module

public import proofs.«01_k».proof.Proof.Gen.OutputIdeal.Frame
public import proofs.«01_k».proof.Proof.Gen.OutputIdeal.Skeleton
public import proofs.«01_k».proof.Proof.Gen.OutputIdeal.Launch
public import proofs.«01_k».proof.Proof.Gen.OutputIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.Outp.Halves

open Cert.OutputIdeal Cert.OutputIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The boxes the body reads and writes -/

abbrev r_modulation : Rect S1x6x2048 := Rect.unit (s := S1x6x2048) ![0, 0, 0] S1x6x2048.size inb_S1x6x2048_S1x6x2048_0_0_0
abbrev r_half : Rect S512x1024 := Rect.unit (s := S512x1024) ![0, 0] S512x1024.size inb_S512x1024_S512x1024_0_0
abbrev r_lower : Rect S2048x2048 := Rect.unit (s := S2048x2048) ![0, 0] S1024x2048.size inb_S2048x2048_S1024x2048_0_0
abbrev r_upper : Rect S2048x2048 := Rect.unit (s := S2048x2048) ![1024, 0] S1024x2048.size inb_S2048x2048_S1024x2048_1024_0
abbrev r_rows : Rect S512x2048 := Rect.unit (s := S512x2048) ![0, 0] S512x2048.size inb_S512x2048_S512x2048_0_0
abbrev r_line : Rect S1x2048 := Rect.unit (s := S1x2048) ![0, 0] S1x2048.size inb_S1x2048_S1x2048_0_0
abbrev r_router : Rect S2048x128 := Rect.unit (s := S2048x128) ![0, 0] S2048x128.size inb_S2048x128_S2048x128_0_0
abbrev r_bias : Rect S1x128 := Rect.unit (s := S1x128) ![0, 0] S1x128.size inb_S1x128_S1x128_0_0
abbrev r_stats : Rect S512x128 := Rect.unit (s := S512x128) ![0, 0] S512x128.size inb_S512x128_S512x128_0_0
/-- Line 0 of every token. -/
abbrev r_packed0 : Rect S4096x2x128 := ⟨(⟨![0, 0, 0], S512x2x128.size, ![8, 1, 1], inb_S4096x2x128_S512x2x128_0_0_0_s_8_1_1⟩ : LoadRect S4096x2x128), spos_8_1_1⟩
/-- Line 1 of every token. -/
abbrev r_packed1 : Rect S4096x2x128 := ⟨(⟨![1, 0, 0], S512x2x128.size, ![8, 1, 1], inb_S4096x2x128_S512x2x128_1_0_0_s_8_1_1⟩ : LoadRect S4096x2x128), spos_8_1_1⟩
/-- Line 2 of every token. -/
abbrev r_packed2 : Rect S4096x2x128 := ⟨(⟨![2, 0, 0], S512x2x128.size, ![8, 1, 1], inb_S4096x2x128_S512x2x128_2_0_0_s_8_1_1⟩ : LoadRect S4096x2x128), spos_8_1_1⟩
/-- Line 3 of every token. -/
abbrev r_packed3 : Rect S4096x2x128 := ⟨(⟨![3, 0, 0], S512x2x128.size, ![8, 1, 1], inb_S4096x2x128_S512x2x128_3_0_0_s_8_1_1⟩ : LoadRect S4096x2x128), spos_8_1_1⟩
/-- Line 4 of every token. -/
abbrev r_packed4 : Rect S4096x2x128 := ⟨(⟨![4, 0, 0], S512x2x128.size, ![8, 1, 1], inb_S4096x2x128_S512x2x128_4_0_0_s_8_1_1⟩ : LoadRect S4096x2x128), spos_8_1_1⟩
/-- Line 5 of every token. -/
abbrev r_packed5 : Rect S4096x2x128 := ⟨(⟨![5, 0, 0], S512x2x128.size, ![8, 1, 1], inb_S4096x2x128_S512x2x128_5_0_0_s_8_1_1⟩ : LoadRect S4096x2x128), spos_8_1_1⟩
/-- Line 6 of every token. -/
abbrev r_packed6 : Rect S4096x2x128 := ⟨(⟨![6, 0, 0], S512x2x128.size, ![8, 1, 1], inb_S4096x2x128_S512x2x128_6_0_0_s_8_1_1⟩ : LoadRect S4096x2x128), spos_8_1_1⟩
/-- Line 7 of every token. -/
abbrev r_packed7 : Rect S4096x2x128 := ⟨(⟨![7, 0, 0], S512x2x128.size, ![8, 1, 1], inb_S4096x2x128_S512x2x128_7_0_0_s_8_1_1⟩ : LoadRect S4096x2x128), spos_8_1_1⟩

/-! ### The body's values over the blocks it is given, under their printed names -/

/-- The width the means are taken over. -/
abbrev scale : F .f32 := Scalar.ofBits .f32 0x45000000#32
def v1 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S6x2048 .f32 :=
  k0_pay2 (View.ld x4 r_modulation)
def v21 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x2048 .f32 :=
  k0_pay3 (View.ld x6 r_line)
def v23 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x2048 .f32 :=
  k0_pay4 (View.ld x7 r_line)
def v29 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S512x2048 .f32 :=
  k0_pay5 (View.ld x4 r_modulation) (View.ld x0 r_half) (View.ld x5 r_lower) (View.ld x1 r_half) (View.ld x5 r_upper) (View.ld x2 r_rows) (View.ld x3 r_rows)
def v32 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S512x1 .f32 :=
  k0_pay6 (View.ld x4 r_modulation) (View.ld x0 r_half) (View.ld x5 r_lower) (View.ld x1 r_half) (View.ld x5 r_upper) (View.ld x2 r_rows) (View.ld x3 r_rows)
def v52 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S512x2048 .f32 :=
  k0_pay8 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale
def v55_lo (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S512x1024 .bf16 :=
  k0_pay9 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale
def v55_hi (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S512x1024 .bf16 :=
  k0_pay10 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale
def v64_lo (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S512x128 .bf16 :=
  k0_pay15 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale
def v64_hi (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S512x128 .bf16 :=
  k0_pay16 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale
def v80 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S128x512 .f32 :=
  k0_pay21 (v52 x0 x1 x2 x3 x4 x5 x6 x7 x8 x9) (View.ld x8 r_router) (View.ld x9 r_bias)
def v82 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S8x512 .f32 :=
  k0_pay22 (F := F)
def v83 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S8x512 .f32 :=
  k0_pay23 (v52 x0 x1 x2 x3 x4 x5 x6 x7 x8 x9) (View.ld x8 r_router) (View.ld x9 r_bias)
def v85 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : IVec S8x512 1 :=
  k0_pay24 (F := F)
def v89 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x512 .f32 :=
  k0_pay25 (v52 x0 x1 x2 x3 x4 x5 x6 x7 x8 x9) (View.ld x8 r_router) (View.ld x9 r_bias)
def v96 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x512 .f32 :=
  k0_pay26 (v52 x0 x1 x2 x3 x4 x5 x6 x7 x8 x9) (View.ld x8 r_router) (View.ld x9 r_bias)
def v105 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x512 .f32 :=
  k0_pay27 (v83 x0 x1 x2 x3 x4 x5 x6 x7 x8 x9) (v85 x0 x1 x2 x3 x4 x5 x6 x7 x8 x9) (v89 x0 x1 x2 x3 x4 x5 x6 x7 x8 x9)
def v126 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x512 .f32 :=
  k0_pay29 (v80 x0 x1 x2 x3 x4 x5 x6 x7 x8 x9) (v96 x0 x1 x2 x3 x4 x5 x6 x7 x8 x9)
def v132 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x512 .f32 :=
  k0_pay30 (v80 x0 x1 x2 x3 x4 x5 x6 x7 x8 x9) (v82 x0 x1 x2 x3 x4 x5 x6 x7 x8 x9) (v96 x0 x1 x2 x3 x4 x5 x6 x7 x8 x9)
def v138 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x512 .f32 :=
  k0_pay32 (v80 x0 x1 x2 x3 x4 x5 x6 x7 x8 x9) (v82 x0 x1 x2 x3 x4 x5 x6 x7 x8 x9) (v96 x0 x1 x2 x3 x4 x5 x6 x7 x8 x9)
def v143 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S512 .f32 :=
  k0_pay33 (v80 x0 x1 x2 x3 x4 x5 x6 x7 x8 x9) (v82 x0 x1 x2 x3 x4 x5 x6 x7 x8 x9) (v96 x0 x1 x2 x3 x4 x5 x6 x7 x8 x9)

/-! ### What the body leaves in each result's buffer -/

/-- The normed tokens: one whole store. -/
def left10 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : Vec F S512x2048 .f32 :=
  View.canon [⟨r_rows, k0_pay7 (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale⟩]

theorem whole10 (p : Vec F S512x2048 .f32) (y : S512x2048.Idx) :
    ∃ q ∈ ([⟨r_rows, p⟩] : List (View.Piece (Elt F) S512x2048 .f32)), y ∈ q.1.set :=
  View.cover_of_tiled [⟨r_rows, p⟩] S512x2048.size (by rfl) y

/-- The packed tokens, as pairs of halves: eight lines a token, the last stored first. -/
def left11 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : Vec F S4096x2x128 .bf16 :=
  View.canon [⟨r_packed7, k0_pay20 (v55_lo x0 x1 x2 x3 x4 x5 x6 x7 x8 x9) (v55_hi x0 x1 x2 x3 x4 x5 x6 x7 x8 x9)⟩, ⟨r_packed6, k0_pay19 (v55_lo x0 x1 x2 x3 x4 x5 x6 x7 x8 x9) (v55_hi x0 x1 x2 x3 x4 x5 x6 x7 x8 x9)⟩, ⟨r_packed5, k0_pay18 (v55_lo x0 x1 x2 x3 x4 x5 x6 x7 x8 x9) (v55_hi x0 x1 x2 x3 x4 x5 x6 x7 x8 x9)⟩, ⟨r_packed4, k0_pay17 (v64_lo x0 x1 x2 x3 x4 x5 x6 x7 x8 x9) (v64_hi x0 x1 x2 x3 x4 x5 x6 x7 x8 x9)⟩, ⟨r_packed3, k0_pay14 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale⟩, ⟨r_packed2, k0_pay13 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale⟩, ⟨r_packed1, k0_pay12 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale⟩, ⟨r_packed0, k0_pay11 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale⟩]

theorem on_line0 (y : S4096x2x128.Idx) (h : (y 0).val % 8 = 0) : y ∈ r_packed0.set := by
  have hy : (y 0).val < 4096 := (y 0).isLt
  rw [LoadRect.mem_set]
  intro a
  match a with
  | ⟨0, _⟩ => exact ⟨(y 0).val / 8, show (y 0).val / 8 < 512 by omega, show (y 0).val = 0 + 8 * ((y 0).val / 8) by omega⟩
  | ⟨1, _⟩ => exact ⟨(y 1).val, (y 1).isLt, show (y 1).val = 0 + 1 * (y 1).val by omega⟩
  | ⟨2, _⟩ => exact ⟨(y 2).val, (y 2).isLt, show (y 2).val = 0 + 1 * (y 2).val by omega⟩
theorem on_line1 (y : S4096x2x128.Idx) (h : (y 0).val % 8 = 1) : y ∈ r_packed1.set := by
  have hy : (y 0).val < 4096 := (y 0).isLt
  rw [LoadRect.mem_set]
  intro a
  match a with
  | ⟨0, _⟩ => exact ⟨(y 0).val / 8, show (y 0).val / 8 < 512 by omega, show (y 0).val = 1 + 8 * ((y 0).val / 8) by omega⟩
  | ⟨1, _⟩ => exact ⟨(y 1).val, (y 1).isLt, show (y 1).val = 0 + 1 * (y 1).val by omega⟩
  | ⟨2, _⟩ => exact ⟨(y 2).val, (y 2).isLt, show (y 2).val = 0 + 1 * (y 2).val by omega⟩
theorem on_line2 (y : S4096x2x128.Idx) (h : (y 0).val % 8 = 2) : y ∈ r_packed2.set := by
  have hy : (y 0).val < 4096 := (y 0).isLt
  rw [LoadRect.mem_set]
  intro a
  match a with
  | ⟨0, _⟩ => exact ⟨(y 0).val / 8, show (y 0).val / 8 < 512 by omega, show (y 0).val = 2 + 8 * ((y 0).val / 8) by omega⟩
  | ⟨1, _⟩ => exact ⟨(y 1).val, (y 1).isLt, show (y 1).val = 0 + 1 * (y 1).val by omega⟩
  | ⟨2, _⟩ => exact ⟨(y 2).val, (y 2).isLt, show (y 2).val = 0 + 1 * (y 2).val by omega⟩
theorem on_line3 (y : S4096x2x128.Idx) (h : (y 0).val % 8 = 3) : y ∈ r_packed3.set := by
  have hy : (y 0).val < 4096 := (y 0).isLt
  rw [LoadRect.mem_set]
  intro a
  match a with
  | ⟨0, _⟩ => exact ⟨(y 0).val / 8, show (y 0).val / 8 < 512 by omega, show (y 0).val = 3 + 8 * ((y 0).val / 8) by omega⟩
  | ⟨1, _⟩ => exact ⟨(y 1).val, (y 1).isLt, show (y 1).val = 0 + 1 * (y 1).val by omega⟩
  | ⟨2, _⟩ => exact ⟨(y 2).val, (y 2).isLt, show (y 2).val = 0 + 1 * (y 2).val by omega⟩
theorem on_line4 (y : S4096x2x128.Idx) (h : (y 0).val % 8 = 4) : y ∈ r_packed4.set := by
  have hy : (y 0).val < 4096 := (y 0).isLt
  rw [LoadRect.mem_set]
  intro a
  match a with
  | ⟨0, _⟩ => exact ⟨(y 0).val / 8, show (y 0).val / 8 < 512 by omega, show (y 0).val = 4 + 8 * ((y 0).val / 8) by omega⟩
  | ⟨1, _⟩ => exact ⟨(y 1).val, (y 1).isLt, show (y 1).val = 0 + 1 * (y 1).val by omega⟩
  | ⟨2, _⟩ => exact ⟨(y 2).val, (y 2).isLt, show (y 2).val = 0 + 1 * (y 2).val by omega⟩
theorem on_line5 (y : S4096x2x128.Idx) (h : (y 0).val % 8 = 5) : y ∈ r_packed5.set := by
  have hy : (y 0).val < 4096 := (y 0).isLt
  rw [LoadRect.mem_set]
  intro a
  match a with
  | ⟨0, _⟩ => exact ⟨(y 0).val / 8, show (y 0).val / 8 < 512 by omega, show (y 0).val = 5 + 8 * ((y 0).val / 8) by omega⟩
  | ⟨1, _⟩ => exact ⟨(y 1).val, (y 1).isLt, show (y 1).val = 0 + 1 * (y 1).val by omega⟩
  | ⟨2, _⟩ => exact ⟨(y 2).val, (y 2).isLt, show (y 2).val = 0 + 1 * (y 2).val by omega⟩
theorem on_line6 (y : S4096x2x128.Idx) (h : (y 0).val % 8 = 6) : y ∈ r_packed6.set := by
  have hy : (y 0).val < 4096 := (y 0).isLt
  rw [LoadRect.mem_set]
  intro a
  match a with
  | ⟨0, _⟩ => exact ⟨(y 0).val / 8, show (y 0).val / 8 < 512 by omega, show (y 0).val = 6 + 8 * ((y 0).val / 8) by omega⟩
  | ⟨1, _⟩ => exact ⟨(y 1).val, (y 1).isLt, show (y 1).val = 0 + 1 * (y 1).val by omega⟩
  | ⟨2, _⟩ => exact ⟨(y 2).val, (y 2).isLt, show (y 2).val = 0 + 1 * (y 2).val by omega⟩
theorem on_line7 (y : S4096x2x128.Idx) (h : (y 0).val % 8 = 7) : y ∈ r_packed7.set := by
  have hy : (y 0).val < 4096 := (y 0).isLt
  rw [LoadRect.mem_set]
  intro a
  match a with
  | ⟨0, _⟩ => exact ⟨(y 0).val / 8, show (y 0).val / 8 < 512 by omega, show (y 0).val = 7 + 8 * ((y 0).val / 8) by omega⟩
  | ⟨1, _⟩ => exact ⟨(y 1).val, (y 1).isLt, show (y 1).val = 0 + 1 * (y 1).val by omega⟩
  | ⟨2, _⟩ => exact ⟨(y 2).val, (y 2).isLt, show (y 2).val = 0 + 1 * (y 2).val by omega⟩

/-- Every line is some token's line `k`, for one of the eight `k`. -/
theorem whole11 (p0 p1 p2 p3 p4 p5 p6 p7 : Vec F S512x2x128 .bf16) (y : S4096x2x128.Idx) :
    ∃ q ∈ ([⟨r_packed7, p7⟩, ⟨r_packed6, p6⟩, ⟨r_packed5, p5⟩, ⟨r_packed4, p4⟩, ⟨r_packed3, p3⟩, ⟨r_packed2, p2⟩, ⟨r_packed1, p1⟩, ⟨r_packed0, p0⟩] : List (View.Piece (Elt F) S4096x2x128 .bf16)), y ∈ q.1.set := by
  have h8 : (y 0).val % 8 < 8 := Nat.mod_lt _ (by decide)
  rcases (by omega : (y 0).val % 8 = 0 ∨ (y 0).val % 8 = 1 ∨ (y 0).val % 8 = 2 ∨ (y 0).val % 8 = 3 ∨ (y 0).val % 8 = 4
    ∨ (y 0).val % 8 = 5 ∨ (y 0).val % 8 = 6 ∨ (y 0).val % 8 = 7) with h | h | h | h | h | h | h | h
  · exact ⟨⟨r_packed0, p0⟩, .tail _ (.tail _ (.tail _ (.tail _ (.tail _ (.tail _ (.tail _ (.head _))))))), on_line0 y h⟩
  · exact ⟨⟨r_packed1, p1⟩, .tail _ (.tail _ (.tail _ (.tail _ (.tail _ (.tail _ (.head _)))))), on_line1 y h⟩
  · exact ⟨⟨r_packed2, p2⟩, .tail _ (.tail _ (.tail _ (.tail _ (.tail _ (.head _))))), on_line2 y h⟩
  · exact ⟨⟨r_packed3, p3⟩, .tail _ (.tail _ (.tail _ (.tail _ (.head _)))), on_line3 y h⟩
  · exact ⟨⟨r_packed4, p4⟩, .tail _ (.tail _ (.tail _ (.head _))), on_line4 y h⟩
  · exact ⟨⟨r_packed5, p5⟩, .tail _ (.tail _ (.head _)), on_line5 y h⟩
  · exact ⟨⟨r_packed6, p6⟩, .tail _ (.head _), on_line6 y h⟩
  · exact ⟨⟨r_packed7, p7⟩, .head _, on_line7 y h⟩

/-- The router's statistics: one whole store. -/
def left12 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : Vec F S512x128 .f32 :=
  View.canon [⟨r_stats, k0_pay1 (v82 x0 x1 x2 x3 x4 x5 x6 x7 x8 x9) (v96 x0 x1 x2 x3 x4 x5 x6 x7 x8 x9) (v105 x0 x1 x2 x3 x4 x5 x6 x7 x8 x9) (v126 x0 x1 x2 x3 x4 x5 x6 x7 x8 x9) (v132 x0 x1 x2 x3 x4 x5 x6 x7 x8 x9) (v138 x0 x1 x2 x3 x4 x5 x6 x7 x8 x9) (v143 x0 x1 x2 x3 x4 x5 x6 x7 x8 x9)⟩]

theorem whole12 (p : Vec F S512x128 .f32) (y : S512x128.Idx) :
    ∃ q ∈ ([⟨r_stats, p⟩] : List (View.Piece (Elt F) S512x128 .f32)), y ∈ q.1.set :=
  View.cover_of_tiled [⟨r_stats, p⟩] S512x128.size (by rfl) y

/-! ### The body's triple -/

/-! From the blocks and any contents of the results' buffers, the body runs and leaves the blocks as they were and the results' buffers at `left10`, `left11` and `left12` of them. -/
set_option maxHeartbeats 2000000 in
theorem sound_kernel (c : Dev nD) (E : Set ℕ) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x6x2048 .f32) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x128 .f32) (harg10 : arg10.IsWhole) (arg11 : Memref sig .tc .vmem S512x2048 .f32) (harg11 : arg11.IsWhole) (arg12 : Memref sig .tc .vmem S4096x2x128 .bf16) (harg12 : arg12.IsWhole) (arg13 : Memref sig .tc .vmem S512x128 .f32) (harg13 : arg13.IsWhole)
    (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (left10 x0 x1 x2 x3 x4 x5 x6 x7 x8 x9) ∗ owns (c : Thread nD τ) arg12 fullShare (left11 x0 x1 x2 x3 x4 x5 x6 x7 x8 x9) ∗ owns (c : Thread nD τ) arg13 fullShare (left12 x0 x1 x2 x3 x4 x5 x6 x7 x8 x9)) -∗ K ⟨⟩))
      ⊢ wp frame (wpE (defs₀ (F := F)) Variants.none c none) E (cc0_mixer_out i arg1 harg1 arg2 harg2 arg3 harg3 arg4 harg4 arg5 harg5 arg6 harg6 arg7 harg7 arg8 harg8 arg9 harg9 arg10 harg10 arg11 harg11 arg12 harg12 arg13 harg13) K := by
  simp only [cc0_mixer_out_eq_skeleton]; unfold cc0_mixer_out_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (whole10 _)).trans ?_
    rfl
  isplitl [H11]
  · iexists _; isplitr
    swap; · iexact H11
    ipureintro
    refine (View.read_writes_eq_canon _ _ _ (whole11 _ _ _ _ _ _ _ _)).trans ?_
    rfl
  iexists _; isplitr
  swap; · iexact H12
  ipureintro
  refine (View.read_writes_eq_canon _ _ _ (whole12 _)).trans ?_
  rfl

/-- The pipeline's data: each array as the launch finds it, each block kept, each result's buffer at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => left10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => left11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => left12 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The data's arrays are those at the launch. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = left10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after11 (c : Dev nD) (t : Fin cfg0.N) : (dats m 0 c).after 11 t = left11 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after12 (c : Dev nD) (t : Fin cfg0.N) : (dats m 0 c).after 12 t = left12 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0 m c) t d
theorem before0_1 (c : Dev nD) (t : Fin cfg0.N) (d) : (dats m 0 c).before 1 t d = iblk m c 1 t :=
  before0_1_of m (dats m 0 c) (A_eq m c 1) (after1 m c) t d
theorem before0_2 (c : Dev nD) (t : Fin cfg0.N) (d) : (dats m 0 c).before 2 t d = iblk m c 2 t :=
  before0_2_of m (dats m 0 c) (A_eq m c 2) (after2 m c) t d
theorem before0_3 (c : Dev nD) (t : Fin cfg0.N) (d) : (dats m 0 c).before 3 t d = iblk m c 3 t :=
  before0_3_of m (dats m 0 c) (A_eq m c 3) (after3 m c) t d
theorem before0_4 (c : Dev nD) (t : Fin cfg0.N) (d) : (dats m 0 c).before 4 t d = iblk m c 4 t :=
  before0_4_of m (dats m 0 c) (A_eq m c 4) (after4 m c) t d
theorem before0_5 (c : Dev nD) (t : Fin cfg0.N) (d) : (dats m 0 c).before 5 t d = iblk m c 5 t :=
  before0_5_of m (dats m 0 c) (A_eq m c 5) (after5 m c) t d
theorem before0_6 (c : Dev nD) (t : Fin cfg0.N) (d) : (dats m 0 c).before 6 t d = iblk m c 6 t :=
  before0_6_of m (dats m 0 c) (A_eq m c 6) (after6 m c) t d
theorem before0_7 (c : Dev nD) (t : Fin cfg0.N) (d) : (dats m 0 c).before 7 t d = iblk m c 7 t :=
  before0_7_of m (dats m 0 c) (A_eq m c 7) (after7 m c) t d
theorem before0_8 (c : Dev nD) (t : Fin cfg0.N) (d) : (dats m 0 c).before 8 t d = iblk m c 8 t :=
  before0_8_of m (dats m 0 c) (A_eq m c 8) (after8 m c) t d
theorem before0_9 (c : Dev nD) (t : Fin cfg0.N) (d) : (dats m 0 c).before 9 t d = iblk m c 9 t :=
  before0_9_of m (dats m 0 c) (A_eq m c 9) (after9 m c) t d

/-- The body's precondition at a grid point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- The body's postcondition. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The table's row is the body. -/
theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! The launch ends with the arrays at the pipeline's data and every counter at zero. -/
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are kept. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The frame: the arguments are kept and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Outp.Halves

end
-- ==== Proof.OutArrays.lean ====
/-
  The output projection's first result array: every block of 512 tokens, so every element, is the stated function of
  the arguments.
-/
module

public import proofs.«01_k».proof.Proof.OutBlock
public import proofs.«01_k».proof.Proof.RunReads
public import proofs.«01_k».proof.Proof.OutHalves
public import Idealize.ShloMosaic.Lib.Pointwise
public import Idealize.ShloMosaic.Lib.KernelVsHost
public import Idealize.ShloMosaic.Lib.Pipeline.ValueKit

@[expose] public section

set_option maxRecDepth 16384

noncomputable section

namespace Cert.Outp

open Idealize.ShloMosaic Idealize.ShloMosaic.TcCoe Idealize.SL.Sem Cert.Mlstm Cert.Proj Cert.OutputIdeal Cert.OutputIdeal.Gen Cert.Outp.Halves
open Idealize.ShloMosaic.Pipeline (Dat)

/-- The block of tokens a grid point works on. -/
def rowBlock (p : Nat) : Nat := p % 8 * 4 + p / 8

/-! ### The windows' places -/

theorem at_0 : ∀ t : Fin cfg0.N, win0_0.index t = ![rowBlock (grid0.coords t 0).val, 0] :=
  (by decide +kernel : ∀ t : Fin grid0.N, _)
theorem at_1 : ∀ t : Fin cfg0.N, win0_1.index t = ![rowBlock (grid0.coords t 0).val, 0] :=
  (by decide +kernel : ∀ t : Fin grid0.N, _)
theorem at_2 : ∀ t : Fin cfg0.N, win0_2.index t = ![rowBlock (grid0.coords t 0).val, 0] :=
  (by decide +kernel : ∀ t : Fin grid0.N, _)
theorem at_3 : ∀ t : Fin cfg0.N, win0_3.index t = ![(grid0.coords t 0).val / 8, 0] :=
  (by decide +kernel : ∀ t : Fin grid0.N, _)
theorem at_4 : ∀ t : Fin cfg0.N, win0_4.index t = ![(grid0.coords t 0).val % 8, 0, 0] :=
  (by decide +kernel : ∀ t : Fin grid0.N, _)
theorem at_5 : ∀ t : Fin cfg0.N, win0_5.index t = ![0, 0] := (by decide +kernel : ∀ t : Fin grid0.N, _)
theorem at_6 : ∀ t : Fin cfg0.N, win0_6.index t = ![0, 0] := (by decide +kernel : ∀ t : Fin grid0.N, _)
theorem at_7 : ∀ t : Fin cfg0.N, win0_7.index t = ![0, 0] := (by decide +kernel : ∀ t : Fin grid0.N, _)
theorem at_10 : ∀ t : Fin cfg0.N, win0_10.index t = ![rowBlock (grid0.coords t 0).val, 0] :=
  (by decide +kernel : ∀ t : Fin grid0.N, _)

variable (m : (ℓ : Loc nD τ sig) → Buf (Elt Ideal) ℓ) (c : Dev nD)

/-! ### The operands prepared before the call -/

set_option maxHeartbeats 2000000 in
theorem V_wout : (V m c main_v6 : FVec Ideal S2048x2048 .bf16)
    = (truncf (F := Ideal) .bf16 (m ((c : Thread nD τ).loc main_arg5) : FVec Ideal S2048x2048 .f32) bitsLt_bf16_f32 : FVec Ideal S2048x2048 .bf16) := by
  show StableHlo.after (List.flatten [hostOps0, hostOps0_1, hostOps0_2, hostOps0_3, hostOps0_4]) _ _ = _
  unfold hostOps0 hostOps0_1 hostOps0_2 hostOps0_3 hostOps0_4
  simp only [List.flatten_cons, List.flatten_nil, List.append_nil, List.cons_append, List.nil_append]
  after_results

set_option maxHeartbeats 2000000 in
theorem V_nw : (V m c main_v7 : FVec Ideal S1x2048 .f32)
    = shapeCast S1x2048 (m ((c : Thread nD τ).loc main_arg6) : FVec Ideal S2048 .f32) shapeCasts_S2048_S1x2048 := by
  show StableHlo.after (List.flatten [hostOps0, hostOps0_1, hostOps0_2, hostOps0_3, hostOps0_4]) _ _ = _
  unfold hostOps0 hostOps0_1 hostOps0_2 hostOps0_3 hostOps0_4
  simp only [List.flatten_cons, List.flatten_nil, List.append_nil, List.cons_append, List.nil_append]
  after_results
  rfl

set_option maxHeartbeats 2000000 in
theorem V_nb : (V m c main_v8 : FVec Ideal S1x2048 .f32)
    = shapeCast S1x2048 (m ((c : Thread nD τ).loc main_arg7) : FVec Ideal S2048 .f32) shapeCasts_S2048_S1x2048 := by
  show StableHlo.after (List.flatten [hostOps0, hostOps0_1, hostOps0_2, hostOps0_3, hostOps0_4]) _ _ = _
  unfold hostOps0 hostOps0_1 hostOps0_2 hostOps0_3 hostOps0_4
  simp only [List.flatten_cons, List.flatten_nil, List.append_nil, List.cons_append, List.nil_append]
  after_results
  rfl

theorem wout_at (i : S2048x2048.Idx) : (V m c main_v6 : FVec Ideal S2048x2048 .bf16) i
    = at2 (m ((c : Thread nD τ).loc main_arg5)) (i 0).val (i 1).val :=
  (congrFun (V_wout m c) i).trans (at2_of (a := 2048) (b := 2048) (m ((c : Thread nD τ).loc main_arg5)) i)

/-- A row of 2048 as an array of one row. -/
theorem as_row (x : FVec Ideal S2048 .f32) (h : S2048.ShapeCasts S1x2048) (i : S1x2048.Idx) :
    shapeCast S1x2048 x h i = at1 (a := 2048) x (i 1).val := by
  have h0 : (i 0).val < 1 := (i 0).isLt
  have h1 : (i 1).val < 2048 := (i 1).isLt
  refine (shapeCast_apply x h i (fun q => match q with | ⟨0, _⟩ => ⟨(i 1).val, h1⟩) ?_).trans (at1_of (a := 2048) x _)
  refine (Shape.rowMajor_val_one (d := ![2048]) _).trans (Eq.trans ?_ (Shape.rowMajor_val_two (d := ![1, 2048]) i).symm)
  show (i 1).val = (i 0).val * 2048 + (i 1).val
  omega

theorem nw_at (i : S1x2048.Idx) : (V m c main_v7 : FVec Ideal S1x2048 .f32) i
    = at1 (m ((c : Thread nD τ).loc main_arg6)) (i 1).val :=
  (congrFun (V_nw m c) i).trans (as_row (m ((c : Thread nD τ).loc main_arg6)) _ i)

theorem nb_at (i : S1x2048.Idx) : (V m c main_v8 : FVec Ideal S1x2048 .f32) i
    = at1 (m ((c : Thread nD τ).loc main_arg7)) (i 1).val :=
  (congrFun (V_nb m c) i).trans (as_row (m ((c : Thread nD τ).loc main_arg7)) _ i)

/-! ### One block -/

/-- A load of a rectangle of a block. -/
theorem load2 {a b p q r s : Nat} {e : EltTy} {f : Nat → Nat → Elt Ideal e} {X : Vec Ideal ⟨2, ![a, b]⟩ e}
    (hX : ∀ i, X i = f (i 0).val (i 1).val)
    (inb : ∀ k, (![r, s] : Fin 2 → Nat) k + (![p, q] : Fin 2 → Nat) k ≤ (![a, b] : Fin 2 → Nat) k)
    (i : (⟨2, ![p, q]⟩ : Shape).Idx) :
    View.ld (Val := Elt Ideal) (S := ⟨2, ![a, b]⟩) (e' := e) X (Rect.unit (s := ⟨2, ![a, b]⟩) ![r, s] ![p, q] inb) i
      = f (r + (i 0).val) (s + (i 1).val) := by
  refine (hX _).trans ?_
  show f (r + 1 * (i 0).val) (s + 1 * (i 1).val) = _
  rw [one_mul, one_mul]

theorem loadAll2 {a b : Nat} {e : EltTy} {f : Nat → Nat → Elt Ideal e} {X : Vec Ideal ⟨2, ![a, b]⟩ e}
    (hX : ∀ i, X i = f (i 0).val (i 1).val)
    (inb : ∀ k, (![0, 0] : Fin 2 → Nat) k + (![a, b] : Fin 2 → Nat) k ≤ (![a, b] : Fin 2 → Nat) k)
    (i : (⟨2, ![a, b]⟩ : Shape).Idx) :
    View.ld (Val := Elt Ideal) (S := ⟨2, ![a, b]⟩) (e' := e) X (Rect.unit (s := ⟨2, ![a, b]⟩) ![0, 0] ![a, b] inb) i
      = f (i 0).val (i 1).val :=
  (load2 hX inb i).trans (congrArg₂ f (Nat.zero_add _) (Nat.zero_add _))

theorem loadAll3 {X : Vec Ideal S1x6x2048 .f32} {f : Nat → Nat → EReal} (hX : ∀ i, X i = f (i 1).val (i 2).val)
    (i : S1x6x2048.Idx) : View.ld (Val := Elt Ideal) (S := S1x6x2048) (e' := .f32) X r_modulation i = f (i 1).val (i 2).val := by
  refine (hX _).trans ?_
  show f (0 + 1 * (i 1).val) (0 + 1 * (i 2).val) = _
  rw [one_mul, one_mul, Nat.zero_add, Nat.zero_add]

/-- What is normed, of a program's arguments. -/
abbrev theSum : Nat → Nat → EReal := summed (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

/-- The result, of a program's arguments. -/
abbrev theNormed : Nat → Nat → EReal := normed (theSum m c) (at1 (m ((c : Thread nD τ).loc main_arg6)))
  (at1 (m ((c : Thread nD τ).loc main_arg7)))

/-- The first token of a grid point's block. -/
def first (t : Fin cfg0.N) : Nat := 512 * rowBlock (grid0.coords t 0).val

theorem read_0 (t : Fin cfg0.N) (i : S512x1024.Idx) : iblk m c 0 t i
    = at2 (m ((c : Thread nD τ).loc main_arg0)) (first t + (i 0).val) (i 1).val :=
  (congrFun (V_main_arg0 m c) _).trans ((at2_of (a := 16384) (b := 1024) _ _).trans
    (congrArg₂ _ (by unfold first; blk_simp [at_0]; omega) (by blk_simp [at_0])))
theorem read_1 (t : Fin cfg0.N) (i : S512x1024.Idx) : iblk m c 1 t i
    = at2 (m ((c : Thread nD τ).loc main_arg1)) (first t + (i 0).val) (i 1).val :=
  (congrFun (V_main_arg1 m c) _).trans ((at2_of (a := 16384) (b := 1024) _ _).trans
    (congrArg₂ _ (by unfold first; blk_simp [at_1]; omega) (by blk_simp [at_1])))
theorem read_2 (t : Fin cfg0.N) (i : S512x2048.Idx) : iblk m c 2 t i
    = at2 (m ((c : Thread nD τ).loc main_arg2)) (first t + (i 0).val) (i 1).val :=
  (congrFun (V_main_arg2 m c) _).trans ((at2_of (a := 16384) (b := 2048) _ _).trans
    (congrArg₂ _ (by unfold first; blk_simp [at_2]; omega) (by blk_simp [at_2])))
theorem read_3 (t : Fin cfg0.N) (i : S512x2048.Idx) : iblk m c 3 t i
    = at2 (m ((c : Thread nD τ).loc main_arg3)) ((first t + (i 0).val) % 2048) (i 1).val :=
  (congrFun (V_main_arg3 m c) _).trans ((at2_of (a := 2048) (b := 2048) _ _).trans
    (congrArg₂ _ (by
      have h0 : (i 0).val < 512 := (i 0).isLt
      have hp : (grid0.coords t 0).val < 32 := (grid0.coords t 0).isLt
      unfold first rowBlock; blk_simp [at_3]; omega) (by blk_simp [at_3])))
theorem read_4 (t : Fin cfg0.N) (i : S1x6x2048.Idx) : iblk m c 4 t i
    = at3 (m ((c : Thread nD τ).loc main_arg4)) (first t / 2048) (i 1).val (i 2).val :=
  (congrFun (V_main_arg4 m c) _).trans ((at3_of (a := 16) (b := 6) (c := 2048) _ _).trans
    (at3_congr _ (by
      have h0 : (i 0).val < 1 := (i 0).isLt
      have hp : (grid0.coords t 0).val < 32 := (grid0.coords t 0).isLt
      unfold first rowBlock; blk_simp [at_4]; omega) (by blk_simp [at_4]) (by blk_simp [at_4])))
theorem read_5 (t : Fin cfg0.N) (i : S2048x2048.Idx) : iblk m c 5 t i
    = at2 (m ((c : Thread nD τ).loc main_arg5)) (i 0).val (i 1).val :=
  (wout_at m c _).trans (congrArg₂ _ (by blk_simp [at_5]) (by blk_simp [at_5]))
theorem read_6 (t : Fin cfg0.N) (i : S1x2048.Idx) : iblk m c 6 t i
    = at1 (m ((c : Thread nD τ).loc main_arg6)) (i 1).val :=
  (nw_at m c _).trans (congrArg (at1 (m ((c : Thread nD τ).loc main_arg6))) (by blk_simp [at_6]))
theorem read_7 (t : Fin cfg0.N) (i : S1x2048.Idx) : iblk m c 7 t i
    = at1 (m ((c : Thread nD τ).loc main_arg7)) (i 1).val :=
  (nb_at m c _).trans (congrArg (at1 (m ((c : Thread nD τ).loc main_arg7))) (by blk_simp [at_7]))

/-- What a block norms is the program's. -/
theorem block_sum (t : Fin cfg0.N) (i : S512x2048.Idx) :
    residBlk (View.ld (iblk m c 4 t) r_modulation) (View.ld (iblk m c 0 t) r_half) (View.ld (iblk m c 5 t) r_lower)
        (View.ld (iblk m c 1 t) r_half) (View.ld (iblk m c 5 t) r_upper) (View.ld (iblk m c 2 t) r_rows) (View.ld (iblk m c 3 t) r_rows) i
      = theSum m c (first t + (i 0).val) (i 1).val := by
  have h0 : (i 0).val < 512 := (i 0).isLt
  refine (residBlk_at
    (fa := fun s k => at2 (m ((c : Thread nD τ).loc main_arg0)) (first t + s) k)
    (fb := fun s k => at2 (m ((c : Thread nD τ).loc main_arg1)) (first t + s) k)
    (fw := at2 (m ((c : Thread nD τ).loc main_arg5)))
    (fx := fun s k => at2 (m ((c : Thread nD τ).loc main_arg2)) (first t + s) k)
    (fp := fun s k => at2 (m ((c : Thread nD τ).loc main_arg3)) ((first t + s) % 2048) k)
    (fm := fun j l => at3 (m ((c : Thread nD τ).loc main_arg4)) (first t / 2048) j l)
    (loadAll3 (f := fun j l => at3 (m ((c : Thread nD τ).loc main_arg4)) (first t / 2048) j l) (read_4 m c t))
    (loadAll2 (a := 512) (b := 1024) (e := .bf16) (X := iblk m c 0 t) (f := fun s k => at2 (m ((c : Thread nD τ).loc main_arg0)) (first t + s) k) (read_0 m c t) inb_S512x1024_S512x1024_0_0)
    (fun j => (load2 (read_5 m c t) inb_S2048x2048_S1024x2048_0_0 j).trans
      (congrArg₂ _ (Nat.zero_add _) (Nat.zero_add _)))
    (loadAll2 (a := 512) (b := 1024) (e := .bf16) (X := iblk m c 1 t) (f := fun s k => at2 (m ((c : Thread nD τ).loc main_arg1)) (first t + s) k) (read_1 m c t) inb_S512x1024_S512x1024_0_0)
    (fun j => (load2 (read_5 m c t) inb_S2048x2048_S1024x2048_1024_0 j).trans
      (congrArg (at2 (m ((c : Thread nD τ).loc main_arg5)) _) (Nat.zero_add _)))
    (loadAll2 (a := 512) (b := 2048) (e := .f32) (X := iblk m c 2 t) (f := fun s k => at2 (m ((c : Thread nD τ).loc main_arg2)) (first t + s) k) (read_2 m c t) inb_S512x2048_S512x2048_0_0)
    (loadAll2 (a := 512) (b := 2048) (e := .f32) (X := iblk m c 3 t) (f := fun s k => at2 (m ((c : Thread nD τ).loc main_arg3)) ((first t + s) % 2048) k) (read_3 m c t) inb_S512x2048_S512x2048_0_0) i).trans ?_
  unfold theSum summed resid
  have hb : first t / 2048 = (first t + (i 0).val) / 2048 := by unfold first; omega
  rw [hb]
  rfl

theorem block_normed (t : Fin cfg0.N) (y : S512x2048.Idx) :
    left10 (iblk m c 0 t) (iblk m c 1 t) (iblk m c 2 t) (iblk m c 3 t) (iblk m c 4 t) (iblk m c 5 t) (iblk m c 6 t)
      (iblk m c 7 t) (iblk m c 8 t) (iblk m c 9 t) y = theNormed m c (first t + (y 0).val) (y 1).val := by
  unfold left10 v32 v29 v23 v21
  refine canon2 (a := 512) (b := 2048) (e := .f32) (f := fun s l => theNormed m c (first t + s) l) ?_ (whole10 _) y
  simp only [List.forall_mem_cons]
  refine ⟨holdsRows inb_S512x2048_S512x2048_0_0 fun j => ?_, List.forall_mem_nil _⟩
  rw [stored_eq, Nat.zero_add]
  exact normBlk_at (v := fun s l => theSum m c (first t + s) l) (block_sum m c t)
    (loadAll2 (a := 1) (b := 2048) (e := .f32) (X := iblk m c 6 t) (f := fun _ l => at1 (m ((c : Thread nD τ).loc main_arg6)) l) (read_6 m c t) inb_S1x2048_S1x2048_0_0)
    (loadAll2 (a := 1) (b := 2048) (e := .f32) (X := iblk m c 7 t) (f := fun _ l => at1 (m ((c : Thread nD τ).loc main_arg7)) l) (read_7 m c t) inb_S1x2048_S1x2048_0_0) j

theorem final_normed : (dats m 0 c).arrAt 10 cfg0.N = fun i => theNormed m c (i 0).val (i 1).val := by
  refine (dats m 0 c).arrAt_eq_of_covers 10 _ (by decide +kernel) fun t hf y => ?_
  blk_simp
  rw [after10]
  refine (block_normed m c t y).trans (congrArg₂ (theNormed m c) ?_ ?_)
  · unfold first; blk_simp [at_10]; omega
  · blk_simp [at_10]

end Cert.Outp

end
-- ==== Proof.OutRef.lean ====
/-
  The output projection as the reference computes it, read at an index.
-/
module

public import proofs.«01_k».proof.Proof.OutSpec
public import proofs.«01_k».proof.Proof.Gen.OutputReferenceIdeal.Read
public import Idealize.ShloMosaic.Lib.Pipeline.Value

@[expose] public section

set_option maxRecDepth 16384

noncomputable section

namespace Cert.Outp

open Idealize.ShloMosaic Cert.Mlstm Cert.Proj Cert.OutputReferenceIdeal Cert.OutputReferenceIdeal.Gen
open Cert.OutputReferenceIdeal.Read

variable (x0 x1 : (⟨S16384x1024, .bf16⟩ : BufTy).Contents (Elt Ideal)) (x2 : (⟨S16384x2048, .f32⟩ : BufTy).Contents (Elt Ideal))
  (x3 : (⟨S2048x2048, .f32⟩ : BufTy).Contents (Elt Ideal)) (x4 : (⟨S16x6x2048, .f32⟩ : BufTy).Contents (Elt Ideal))
  (x5 : (⟨S2048x2048, .f32⟩ : BufTy).Contents (Elt Ideal)) (x6 x7 : (⟨S2048, .f32⟩ : BufTy).Contents (Elt Ideal))

/-- The two halves of the features side by side. -/
def sides (a b : Nat → Nat → EReal) (t k : Nat) : EReal := if k < 1024 then a t k else b t (k - 1024)

theorem ref_v0 (i : S16384x2048.Idx) : val_main_v0 (F := Ideal) x0 x1 i
    = sides (at2 x0) (at2 x1) (i 0).val (i 1).val := by
  have h1 : (i 1).val < 2048 := (i 1).isLt
  unfold val_main_v0 sides
  by_cases h : (i 1).val < 1024
  · rw [if_pos h]
    refine (concatenate_pair_apply_left (t := S16384x2048) 1 x0 x1 concatenates_S16384x1024_S16384x1024_S16384x2048_d1 i rfl
      (fun q => match q with | ⟨0, _⟩ => i 0 | ⟨1, _⟩ => ⟨(i 1).val, h⟩) fun q => ?_).trans (at2_of (a := 16384) (b := 1024) x0 _)
    match q with
    | ⟨0, _⟩ => rfl
    | ⟨1, _⟩ => rfl
  · rw [if_neg h]
    refine (concatenate_pair_apply_right (t := S16384x2048) 1 x0 x1 concatenates_S16384x1024_S16384x1024_S16384x2048_d1 i rfl rfl
      (fun q => match q with | ⟨0, _⟩ => i 0 | ⟨1, _⟩ => ⟨(i 1).val - 1024, by show _ < 1024; omega⟩) (fun q hq => ?_) ?_).trans
      (at2_of (a := 16384) (b := 1024) x1 _)
    · match q with
      | ⟨0, _⟩ => rfl
      | ⟨1, _⟩ => exact absurd rfl hq
    · show (i 1).val - 1024 + 1024 = (i 1).val
      omega

/-- The row of an index of the arrays of eight batches. -/
def row (b t : Nat) : Nat := 2048 * b + t

theorem ref_v2 (i : S8x2048x2048.Idx) : val_main_v2 (F := Ideal) x0 x1 i
    = sides (at2 x0) (at2 x1) (row (i 0).val (i 1).val) (i 2).val := by
  have h0 : (i 0).val < 8 := (i 0).isLt
  have h1 : (i 1).val < 2048 := (i 1).isLt
  have h2 : (i 2).val < 2048 := (i 2).isLt
  rw [val_main_v2_apply, val_main_v1_apply]
  refine (ref_v0 x0 x1 _).trans (congrArg₂ (sides (at2 x0) (at2 x1)) ?_ ?_)
  · show (((i 0).val * 2048 + (i 1).val) * 2048 + (i 2).val) / 2048 = _; unfold row; omega
  · show (((i 0).val * 2048 + (i 1).val) * 2048 + (i 2).val) % 2048 = _; omega

/-- The product, its sum split in two. -/
theorem ref_v3 (i : S8x2048x2048.Idx) : val_main_v3 (F := Ideal) x0 x1 x5 i
    = mixed (at2 x0) (at2 x1) (at2 x5) (row (i 0).val (i 1).val) (i 2).val := by
  rw [val_main_v3_apply]
  refine (Finset.sum_congr rfl fun k _ => congrArg₂ (· * ·) (ref_v2 x0 x1 _) (at2_of (a := 2048) (b := 2048) x5 _)).trans ?_
  refine (sum_halves fun k => sides (at2 x0) (at2 x1) (row (i 0).val (i 1).val) k * at2 x5 k (i 2).val).trans ?_
  unfold mixed sides
  refine congrArg₂ (· + ·) (Finset.sum_congr rfl fun k _ => ?_) (Finset.sum_congr rfl fun k _ => ?_)
  · rw [if_pos k.isLt]
  · rw [if_neg (by omega), Nat.add_sub_cancel_left]

/-- What is normed. -/
theorem ref_v15 (i : S8x2048x2048.Idx) : val_main_v15 (F := Ideal) x0 x1 x2 x3 x4 x5 i
    = summed x0 x1 x2 x3 x4 x5 (row (i 0).val (i 1).val) (i 2).val := by
  have h0 : (i 0).val < 8 := (i 0).isLt
  have h1 : (i 1).val < 2048 := (i 1).isLt
  have h2 : (i 2).val < 2048 := (i 2).isLt
  rw [val_main_v15_apply, val_main_v9_apply, val_main_v8_apply, val_main_cst_apply, val_main_v7_apply, val_main_v4_apply,
    val_main_v6_apply, val_main_v5_apply, val_main_v14_apply, val_main_v13_apply, val_main_v12_apply, val_main_v11_apply,
    val_main_v10_apply, ref_v3]
  unfold summed resid
  refine congrArg₂ (· + ·) (congrArg (alpha * ·) (congrArg₂ (· + ·) ?_ ?_)) (congrArg (· * _) ?_)
  · refine (at2_of (a := 16384) (b := 2048) x2 _).trans (congrArg₂ _ ?_ ?_)
    · show (((i 0).val * 2048 + (i 1).val) * 2048 + (i 2).val) / 2048 = _; unfold row; omega
    · show (((i 0).val * 2048 + (i 1).val) * 2048 + (i 2).val) % 2048 = _; omega
  · refine (at2_of (a := 2048) (b := 2048) x3 _).trans (congrArg₂ _ ?_ rfl)
    show (i 1).val = _; unfold row; omega
  · refine (at3_of (a := 16) (b := 6) (c := 2048) x4 _).trans (at3_congr x4 ?_ rfl ?_)
    · show ((i 0).val * 2048 + (i 2).val) / 2048 = _; unfold row; omega
    · show ((i 0).val * 2048 + (i 2).val) % 2048 = _; omega

/-- The mean and the variance of a token. -/
theorem ref_v19 (i : S8x2048x1.Idx) : val_main_v19 (F := Ideal) x0 x1 x2 x3 x4 x5 i
    = mean (summed x0 x1 x2 x3 x4 x5) (row (i 0).val (i 1).val) := by
  rw [val_main_v19_apply, val_main_v17_apply, val_main_v16_apply, val_main_v18_apply, val_main_cst_1_apply,
    show val_main_cst_0 (F := Ideal) (Shape.Idx.first h_S_) = 0 from zero_f32, zero_add]
  unfold mean
  exact congrArg (Ideal.div · wide) (Finset.sum_congr rfl fun k _ => ref_v15 x0 x1 x2 x3 x4 x5 _)

theorem ref_v21 (i : S8x2048x2048.Idx) : val_main_v21 (F := Ideal) x0 x1 x2 x3 x4 x5 i
    = summed x0 x1 x2 x3 x4 x5 (row (i 0).val (i 1).val) (i 2).val
      - mean (summed x0 x1 x2 x3 x4 x5) (row (i 0).val (i 1).val) := by
  rw [val_main_v21_apply, ref_v15, val_main_v20_apply, ref_v19]
  rfl

theorem ref_v26 (i : S8x2048x1.Idx) : val_main_v26 (F := Ideal) x0 x1 x2 x3 x4 x5 i
    = var (summed x0 x1 x2 x3 x4 x5) (row (i 0).val (i 1).val) := by
  rw [val_main_v26_apply, val_main_v24_apply, val_main_v23_apply, val_main_v25_apply, val_main_cst_3_apply,
    show val_main_cst_2 (F := Ideal) (Shape.Idx.first h_S_) = 0 from zero_f32, zero_add]
  unfold var
  exact congrArg (Ideal.div · wide) (Finset.sum_congr rfl fun k _ =>
    (val_main_v22_apply x0 x1 x2 x3 x4 x5 _).trans
      (congrArg₂ (· * ·) (ref_v21 x0 x1 x2 x3 x4 x5 _) (ref_v21 x0 x1 x2 x3 x4 x5 _)))

/-- The result. -/
theorem ref_v39 (i : S8x2048x2048.Idx) : val_main_v39 (F := Ideal) x0 x1 x2 x3 x4 x5 x6 x7 i
    = normed (summed x0 x1 x2 x3 x4 x5) (at1 x6) (at1 x7) (row (i 0).val (i 1).val) (i 2).val := by
  rw [val_main_v39_apply, val_main_v36_apply, val_main_v33_apply, val_main_v28_apply, ref_v15, val_main_v27_apply, ref_v19,
    val_main_v32_apply, val_main_v31_apply, val_main_v30_apply, ref_v26, val_main_v29_apply, val_main_cst_4_apply,
    val_main_v35_apply, val_main_v34_apply, val_main_v38_apply, val_main_v37_apply]
  unfold normed
  exact congrArg₂ (· + ·) (congrArg₂ (· * ·) rfl (at1_of (a := 2048) x6 _)) (at1_of (a := 2048) x7 _)

theorem ref_normed (i : S16384x2048.Idx) : val_main_v40 (F := Ideal) x0 x1 x2 x3 x4 x5 x6 x7 i
    = normed (summed x0 x1 x2 x3 x4 x5) (at1 x6) (at1 x7) (i 0).val (i 1).val := by
  have h0 : (i 0).val < 16384 := (i 0).isLt
  have h1 : (i 1).val < 2048 := (i 1).isLt
  rw [val_main_v40_apply, ref_v39]
  refine congrArg₂ (normed (summed x0 x1 x2 x3 x4 x5) (at1 x6) (at1 x7)) ?_ ?_
  · show row (((i 0).val * 2048 + (i 1).val) / 4194304) (((i 0).val * 2048 + (i 1).val) / 2048 % 2048) = _
    unfold row; omega
  · show ((i 0).val * 2048 + (i 1).val) % 2048 = _
    omega

end Cert.Outp

end
-- ==== Proof.OutWords.lean ====
/-
  The output projection's launch over `Cert.Output`: what its body leaves in each result's buffer, the body's triple, the
  run of the pipeline and the frame. The packed result is stored a line of every token at a time: eight rectangles of
  512 lines, eight lines apart, which together hold every line of the block.
-/
module

public import proofs.«01_k».proof.Proof.Gen.Output.Frame
public import proofs.«01_k».proof.Proof.Gen.Output.Skeleton
public import proofs.«01_k».proof.Proof.Gen.Output.Launch
public import proofs.«01_k».proof.Proof.Gen.Output.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.Outp.Words

open Cert.Output Cert.Output.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ### The boxes the body reads and writes -/

abbrev r_modulation : Rect S1x6x2048 := Rect.unit (s := S1x6x2048) ![0, 0, 0] S1x6x2048.size inb_S1x6x2048_S1x6x2048_0_0_0
abbrev r_half : Rect S512x1024 := Rect.unit (s := S512x1024) ![0, 0] S512x1024.size inb_S512x1024_S512x1024_0_0
abbrev r_lower : Rect S2048x2048 := Rect.unit (s := S2048x2048) ![0, 0] S1024x2048.size inb_S2048x2048_S1024x2048_0_0
abbrev r_upper : Rect S2048x2048 := Rect.unit (s := S2048x2048) ![1024, 0] S1024x2048.size inb_S2048x2048_S1024x2048_1024_0
abbrev r_rows : Rect S512x2048 := Rect.unit (s := S512x2048) ![0, 0] S512x2048.size inb_S512x2048_S512x2048_0_0
abbrev r_line : Rect S1x2048 := Rect.unit (s := S1x2048) ![0, 0] S1x2048.size inb_S1x2048_S1x2048_0_0
abbrev r_router : Rect S2048x128 := Rect.unit (s := S2048x128) ![0, 0] S2048x128.size inb_S2048x128_S2048x128_0_0
abbrev r_bias : Rect S1x128 := Rect.unit (s := S1x128) ![0, 0] S1x128.size inb_S1x128_S1x128_0_0
abbrev r_stats : Rect S512x128 := Rect.unit (s := S512x128) ![0, 0] S512x128.size inb_S512x128_S512x128_0_0
/-- Line 0 of every token. -/
abbrev r_packed0 : Rect S4096x128 := ⟨(⟨![0, 0], S512x128.size, ![8, 1], inb_S4096x128_S512x128_0_0_s_8_1⟩ : LoadRect S4096x128), spos_8_1⟩
/-- Line 1 of every token. -/
abbrev r_packed1 : Rect S4096x128 := ⟨(⟨![1, 0], S512x128.size, ![8, 1], inb_S4096x128_S512x128_1_0_s_8_1⟩ : LoadRect S4096x128), spos_8_1⟩
/-- Line 2 of every token. -/
abbrev r_packed2 : Rect S4096x128 := ⟨(⟨![2, 0], S512x128.size, ![8, 1], inb_S4096x128_S512x128_2_0_s_8_1⟩ : LoadRect S4096x128), spos_8_1⟩
/-- Line 3 of every token. -/
abbrev r_packed3 : Rect S4096x128 := ⟨(⟨![3, 0], S512x128.size, ![8, 1], inb_S4096x128_S512x128_3_0_s_8_1⟩ : LoadRect S4096x128), spos_8_1⟩
/-- Line 4 of every token. -/
abbrev r_packed4 : Rect S4096x128 := ⟨(⟨![4, 0], S512x128.size, ![8, 1], inb_S4096x128_S512x128_4_0_s_8_1⟩ : LoadRect S4096x128), spos_8_1⟩
/-- Line 5 of every token. -/
abbrev r_packed5 : Rect S4096x128 := ⟨(⟨![5, 0], S512x128.size, ![8, 1], inb_S4096x128_S512x128_5_0_s_8_1⟩ : LoadRect S4096x128), spos_8_1⟩
/-- Line 6 of every token. -/
abbrev r_packed6 : Rect S4096x128 := ⟨(⟨![6, 0], S512x128.size, ![8, 1], inb_S4096x128_S512x128_6_0_s_8_1⟩ : LoadRect S4096x128), spos_8_1⟩
/-- Line 7 of every token. -/
abbrev r_packed7 : Rect S4096x128 := ⟨(⟨![7, 0], S512x128.size, ![8, 1], inb_S4096x128_S512x128_7_0_s_8_1⟩ : LoadRect S4096x128), spos_8_1⟩

/-! ### The body's values over the blocks it is given, under their printed names -/

/-- The width the means are taken over. -/
abbrev scale : F .f32 := Scalar.ofBits .f32 0x45000000#32
def v1 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S6x2048 .f32 :=
  k0_pay2 (View.ld x4 r_modulation)
def v21 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x2048 .f32 :=
  k0_pay3 (View.ld x6 r_line)
def v23 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x2048 .f32 :=
  k0_pay4 (View.ld x7 r_line)
def v29 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S512x2048 .f32 :=
  k0_pay5 (View.ld x4 r_modulation) (View.ld x0 r_half) (View.ld x5 r_lower) (View.ld x1 r_half) (View.ld x5 r_upper) (View.ld x2 r_rows) (View.ld x3 r_rows)
def v32 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S512x1 .f32 :=
  k0_pay6 (View.ld x4 r_modulation) (View.ld x0 r_half) (View.ld x5 r_lower) (View.ld x1 r_half) (View.ld x5 r_upper) (View.ld x2 r_rows) (View.ld x3 r_rows)
def v52 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S512x2048 .f32 :=
  k0_pay8 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale
def v55 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : IVec S512x1024 32 :=
  k0_pay9 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale
def v68 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : IVec S512x128 32 :=
  k0_pay16 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale
def v80 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S128x512 .f32 :=
  k0_pay18 (v52 x0 x1 x2 x3 x4 x5 x6 x7 x8 x9) (View.ld x8 r_router) (View.ld x9 r_bias)
def v82 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S8x512 .f32 :=
  k0_pay19 (F := F)
def v96 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x512 .f32 :=
  k0_pay23 (v52 x0 x1 x2 x3 x4 x5 x6 x7 x8 x9) (View.ld x8 r_router) (View.ld x9 r_bias)
def v105 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x512 .f32 :=
  k0_pay24 (v52 x0 x1 x2 x3 x4 x5 x6 x7 x8 x9) (View.ld x8 r_router) (View.ld x9 r_bias)
def v106 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S8x512 .f32 :=
  k0_pay25 (v52 x0 x1 x2 x3 x4 x5 x6 x7 x8 x9) (View.ld x8 r_router) (View.ld x9 r_bias)
def v108 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : IVec S1x512 1 :=
  k0_pay26 (v52 x0 x1 x2 x3 x4 x5 x6 x7 x8 x9) (View.ld x8 r_router) (View.ld x9 r_bias)
def v109 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S8x512 .f32 :=
  k0_pay27 (v52 x0 x1 x2 x3 x4 x5 x6 x7 x8 x9) (View.ld x8 r_router) (View.ld x9 r_bias)
def v132 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x512 .f32 :=
  k0_pay30 (v80 x0 x1 x2 x3 x4 x5 x6 x7 x8 x9) (v82 x0 x1 x2 x3 x4 x5 x6 x7 x8 x9) (v96 x0 x1 x2 x3 x4 x5 x6 x7 x8 x9) (v106 x0 x1 x2 x3 x4 x5 x6 x7 x8 x9) (v108 x0 x1 x2 x3 x4 x5 x6 x7 x8 x9) (v109 x0 x1 x2 x3 x4 x5 x6 x7 x8 x9)
def v144 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x512 .f32 :=
  k0_pay33 (v80 x0 x1 x2 x3 x4 x5 x6 x7 x8 x9) (v82 x0 x1 x2 x3 x4 x5 x6 x7 x8 x9) (v96 x0 x1 x2 x3 x4 x5 x6 x7 x8 x9) (v106 x0 x1 x2 x3 x4 x5 x6 x7 x8 x9) (v108 x0 x1 x2 x3 x4 x5 x6 x7 x8 x9) (v109 x0 x1 x2 x3 x4 x5 x6 x7 x8 x9)
def v149 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x512 .f32 :=
  k0_pay35 (v80 x0 x1 x2 x3 x4 x5 x6 x7 x8 x9) (v82 x0 x1 x2 x3 x4 x5 x6 x7 x8 x9) (v96 x0 x1 x2 x3 x4 x5 x6 x7 x8 x9) (v105 x0 x1 x2 x3 x4 x5 x6 x7 x8 x9) (v106 x0 x1 x2 x3 x4 x5 x6 x7 x8 x9) (v108 x0 x1 x2 x3 x4 x5 x6 x7 x8 x9) (v109 x0 x1 x2 x3 x4 x5 x6 x7 x8 x9)
def v151 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : IVec S8x512 1 :=
  k0_pay36 (v82 x0 x1 x2 x3 x4 x5 x6 x7 x8 x9)
def v153 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : IVec S8x512 1 :=
  k0_pay37 (v82 x0 x1 x2 x3 x4 x5 x6 x7 x8 x9)
def v154 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : FVec F S1x512 .f32 :=
  k0_pay38 (v80 x0 x1 x2 x3 x4 x5 x6 x7 x8 x9) (v82 x0 x1 x2 x3 x4 x5 x6 x7 x8 x9) (v96 x0 x1 x2 x3 x4 x5 x6 x7 x8 x9) (v105 x0 x1 x2 x3 x4 x5 x6 x7 x8 x9) (v106 x0 x1 x2 x3 x4 x5 x6 x7 x8 x9) (v108 x0 x1 x2 x3 x4 x5 x6 x7 x8 x9) (v109 x0 x1 x2 x3 x4 x5 x6 x7 x8 x9)
def v156 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : IVec S8x512 1 :=
  k0_pay39 (v82 x0 x1 x2 x3 x4 x5 x6 x7 x8 x9)

/-! ### What the body leaves in each result's buffer -/

/-- The normed tokens: one whole store. -/
def left10 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : Vec F S512x2048 .f32 :=
  View.canon [⟨r_rows, k0_pay7 (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale⟩]

theorem whole10 (p : Vec F S512x2048 .f32) (y : S512x2048.Idx) :
    ∃ q ∈ ([⟨r_rows, p⟩] : List (View.Piece (Elt F) S512x2048 .f32)), y ∈ q.1.set :=
  View.cover_of_tiled [⟨r_rows, p⟩] S512x2048.size (by rfl) y

/-- The packed tokens, as words: eight lines a token, the last stored first. -/
def left11 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : Vec F S4096x128 .i32 :=
  View.canon [⟨r_packed7, k0_pay17 (v55 x0 x1 x2 x3 x4 x5 x6 x7 x8 x9)⟩, ⟨r_packed6, v68 x0 x1 x2 x3 x4 x5 x6 x7 x8 x9⟩, ⟨r_packed5, k0_pay15 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale⟩, ⟨r_packed4, k0_pay14 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale⟩, ⟨r_packed3, k0_pay13 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale⟩, ⟨r_packed2, k0_pay12 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale⟩, ⟨r_packed1, k0_pay11 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale⟩, ⟨r_packed0, k0_pay10 (v1 x0 x1 x2 x3 x4 x5 x6 x7 x8 x9) (v21 x0 x1 x2 x3 x4 x5 x6 x7 x8 x9) (v23 x0 x1 x2 x3 x4 x5 x6 x7 x8 x9) (v29 x0 x1 x2 x3 x4 x5 x6 x7 x8 x9) (v32 x0 x1 x2 x3 x4 x5 x6 x7 x8 x9) scale⟩]

theorem on_line0 (y : S4096x128.Idx) (h : (y 0).val % 8 = 0) : y ∈ r_packed0.set := by
  have hy : (y 0).val < 4096 := (y 0).isLt
  rw [LoadRect.mem_set]
  intro a
  match a with
  | ⟨0, _⟩ => exact ⟨(y 0).val / 8, show (y 0).val / 8 < 512 by omega, show (y 0).val = 0 + 8 * ((y 0).val / 8) by omega⟩
  | ⟨1, _⟩ => exact ⟨(y 1).val, (y 1).isLt, show (y 1).val = 0 + 1 * (y 1).val by omega⟩
theorem on_line1 (y : S4096x128.Idx) (h : (y 0).val % 8 = 1) : y ∈ r_packed1.set := by
  have hy : (y 0).val < 4096 := (y 0).isLt
  rw [LoadRect.mem_set]
  intro a
  match a with
  | ⟨0, _⟩ => exact ⟨(y 0).val / 8, show (y 0).val / 8 < 512 by omega, show (y 0).val = 1 + 8 * ((y 0).val / 8) by omega⟩
  | ⟨1, _⟩ => exact ⟨(y 1).val, (y 1).isLt, show (y 1).val = 0 + 1 * (y 1).val by omega⟩
theorem on_line2 (y : S4096x128.Idx) (h : (y 0).val % 8 = 2) : y ∈ r_packed2.set := by
  have hy : (y 0).val < 4096 := (y 0).isLt
  rw [LoadRect.mem_set]
  intro a
  match a with
  | ⟨0, _⟩ => exact ⟨(y 0).val / 8, show (y 0).val / 8 < 512 by omega, show (y 0).val = 2 + 8 * ((y 0).val / 8) by omega⟩
  | ⟨1, _⟩ => exact ⟨(y 1).val, (y 1).isLt, show (y 1).val = 0 + 1 * (y 1).val by omega⟩
theorem on_line3 (y : S4096x128.Idx) (h : (y 0).val % 8 = 3) : y ∈ r_packed3.set := by
  have hy : (y 0).val < 4096 := (y 0).isLt
  rw [LoadRect.mem_set]
  intro a
  match a with
  | ⟨0, _⟩ => exact ⟨(y 0).val / 8, show (y 0).val / 8 < 512 by omega, show (y 0).val = 3 + 8 * ((y 0).val / 8) by omega⟩
  | ⟨1, _⟩ => exact ⟨(y 1).val, (y 1).isLt, show (y 1).val = 0 + 1 * (y 1).val by omega⟩
theorem on_line4 (y : S4096x128.Idx) (h : (y 0).val % 8 = 4) : y ∈ r_packed4.set := by
  have hy : (y 0).val < 4096 := (y 0).isLt
  rw [LoadRect.mem_set]
  intro a
  match a with
  | ⟨0, _⟩ => exact ⟨(y 0).val / 8, show (y 0).val / 8 < 512 by omega, show (y 0).val = 4 + 8 * ((y 0).val / 8) by omega⟩
  | ⟨1, _⟩ => exact ⟨(y 1).val, (y 1).isLt, show (y 1).val = 0 + 1 * (y 1).val by omega⟩
theorem on_line5 (y : S4096x128.Idx) (h : (y 0).val % 8 = 5) : y ∈ r_packed5.set := by
  have hy : (y 0).val < 4096 := (y 0).isLt
  rw [LoadRect.mem_set]
  intro a
  match a with
  | ⟨0, _⟩ => exact ⟨(y 0).val / 8, show (y 0).val / 8 < 512 by omega, show (y 0).val = 5 + 8 * ((y 0).val / 8) by omega⟩
  | ⟨1, _⟩ => exact ⟨(y 1).val, (y 1).isLt, show (y 1).val = 0 + 1 * (y 1).val by omega⟩
theorem on_line6 (y : S4096x128.Idx) (h : (y 0).val % 8 = 6) : y ∈ r_packed6.set := by
  have hy : (y 0).val < 4096 := (y 0).isLt
  rw [LoadRect.mem_set]
  intro a
  match a with
  | ⟨0, _⟩ => exact ⟨(y 0).val / 8, show (y 0).val / 8 < 512 by omega, show (y 0).val = 6 + 8 * ((y 0).val / 8) by omega⟩
  | ⟨1, _⟩ => exact ⟨(y 1).val, (y 1).isLt, show (y 1).val = 0 + 1 * (y 1).val by omega⟩
theorem on_line7 (y : S4096x128.Idx) (h : (y 0).val % 8 = 7) : y ∈ r_packed7.set := by
  have hy : (y 0).val < 4096 := (y 0).isLt
  rw [LoadRect.mem_set]
  intro a
  match a with
  | ⟨0, _⟩ => exact ⟨(y 0).val / 8, show (y 0).val / 8 < 512 by omega, show (y 0).val = 7 + 8 * ((y 0).val / 8) by omega⟩
  | ⟨1, _⟩ => exact ⟨(y 1).val, (y 1).isLt, show (y 1).val = 0 + 1 * (y 1).val by omega⟩

/-- Every line is some token's line `k`, for one of the eight `k`. -/
theorem whole11 (p0 p1 p2 p3 p4 p5 p6 p7 : Vec F S512x128 .i32) (y : S4096x128.Idx) :
    ∃ q ∈ ([⟨r_packed7, p7⟩, ⟨r_packed6, p6⟩, ⟨r_packed5, p5⟩, ⟨r_packed4, p4⟩, ⟨r_packed3, p3⟩, ⟨r_packed2, p2⟩, ⟨r_packed1, p1⟩, ⟨r_packed0, p0⟩] : List (View.Piece (Elt F) S4096x128 .i32)), y ∈ q.1.set := by
  have h8 : (y 0).val % 8 < 8 := Nat.mod_lt _ (by decide)
  rcases (by omega : (y 0).val % 8 = 0 ∨ (y 0).val % 8 = 1 ∨ (y 0).val % 8 = 2 ∨ (y 0).val % 8 = 3 ∨ (y 0).val % 8 = 4
    ∨ (y 0).val % 8 = 5 ∨ (y 0).val % 8 = 6 ∨ (y 0).val % 8 = 7) with h | h | h | h | h | h | h | h
  · exact ⟨⟨r_packed0, p0⟩, .tail _ (.tail _ (.tail _ (.tail _ (.tail _ (.tail _ (.tail _ (.head _))))))), on_line0 y h⟩
  · exact ⟨⟨r_packed1, p1⟩, .tail _ (.tail _ (.tail _ (.tail _ (.tail _ (.tail _ (.head _)))))), on_line1 y h⟩
  · exact ⟨⟨r_packed2, p2⟩, .tail _ (.tail _ (.tail _ (.tail _ (.tail _ (.head _))))), on_line2 y h⟩
  · exact ⟨⟨r_packed3, p3⟩, .tail _ (.tail _ (.tail _ (.tail _ (.head _)))), on_line3 y h⟩
  · exact ⟨⟨r_packed4, p4⟩, .tail _ (.tail _ (.tail _ (.head _))), on_line4 y h⟩
  · exact ⟨⟨r_packed5, p5⟩, .tail _ (.tail _ (.head _)), on_line5 y h⟩
  · exact ⟨⟨r_packed6, p6⟩, .tail _ (.head _), on_line6 y h⟩
  · exact ⟨⟨r_packed7, p7⟩, .head _, on_line7 y h⟩

/-- The router's statistics: one whole store. -/
def left12 (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) : Vec F S512x128 .f32 :=
  View.canon [⟨r_stats, k0_pay1 (v82 x0 x1 x2 x3 x4 x5 x6 x7 x8 x9) (v96 x0 x1 x2 x3 x4 x5 x6 x7 x8 x9) (v132 x0 x1 x2 x3 x4 x5 x6 x7 x8 x9) (v144 x0 x1 x2 x3 x4 x5 x6 x7 x8 x9) (v149 x0 x1 x2 x3 x4 x5 x6 x7 x8 x9) (v151 x0 x1 x2 x3 x4 x5 x6 x7 x8 x9) (v153 x0 x1 x2 x3 x4 x5 x6 x7 x8 x9) (v154 x0 x1 x2 x3 x4 x5 x6 x7 x8 x9) (v156 x0 x1 x2 x3 x4 x5 x6 x7 x8 x9)⟩]

theorem whole12 (p : Vec F S512x128 .f32) (y : S512x128.Idx) :
    ∃ q ∈ ([⟨r_stats, p⟩] : List (View.Piece (Elt F) S512x128 .f32)), y ∈ q.1.set :=
  View.cover_of_tiled [⟨r_stats, p⟩] S512x128.size (by rfl) y

/-! ### The body's triple -/

/-! From the blocks and any contents of the results' buffers, the body runs and leaves the blocks as they were and the results' buffers at `left10`, `left11` and `left12` of them. -/
set_option maxHeartbeats 2000000 in
theorem sound_kernel (c : Dev nD) (E : Set ℕ) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x6x2048 .f32) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x128 .bf16) (harg9 : arg9.IsWhole) (arg10 : Memref sig .tc .vmem S1x128 .f32) (harg10 : arg10.IsWhole) (arg11 : Memref sig .tc .vmem S512x2048 .f32) (harg11 : arg11.IsWhole) (arg12 : Memref sig .tc .vmem S4096x128 .i32) (harg12 : arg12.IsWhole) (arg13 : Memref sig .tc .vmem S512x128 .f32) (harg13 : arg13.IsWhole)
    (x0 : Vec F S512x1024 .bf16) (x1 : Vec F S512x1024 .bf16) (x2 : Vec F S512x2048 .f32) (x3 : Vec F S512x2048 .f32) (x4 : Vec F S1x6x2048 .f32) (x5 : Vec F S2048x2048 .bf16) (x6 : Vec F S1x2048 .f32) (x7 : Vec F S1x2048 .f32) (x8 : Vec F S2048x128 .bf16) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (left10 x0 x1 x2 x3 x4 x5 x6 x7 x8 x9) ∗ owns (c : Thread nD τ) arg12 fullShare (left11 x0 x1 x2 x3 x4 x5 x6 x7 x8 x9) ∗ owns (c : Thread nD τ) arg13 fullShare (left12 x0 x1 x2 x3 x4 x5 x6 x7 x8 x9)) -∗ K ⟨⟩))
      ⊢ wp frame (wpE (defs₀ (F := F)) Variants.none c none) E (cc0_mixer_out i arg1 harg1 arg2 harg2 arg3 harg3 arg4 harg4 arg5 harg5 arg6 harg6 arg7 harg7 arg8 harg8 arg9 harg9 arg10 harg10 arg11 harg11 arg12 harg12 arg13 harg13) K := by
  simp only [cc0_mixer_out_eq_skeleton]; unfold cc0_mixer_out_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (whole10 _)).trans ?_
    rfl
  isplitl [H11]
  · iexists _; isplitr
    swap; · iexact H11
    ipureintro
    refine (View.read_writes_eq_canon _ _ _ (whole11 _ _ _ _ _ _ _ _)).trans ?_
    rfl
  iexists _; isplitr
  swap; · iexact H12
  ipureintro
  refine (View.read_writes_eq_canon _ _ _ (whole12 _)).trans ?_
  rfl

/-- The pipeline's data: each array as the launch finds it, each block kept, each result's buffer at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => left10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => left11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => left12 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The data's arrays are those at the launch. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = left10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after11 (c : Dev nD) (t : Fin cfg0.N) : (dats m 0 c).after 11 t = left11 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after12 (c : Dev nD) (t : Fin cfg0.N) : (dats m 0 c).after 12 t = left12 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0 m c) t d
theorem before0_1 (c : Dev nD) (t : Fin cfg0.N) (d) : (dats m 0 c).before 1 t d = iblk m c 1 t :=
  before0_1_of m (dats m 0 c) (A_eq m c 1) (after1 m c) t d
theorem before0_2 (c : Dev nD) (t : Fin cfg0.N) (d) : (dats m 0 c).before 2 t d = iblk m c 2 t :=
  before0_2_of m (dats m 0 c) (A_eq m c 2) (after2 m c) t d
theorem before0_3 (c : Dev nD) (t : Fin cfg0.N) (d) : (dats m 0 c).before 3 t d = iblk m c 3 t :=
  before0_3_of m (dats m 0 c) (A_eq m c 3) (after3 m c) t d
theorem before0_4 (c : Dev nD) (t : Fin cfg0.N) (d) : (dats m 0 c).before 4 t d = iblk m c 4 t :=
  before0_4_of m (dats m 0 c) (A_eq m c 4) (after4 m c) t d
theorem before0_5 (c : Dev nD) (t : Fin cfg0.N) (d) : (dats m 0 c).before 5 t d = iblk m c 5 t :=
  before0_5_of m (dats m 0 c) (A_eq m c 5) (after5 m c) t d
theorem before0_6 (c : Dev nD) (t : Fin cfg0.N) (d) : (dats m 0 c).before 6 t d = iblk m c 6 t :=
  before0_6_of m (dats m 0 c) (A_eq m c 6) (after6 m c) t d
theorem before0_7 (c : Dev nD) (t : Fin cfg0.N) (d) : (dats m 0 c).before 7 t d = iblk m c 7 t :=
  before0_7_of m (dats m 0 c) (A_eq m c 7) (after7 m c) t d
theorem before0_8 (c : Dev nD) (t : Fin cfg0.N) (d) : (dats m 0 c).before 8 t d = iblk m c 8 t :=
  before0_8_of m (dats m 0 c) (A_eq m c 8) (after8 m c) t d
theorem before0_9 (c : Dev nD) (t : Fin cfg0.N) (d) : (dats m 0 c).before 9 t d = iblk m c 9 t :=
  before0_9_of m (dats m 0 c) (A_eq m c 9) (after9 m c) t d

/-- The body's precondition at a grid point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- The body's postcondition. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The table's row is the body. -/
theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! The launch ends with the arrays at the pipeline's data and every counter at zero. -/
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are kept. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The frame: the arguments are kept and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Outp.Words

end
-- ==== Proof.OutClaims.lean ====
/-
  The output projection and its reference, from equal arguments, end with equal results.
-/
module

public import proofs.«01_k».proof.Defs
public import proofs.«01_k».proof.Proof.OutArrays
public import proofs.«01_k».proof.Proof.OutRef
public import proofs.«01_k».proof.Proof.OutWords
public import proofs.«01_k».proof.Proof.Gen.OutputReferenceIdeal.Run
public import proofs.«01_k».proof.Proof.Gen.OutputReferenceIdeal.Read
public import Idealize.ShloMosaic.Lib.Bf16Pair
public import Idealize.ShloMosaic.Lib.Bf16PairInverse

@[expose] public section

noncomputable section

namespace Cert.Outp

open Idealize.ShloMosaic Idealize.ShloMosaic.TcCoe Idealize.SL.Sem Cert.Proj

/-- The reference runs, keeps its arguments and ends with every counter at zero: it has no counter. -/
theorem frame_reference : Cert.quiescent_OutputReferenceIdeal := fun m ρ _ =>
  (θ_run Cert.OutputReferenceIdeal.defs _ _).mono
    (fun r h => ⟨fun c => (h c).2, sem_eq_zero_of_no_sems (by decide) r.2⟩)
    (Cert.OutputReferenceIdeal.Value.run (F := Ideal) m ρ)

/-- The words of the packed halves are those of their two roundings, in the packing, in the rows stored and in the
    arrays of words. -/
theorem rewritten : Cert.preserves_Output_OutputIdeal :=
  ⟨IdealRules.bf16_pair.bufferStatement _ _, IdealRules.bf16_pair.bufferStatement _ _, IdealRules.bf16_pair.packStatement _,
    IdealRules.bf16_pair.statement _ _⟩

/-- The two programs' results are the same function of the arguments. -/
theorem equal_results : Cert.algebraic_OutputIdeal_OutputReferenceIdeal := by
  intro m ρ m' ρ' _ hag
  refine ⟨fun c i => theNormed m c (i 0).val (i 1).val, ?_, ?_⟩
  · exact (θ_run Cert.OutputIdeal.defs _ _).mono
      (fun _ h c => ⟨((h.1 c).1 10).trans (final_normed m c), h.2 c⟩)
      (θ_run_and (Halves.run_main (F := Ideal) m ρ) (Halves.unchanged (F := Ideal) m ρ))
  · refine (θ_run Cert.OutputReferenceIdeal.defs _ _).mono (fun _ h c => ⟨(h c).1.trans ?_, (h c).2⟩)
      (Cert.OutputReferenceIdeal.Value.run (F := Ideal) m' ρ')
    obtain ⟨h0, h1, h2, h3, h4, h5, h6, h7, _⟩ := hag c
    refine (Cert.OutputReferenceIdeal.Read.val_main_v40_eq (F := Ideal) m' c).trans (funext fun i => ?_)
    refine (ref_normed _ _ _ _ _ _ _ _ i).trans ?_
    have hs := congr (congr (congr (congr (congr (congrArg summed h0) h1) h2) h3) h4) h5
    exact congrFun (congrFun (congr (congr (congrArg normed hs) (congrArg at1 h6)) (congrArg at1 h7)) _) _

end Cert.Outp

end
-- ==== Proof.CtxBlock.lean ====
/-
  The context's projection as functions of natural-number coordinates over the extended reals, and what its body leaves
  of one block of 512 tokens: the modulated tokens in the scratch buffer, the two outputs.
-/
module

public import proofs.«01_k».proof.Proof.ProjSpec
public import proofs.«01_k».proof.Proof.Products
public import proofs.«01_k».proof.Proof.RunReads
public import proofs.«01_k».proof.Proof.Gen.ContextIdeal.Frame

@[expose] public section

noncomputable section

namespace Cert.Ctx

open Idealize.ShloMosaic Cert.Mlstm Cert.ContextIdeal Cert.ContextIdeal.Gen Cert.ContextIdeal.Gen.kernelRun0_A
open Cert.Proj (dot one one_eq at3)

/-- The two results: keys and values, and the gates padded with zero columns. -/
def keysValues (w h : Nat → Nat → EReal) (t l : Nat) : EReal := dot h w t (1024 + l)
def gates (w h : Nat → Nat → EReal) (t l : Nat) : EReal := if l < 16 then dot h w t (4096 + l) else 0

/-- Modulated tokens. -/
def modBlk (fx fm : Nat → Nat → EReal) (t k : Nat) : EReal := fx t k * (one + fm 1 k) + fm 0 k

/-- The modulated tokens of a program's arguments: the context's vectors stand in the ninth row. -/
def modulated (x0 : (⟨2, ![2048, 2048]⟩ : Shape).Idx → EReal) (x1 : (⟨3, ![16, 6, 2048]⟩ : Shape).Idx → EReal) :
    Nat → Nat → EReal := modBlk (at2 x0) (at3 x1 8)

theorem cast_vectors {α : Type} (x : S1x6x2048.Idx → α) (h : S1x6x2048.ShapeCasts S6x2048) (j : S6x2048.Idx) :
    shapeCast S6x2048 x h j = x (ix3 0 (j 0) (j 1)) :=
  shapeCast_apply x h j _ (by rw [Shape.rowMajor_val_three, Shape.rowMajor_val_two]; simp [ix3])

theorem modulated_at {x : Vec Ideal S512x2048 .f32} {md : Vec Ideal S1x6x2048 .f32} {fx fm : Nat → Nat → EReal}
    (hx : ∀ i, x i = fx (i 0).val (i 1).val) (hm : ∀ i, md i = fm (i 1).val (i 2).val) (i : S512x2048.Idx) :
    k0_pay2 x md i = modBlk fx fm (i 0).val (i 1).val := by
  unfold k0_pay2 modBlk
  rw [cast_same]
  pointwise [cast_vectors, hx, hm]
  rw [one_eq]

theorem half_at {h : Vec Ideal S512x2048 .bf16} {w : Vec Ideal S2048x1024 .bf16} {fh fw : Nat → Nat → EReal}
    (hh : ∀ i, h i = fh (i 0).val (i 1).val) (hw : ∀ i, w i = fw (i 0).val (i 1).val) (i : S512x1024.Idx) :
    k0_pay3 h w i = dot fh fw (i 0).val (i 1).val :=
  plain_at (φ₁ := .bf16) (φ₂ := .bf16) (M := 512) (K := 2048) (N := 1024) none _ _ _ hh
    (fun i => (cast_same _ _ i).trans (hw i)) zero_at i

theorem gates_at {h : Vec Ideal S512x2048 .bf16} {w : Vec Ideal S2048x128 .bf16} {fh fw : Nat → Nat → EReal}
    (hh : ∀ i, h i = fh (i 0).val (i 1).val) (hw : ∀ i, w i = fw (i 0).val (i 1).val) (i : S512x128.Idx) :
    k0_pay1 h (k0_pay5 w) i = dot fh fw (i 0).val (i 1).val :=
  plain_at (φ₁ := .bf16) (φ₂ := .bf16) (M := 512) (K := 2048) (N := 128) none _ _ _ hh
    (fun i => (cast_same _ _ i).trans (hw i)) zero_at i

/-- What the blocks of one step hold. -/
structure Reads (W fx fm : Nat → Nat → EReal) (x : Vec Ideal S512x2048 .f32) (md : Vec Ideal S1x6x2048 .f32)
    (w : Vec Ideal S2048x2048 .bf16) (wg : Vec Ideal S2048x128 .bf16) : Prop where
  hx : ∀ i, x i = fx (i 0).val (i 1).val
  hm : ∀ i, md i = fm (i 1).val (i 2).val
  hw : ∀ i, w i = W (i 0).val (1024 + (i 1).val)
  hg : ∀ i, wg i = if (i 1).val < 16 then W (i 0).val (4096 + (i 1).val) else 0

variable {W fx fm : Nat → Nat → EReal} {x : Vec Ideal S512x2048 .f32} {md : Vec Ideal S1x6x2048 .f32}
variable {w : Vec Ideal S2048x2048 .bf16} {wg : Vec Ideal S2048x128 .bf16}
variable (c : Dev nD) (p : grid0.Coords) (a1 : Memref sig .tc .vmem S512x2048 .f32) (h1 : a1.IsWhole)
variable (a2 : Memref sig .tc .vmem S1x6x2048 .f32) (h2 : a2.IsWhole)
variable (a3 : Memref sig .tc .vmem S2048x2048 .bf16) (h3 : a3.IsWhole)
variable (a4 : Memref sig .tc .vmem S2048x128 .bf16) (h4 : a4.IsWhole)
variable (a5 : Memref sig .tc .vmem S512x2048 .bf16) (h5 : a5.IsWhole)
variable (a6 : Memref sig .tc .vmem S512x128 .f32) (h6 : a6.IsWhole)
variable (a7 : Memref sig .tc .vmem S512x2048 .bf16) (h7 : a7.IsWhole)
variable (R : Reads W fx fm x md w wg)
include R

/-- The scratch that keeps the modulated tokens, read back. -/
theorem tokens_at (i : S512x2048.Idx) :
    sl.v15 c a1 h1 a2 h2 a7 x md i = modBlk fx fm (i 0).val (i 1).val := by
  refine (backRows (v := a7) (f := modBlk fx fm) (canon2 ?_
    (View.cover_of_tiledL _ S512x2048.size (by sl_kernel_rfl))) inb_S512x2048_S512x2048_0_0 i).trans
      (congrArg (modBlk fx fm · _) (Nat.zero_add _))
  unfold sl.HS0_1
  simp only [List.forall_mem_cons]
  refine ⟨holdsRows _ fun j => ?_, List.forall_mem_nil _⟩
  rw [Nat.zero_add]
  exact modulated_at (whole2 h1 R.hx inb_S512x2048_S512x2048_0_0)
    (slot3 h2 (f := fun _ => fm) R.hm inb_S1x6x2048_S1x6x2048_0_0_0) j

/-- The first output, a half of the columns at a time. -/
theorem holds_keysValues : ∀ pc ∈ (kernelRun0_A (F := Ideal) c p a1 h1 a2 h2 a3 h3 a4 h4 a5 h5 a6 h6 a7 h7 x md w wg).1,
    Holds2 (e := .bf16) (keysValues W (modBlk fx fm)) pc := by
  have half := fun (o : Nat) i1 i2 => holds2 (e := .bf16) (a := 512) (b := 2048) (m := 512) (n := 1024) (r := 0) (s := o)
    (f := keysValues W (modBlk fx fm)) i1 fun i =>
      (half_at (fw := fun k l => W k (1024 + (o + l))) (tokens_at c a1 h1 a2 h2 a7 R)
        (fun i => (read2 (m := 2048) (n := 1024) (r := 0) (s := o) (f := fun k l => W k (1024 + l)) h3 R.hw i2 i).trans
          (congrArg (fun k => W k (1024 + (o + (i 1).val))) (Nat.zero_add _))) i).trans
        (congrArg (keysValues W (modBlk fx fm) · (o + (i 1).val)) (Nat.zero_add (i 0).val).symm)
  unfold kernelRun0_A
  simp only [List.forall_mem_cons]
  refine ⟨?_, ?_, List.forall_mem_nil _⟩
  · exact half 1024 inb_S512x2048_S512x1024_0_1024 inb_S2048x2048_S2048x1024_0_1024
  · exact half 0 inb_S512x2048_S512x1024_0_0 inb_S2048x2048_S2048x1024_0_0

/-- The second: the gates, and zero in the columns that pad them. -/
theorem holds_gates : ∀ pc ∈ (kernelRun0_A (F := Ideal) c p a1 h1 a2 h2 a3 h3 a4 h4 a5 h5 a6 h6 a7 h7 x md w wg).2.1,
    Holds2 (e := .f32) (gates W (modBlk fx fm)) pc := by
  unfold kernelRun0_A
  simp only [List.forall_mem_cons]
  refine ⟨holdsRows _ fun i => ?_, List.forall_mem_nil _⟩
  rw [Nat.zero_add]
  refine (gates_at (fw := fun k l => if l < 16 then W k (4096 + l) else 0) (tokens_at c a1 h1 a2 h2 a7 R)
    (whole2 h4 (f := fun k l => if l < 16 then W k (4096 + l) else 0) R.hg inb_S2048x128_S2048x128_0_0) i).trans ?_
  unfold dot gates
  by_cases h : (i 1).val < 16
  · simp only [if_pos h]; rfl
  · simp only [if_neg h, mul_zero, Finset.sum_const_zero]

end Cert.Ctx

end
-- ==== Proof.CtxArrays.lean ====
/-
  The context's projection: the weights its program prepares, and its result arrays, every block of 512 tokens, so every
  element, as the stated function of the arguments.
-/
module

public import proofs.«01_k».proof.Proof.CtxBlock
public import proofs.«01_k».proof.Proof.ProjTables
public import proofs.«01_k».proof.Proof.Gen.ContextIdeal.Value
public import Idealize.ShloMosaic.Lib.Pipeline.ValueKit

@[expose] public section

set_option maxRecDepth 16384

noncomputable section

namespace Cert.Ctx

open Idealize.ShloMosaic Idealize.ShloMosaic.TcCoe Idealize.SL.Sem Cert.Mlstm Cert.ContextIdeal Cert.ContextIdeal.Gen
open Idealize.ShloMosaic.Pipeline (Dat)
open Cert.Proj (dot one one_eq at3 at3_of at3_congr padded zero_int)

variable (m : (ℓ : Loc nD τ sig) → Buf (Elt Ideal) ℓ) (c : Dev nD)

/-! ### The prepared weights -/

set_option maxHeartbeats 2000000 in
theorem V_w : (V m c main_v4 : FVec Ideal S2048x2048 .bf16)
    = (truncf (F := Ideal) .bf16 (extractStridedSlice S2048x2048 ![0, 1024] (m ((c : Thread nD τ).loc main_arg2) : FVec Ideal S2048x6160 .f32) slices_S2048x6160_S2048x2048_0_1024) bitsLt_bf16_f32 : FVec Ideal S2048x2048 .bf16) := by
  show StableHlo.after (List.flatten [hostOps0, hostOps0_1, hostOps0_2]) _ _ = _
  unfold hostOps0 hostOps0_1 hostOps0_2
  simp only [List.flatten_cons, List.flatten_nil, List.append_nil, List.cons_append, List.nil_append]
  after_results

set_option maxHeartbeats 2000000 in
theorem V_wg : (V m c main_v2 : FVec Ideal S2048x128 .bf16)
    = (truncf (F := Ideal) .bf16 (pad S2048x128 ![0, 0] ![0, 112] ![0, 0] (extractStridedSlice S2048x16 ![0, 4096] (m ((c : Thread nD τ).loc main_arg2) : FVec Ideal S2048x6160 .f32) slices_S2048x6160_S2048x16_0_4096)
        (sitofp (F := Ideal) .f32 (constantI S_ 32 0#32)) pads_S2048x16_S2048x128_000_01120 h_S_) bitsLt_bf16_f32 : FVec Ideal S2048x128 .bf16) := by
  show StableHlo.after (List.flatten [hostOps0, hostOps0_1, hostOps0_2]) _ _ = _
  unfold hostOps0 hostOps0_1 hostOps0_2
  simp only [List.flatten_cons, List.flatten_nil, List.append_nil, List.cons_append, List.nil_append]
  after_results
  rfl

theorem w_at (i : S2048x2048.Idx) : (V m c main_v4 : FVec Ideal S2048x2048 .bf16) i
    = at2 (m ((c : Thread nD τ).loc main_arg2)) (i 0).val (1024 + (i 1).val) :=
  (congrFun (V_w m c) i).trans ((at2_of (a := 2048) (b := 6160) (m ((c : Thread nD τ).loc main_arg2)) _).trans
    (congrArg₂ _ (Nat.zero_add _) rfl))

theorem wg_at (i : S2048x128.Idx) : (V m c main_v2 : FVec Ideal S2048x128 .bf16) i
    = if (i 1).val < 16 then at2 (m ((c : Thread nD τ).loc main_arg2)) (i 0).val (4096 + (i 1).val) else 0 :=
  (congrFun (V_wg m c) i).trans (padded (n := 2048)
    (extractStridedSlice S2048x16 ![0, 4096] (m ((c : Thread nD τ).loc main_arg2) : FVec Ideal S2048x6160 .f32) slices_S2048x6160_S2048x16_0_4096)
    (fun k l => at2 (m ((c : Thread nD τ).loc main_arg2)) k (4096 + l))
    (fun j => (at2_of (a := 2048) (b := 6160) (m ((c : Thread nD τ).loc main_arg2)) _).trans
      (congrArg₂ _ (Nat.zero_add _) rfl)) _ zero_int pads_S2048x16_S2048x128_000_01120 h_S_ i)

/-! ### The windows' places -/

theorem at_0 : ∀ t : Fin cfg0.N, win0_0.index t = ![(grid0.coords t 0).val, 0] :=
  (by decide +kernel : ∀ t : Fin grid0.N, _)
theorem at_1 : ∀ t : Fin cfg0.N, win0_1.index t = ![8, 0, 0] := (by decide +kernel : ∀ t : Fin grid0.N, _)
theorem at_2 : ∀ t : Fin cfg0.N, win0_2.index t = ![0, 0] := (by decide +kernel : ∀ t : Fin grid0.N, _)
theorem at_3 : ∀ t : Fin cfg0.N, win0_3.index t = ![0, 0] := (by decide +kernel : ∀ t : Fin grid0.N, _)
theorem at_4 : ∀ t : Fin cfg0.N, win0_4.index t = ![(grid0.coords t 0).val, 0] :=
  (by decide +kernel : ∀ t : Fin grid0.N, _)
theorem at_5 : ∀ t : Fin cfg0.N, win0_5.index t = ![(grid0.coords t 0).val, 0] :=
  (by decide +kernel : ∀ t : Fin grid0.N, _)

/-- The weights and the modulated tokens of a program's arguments. -/
abbrev theWeights : Nat → Nat → EReal := at2 (m ((c : Thread nD τ).loc main_arg2))
abbrev theTokens : Nat → Nat → EReal := modulated (m ((c : Thread nD τ).loc main_arg0)) (m ((c : Thread nD τ).loc main_arg1))

/-- The first token of a grid point's block. -/
def first (t : Fin cfg0.N) : Nat := 512 * (grid0.coords t 0).val

set_option maxHeartbeats 2000000 in
theorem reads (t : Fin cfg0.N) : Reads (theWeights m c)
    (fun s k => at2 (m ((c : Thread nD τ).loc main_arg0)) (first t + s) k)
    (at3 (m ((c : Thread nD τ).loc main_arg1)) 8)
    (iblk m c 0 t) (iblk m c 1 t) (iblk m c 2 t) (iblk m c 3 t) where
  hx i := (congrFun (V_main_arg0 m c) _).trans ((at2_of (a := 2048) (b := 2048) _ _).trans
    (congrArg₂ _ (by unfold first; blk_simp [at_0]; omega) (by blk_simp [at_0])))
  hm i := (congrFun (V_main_arg1 m c) _).trans ((at3_of (a := 16) (b := 6) (c := 2048) _ _).trans
    (at3_congr _ (by blk_simp [at_1]) (by blk_simp [at_1]) (by blk_simp [at_1])))
  hw i := (w_at m c _).trans (congrArg₂ (fun k l => at2 (m ((c : Thread nD τ).loc main_arg2)) k (1024 + l))
    (by blk_simp [at_2]) (by blk_simp [at_2]))
  hg i := (wg_at m c _).trans (congrArg₂ (fun k l => if l < 16 then at2 (m ((c : Thread nD τ).loc main_arg2)) k (4096 + l) else 0)
    (by blk_simp [at_3]) (by blk_simp [at_3]))

set_option maxHeartbeats 2000000 in
theorem block_keysValues (t : Fin cfg0.N) (y : S512x2048.Idx) :
    (outsAt0 m c t).1 y = keysValues (theWeights m c) (theTokens m c) (first t + (y 0).val) (y 1).val := by
  unfold outsAt0 out0_A_4
  dsimp only
  rw [View.read_writes_junk_apply_eq_canon]
  exact canon2 (a := 512) (b := 2048) (e := .bf16) (f := keysValues (theWeights m c) fun s k => theTokens m c (first t + s) k)
    (holds_keysValues c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (reads m c t))
    (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t)) y

set_option maxHeartbeats 2000000 in
theorem block_gates (t : Fin cfg0.N) (y : S512x128.Idx) :
    (outsAt0 m c t).2 y = gates (theWeights m c) (theTokens m c) (first t + (y 0).val) (y 1).val := by
  unfold outsAt0 out0_A_5
  dsimp only
  rw [View.read_writes_junk_apply_eq_canon]
  exact canon2 (a := 512) (b := 128) (e := .f32) (f := gates (theWeights m c) fun s k => theTokens m c (first t + s) k)
    (holds_gates c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (reads m c t))
    (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t)) y

theorem final_keysValues : (dats m 0 c).arrAt 4 cfg0.N
    = fun i => keysValues (theWeights m c) (theTokens m c) (i 0).val (i 1).val := by
  refine (dats m 0 c).arrAt_eq_of_covers 4 _ (by decide +kernel) fun t hf y => ?_
  blk_simp
  rw [after0_4]
  refine (block_keysValues m c t y).trans (congrArg₂ (keysValues (theWeights m c) (theTokens m c)) ?_ ?_)
  · unfold first; blk_simp [at_4]; omega
  · blk_simp [at_4]

theorem final_gates : (dats m 0 c).arrAt 5 cfg0.N
    = fun i => gates (theWeights m c) (theTokens m c) (i 0).val (i 1).val := by
  refine (dats m 0 c).arrAt_eq_of_covers 5 _ (by decide +kernel) fun t hf y => ?_
  blk_simp
  rw [after0_5]
  refine (block_gates m c t y).trans (congrArg₂ (gates (theWeights m c) (theTokens m c)) ?_ ?_)
  · unfold first; blk_simp [at_5]; omega
  · blk_simp [at_5]

end Cert.Ctx

end
-- ==== Proof.CtxRef.lean ====
/-
  The context's projection as the reference computes it, read at an index.
-/
module

public import proofs.«01_k».proof.Proof.CtxBlock
public import proofs.«01_k».proof.Proof.ProjTables
public import proofs.«01_k».proof.Proof.Gen.ContextReferenceIdeal.Read

@[expose] public section

set_option maxRecDepth 16384

noncomputable section

namespace Cert.Ctx

open Idealize.ShloMosaic Cert.Mlstm Cert.ContextReferenceIdeal Cert.ContextReferenceIdeal.Gen
open Cert.ContextReferenceIdeal.Read
open Cert.Proj (dot one one_eq at3 at3_of at3_congr padded zero_int)

variable (x0 : (⟨S2048x2048, .f32⟩ : BufTy).Contents (Elt Ideal)) (x1 : (⟨S16x6x2048, .f32⟩ : BufTy).Contents (Elt Ideal))
  (x2 : (⟨S2048x6160, .f32⟩ : BufTy).Contents (Elt Ideal))

/-- The modulated tokens, a batch row of 256 at a time. -/
theorem ref_v12 (i : S8x256x2048.Idx) : val_main_v12 (F := Ideal) x0 x1 i
    = modulated x0 x1 (256 * (i 0).val + (i 1).val) (i 2).val := by
  have h0 : (i 0).val < 8 := (i 0).isLt
  have h1 : (i 1).val < 256 := (i 1).isLt
  have h2 : (i 2).val < 2048 := (i 2).isLt
  rw [val_main_v12_apply, val_main_v7_apply, val_main_v0_apply, val_main_v6_apply, val_main_v5_apply, val_main_v4_apply,
    val_main_v3_apply, val_main_cst_apply, val_main_v2_apply, val_main_v1_apply, val_main_v11_apply, val_main_v10_apply,
    val_main_v9_apply, val_main_v8_apply]
  unfold modulated modBlk
  refine congrArg₂ (· + ·) (congrArg₂ (· * ·) ?_ (congrArg (one + ·) ?_)) ?_
  · refine (at2_of (a := 2048) (b := 2048) x0 _).trans (congrArg₂ _ ?_ ?_)
    · show (((i 0).val * 256 + (i 1).val) * 2048 + (i 2).val) / 2048 = _; omega
    · show (((i 0).val * 256 + (i 1).val) * 2048 + (i 2).val) % 2048 = _; omega
  · exact (at3_of (a := 16) (b := 6) (c := 2048) x1 _).trans (at3_congr x1 rfl rfl (Nat.mod_eq_of_lt h2))
  · exact (at3_of (a := 16) (b := 6) (c := 2048) x1 _).trans (at3_congr x1 rfl rfl (Nat.mod_eq_of_lt h2))

/-- The product with all the weights. -/
theorem ref_v13 (i : S8x256x6160.Idx) : val_main_v13 (F := Ideal) x0 x1 x2 i
    = dot (modulated x0 x1) (at2 x2) (256 * (i 0).val + (i 1).val) (i 2).val := by
  rw [val_main_v13_apply]
  unfold dot
  exact Finset.sum_congr rfl fun k _ => congrArg₂ (· * ·) (ref_v12 x0 x1 _) (at2_of (a := 2048) (b := 6160) x2 _)

/-- The two results. -/
theorem ref_keysValues (i : S2048x2048.Idx) : val_main_v19 (F := Ideal) x0 x1 x2 i
    = keysValues (at2 x2) (modulated x0 x1) (i 0).val (i 1).val := by
  have h1 : (i 1).val < 2048 := (i 1).isLt
  have h0 : (i 0).val < 2048 := (i 0).isLt
  rw [val_main_v19_apply, val_main_v18_apply, val_main_v17_apply, ref_v13]
  refine congrArg₂ (dot (modulated x0 x1) (at2 x2)) ?_ ?_
  · show 256 * (((i 0).val * 2048 + (i 1).val) / 524288) + ((i 0).val * 2048 + (i 1).val) / 2048 % 256 = _
    omega
  · show 1024 + ((i 0).val * 2048 + (i 1).val) % 2048 = _
    omega

theorem ref_v15 (i : S2048x16.Idx) : val_main_v15 (F := Ideal) x0 x1 x2 i
    = dot (modulated x0 x1) (at2 x2) (i 0).val (4096 + (i 1).val) := by
  have h1 : (i 1).val < 16 := (i 1).isLt
  have h0 : (i 0).val < 2048 := (i 0).isLt
  rw [val_main_v15_apply, val_main_v14_apply, ref_v13]
  refine congrArg₂ (dot (modulated x0 x1) (at2 x2)) ?_ ?_
  · show 256 * (((i 0).val * 16 + (i 1).val) / 4096) + ((i 0).val * 16 + (i 1).val) / 16 % 256 = _
    omega
  · show 4096 + ((i 0).val * 16 + (i 1).val) % 16 = _
    omega

theorem ref_gates (i : S2048x128.Idx) : val_main_v16 (F := Ideal) x0 x1 x2 i
    = gates (at2 x2) (modulated x0 x1) (i 0).val (i 1).val := by
  unfold val_main_v16
  exact padded (n := 2048) (val_main_v15 (F := Ideal) x0 x1 x2)
    (fun t l => dot (modulated x0 x1) (at2 x2) t (4096 + l)) (ref_v15 x0 x1 x2)
    (val_main_call0_v0 (F := Ideal)) zero_int pads_S2048x16_S2048x128_000_01120 h_S_ i

end Cert.Ctx

end
-- ==== Proof.CtxClaims.lean ====
/-
  The context's projection and its reference, from equal arguments, end with equal results.
-/
module

public import proofs.«01_k».proof.Defs
public import proofs.«01_k».proof.Proof.CtxArrays
public import proofs.«01_k».proof.Proof.CtxRef
public import proofs.«01_k».proof.Proof.Gen.ContextReferenceIdeal.Run
public import proofs.«01_k».proof.Proof.Gen.ContextReferenceIdeal.Read

@[expose] public section

noncomputable section

namespace Cert.Ctx

open Idealize.ShloMosaic Idealize.ShloMosaic.TcCoe Idealize.SL.Sem Cert.Mlstm

/-- The reference runs, keeps its arguments and ends with every counter at zero: it has no counter. -/
theorem frame_reference : Cert.quiescent_ContextReferenceIdeal := fun m ρ _ =>
  (θ_run Cert.ContextReferenceIdeal.defs _ _).mono
    (fun r h => ⟨fun c => (h c).2.2, sem_eq_zero_of_no_sems (by decide) r.2⟩)
    (Cert.ContextReferenceIdeal.Value.run (F := Ideal) m ρ)

/-- The two programs' results are the same functions of the arguments. -/
theorem equal_results : Cert.algebraic_ContextIdeal_ContextReferenceIdeal := by
  intro m ρ m' ρ' _ hag
  refine ⟨fun c i => keysValues (theWeights m c) (theTokens m c) (i 0).val (i 1).val,
    fun c i => gates (theWeights m c) (theTokens m c) (i 0).val (i 1).val, ?_, ?_⟩
  · exact (θ_run Cert.ContextIdeal.defs _ _).mono
      (fun _ h c => ⟨(h c).1.trans (final_keysValues m c), (h c).2.1.trans (final_gates m c), (h c).2.2⟩)
      (Cert.ContextIdeal.Value.run_blocks (F := Ideal) m ρ)
  · refine (θ_run Cert.ContextReferenceIdeal.defs _ _).mono
      (fun _ h c => ⟨(h c).1.trans ?_, (h c).2.1.trans ?_, (h c).2.2⟩)
      (Cert.ContextReferenceIdeal.Value.run (F := Ideal) m' ρ')
    all_goals
      obtain ⟨h0, h1, h2⟩ := hag c
      have hw : at2 (a := 2048) (b := 6160) (m' ((c.tc : Thread Cert.ContextReferenceIdeal.nD Cert.ContextReferenceIdeal.τ).loc Cert.ContextReferenceIdeal.main_arg2)) = theWeights m c :=
        congrArg (at2 (a := 2048) (b := 6160)) h2
      have ht : modulated (m' ((c.tc : Thread Cert.ContextReferenceIdeal.nD Cert.ContextReferenceIdeal.τ).loc Cert.ContextReferenceIdeal.main_arg0))
          (m' ((c.tc : Thread Cert.ContextReferenceIdeal.nD Cert.ContextReferenceIdeal.τ).loc Cert.ContextReferenceIdeal.main_arg1)) = theTokens m c :=
        congr (congrArg modulated h0) h1
    · refine (Cert.ContextReferenceIdeal.Read.val_main_v19_eq (F := Ideal) _ _ _).trans (funext fun i => ?_)
      exact (ref_keysValues _ _ _ i).trans (congrArg₂ (fun w h => keysValues w h (i 0).val (i 1).val) hw ht)
    · refine (Cert.ContextReferenceIdeal.Read.val_main_v16_eq (F := Ideal) _ _ _).trans (funext fun i => ?_)
      exact (ref_gates _ _ _ i).trans (congrArg₂ (fun w h => gates w h (i 0).val (i 1).val) hw ht)

end Cert.Ctx

end
-- ==== Proof.lean ====
/-
  The claims, put together: the programs' frames, the unchanged idealizations and the equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_positive_floor
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionIdeal.Value
public import proofs.«01_k».proof.Proof.Gen.ProjectionReferenceIdeal
public import proofs.«01_k».proof.Proof.Gen.ProjectionReferenceIdeal.Run
public import proofs.«01_k».proof.Proof.Gen.ProjectionReferenceIdeal.Read
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputReferenceIdeal
public import proofs.«01_k».proof.Proof.Gen.OutputReferenceIdeal.Run
public import proofs.«01_k».proof.Proof.Gen.OutputReferenceIdeal.Read
public import proofs.«01_k».proof.Proof.Gen.Context
public import proofs.«01_k».proof.Proof.Gen.Context.Skeleton
public import proofs.«01_k».proof.Proof.Gen.Context.Launch
public import proofs.«01_k».proof.Proof.Gen.Context.Points
public import proofs.«01_k».proof.Proof.Gen.Context.Frame
public import proofs.«01_k».proof.Proof.Gen.ContextIdeal
public import proofs.«01_k».proof.Proof.Gen.ContextIdeal.Skeleton
public import proofs.«01_k».proof.Proof.Gen.ContextIdeal.Launch
public import proofs.«01_k».proof.Proof.Gen.ContextIdeal.Points
public import proofs.«01_k».proof.Proof.Gen.ContextIdeal.Frame
public import proofs.«01_k».proof.Proof.Gen.ContextIdeal.Value
public import proofs.«01_k».proof.Proof.Gen.ContextReferenceIdeal
public import proofs.«01_k».proof.Proof.Gen.ContextReferenceIdeal.Run
public import proofs.«01_k».proof.Proof.Gen.ContextReferenceIdeal.Read
public import proofs.«01_k».proof.Proof.Claims
public import proofs.«01_k».proof.Proof.ProjClaims
public import proofs.«01_k».proof.Proof.OutClaims
public import proofs.«01_k».proof.Proof.CtxClaims
public import Idealize.ShloMosaic.Adequacy
public import Idealize.ShloMosaic.Init

@[expose] public section

noncomputable section

namespace Cert.Proof

open Idealize.ShloMosaic Idealize.SL.Sem Cert.Kernel

/-- Every claim: the frames of the mLSTM's and the input projections' kernels are the generated ones, with and without
    the condition on the floor of the denominators, and those of the output projection's are proved apart; the references'
    frames are their runs'; the idealizations rewrote nothing but the output projection's packed words; the results are
    equal. -/
theorem claim : Cert.Claim := ⟨Cert.Kernel.Gen.facts, Cert.KernelIdeal.Gen.facts, Cert.ReferenceIdeal.Gen.facts,
  Cert.Projection.Gen.facts, Cert.ProjectionIdeal.Gen.facts, Cert.ProjectionReferenceIdeal.Gen.facts,
  Cert.Output.Gen.facts, Cert.OutputIdeal.Gen.facts, Cert.OutputReferenceIdeal.Gen.facts,
  Cert.Context.Gen.facts, Cert.ContextIdeal.Gen.facts, Cert.ContextReferenceIdeal.Gen.facts, Cert.Pre_positive_floor.Gen.facts,
  fun m ρ _ => Cert.Kernel.Gen.frame m ρ, fun m ρ _ => Cert.KernelIdeal.Gen.frame m ρ, fun m ρ _ => Cert.KernelIdeal.Gen.frame m ρ,
  Cert.Mlstm.frame_reference, fun m ρ _ => Cert.Mlstm.frame_reference m ρ trivial,
  fun m ρ _ => Cert.Projection.Gen.frame m ρ, fun m ρ _ => Cert.ProjectionIdeal.Gen.frame m ρ, Cert.Proj.frame_reference,
  fun m ρ _ => Cert.Outp.Words.frame m ρ, fun m ρ _ => Cert.Outp.Halves.frame m ρ, Cert.Outp.frame_reference,
  fun m ρ _ => Cert.Context.Gen.frame m ρ, fun m ρ _ => Cert.ContextIdeal.Gen.frame m ρ, Cert.Ctx.frame_reference,
  trivial, Cert.Mlstm.equal_results, trivial, Cert.Proj.equal_results, Cert.Outp.rewritten, Cert.Outp.equal_results,
  trivial, Cert.Ctx.equal_results⟩

end Cert.Proof

end
